-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_routed [hPre_counts_routed : Cert.Pre_counts_routed.Facts] (m : (ℓ : Loc Cert.KernelIdeal.nD Cert.KernelIdeal.τ Cert.KernelIdeal.sig) → Buf (Elt Ideal) ℓ) : Prop :=
  ∀ c : Dev Cert.KernelIdeal.nD,
    (Cert.Pre_counts_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_routed [hPre_counts_routed : Cert.Pre_counts_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_counts_routed [hKernelIdeal : Cert.KernelIdeal.Facts] [hPre_counts_routed : Cert.Pre_counts_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_routed [hReferenceIdeal : Cert.ReferenceIdeal.Facts] [hPre_counts_routed : Cert.Pre_counts_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_counts_routed [hKernelIdeal : Cert.KernelIdeal.Facts] [hReferenceIdeal : Cert.ReferenceIdeal.Facts] [hPre_counts_routed : Cert.Pre_counts_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)) (v5 : (c : Dev Cert.Kernel3Ideal.nD) → Buf (Elt Ideal) ((c.tc : Thread Cert.Kernel3Ideal.nD Cert.Kernel3Ideal.τ).loc Cert.Kernel3Ideal.main_v15_5)) (v6 : (c : Dev Cert.Kernel3Ideal.nD) → Buf (Elt Ideal) ((c.tc : Thread Cert.Kernel3Ideal.nD Cert.Kernel3Ideal.τ).loc Cert.Kernel3Ideal.main_v15_6)) (v7 : (c : Dev Cert.Kernel3Ideal.nD) → Buf (Elt Ideal) ((c.tc : Thread Cert.Kernel3Ideal.nD Cert.Kernel3Ideal.τ).loc Cert.Kernel3Ideal.main_v15_7)) (v8 : (c : Dev Cert.Kernel3Ideal.nD) → Buf (Elt Ideal) ((c.tc : Thread Cert.Kernel3Ideal.nD Cert.Kernel3Ideal.τ).loc Cert.Kernel3Ideal.main_v15_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_v15_5) = v5 c
          ∧ r.2.mem ((c.tc : Thread Cert.Kernel3Ideal.nD Cert.Kernel3Ideal.τ).loc Cert.Kernel3Ideal.main_v15_6) = v6 c
          ∧ r.2.mem ((c.tc : Thread Cert.Kernel3Ideal.nD Cert.Kernel3Ideal.τ).loc Cert.Kernel3Ideal.main_v15_7) = v7 c
          ∧ r.2.mem ((c.tc : Thread Cert.Kernel3Ideal.nD Cert.Kernel3Ideal.τ).loc Cert.Kernel3Ideal.main_v15_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v61) = v3 c
          ∧ r.2.mem ((c.tc : Thread Cert.Reference3Ideal.nD Cert.Reference3Ideal.τ).loc Cert.Reference3Ideal.main_v63) = v4 c
          ∧ r.2.mem ((c.tc : Thread Cert.Reference3Ideal.nD Cert.Reference3Ideal.τ).loc Cert.Reference3Ideal.main_v65) = v5 c
          ∧ r.2.mem ((c.tc : Thread Cert.Reference3Ideal.nD Cert.Reference3Ideal.τ).loc Cert.Reference3Ideal.main_v67) = v6 c
          ∧ r.2.mem ((c.tc : Thread Cert.Reference3Ideal.nD Cert.Reference3Ideal.τ).loc Cert.Reference3Ideal.main_v69) = v7 c
          ∧ r.2.mem ((c.tc : Thread Cert.Reference3Ideal.nD Cert.Reference3Ideal.τ).loc Cert.Reference3Ideal.main_v71) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)) (v3 : (c : Dev Cert.Kernel4Ideal.nD) → Buf (Elt Ideal) ((c.tc : Thread Cert.Kernel4Ideal.nD Cert.Kernel4Ideal.τ).loc Cert.Kernel4Ideal.main_v15_3)) (v4 : (c : Dev Cert.Kernel4Ideal.nD) → Buf (Elt Ideal) ((c.tc : Thread Cert.Kernel4Ideal.nD Cert.Kernel4Ideal.τ).loc Cert.Kernel4Ideal.main_v15_4)) (v5 : (c : Dev Cert.Kernel4Ideal.nD) → Buf (Elt Ideal) ((c.tc : Thread Cert.Kernel4Ideal.nD Cert.Kernel4Ideal.τ).loc Cert.Kernel4Ideal.main_v15_5)) (v6 : (c : Dev Cert.Kernel4Ideal.nD) → Buf (Elt Ideal) ((c.tc : Thread Cert.Kernel4Ideal.nD Cert.Kernel4Ideal.τ).loc Cert.Kernel4Ideal.main_v15_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_v15_3) = v3 c
          ∧ r.2.mem ((c.tc : Thread Cert.Kernel4Ideal.nD Cert.Kernel4Ideal.τ).loc Cert.Kernel4Ideal.main_v15_4) = v4 c
          ∧ r.2.mem ((c.tc : Thread Cert.Kernel4Ideal.nD Cert.Kernel4Ideal.τ).loc Cert.Kernel4Ideal.main_v15_5) = v5 c
          ∧ r.2.mem ((c.tc : Thread Cert.Kernel4Ideal.nD Cert.Kernel4Ideal.τ).loc Cert.Kernel4Ideal.main_v15_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v56) = v3 c
          ∧ r.2.mem ((c.tc : Thread Cert.Reference4Ideal.nD Cert.Reference4Ideal.τ).loc Cert.Reference4Ideal.main_v57) = v4 c
          ∧ r.2.mem ((c.tc : Thread Cert.Reference4Ideal.nD Cert.Reference4Ideal.τ).loc Cert.Reference4Ideal.main_v58) = v5 c
          ∧ r.2.mem ((c.tc : Thread Cert.Reference4Ideal.nD Cert.Reference4Ideal.τ).loc Cert.Reference4Ideal.main_v59) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_v39) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v33_0)) (v1 : (c : Dev Cert.Kernel6Ideal.nD) → Buf (Elt Ideal) ((c.tc : Thread Cert.Kernel6Ideal.nD Cert.Kernel6Ideal.τ).loc Cert.Kernel6Ideal.main_v33_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v33_0) = v0 c
          ∧ r.2.mem ((c.tc : Thread Cert.Kernel6Ideal.nD Cert.Kernel6Ideal.τ).loc Cert.Kernel6Ideal.main_v33_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v55) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v14_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v111) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_counts_routed : Cert.Pre_counts_routed.Facts),
    quiescent_Kernel (hKernel := hKernel)
    ∧ quiescent_KernelIdeal (hKernelIdeal := hKernelIdeal)
    ∧ quiescent_KernelIdeal_pre_counts_routed (hKernelIdeal := hKernelIdeal) (hPre_counts_routed := hPre_counts_routed)
    ∧ quiescent_ReferenceIdeal (hReferenceIdeal := hReferenceIdeal)
    ∧ quiescent_ReferenceIdeal_pre_counts_routed (hReferenceIdeal := hReferenceIdeal) (hPre_counts_routed := hPre_counts_routed)
    ∧ quiescent_Kernel2 (hKernel2 := hKernel2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_counts_routed (hKernelIdeal := hKernelIdeal) (hReferenceIdeal := hReferenceIdeal) (hPre_counts_routed := hPre_counts_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_counts_routed.lean ====
abbrev S32 : Shape := ⟨1, ![32]⟩
abbrev S111104x512 : Shape := ⟨2, ![111104, 512]⟩
abbrev S32x1024x256 : Shape := ⟨3, ![32, 1024, 256]⟩
abbrev S32x256x1024 : Shape := ⟨3, ![32, 256, 1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : IVec S32 32) (main_arg1 : IVec S111104x512 32) (main_arg2 : FVec F S32x1024x256 .f32) (main_arg3 : FVec F S32x1024x256 .f32) (main_arg4 : FVec F S32x256x1024 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 66048#32
  let main_v2 : IVec S32 32 := broadcastInDim S32 ![] bcast_S_S32 main_c_0
  let main_v3 : IVec S32 1 := cmpi .sle main_arg0 main_v2
  let main_v4 : IVec S32 1 := andi main_v1 main_v3
  main_v4
-- ==== Kernel.lean ====
abbrev S32 : Shape := ⟨1, ![32]⟩
abbrev S111104x512 : Shape := ⟨2, ![111104, 512]⟩
abbrev S32x1024x256 : Shape := ⟨3, ![32, 1024, 256]⟩
abbrev S32x256x1024 : Shape := ⟨3, ![32, 256, 1024]⟩
abbrev S_ : Shape := ⟨0, ![]⟩
abbrev S1 : Shape := ⟨1, ![1]⟩
abbrev S217 : Shape := ⟨1, ![217]⟩
abbrev S1x32 : Shape := ⟨2, ![1, 32]⟩
abbrev S217x1 : Shape := ⟨2, ![217, 1]⟩
abbrev S217x32 : Shape := ⟨2, ![217, 32]⟩
abbrev S111104x1024 : Shape := ⟨2, ![111104, 1024]⟩
abbrev S512x512 : Shape := ⟨2, ![512, 512]⟩
abbrev S1x1024x256 : Shape := ⟨3, ![1, 1024, 256]⟩
abbrev S1x256x1024 : Shape := ⟨3, ![1, 256, 1024]⟩
abbrev S512x1024 : Shape := ⟨2, ![512, 1024]⟩
abbrev S1024x256 : Shape := ⟨2, ![1024, 256]⟩
abbrev S256x1024 : Shape := ⟨2, ![256, 1024]⟩
abbrev S256x512 : Shape := ⟨2, ![256, 512]⟩
abbrev S512x256 : Shape := ⟨2, ![512, 256]⟩
abbrev S256x256 : Shape := ⟨2, ![256, 256]⟩

abbrev nBuf : Space → Nat
  | .hbm => 46
  | .vmem => 10
  | .smem => 2
  | _ => 0

abbrev bufTy : (tb : Table) → Fin (tcTables nBuf tb) → BufTy
  | .hbm, ⟨0, _⟩ => ⟨S32, .i32⟩
  | .hbm, ⟨1, _⟩ => ⟨S111104x512, .i32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S217, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S217, .i32⟩
  | .hbm, ⟨37, _⟩ => ⟨S217, .i32⟩
  | .hbm, ⟨38, _⟩ => ⟨S1x32, .i32⟩
  | .hbm, ⟨39, _⟩ => ⟨S217x1, .i32⟩
  | .hbm, ⟨40, _⟩ => ⟨S217x32, .i32⟩
  | .hbm, ⟨41, _⟩ => ⟨S217x32, .i32⟩
  | .hbm, ⟨42, _⟩ => ⟨S217x32, .i1⟩
  | .hbm, ⟨43, _⟩ => ⟨S217x32, .i32⟩
  | .hbm, ⟨44, _⟩ => ⟨S_, .i32⟩
  | .hbm, ⟨45, _⟩ => ⟨S111104x1024, .bf16⟩
  | .local _ .vmem, ⟨0, _⟩ => ⟨S512x512, .i32⟩
  | .local _ .vmem, ⟨1, _⟩ => ⟨S512x512, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .bf16⟩
  | .local _ .vmem, ⟨9, _⟩ => ⟨S512x1024, .bf16⟩
  | .local _ .smem, ⟨0, _⟩ => ⟨S217, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v19 : Ref sig .tc := ⟨.hbm, 45, rfl⟩
abbrev main_v18 : Ref sig .tc := ⟨.smem, 0, rfl⟩
abbrev main_v6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![217], ![false]⟩

abbrev pre0 : Pipeline.Prefetch sig := ⟨2, ![main_v18.idx, main_v6.idx], fun | 0 => main_v18.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S217.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S217) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S217.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S217) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S217.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S217) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32 : Shape := ⟨1, ![32]⟩
abbrev S111104x512 : Shape := ⟨2, ![111104, 512]⟩
abbrev S32x1024x256 : Shape := ⟨3, ![32, 1024, 256]⟩
abbrev S32x256x1024 : Shape := ⟨3, ![32, 256, 1024]⟩
abbrev S_ : Shape := ⟨0, ![]⟩
abbrev S111104x1024 : Shape := ⟨2, ![111104, 1024]⟩
abbrev S217x512x1024 : Shape := ⟨3, ![217, 512, 1024]⟩
abbrev S217 : Shape := ⟨1, ![217]⟩
abbrev S217x1 : Shape := ⟨2, ![217, 1]⟩
abbrev S1x32 : Shape := ⟨2, ![1, 32]⟩
abbrev S217x32 : Shape := ⟨2, ![217, 32]⟩
abbrev S217x512x32x256 : Shape := ⟨4, ![217, 512, 32, 256]⟩
abbrev S217x1x32x1 : Shape := ⟨4, ![217, 1, 32, 1]⟩

abbrev nBuf : Space → Nat
  | .hbm => 73
  | .vmem => 0
  | .smem => 0
  | _ => 0

abbrev bufTy : (tb : Table) → Fin (tcTables nBuf tb) → BufTy
  | .hbm, ⟨0, _⟩ => ⟨S32, .i32⟩
  | .hbm, ⟨1, _⟩ => ⟨S111104x512, .i32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S_, .i32⟩
  | .hbm, ⟨6, _⟩ => ⟨S111104x512, .i32⟩
  | .hbm, ⟨7, _⟩ => ⟨S111104x512, .i32⟩
  | .hbm, ⟨8, _⟩ => ⟨S111104x512, .f32⟩
  | .hbm, ⟨9, _⟩ => ⟨S_, .i32⟩
  | .hbm, ⟨10, _⟩ => ⟨S111104x512, .i32⟩
  | .hbm, ⟨11, _⟩ => ⟨S111104x512, .i32⟩
  | .hbm, ⟨12, _⟩ => ⟨S111104x512, .f32⟩
  | .hbm, ⟨13, _⟩ => ⟨S111104x1024, .f32⟩
  | .hbm, ⟨14, _⟩ => ⟨S217x512x1024, .f32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i1⟩
  | .hbm, ⟨34, _⟩ => ⟨S32, .i1⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S_, .i32⟩
  | .hbm, ⟨41, _⟩ => ⟨S32, .i32⟩
  | .hbm, ⟨42, _⟩ => ⟨S217, .i32⟩
  | .hbm, ⟨43, _⟩ => ⟨S217x1, .i32⟩
  | .hbm, ⟨44, _⟩ => ⟨S32, .i32⟩
  | .hbm, ⟨45, _⟩ => ⟨S1x32, .i32⟩
  | .hbm, ⟨46, _⟩ => ⟨S217x32, .i32⟩
  | .hbm, ⟨47, _⟩ => ⟨S217x32, .i32⟩
  | .hbm, ⟨48, _⟩ => ⟨S217x32, .i1⟩
  | .hbm, ⟨49, _⟩ => ⟨S1x32, .i32⟩
  | .hbm, ⟨50, _⟩ => ⟨S217x32, .i32⟩
  | .hbm, ⟨51, _⟩ => ⟨S217x32, .i32⟩
  | .hbm, ⟨52, _⟩ => ⟨S217x32, .i1⟩
  | .hbm, ⟨53, _⟩ => ⟨S217x32, .i1⟩
  | .hbm, ⟨54, _⟩ => ⟨S217x32, .f32⟩
  | .hbm, ⟨55, _⟩ => ⟨S217x512x32x256, .f32⟩
  | .hbm, ⟨56, _⟩ => ⟨S217x512x32x256, .f32⟩
  | .hbm, ⟨57, _⟩ => ⟨S217x512x32x256, .f32⟩
  | .hbm, ⟨58, _⟩ => ⟨S_, .f32⟩
  | .hbm, ⟨59, _⟩ => ⟨S217x512x32x256, .f32⟩
  | .hbm, ⟨60, _⟩ => ⟨S217x512x32x256, .f32⟩
  | .hbm, ⟨61, _⟩ => ⟨S_, .f32⟩
  | .hbm, ⟨62, _⟩ => ⟨S217x512x32x256, .f32⟩
  | .hbm, ⟨63, _⟩ => ⟨S217x512x32x256, .f32⟩
  | .hbm, ⟨64, _⟩ => ⟨S217x512x32x256, .f32⟩
  | .hbm, ⟨65, _⟩ => ⟨S217x512x32x256, .f32⟩
  | .hbm, ⟨66, _⟩ => ⟨S217x512x32x256, .f32⟩
  | .hbm, ⟨67, _⟩ => ⟨S217x1x32x1, .f32⟩
  | .hbm, ⟨68, _⟩ => ⟨S217x512x32x256, .f32⟩
  | .hbm, ⟨69, _⟩ => ⟨S217x512x32x256, .f32⟩
  | .hbm, ⟨70, _⟩ => ⟨S217x512x1024, .f32⟩
  | .hbm, ⟨71, _⟩ => ⟨S111104x1024, .f32⟩
  | .hbm, ⟨72, _⟩ => ⟨S111104x1024, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v12 : Ref sig .tc := ⟨.hbm, 38, rfl⟩
abbrev main_call1_call0_c : Ref sig .tc := ⟨.hbm, 39, rfl⟩
abbrev main_call1_call0_v0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩

abbrev nD : Nat := 1
abbrev τ : Topo := Topo.v7x

variable {F : FTy → Type} [FloatOps F]
-- ==== Kernel2.lean ====
abbrev S32 : Shape := ⟨1, ![32]⟩
abbrev S111104x512 : Shape := ⟨2, ![111104, 512]⟩
abbrev S32x1024x256 : Shape := ⟨3, ![32, 1024, 256]⟩
abbrev S32x256x1024 : Shape := ⟨3, ![32, 256, 1024]⟩
abbrev S_ : Shape := ⟨0, ![]⟩
abbrev S1 : Shape := ⟨1, ![1]⟩
abbrev S217 : Shape := ⟨1, ![217]⟩
abbrev S1x32 : Shape := ⟨2, ![1, 32]⟩
abbrev S217x1 : Shape := ⟨2, ![217, 1]⟩
abbrev S217x32 : Shape := ⟨2, ![217, 32]⟩
abbrev S512x512 : Shape := ⟨2, ![512, 512]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S256x512 : Shape := ⟨2, ![256, 512]⟩
abbrev S512x256 : Shape := ⟨2, ![512, 256]⟩
abbrev S256x256 : Shape := ⟨2, ![256, 256]⟩

abbrev nBuf : Space → Nat
  | .hbm => 46
  | .vmem => 10
  | .smem => 2
  | _ => 0

abbrev bufTy : (tb : Table) → Fin (tcTables nBuf tb) → BufTy
  | .hbm, ⟨0, _⟩ => ⟨S32, .i32⟩
  | .hbm, ⟨1, _⟩ => ⟨S111104x512, .i32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S217, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S217, .i32⟩
  | .hbm, ⟨37, _⟩ => ⟨S217, .i32⟩
  | .hbm, ⟨38, _⟩ => ⟨S1x32, .i32⟩
  | .hbm, ⟨39, _⟩ => ⟨S217x1, .i32⟩
  | .hbm, ⟨40, _⟩ => ⟨S217x32, .i32⟩
  | .hbm, ⟨41, _⟩ => ⟨S217x32, .i32⟩
  | .hbm, ⟨42, _⟩ => ⟨S217x32, .i1⟩
  | .hbm, ⟨43, _⟩ => ⟨S217x32, .i32⟩
  | .hbm, ⟨44, _⟩ => ⟨S_, .i32⟩
  | .hbm, ⟨45, _⟩ => ⟨S111104x512, .i32⟩
  | .local _ .vmem, ⟨0, _⟩ => ⟨S512x512, .i32⟩
  | .local _ .vmem, ⟨1, _⟩ => ⟨S512x512, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x512, .i32⟩
  | .local _ .vmem, ⟨9, _⟩ => ⟨S512x512, .i32⟩
  | .local _ .smem, ⟨0, _⟩ => ⟨S217, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v19 : Ref sig .tc := ⟨.hbm, 45, rfl⟩
abbrev main_v18 : Ref sig .tc := ⟨.smem, 0, rfl⟩
abbrev main_v6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![217], ![false]⟩

abbrev pre0 : Pipeline.Prefetch sig := ⟨2, ![main_v18.idx, main_v6.idx], fun | 0 => main_v18.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S217.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S217) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S217.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S217) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S217.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S217) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel3.lean ====
abbrev S16x2048x1024 : Shape := ⟨3, ![16, 2048, 1024]⟩
abbrev S1x1024 : Shape := ⟨2, ![1, 1024]⟩
abbrev S1x1024x3584 : Shape := ⟨3, ![1, 1024, 3584]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S1024x3584 : Shape := ⟨2, ![1024, 3584]⟩
abbrev S32768x1024 : Shape := ⟨2, ![32768, 1024]⟩
abbrev S1024 : Shape := ⟨1, ![1024]⟩
abbrev S32768x512 : Shape := ⟨2, ![32768, 512]⟩
abbrev S16x512x2048 : Shape := ⟨3, ![16, 512, 2048]⟩
abbrev S1024x1024 : Shape := ⟨2, ![1024, 1024]⟩
abbrev S1024x512 : Shape := ⟨2, ![1024, 512]⟩
abbrev S1x512x1024 : Shape := ⟨3, ![1, 512, 1024]⟩
abbrev S1024x1 : Shape := ⟨2, ![1024, 1]⟩
abbrev S1024x128 : Shape := ⟨2, ![1024, 128]⟩
abbrev S512x1024 : Shape := ⟨2, ![512, 1024]⟩

abbrev nBuf : Space → Nat
  | .hbm => 29
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3584, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S8x64, .f32⟩
  | .hbm, ⟨8, _⟩ => ⟨S512, .f32⟩
  | .hbm, ⟨9, _⟩ => ⟨S1x512, .f32⟩
  | .hbm, ⟨10, _⟩ => ⟨S64, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S1024x3584, .f32⟩
  | .hbm, ⟨16, _⟩ => ⟨S1024x3584, .bf16⟩
  | .hbm, ⟨17, _⟩ => ⟨S32768x1024, .f32⟩
  | .hbm, ⟨18, _⟩ => ⟨S1024, .f32⟩
  | .hbm, ⟨19, _⟩ => ⟨S1x1024, .f32⟩
  | .hbm, ⟨20, _⟩ => ⟨S32768x512, .bf16⟩
  | .hbm, ⟨21, _⟩ => ⟨S32768x512, .bf16⟩
  | .hbm, ⟨22, _⟩ => ⟨S32768x512, .bf16⟩
  | .hbm, ⟨23, _⟩ => ⟨S32768x512, .bf16⟩
  | .hbm, ⟨24, _⟩ => ⟨S32768x512, .bf16⟩
  | .hbm, ⟨25, _⟩ => ⟨S32768x512, .bf16⟩
  | .hbm, ⟨26, _⟩ => ⟨S32768x512, .bf16⟩
  | .hbm, ⟨27, _⟩ => ⟨S16x512x2048, .f32⟩
  | .hbm, ⟨28, _⟩ => ⟨S16x512x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v15_5 : Ref sig .tc := ⟨.hbm, 25, rfl⟩
abbrev main_v15_6 : Ref sig .tc := ⟨.hbm, 26, rfl⟩
abbrev main_v15_7 : Ref sig .tc := ⟨.hbm, 27, rfl⟩
abbrev main_v15_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16x2048x1024 : Shape := ⟨3, ![16, 2048, 1024]⟩
abbrev S1x1024 : Shape := ⟨2, ![1, 1024]⟩
abbrev S1x1024x3584 : Shape := ⟨3, ![1, 1024, 3584]⟩
abbrev S1x64 : Shape := ⟨2, ![1, 64]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3584 : Shape := ⟨2, ![1024, 3584]⟩
abbrev S16x2048x3584 : Shape := ⟨3, ![16, 2048, 3584]⟩
abbrev S16x2048x512 : Shape := ⟨3, ![16, 2048, 512]⟩
abbrev S16x2048x8x64 : Shape := ⟨4, ![16, 2048, 8, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S32768x512 : Shape := ⟨2, ![32768, 512]⟩
abbrev S16x8x64x2048 : Shape := ⟨4, ![16, 8, 64, 2048]⟩
abbrev S16x512x2048 : Shape := ⟨3, ![16, 512, 2048]⟩

abbrev nBuf : Space → Nat
  | .hbm => 86
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3584, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S1024x3584, .f32⟩
  | .hbm, ⟨23, _⟩ => ⟨S16x2048x3584, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S16x2048x512, .f32⟩
  | .hbm, ⟨31, _⟩ => ⟨S16x2048x8x64, .f32⟩
  | .hbm, ⟨32, _⟩ => ⟨S64, .f32⟩
  | .hbm, ⟨33, _⟩ => ⟨S16x2048x8x64, .f32⟩
  | .hbm, ⟨34, _⟩ => ⟨S_, .f32⟩
  | .hbm, ⟨35, _⟩ => ⟨S16x2048x8, .f32⟩
  | .hbm, ⟨36, _⟩ => ⟨S16x2048x8x1, .f32⟩
  | .hbm, ⟨37, _⟩ => ⟨S_, .f32⟩
  | .hbm, ⟨38, _⟩ => ⟨S16x2048x8x1, .f32⟩
  | .hbm, ⟨39, _⟩ => ⟨S16x2048x8x1, .f32⟩
  | .hbm, ⟨40, _⟩ => ⟨S_, .f32⟩
  | .hbm, ⟨41, _⟩ => ⟨S16x2048x8x1, .f32⟩
  | .hbm, ⟨42, _⟩ => ⟨S16x2048x8x1, .f32⟩
  | .hbm, ⟨43, _⟩ => ⟨S16x2048x8x1, .f32⟩
  | .hbm, ⟨44, _⟩ => ⟨S16x2048x8x64, .f32⟩
  | .hbm, ⟨45, _⟩ => ⟨S16x2048x8x64, .f32⟩
  | .hbm, ⟨46, _⟩ => ⟨S1x1x1x64, .f32⟩
  | .hbm, ⟨47, _⟩ => ⟨S16x2048x8x64, .f32⟩
  | .hbm, ⟨48, _⟩ => ⟨S16x2048x8x64, .f32⟩
  | .hbm, ⟨49, _⟩ => ⟨S16x2048x8x64, .f32⟩
  | .hbm, ⟨50, _⟩ => ⟨S64, .f32⟩
  | .hbm, ⟨51, _⟩ => ⟨S16x2048x8x64, .f32⟩
  | .hbm, ⟨52, _⟩ => ⟨S_, .f32⟩
  | .hbm, ⟨53, _⟩ => ⟨S16x2048x8, .f32⟩
  | .hbm, ⟨54, _⟩ => ⟨S16x2048x8x1, .f32⟩
  | .hbm, ⟨55, _⟩ => ⟨S_, .f32⟩
  | .hbm, ⟨56, _⟩ => ⟨S16x2048x8x1, .f32⟩
  | .hbm, ⟨57, _⟩ => ⟨S16x2048x8x1, .f32⟩
  | .hbm, ⟨58, _⟩ => ⟨S_, .f32⟩
  | .hbm, ⟨59, _⟩ => ⟨S16x2048x8x1, .f32⟩
  | .hbm, ⟨60, _⟩ => ⟨S16x2048x8x1, .f32⟩
  | .hbm, ⟨61, _⟩ => ⟨S16x2048x8x1, .f32⟩
  | .hbm, ⟨62, _⟩ => ⟨S16x2048x8x64, .f32⟩
  | .hbm, ⟨63, _⟩ => ⟨S16x2048x8x64, .f32⟩
  | .hbm, ⟨64, _⟩ => ⟨S1x1x1x64, .f32⟩
  | .hbm, ⟨65, _⟩ => ⟨S16x2048x8x64, .f32⟩
  | .hbm, ⟨66, _⟩ => ⟨S16x2048x8x64, .f32⟩
  | .hbm, ⟨67, _⟩ => ⟨S16x2048x8x64, .f32⟩
  | .hbm, ⟨68, _⟩ => ⟨S32768x512, .f32⟩
  | .hbm, ⟨69, _⟩ => ⟨S32768x512, .bf16⟩
  | .hbm, ⟨70, _⟩ => ⟨S32768x512, .f32⟩
  | .hbm, ⟨71, _⟩ => ⟨S32768x512, .bf16⟩
  | .hbm, ⟨72, _⟩ => ⟨S32768x512, .f32⟩
  | .hbm, ⟨73, _⟩ => ⟨S32768x512, .bf16⟩
  | .hbm, ⟨74, _⟩ => ⟨S32768x512, .f32⟩
  | .hbm, ⟨75, _⟩ => ⟨S32768x512, .bf16⟩
  | .hbm, ⟨76, _⟩ => ⟨S32768x512, .f32⟩
  | .hbm, ⟨77, _⟩ => ⟨S32768x512, .bf16⟩
  | .hbm, ⟨78, _⟩ => ⟨S32768x512, .f32⟩
  | .hbm, ⟨79, _⟩ => ⟨S32768x512, .bf16⟩
  | .hbm, ⟨80, _⟩ => ⟨S32768x512, .f32⟩
  | .hbm, ⟨81, _⟩ => ⟨S32768x512, .bf16⟩
  | .hbm, ⟨82, _⟩ => ⟨S16x8x64x2048, .f32⟩
  | .hbm, ⟨83, _⟩ => ⟨S16x512x2048, .f32⟩
  | .hbm, ⟨84, _⟩ => ⟨S16x8x64x2048, .f32⟩
  | .hbm, ⟨85, _⟩ => ⟨S16x512x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Kernel4.lean ====
abbrev S32x8x1024 : Shape := ⟨3, ![32, 8, 1024]⟩
abbrev S1x1024 : Shape := ⟨2, ![1, 1024]⟩
abbrev S1x1024x3584 : Shape := ⟨3, ![1, 1024, 3584]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S1024x3584 : Shape := ⟨2, ![1024, 3584]⟩
abbrev S256x1024 : Shape := ⟨2, ![256, 1024]⟩
abbrev S1024 : Shape := ⟨1, ![1024]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S256x128 : Shape := ⟨2, ![256, 128]⟩

abbrev nBuf : Space → Nat
  | .hbm => 27
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S1x1024, .f32⟩
  | .hbm, ⟨2, _⟩ => ⟨S1x1024x3584, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S8x64, .f32⟩
  | .hbm, ⟨8, _⟩ => ⟨S512, .f32⟩
  | .hbm, ⟨9, _⟩ => ⟨S1x512, .f32⟩
  | .hbm, ⟨10, _⟩ => ⟨S64, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S1024x3584, .f32⟩
  | .hbm, ⟨16, _⟩ => ⟨S1024x3584, .bf16⟩
  | .hbm, ⟨17, _⟩ => ⟨S256x1024, .f32⟩
  | .hbm, ⟨18, _⟩ => ⟨S1024, .f32⟩
  | .hbm, ⟨19, _⟩ => ⟨S1x1024, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x3584, .bf16⟩
  | .local _ .vmem, ⟨3, _⟩ => ⟨S1x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v15_5 : Ref sig .tc := ⟨.hbm, 25, rfl⟩
abbrev main_v15_6 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference4Ideal.lean ====
abbrev S32x8x1024 : Shape := ⟨3, ![32, 8, 1024]⟩
abbrev S1x1024 : Shape := ⟨2, ![1, 1024]⟩
abbrev S1x1024x3584 : Shape := ⟨3, ![1, 1024, 3584]⟩
abbrev S1x64 : Shape := ⟨2, ![1, 64]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1024x3584 : Shape := ⟨2, ![1024, 3584]⟩
abbrev S32x8x3584 : Shape := ⟨3, ![32, 8, 3584]⟩
abbrev S32x8x512 : Shape := ⟨3, ![32, 8, 512]⟩
abbrev S32x8x8x64 : Shape := ⟨4, ![32, 8, 8, 64]⟩
abbrev S64 : Shape := ⟨1, ![64]⟩
abbrev S32x8x8 : Shape := ⟨3, ![32, 8, 8]⟩
abbrev S32x8x8x1 : Shape := ⟨4, ![32, 8, 8, 1]⟩
abbrev S1x1x1x64 : Shape := ⟨4, ![1, 1, 1, 64]⟩
abbrev S256x512 : Shape := ⟨2, ![256, 512]⟩

abbrev nBuf : Space → Nat
  | .hbm => 74
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024, .f32⟩
  | .hbm, ⟨2, _⟩ => ⟨S1x1024x3584, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S32x8x1024, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S32x8x1024, .f32⟩
  | .hbm, ⟨21, _⟩ => ⟨S32x8x1024, .f32⟩
  | .hbm, ⟨22, _⟩ => ⟨S1024x3584, .f32⟩
  | .hbm, ⟨23, _⟩ => ⟨S32x8x3584, .f32⟩
  | .hbm, ⟨24, _⟩ => ⟨S32x8x512, .f32⟩
  | .hbm, ⟨25, _⟩ => ⟨S32x8x512, .f32⟩
  | .hbm, ⟨26, _⟩ => ⟨S32x8x512, .f32⟩
  | .hbm, ⟨27, _⟩ => ⟨S32x8x512, .f32⟩
  | .hbm, ⟨28, _⟩ => ⟨S32x8x512, .f32⟩
  | .hbm, ⟨29, _⟩ => ⟨S32x8x512, .f32⟩
  | .hbm, ⟨30, _⟩ => ⟨S32x8x512, .f32⟩
  | .hbm, ⟨31, _⟩ => ⟨S32x8x8x64, .f32⟩
  | .hbm, ⟨32, _⟩ => ⟨S64, .f32⟩
  | .hbm, ⟨33, _⟩ => ⟨S32x8x8x64, .f32⟩
  | .hbm, ⟨34, _⟩ => ⟨S_, .f32⟩
  | .hbm, ⟨35, _⟩ => ⟨S32x8x8, .f32⟩
  | .hbm, ⟨36, _⟩ => ⟨S32x8x8x1, .f32⟩
  | .hbm, ⟨37, _⟩ => ⟨S_, .f32⟩
  | .hbm, ⟨38, _⟩ => ⟨S32x8x8x1, .f32⟩
  | .hbm, ⟨39, _⟩ => ⟨S32x8x8x1, .f32⟩
  | .hbm, ⟨40, _⟩ => ⟨S_, .f32⟩
  | .hbm, ⟨41, _⟩ => ⟨S32x8x8x1, .f32⟩
  | .hbm, ⟨42, _⟩ => ⟨S32x8x8x1, .f32⟩
  | .hbm, ⟨43, _⟩ => ⟨S32x8x8x1, .f32⟩
  | .hbm, ⟨44, _⟩ => ⟨S32x8x8x64, .f32⟩
  | .hbm, ⟨45, _⟩ => ⟨S32x8x8x64, .f32⟩
  | .hbm, ⟨46, _⟩ => ⟨S1x1x1x64, .f32⟩
  | .hbm, ⟨47, _⟩ => ⟨S32x8x8x64, .f32⟩
  | .hbm, ⟨48, _⟩ => ⟨S32x8x8x64, .f32⟩
  | .hbm, ⟨49, _⟩ => ⟨S32x8x8x64, .f32⟩
  | .hbm, ⟨50, _⟩ => ⟨S64, .f32⟩
  | .hbm, ⟨51, _⟩ => ⟨S32x8x8x64, .f32⟩
  | .hbm, ⟨52, _⟩ => ⟨S_, .f32⟩
  | .hbm, ⟨53, _⟩ => ⟨S32x8x8, .f32⟩
  | .hbm, ⟨54, _⟩ => ⟨S32x8x8x1, .f32⟩
  | .hbm, ⟨55, _⟩ => ⟨S_, .f32⟩
  | .hbm, ⟨56, _⟩ => ⟨S32x8x8x1, .f32⟩
  | .hbm, ⟨57, _⟩ => ⟨S32x8x8x1, .f32⟩
  | .hbm, ⟨58, _⟩ => ⟨S_, .f32⟩
  | .hbm, ⟨59, _⟩ => ⟨S32x8x8x1, .f32⟩
  | .hbm, ⟨60, _⟩ => ⟨S32x8x8x1, .f32⟩
  | .hbm, ⟨61, _⟩ => ⟨S32x8x8x1, .f32⟩
  | .hbm, ⟨62, _⟩ => ⟨S32x8x8x64, .f32⟩
  | .hbm, ⟨63, _⟩ => ⟨S32x8x8x64, .f32⟩
  | .hbm, ⟨64, _⟩ => ⟨S1x1x1x64, .f32⟩
  | .hbm, ⟨65, _⟩ => ⟨S32x8x8x64, .f32⟩
  | .hbm, ⟨66, _⟩ => ⟨S32x8x8x64, .f32⟩
  | .hbm, ⟨67, _⟩ => ⟨S256x512, .f32⟩
  | .hbm, ⟨68, _⟩ => ⟨S256x512, .f32⟩
  | .hbm, ⟨69, _⟩ => ⟨S256x512, .f32⟩
  | .hbm, ⟨70, _⟩ => ⟨S256x512, .f32⟩
  | .hbm, ⟨71, _⟩ => ⟨S256x512, .f32⟩
  | .hbm, ⟨72, _⟩ => ⟨S256x512, .f32⟩
  | .hbm, ⟨73, _⟩ => ⟨S256x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Kernel5.lean ====
abbrev S16x256x1024 : Shape := ⟨3, ![16, 256, 1024]⟩
abbrev S1x1024 : Shape := ⟨2, ![1, 1024]⟩
abbrev S1x1024x1024 : Shape := ⟨3, ![1, 1024, 1024]⟩
abbrev S1x256 : Shape := ⟨2, ![1, 256]⟩
abbrev S1024x1024 : Shape := ⟨2, ![1024, 1024]⟩
abbrev S4096x1024 : Shape := ⟨2, ![4096, 1024]⟩
abbrev S1024 : Shape := ⟨1, ![1024]⟩
abbrev S256 : Shape := ⟨1, ![256]⟩
abbrev S4096x4x256 : Shape := ⟨3, ![4096, 4, 256]⟩
abbrev S256x1024 : Shape := ⟨2, ![256, 1024]⟩
abbrev S256x4x256 : Shape := ⟨3, ![256, 4, 256]⟩
abbrev S256x1 : Shape := ⟨2, ![256, 1]⟩
abbrev S256x256 : Shape := ⟨2, ![256, 256]⟩
abbrev S256x1x256 : Shape := ⟨3, ![256, 1, 256]⟩

abbrev nBuf : Space → Nat
  | .hbm => 18
  | .vmem => 14
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1x256, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S4096x1024, .f32⟩
  | .hbm, ⟨10, _⟩ => ⟨S1024, .f32⟩
  | .hbm, ⟨11, _⟩ => ⟨S1x1024, .f32⟩
  | .hbm, ⟨12, _⟩ => ⟨S256, .f32⟩
  | .hbm, ⟨13, _⟩ => ⟨S1x256, .f32⟩
  | .hbm, ⟨14, _⟩ => ⟨S4096x4x256, .f32⟩
  | .hbm, ⟨15, _⟩ => ⟨S4096x4x256, .f32⟩
  | .hbm, ⟨16, _⟩ => ⟨S4096x1024, .bf16⟩
  | .hbm, ⟨17, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256, .f32⟩
  | .local _ .vmem, ⟨6, _⟩ => ⟨S256x4x256, .f32⟩
  | .local _ .vmem, ⟨7, _⟩ => ⟨S256x4x256, .f32⟩
  | .local _ .vmem, ⟨8, _⟩ => ⟨S256x4x256, .f32⟩
  | .local _ .vmem, ⟨9, _⟩ => ⟨S256x4x256, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16x256x1024 : Shape := ⟨3, ![16, 256, 1024]⟩
abbrev S1x1024 : Shape := ⟨2, ![1, 1024]⟩
abbrev S1x1024x1024 : Shape := ⟨3, ![1, 1024, 1024]⟩
abbrev S1x256 : Shape := ⟨2, ![1, 256]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x1024 : Shape := ⟨2, ![1024, 1024]⟩
abbrev S16x256x4x256 : Shape := ⟨4, ![16, 256, 4, 256]⟩
abbrev S256 : Shape := ⟨1, ![256]⟩
abbrev S16x256x4 : Shape := ⟨3, ![16, 256, 4]⟩
abbrev S16x256x4x1 : Shape := ⟨4, ![16, 256, 4, 1]⟩
abbrev S1x1x1x256 : Shape := ⟨4, ![1, 1, 1, 256]⟩
abbrev S4096x4x256 : Shape := ⟨3, ![4096, 4, 256]⟩
abbrev S4096x1024 : Shape := ⟨2, ![4096, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1x256, .f32⟩
  | .hbm, ⟨5, _⟩ => ⟨S1024, .f32⟩
  | .hbm, ⟨6, _⟩ => ⟨S16x256x1024, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x1024, .f32⟩
  | .hbm, ⟨18, _⟩ => ⟨S16x256x1024, .f32⟩
  | .hbm, ⟨19, _⟩ => ⟨S1x1x1024, .f32⟩
  | .hbm, ⟨20, _⟩ => ⟨S16x256x1024, .f32⟩
  | .hbm, ⟨21, _⟩ => ⟨S16x256x1024, .f32⟩
  | .hbm, ⟨22, _⟩ => ⟨S1024x1024, .f32⟩
  | .hbm, ⟨23, _⟩ => ⟨S16x256x1024, .f32⟩
  | .hbm, ⟨24, _⟩ => ⟨S16x256x4x256, .f32⟩
  | .hbm, ⟨25, _⟩ => ⟨S256, .f32⟩
  | .hbm, ⟨26, _⟩ => ⟨S16x256x4x256, .f32⟩
  | .hbm, ⟨27, _⟩ => ⟨S_, .f32⟩
  | .hbm, ⟨28, _⟩ => ⟨S16x256x4, .f32⟩
  | .hbm, ⟨29, _⟩ => ⟨S16x256x4x1, .f32⟩
  | .hbm, ⟨30, _⟩ => ⟨S_, .f32⟩
  | .hbm, ⟨31, _⟩ => ⟨S16x256x4x1, .f32⟩
  | .hbm, ⟨32, _⟩ => ⟨S16x256x4x1, .f32⟩
  | .hbm, ⟨33, _⟩ => ⟨S_, .f32⟩
  | .hbm, ⟨34, _⟩ => ⟨S16x256x4x1, .f32⟩
  | .hbm, ⟨35, _⟩ => ⟨S16x256x4x1, .f32⟩
  | .hbm, ⟨36, _⟩ => ⟨S16x256x4x1, .f32⟩
  | .hbm, ⟨37, _⟩ => ⟨S16x256x4x256, .f32⟩
  | .hbm, ⟨38, _⟩ => ⟨S16x256x4x256, .f32⟩
  | .hbm, ⟨39, _⟩ => ⟨S1x1x1x256, .f32⟩
  | .hbm, ⟨40, _⟩ => ⟨S16x256x4x256, .f32⟩
  | .hbm, ⟨41, _⟩ => ⟨S16x256x4x256, .f32⟩
  | .hbm, ⟨42, _⟩ => ⟨S1024x1024, .f32⟩
  | .hbm, ⟨43, _⟩ => ⟨S16x256x1024, .f32⟩
  | .hbm, ⟨44, _⟩ => ⟨S16x256x4x256, .f32⟩
  | .hbm, ⟨45, _⟩ => ⟨S4096x4x256, .f32⟩
  | .hbm, ⟨46, _⟩ => ⟨S4096x4x256, .f32⟩
  | .hbm, ⟨47, _⟩ => ⟨S4096x1024, .f32⟩
  | .hbm, ⟨48, _⟩ => ⟨S4096x1024, .bf16⟩
  | .hbm, ⟨49, _⟩ => ⟨S4096x1024, .f32⟩
  | .hbm, ⟨50, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel6.lean ====
abbrev S256x512 : Shape := ⟨2, ![256, 512]⟩
abbrev S1x32x8x64x64 : Shape := ⟨5, ![1, 32, 8, 64, 64]⟩
abbrev S1x32x2048x8x64 : Shape := ⟨5, ![1, 32, 2048, 8, 64]⟩
abbrev S1x512 : Shape := ⟨2, ![1, 512]⟩
abbrev S8 : Shape := ⟨1, ![8]⟩
abbrev S_ : Shape := ⟨0, ![]⟩
abbrev S8x64 : Shape := ⟨2, ![8, 64]⟩
abbrev S512 : Shape := ⟨1, ![512]⟩
abbrev S4x1x128 : Shape := ⟨3, ![4, 1, 128]⟩
abbrev S32x8x64x64 : Shape := ⟨4, ![32, 8, 64, 64]⟩
abbrev S32x2048x8x64 : Shape := ⟨4, ![32, 2048, 8, 64]⟩
abbrev S32x8x64x2048 : Shape := ⟨4, ![32, 8, 64, 2048]⟩
abbrev S32x512x2048 : Shape := ⟨3, ![32, 512, 2048]⟩
abbrev S8x512 : Shape := ⟨2, ![8, 512]⟩
abbrev S1x8x64x64 : Shape := ⟨4, ![1, 8, 64, 64]⟩
abbrev S1x512x2048 : Shape := ⟨3, ![1, 512, 2048]⟩
abbrev S64x2176 : Shape := ⟨2, ![64, 2176]⟩
abbrev S8x8 : Shape := ⟨2, ![8, 8]⟩
abbrev S1x1 : Shape := ⟨2, ![1, 1]⟩
abbrev S1x1x64x64 : Shape := ⟨4, ![1, 1, 64, 64]⟩
abbrev S64x64 : Shape := ⟨2, ![64, 64]⟩
abbrev S8x128 : Shape := ⟨2, ![8, 128]⟩
abbrev S1x128 : Shape := ⟨2, ![1, 128]⟩
abbrev S8x1 : Shape := ⟨2, ![8, 1]⟩
abbrev S64x1 : Shape := ⟨2, ![64, 1]⟩
abbrev S64x512 : Shape := ⟨2, ![64, 512]⟩
abbrev S120x512 : Shape := ⟨2, ![120, 512]⟩
abbrev S128x512 : Shape := ⟨2, ![128, 512]⟩
abbrev S512x2048 : Shape := ⟨2, ![512, 2048]⟩
abbrev S64x2048 : Shape := ⟨2, ![64, 2048]⟩
abbrev S64x128 : Shape := ⟨2, ![64, 128]⟩
abbrev S64 : Shape := ⟨1, ![64]⟩

abbrev nBuf : Space → Nat
  | .hbm => 54
  | .vmem => 31
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S1x32x8x64x64, .f32⟩
  | .hbm, ⟨8, _⟩ => ⟨S1x32x2048x8x64, .f32⟩
  | .hbm, ⟨9, _⟩ => ⟨S1x32x2048x8x64, .f32⟩
  | .hbm, ⟨10, _⟩ => ⟨S1x512, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8x64, .f32⟩
  | .hbm, ⟨23, _⟩ => ⟨S512, .f32⟩
  | .hbm, ⟨24, _⟩ => ⟨S4x1x128, .f32⟩
  | .hbm, ⟨25, _⟩ => ⟨S1x512, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8x64, .f32⟩
  | .hbm, ⟨39, _⟩ => ⟨S512, .f32⟩
  | .hbm, ⟨40, _⟩ => ⟨S4x1x128, .f32⟩
  | .hbm, ⟨41, _⟩ => ⟨S1x512, .f32⟩
  | .hbm, ⟨42, _⟩ => ⟨S512, .f32⟩
  | .hbm, ⟨43, _⟩ => ⟨S1x512, .f32⟩
  | .hbm, ⟨44, _⟩ => ⟨S32x8x64x64, .f32⟩
  | .hbm, ⟨45, _⟩ => ⟨S32x2048x8x64, .f32⟩
  | .hbm, ⟨46, _⟩ => ⟨S32x8x64x2048, .f32⟩
  | .hbm, ⟨47, _⟩ => ⟨S32x512x2048, .f32⟩
  | .hbm, ⟨48, _⟩ => ⟨S32x2048x8x64, .f32⟩
  | .hbm, ⟨49, _⟩ => ⟨S32x8x64x2048, .f32⟩
  | .hbm, ⟨50, _⟩ => ⟨S32x512x2048, .f32⟩
  | .hbm, ⟨51, _⟩ => ⟨S256x512, .f32⟩
  | .hbm, ⟨52, _⟩ => ⟨S256x512, .f32⟩
  | .hbm, ⟨53, _⟩ => ⟨S32x8x64x64, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S1x8x64x64, .f32⟩
  | .local _ .vmem, ⟨18, _⟩ => ⟨S1x8x64x64, .f32⟩
  | .local _ .vmem, ⟨19, _⟩ => ⟨S1x512x2048, .f32⟩
  | .local _ .vmem, ⟨20, _⟩ => ⟨S1x512x2048, .f32⟩
  | .local _ .vmem, ⟨21, _⟩ => ⟨S1x512x2048, .f32⟩
  | .local _ .vmem, ⟨22, _⟩ => ⟨S1x512x2048, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S8x512, .f32⟩
  | .local _ .vmem, ⟨27, _⟩ => ⟨S1x8x64x64, .f32⟩
  | .local _ .vmem, ⟨28, _⟩ => ⟨S1x8x64x64, .f32⟩
  | .local _ .vmem, ⟨29, _⟩ => ⟨S64x2176, .f32⟩
  | .local _ .vmem, ⟨30, _⟩ => ⟨S64x2176, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S256x512 : Shape := ⟨2, ![256, 512]⟩
abbrev S1x32x8x64x64 : Shape := ⟨5, ![1, 32, 8, 64, 64]⟩
abbrev S1x32x2048x8x64 : Shape := ⟨5, ![1, 32, 2048, 8, 64]⟩
abbrev S1x512 : Shape := ⟨2, ![1, 512]⟩
abbrev S32x8x8x64 : Shape := ⟨4, ![32, 8, 8, 64]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x1x1 : Shape := ⟨3, ![8, 1, 1]⟩
abbrev S1x8x8 : Shape := ⟨3, ![1, 8, 8]⟩
abbrev S8x8x8 : Shape := ⟨3, ![8, 8, 8]⟩
abbrev S32x8x8x8 : Shape := ⟨4, ![32, 8, 8, 8]⟩
abbrev S1x8x8x8 : Shape := ⟨4, ![1, 8, 8, 8]⟩
abbrev S32x8x64x8 : Shape := ⟨4, ![32, 8, 64, 8]⟩
abbrev S1x8x8x1 : Shape := ⟨4, ![1, 8, 8, 1]⟩
abbrev S32x8x64x64 : Shape := ⟨4, ![32, 8, 64, 64]⟩
abbrev S1x8x1x1 : Shape := ⟨4, ![1, 8, 1, 1]⟩
abbrev S32x8x8 : Shape := ⟨3, ![32, 8, 8]⟩
abbrev S32x8x8x1 : Shape := ⟨4, ![32, 8, 8, 1]⟩
abbrev S512 : Shape := ⟨1, ![512]⟩

abbrev nBuf : Space → Nat
  | .hbm => 131
  | .vmem => 0
  | .smem => 0
  | _ => 0

abbrev hbmTy0_0 (i : Nat) : BufTy := match i % 128 with
  | 0 => ⟨S256x512, .f32⟩
  | 1 => ⟨S256x512, .f32⟩
  | 2 => ⟨S256x512, .f32⟩
  | 3 => ⟨S256x512, .f32⟩
  | 4 => ⟨S256x512, .f32⟩
  | 5 => ⟨S256x512, .f32⟩
  | 6 => ⟨S256x512, .f32⟩
  | 7 => ⟨S1x32x8x64x64, .f32⟩
  | 8 => ⟨S1x32x2048x8x64, .f32⟩
  | 9 => ⟨S1x32x2048x8x64, .f32⟩
  | 10 => ⟨S1x512, .f32⟩
  | 11 => ⟨S32x8x8x64, .f32⟩
  | 12 => ⟨S32x8x8x64, .f32⟩
  | 13 => ⟨S_, .f32⟩
  | 14 => ⟨S32x8x8x64, .f32⟩
  | 15 => ⟨S32x8x8x64, .f32⟩
  | 16 => ⟨S32x8x8x64, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S8, .f32⟩
  | 28 => ⟨S8, .f32⟩
  | 29 => ⟨S8x1, .f32⟩
  | 30 => ⟨S1x8, .f32⟩
  | 31 => ⟨S8x8, .f32⟩
  | 32 => ⟨S8x8, .f32⟩
  | 33 => ⟨S8x8, .f32⟩
  | 34 => ⟨S_, .f32⟩
  | 35 => ⟨S8x8, .f32⟩
  | 36 => ⟨S8x8, .i1⟩
  | 37 => ⟨S8x1x1, .f32⟩
  | 38 => ⟨S_, .f32⟩
  | 39 => ⟨S8x8, .f32⟩
  | 40 => ⟨S8x8, .f32⟩
  | 41 => ⟨S1x8x8, .f32⟩
  | 42 => ⟨S8x8x8, .f32⟩
  | 43 => ⟨S8x8x8, .f32⟩
  | 44 => ⟨S8x8x8, .f32⟩
  | 45 => ⟨S8x8x8, .f32⟩
  | 46 => ⟨S_, .f32⟩
  | 47 => ⟨S_, .f32⟩
  | 48 => ⟨S8x8x8, .i1⟩
  | 49 => ⟨S8x8x8, .f32⟩
  | 50 => ⟨S8x8x8, .f32⟩
  | 51 => ⟨S32x8x8x8, .f32⟩
  | 52 => ⟨S1x8x8x8, .f32⟩
  | 53 => ⟨S32x8x8x8, .f32⟩
  | 54 => ⟨S32x8x8x8, .f32⟩
  | 55 => ⟨S32x8x64x8, .f32⟩
  | 56 => ⟨S32x8x8x64, .f32⟩
  | 57 => ⟨S1x8, .f32⟩
  | 58 => ⟨S_, .f32⟩
  | 59 => ⟨S8, .f32⟩
  | 60 => ⟨S8, .f32⟩
  | 61 => ⟨S8x1, .f32⟩
  | 62 => ⟨S8x8, .f32⟩
  | 63 => ⟨S8x8, .f32⟩
  | 64 => ⟨S8x8, .f32⟩
  | 65 => ⟨S8x8, .f32⟩
  | 66 => ⟨S1x8x8x1, .f32⟩
  | 67 => ⟨S32x8x8x64, .f32⟩
  | 68 => ⟨S32x8x8x64, .f32⟩
  | 69 => ⟨S32x8x64x64, .f32⟩
  | 70 => ⟨S_, .f32⟩
  | 71 => ⟨S8, .f32⟩
  | 72 => ⟨S8, .f32⟩
  | 73 => ⟨S8, .f32⟩
  | 74 => ⟨S1x8x1x1, .f32⟩
  | 75 => ⟨S32x8x64x64, .f32⟩
  | 76 => ⟨S32x8x64x64, .f32⟩
  | 77 => ⟨S32x8x64x64, .f32⟩
  | 78 => ⟨S32x8x64x64, .f32⟩
  | 79 => ⟨S1x8, .f32⟩
  | 80 => ⟨S_, .f32⟩
  | 81 => ⟨S8, .f32⟩
  | 82 => ⟨S8, .f32⟩
  | 83 => ⟨S8x1, .f32⟩
  | 84 => ⟨S8x8, .f32⟩
  | 85 => ⟨S8x8, .f32⟩
  | 86 => ⟨S8x8, .f32⟩
  | 87 => ⟨S8x8, .f32⟩
  | 88 => ⟨S32x8x64x64, .f32⟩
  | 89 => ⟨S32x8x64x8, .f32⟩
  | 90 => ⟨S32x8x8x64, .f32⟩
  | 91 => ⟨S1x8x8x1, .f32⟩
  | 92 => ⟨S32x8x8x64, .f32⟩
  | 93 => ⟨S32x8x8x64, .f32⟩
  | 94 => ⟨S32x8x8x64, .f32⟩
  | 95 => ⟨S_, .f32⟩
  | 96 => ⟨S32x8x8, .f32⟩
  | 97 => ⟨S32x8x8x1, .f32⟩
  | 98 => ⟨S_, .f32⟩
  | 99 => ⟨S32x8x8x1, .f32⟩
  | 100 => ⟨S32x8x8x1, .f32⟩
  | 101 => ⟨S32x8x8x64, .f32⟩
  | 102 => ⟨S32x8x8x64, .f32⟩
  | 103 => ⟨S32x8x8x64, .f32⟩
  | 104 => ⟨S_, .f32⟩
  | 105 => ⟨S32x8x8, .f32⟩
  | 106 => ⟨S32x8x8x1, .f32⟩
  | 107 => ⟨S_, .f32⟩
  | 108 => ⟨S32x8x8x1, .f32⟩
  | 109 => ⟨S32x8x8x1, .f32⟩
  | 110 => ⟨S_, .f32⟩
  | 111 => ⟨S32x8x8x1, .f32⟩
  | 112 => ⟨S32x8x8x1, .f32⟩
  | 113 => ⟨S32x8x8x1, .f32⟩
  | 114 => ⟨S32x8x8x64, .f32⟩
  | 115 => ⟨S32x8x8x64, .f32⟩
  | 116 => ⟨S256x512, .f32⟩
  | 117 => ⟨S512, .f32⟩
  | 118 => ⟨S1x512, .f32⟩
  | 119 => ⟨S256x512, .f32⟩
  | 120 => ⟨S256x512, .f32⟩
  | 121 => ⟨S256x512, .f32⟩
  | 122 => ⟨S256x512, .f32⟩
  | 123 => ⟨S_, .f32⟩
  | 124 => ⟨S256x512, .f32⟩
  | 125 => ⟨S256x512, .f32⟩
  | 126 => ⟨S_, .f32⟩
  | 127 => ⟨S256x512, .f32⟩
  | _ => ⟨S256x512, .f32⟩

abbrev hbmTy0_1 (i : Nat) : BufTy := match i % 128 with
  | 0 => ⟨S256x512, .f32⟩
  | 1 => ⟨S256x512, .f32⟩
  | 2 => ⟨S256x512, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_cst_12 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_call1_v0 : Ref sig .tc := ⟨.hbm, 121, rfl⟩
abbrev main_call1_v1 : Ref sig .tc := ⟨.hbm, 122, rfl⟩
abbrev main_call1_cst : Ref sig .tc := ⟨.hbm, 123, rfl⟩
abbrev main_call1_v2 : Ref sig .tc := ⟨.hbm, 124, rfl⟩
abbrev main_call1_v3 : Ref sig .tc := ⟨.hbm, 125, rfl⟩
abbrev main_call1_cst_0 : Ref sig .tc := ⟨.hbm, 126, rfl⟩
abbrev main_call1_v4 : Ref sig .tc := ⟨.hbm, 127, rfl⟩
abbrev main_call1_v5 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== Kernel7.lean ====
abbrev S16x2048x512 : Shape := ⟨3, ![16, 2048, 512]⟩
abbrev S1x512 : Shape := ⟨2, ![1, 512]⟩
abbrev S8 : Shape := ⟨1, ![8]⟩
abbrev S_ : Shape := ⟨0, ![]⟩
abbrev S8x64 : Shape := ⟨2, ![8, 64]⟩
abbrev S512 : Shape := ⟨1, ![512]⟩
abbrev S4x1x128 : Shape := ⟨3, ![4, 1, 128]⟩
abbrev S16x8x64x64 : Shape := ⟨4, ![16, 8, 64, 64]⟩
abbrev S1x1x128 : Shape := ⟨3, ![1, 1, 128]⟩
abbrev S1x2048x128 : Shape := ⟨3, ![1, 2048, 128]⟩
abbrev S1x2x64x64 : Shape := ⟨4, ![1, 2, 64, 64]⟩
abbrev S16x128x128 : Shape := ⟨3, ![16, 128, 128]⟩
abbrev S2x16x128x128 : Shape := ⟨4, ![2, 16, 128, 128]⟩
abbrev S128x128 : Shape := ⟨2, ![128, 128]⟩
abbrev S1x128 : Shape := ⟨2, ![1, 128]⟩
abbrev S1x1 : Shape := ⟨2, ![1, 1]⟩
abbrev S1x128x128 : Shape := ⟨3, ![1, 128, 128]⟩
abbrev S64x64 : Shape := ⟨2, ![64, 64]⟩
abbrev S1x1x64x64 : Shape := ⟨4, ![1, 1, 64, 64]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 24
  | .vmem => 18
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S1x512, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8x64, .f32⟩
  | .hbm, ⟨17, _⟩ => ⟨S512, .f32⟩
  | .hbm, ⟨18, _⟩ => ⟨S4x1x128, .f32⟩
  | .hbm, ⟨19, _⟩ => ⟨S1x512, .f32⟩
  | .hbm, ⟨20, _⟩ => ⟨S512, .f32⟩
  | .hbm, ⟨21, _⟩ => ⟨S4x1x128, .f32⟩
  | .hbm, ⟨22, _⟩ => ⟨S16x2048x512, .bf16⟩
  | .hbm, ⟨23, _⟩ => ⟨S16x8x64x64, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2x64x64, .f32⟩
  | .local _ .vmem, ⟨15, _⟩ => ⟨S1x2x64x64, .f32⟩
  | .local _ .vmem, ⟨16, _⟩ => ⟨S16x128x128, .f32⟩
  | .local _ .vmem, ⟨17, _⟩ => ⟨S2x16x128x128, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c2_i32 : BitVec 32 := 2#32
  let v60 : BitVec 32 := Scalar.addi c0_i32 c2_i32
  let c1_i32 : BitVec 32 := 1#32
  ⟨c0_i32, v60, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_835 : BitVec 32 := 8#32
  let v1766 : BitVec 32 := Scalar.muli arg12 c8_i32_835
  let c0_i32_836 : BitVec 32 := 0#32
  let v1767 : BitVec 32 := Scalar.addi v1766 c0_i32_836
  let c128_i32_837 : BitVec 32 := 128#32
  let v1768 : BitVec 32 := Scalar.muli v1767 c128_i32_837
  v1768
def k0_off1 (k0_t1 : Fin k0_t1_loop.trips) (c0_i32_836 : BitVec 32) : Fin 3 → Nat :=
  let c0_838 : Index := 0#32
  let c0_i32 : BitVec 32 := 0#32
  let c1_i32 : BitVec 32 := 1#32
  let arg12 : BitVec 32 := Scf.iv c0_i32 c1_i32 k0_t1
  let c8_i32_835 : BitVec 32 := 8#32
  let v1766 : BitVec 32 := Scalar.muli arg12 c8_i32_835
  let v1767 : BitVec 32 := Scalar.addi v1766 c0_i32_836
  let c128_i32_837 : BitVec 32 := 128#32
  let v1768 : BitVec 32 := Scalar.muli v1767 c128_i32_837
  let v1769 : BitVec 32 := v1768
  let v1770 : Index := Scalar.indexCast v1769
  let c0_839 : Index := 0#32
  ![0, v1770.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_835 : BitVec 32 := 8#32
  let v1766 : BitVec 32 := Scalar.muli arg12 c8_i32_835
  let c0_i32_836 : BitVec 32 := 0#32
  let v1767 : BitVec 32 := Scalar.addi v1766 c0_i32_836
  let c128_i32_840 : BitVec 32 := 128#32
  let v1776 : BitVec 32 := Scalar.muli v1767 c128_i32_840
  v1776
def k0_off2 (k0_t1 : Fin k0_t1_loop.trips) (c0_i32_836 : BitVec 32) : Fin 3 → Nat :=
  let c0_i32 : BitVec 32 := 0#32
  let c1_i32 : BitVec 32 := 1#32
  let arg12 : BitVec 32 := Scf.iv c0_i32 c1_i32 k0_t1
  let c8_i32_835 : BitVec 32 := 8#32
  let v1766 : BitVec 32 := Scalar.muli arg12 c8_i32_835
  let v1767 : BitVec 32 := Scalar.addi v1766 c0_i32_836
  let v1784 : Index := Scalar.indexCast v1767
  let c0_845 : Index := 0#32
  let c0_846 : Index := 0#32
  ![v1784.toNat, 0, 0]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_847 : BitVec 32 := 8#32
  let v1788 : BitVec 32 := Scalar.muli arg12 c8_i32_847
  let c1_i32_848 : BitVec 32 := 1#32
  let v1789 : BitVec 32 := Scalar.addi v1788 c1_i32_848
  let c128_i32_849 : BitVec 32 := 128#32
  let v1790 : BitVec 32 := Scalar.muli v1789 c128_i32_849
  v1790
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_847 : BitVec 32 := 8#32
  let v1788 : BitVec 32 := Scalar.muli arg12 c8_i32_847
  let c1_i32_848 : BitVec 32 := 1#32
  let v1789 : BitVec 32 := Scalar.addi v1788 c1_i32_848
  let c128_i32_852 : BitVec 32 := 128#32
  let v1798 : BitVec 32 := Scalar.muli v1789 c128_i32_852
  v1798
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_859 : BitVec 32 := 8#32
  let v1810 : BitVec 32 := Scalar.muli arg12 c8_i32_859
  let c2_i32_860 : BitVec 32 := 2#32
  let v1811 : BitVec 32 := Scalar.addi v1810 c2_i32_860
  let c128_i32_861 : BitVec 32 := 128#32
  let v1812 : BitVec 32 := Scalar.muli v1811 c128_i32_861
  v1812
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_859 : BitVec 32 := 8#32
  let v1810 : BitVec 32 := Scalar.muli arg12 c8_i32_859
  let c2_i32_860 : BitVec 32 := 2#32
  let v1811 : BitVec 32 := Scalar.addi v1810 c2_i32_860
  let c128_i32_864 : BitVec 32 := 128#32
  let v1820 : BitVec 32 := Scalar.muli v1811 c128_i32_864
  v1820
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_871 : BitVec 32 := 8#32
  let v1832 : BitVec 32 := Scalar.muli arg12 c8_i32_871
  let c3_i32_872 : BitVec 32 := 3#32
  let v1833 : BitVec 32 := Scalar.addi v1832 c3_i32_872
  let c128_i32_873 : BitVec 32 := 128#32
  let v1834 : BitVec 32 := Scalar.muli v1833 c128_i32_873
  v1834
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_871 : BitVec 32 := 8#32
  let v1832 : BitVec 32 := Scalar.muli arg12 c8_i32_871
  let c3_i32_872 : BitVec 32 := 3#32
  let v1833 : BitVec 32 := Scalar.addi v1832 c3_i32_872
  let c128_i32_876 : BitVec 32 := 128#32
  let v1842 : BitVec 32 := Scalar.muli v1833 c128_i32_876
  v1842
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_883 : BitVec 32 := 8#32
  let v1854 : BitVec 32 := Scalar.muli arg12 c8_i32_883
  let c4_i32_884 : BitVec 32 := 4#32
  let v1855 : BitVec 32 := Scalar.addi v1854 c4_i32_884
  let c128_i32_885 : BitVec 32 := 128#32
  let v1856 : BitVec 32 := Scalar.muli v1855 c128_i32_885
  v1856
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_883 : BitVec 32 := 8#32
  let v1854 : BitVec 32 := Scalar.muli arg12 c8_i32_883
  let c4_i32_884 : BitVec 32 := 4#32
  let v1855 : BitVec 32 := Scalar.addi v1854 c4_i32_884
  let c128_i32_888 : BitVec 32 := 128#32
  let v1864 : BitVec 32 := Scalar.muli v1855 c128_i32_888
  v1864
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_895 : BitVec 32 := 8#32
  let v1876 : BitVec 32 := Scalar.muli arg12 c8_i32_895
  let c5_i32_896 : BitVec 32 := 5#32
  let v1877 : BitVec 32 := Scalar.addi v1876 c5_i32_896
  let c128_i32_897 : BitVec 32 := 128#32
  let v1878 : BitVec 32 := Scalar.muli v1877 c128_i32_897
  v1878
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_895 : BitVec 32 := 8#32
  let v1876 : BitVec 32 := Scalar.muli arg12 c8_i32_895
  let c5_i32_896 : BitVec 32 := 5#32
  let v1877 : BitVec 32 := Scalar.addi v1876 c5_i32_896
  let c128_i32_900 : BitVec 32 := 128#32
  let v1886 : BitVec 32 := Scalar.muli v1877 c128_i32_900
  v1886
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_907 : BitVec 32 := 8#32
  let v1898 : BitVec 32 := Scalar.muli arg12 c8_i32_907
  let c6_i32_908 : BitVec 32 := 6#32
  let v1899 : BitVec 32 := Scalar.addi v1898 c6_i32_908
  let c128_i32_909 : BitVec 32 := 128#32
  let v1900 : BitVec 32 := Scalar.muli v1899 c128_i32_909
  v1900
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_907 : BitVec 32 := 8#32
  let v1898 : BitVec 32 := Scalar.muli arg12 c8_i32_907
  let c6_i32_908 : BitVec 32 := 6#32
  let v1899 : BitVec 32 := Scalar.addi v1898 c6_i32_908
  let c128_i32_912 : BitVec 32 := 128#32
  let v1908 : BitVec 32 := Scalar.muli v1899 c128_i32_912
  v1908
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_919 : BitVec 32 := 8#32
  let v1920 : BitVec 32 := Scalar.muli arg12 c8_i32_919
  let c7_i32_920 : BitVec 32 := 7#32
  let v1921 : BitVec 32 := Scalar.addi v1920 c7_i32_920
  let c128_i32_921 : BitVec 32 := 128#32
  let v1922 : BitVec 32 := Scalar.muli v1921 c128_i32_921
  v1922
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_919 : BitVec 32 := 8#32
  let v1920 : BitVec 32 := Scalar.muli arg12 c8_i32_919
  let c7_i32_920 : BitVec 32 := 7#32
  let v1921 : BitVec 32 := Scalar.addi v1920 c7_i32_920
  let c128_i32_924 : BitVec 32 := 128#32
  let v1930 : BitVec 32 := Scalar.muli v1921 c128_i32_924
  v1930
@[reducible] def k0_t2_loop : Scf.Loop 32 :=
  let c0_i32_20 : BitVec 32 := 0#32
  let c16_i32 : BitVec 32 := 16#32
  let v62 : BitVec 32 := Scalar.addi c0_i32_20 c16_i32
  let c1_i32_21 : BitVec 32 := 1#32
  ⟨c0_i32_20, v62, c1_i32_21⟩
def k0_off3 (k0_t2 : Fin k0_t2_loop.trips) : Fin 3 → Nat :=
  let c0_i32_20 : BitVec 32 := 0#32
  let c1_i32_21 : BitVec 32 := 1#32
  let arg12 : BitVec 32 := Scf.iv c0_i32_20 c1_i32_21 k0_t2
  let v1766 : Index := Scalar.indexCast arg12
  let c0_835 : Index := 0#32
  let c0_836 : Index := 0#32
  ![v1766.toNat, 0, 0]
def k0_mult17 : BitVec 32 :=
  let c0_i32_30 : BitVec 32 := 0#32
  c0_i32_30
def k0_mult18 : BitVec 32 :=
  let c128_i32 : BitVec 32 := 128#32
  c128_i32
def k0_mult19 : BitVec 32 :=
  let c256_i32 : BitVec 32 := 256#32
  c256_i32
def k0_mult20 : BitVec 32 :=
  let c384_i32 : BitVec 32 := 384#32
  c384_i32
def k0_mult21 : BitVec 32 :=
  let c512_i32 : BitVec 32 := 512#32
  c512_i32
def k0_mult22 : BitVec 32 :=
  let c640_i32 : BitVec 32 := 640#32
  c640_i32
def k0_mult23 : BitVec 32 :=
  let c768_i32 : BitVec 32 := 768#32
  c768_i32
def k0_mult24 : BitVec 32 :=
  let c896_i32 : BitVec 32 := 896#32
  c896_i32
def k0_mult25 : BitVec 32 :=
  let c0_i32_137 : BitVec 32 := 0#32
  let c8_i32 : BitVec 32 := 8#32
  let v258 : BitVec 32 := Scalar.muli c0_i32_137 c8_i32
  let c0_i32_144 : BitVec 32 := 0#32
  let v259 : BitVec 32 := Scalar.addi v258 c0_i32_144
  let c128_i32_145 : BitVec 32 := 128#32
  let v260 : BitVec 32 := Scalar.muli v259 c128_i32_145
  v260
def k0_off4 (c0_i32_144 : BitVec 32) : Fin 3 → Nat :=
  let c0_146 : Index := 0#32
  let c0_i32_137 : BitVec 32 := 0#32
  let c8_i32 : BitVec 32 := 8#32
  let v258 : BitVec 32 := Scalar.muli c0_i32_137 c8_i32
  let v259 : BitVec 32 := Scalar.addi v258 c0_i32_144
  let c128_i32_145 : BitVec 32 := 128#32
  let v260 : BitVec 32 := Scalar.muli v259 c128_i32_145
  let v261 : BitVec 32 := v260
  let v262 : Index := Scalar.indexCast v261
  let c0_147 : Index := 0#32
  ![0, v262.toNat, 0]
def k0_off5 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v269 : Index := Scalar.indexCast v257
  let c0_151 : Index := 0#32
  let c0_152 : Index := 0#32
  let c0_153 : Index := 0#32
  ![v269.toNat, 0, 0, 0]
def k0_off6 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v274 : Index := Scalar.indexCast v257
  let c1_155 : Index := 1#32
  let c0_156 : Index := 0#32
  let c0_157 : Index := 0#32
  ![v274.toNat, 1, 0, 0]
def k0_off7 (c0_i32_144 : BitVec 32) : Fin 3 → Nat :=
  let c0_i32_137 : BitVec 32 := 0#32
  let c8_i32 : BitVec 32 := 8#32
  let v258 : BitVec 32 := Scalar.muli c0_i32_137 c8_i32
  let v259 : BitVec 32 := Scalar.addi v258 c0_i32_144
  let v280 : Index := Scalar.indexCast v259
  let c0_159 : Index := 0#32
  let c0_160 : Index := 0#32
  ![v280.toNat, 0, 0]
def k0_mult26 : BitVec 32 :=
  let c0_i32_137 : BitVec 32 := 0#32
  let c8_i32_178 : BitVec 32 := 8#32
  let v341 : BitVec 32 := Scalar.muli c0_i32_137 c8_i32_178
  let c1_i32_179 : BitVec 32 := 1#32
  let v342 : BitVec 32 := Scalar.addi v341 c1_i32_179
  let c128_i32_180 : BitVec 32 := 128#32
  let v343 : BitVec 32 := Scalar.muli v342 c128_i32_180
  v343
def k0_off8 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v352 : Index := Scalar.indexCast v257
  let c2_186 : Index := 2#32
  let c0_187 : Index := 0#32
  let c0_188 : Index := 0#32
  ![v352.toNat, 2, 0, 0]
def k0_off9 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v357 : Index := Scalar.indexCast v257
  let c3_190 : Index := 3#32
  let c0_191 : Index := 0#32
  let c0_192 : Index := 0#32
  ![v357.toNat, 3, 0, 0]
def k0_mult27 : BitVec 32 :=
  let c0_i32_137 : BitVec 32 := 0#32
  let c8_i32_213 : BitVec 32 := 8#32
  let v424 : BitVec 32 := Scalar.muli c0_i32_137 c8_i32_213
  let c2_i32_214 : BitVec 32 := 2#32
  let v425 : BitVec 32 := Scalar.addi v424 c2_i32_214
  let c128_i32_215 : BitVec 32 := 128#32
  let v426 : BitVec 32 := Scalar.muli v425 c128_i32_215
  v426
def k0_off10 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v435 : Index := Scalar.indexCast v257
  let c4_221 : Index := 4#32
  let c0_222 : Index := 0#32
  let c0_223 : Index := 0#32
  ![v435.toNat, 4, 0, 0]
def k0_off11 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v440 : Index := Scalar.indexCast v257
  let c5_225 : Index := 5#32
  let c0_226 : Index := 0#32
  let c0_227 : Index := 0#32
  ![v440.toNat, 5, 0, 0]
def k0_mult28 : BitVec 32 :=
  let c0_i32_137 : BitVec 32 := 0#32
  let c8_i32_248 : BitVec 32 := 8#32
  let v507 : BitVec 32 := Scalar.muli c0_i32_137 c8_i32_248
  let c3_i32 : BitVec 32 := 3#32
  let v508 : BitVec 32 := Scalar.addi v507 c3_i32
  let c128_i32_249 : BitVec 32 := 128#32
  let v509 : BitVec 32 := Scalar.muli v508 c128_i32_249
  v509
def k0_off12 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v518 : Index := Scalar.indexCast v257
  let c6_255 : Index := 6#32
  let c0_256 : Index := 0#32
  let c0_257 : Index := 0#32
  ![v518.toNat, 6, 0, 0]
def k0_off13 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v523 : Index := Scalar.indexCast v257
  let c7_259 : Index := 7#32
  let c0_260 : Index := 0#32
  let c0_261 : Index := 0#32
  ![v523.toNat, 7, 0, 0]
def k0_mult29 : BitVec 32 :=
  let c0_i32_137 : BitVec 32 := 0#32
  let c8_i32_282 : BitVec 32 := 8#32
  let v590 : BitVec 32 := Scalar.muli c0_i32_137 c8_i32_282
  let c4_i32 : BitVec 32 := 4#32
  let v591 : BitVec 32 := Scalar.addi v590 c4_i32
  let c128_i32_283 : BitVec 32 := 128#32
  let v592 : BitVec 32 := Scalar.muli v591 c128_i32_283
  v592
def k0_off14 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v601 : Index := Scalar.indexCast v257
  let c8_289 : Index := 8#32
  let c0_290 : Index := 0#32
  let c0_291 : Index := 0#32
  ![v601.toNat, 8, 0, 0]
def k0_off15 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v606 : Index := Scalar.indexCast v257
  let c9_293 : Index := 9#32
  let c0_294 : Index := 0#32
  let c0_295 : Index := 0#32
  ![v606.toNat, 9, 0, 0]
def k0_mult30 : BitVec 32 :=
  let c0_i32_137 : BitVec 32 := 0#32
  let c8_i32_316 : BitVec 32 := 8#32
  let v673 : BitVec 32 := Scalar.muli c0_i32_137 c8_i32_316
  let c5_i32 : BitVec 32 := 5#32
  let v674 : BitVec 32 := Scalar.addi v673 c5_i32
  let c128_i32_317 : BitVec 32 := 128#32
  let v675 : BitVec 32 := Scalar.muli v674 c128_i32_317
  v675
def k0_off16 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v684 : Index := Scalar.indexCast v257
  let c10_323 : Index := 10#32
  let c0_324 : Index := 0#32
  let c0_325 : Index := 0#32
  ![v684.toNat, 10, 0, 0]
def k0_off17 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v689 : Index := Scalar.indexCast v257
  let c11_327 : Index := 11#32
  let c0_328 : Index := 0#32
  let c0_329 : Index := 0#32
  ![v689.toNat, 11, 0, 0]
def k0_mult31 : BitVec 32 :=
  let c0_i32_137 : BitVec 32 := 0#32
  let c8_i32_350 : BitVec 32 := 8#32
  let v756 : BitVec 32 := Scalar.muli c0_i32_137 c8_i32_350
  let c6_i32 : BitVec 32 := 6#32
  let v757 : BitVec 32 := Scalar.addi v756 c6_i32
  let c128_i32_351 : BitVec 32 := 128#32
  let v758 : BitVec 32 := Scalar.muli v757 c128_i32_351
  v758
def k0_off18 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v767 : Index := Scalar.indexCast v257
  let c12_357 : Index := 12#32
  let c0_358 : Index := 0#32
  let c0_359 : Index := 0#32
  ![v767.toNat, 12, 0, 0]
def k0_off19 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v772 : Index := Scalar.indexCast v257
  let c13_361 : Index := 13#32
  let c0_362 : Index := 0#32
  let c0_363 : Index := 0#32
  ![v772.toNat, 13, 0, 0]
def k0_mult32 : BitVec 32 :=
  let c0_i32_137 : BitVec 32 := 0#32
  let c8_i32_384 : BitVec 32 := 8#32
  let v839 : BitVec 32 := Scalar.muli c0_i32_137 c8_i32_384
  let c7_i32 : BitVec 32 := 7#32
  let v840 : BitVec 32 := Scalar.addi v839 c7_i32
  let c128_i32_385 : BitVec 32 := 128#32
  let v841 : BitVec 32 := Scalar.muli v840 c128_i32_385
  v841
def k0_off20 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v850 : Index := Scalar.indexCast v257
  let c14_391 : Index := 14#32
  let c0_392 : Index := 0#32
  let c0_393 : Index := 0#32
  ![v850.toNat, 14, 0, 0]
def k0_off21 : Fin 4 → Nat :=
  let c0_i32_137 : BitVec 32 := 0#32
  let c2_i32_138 : BitVec 32 := 2#32
  let c0_i32_139 : BitVec 32 := 0#32
  let v248 : BitVec 1 := Scalar.cmpi .eq c2_i32_138 c0_i32_139
  let c1_i32_140 : BitVec 32 := 1#32
  let v249 : BitVec 32 := Scalar.select v248 c1_i32_140 c2_i32_138
  let v250 : BitVec 32 := Scalar.remsi c0_i32_137 v249
  let c0_i32_142 : BitVec 32 := 0#32
  let v252 : BitVec 1 := Scalar.cmpi .slt v250 c0_i32_142
  let c0_i32_143 : BitVec 32 := 0#32
  let v253 : BitVec 1 := Scalar.cmpi .slt v249 c0_i32_143
  let v254 : BitVec 1 := Scalar.xori v252 v253
  let c0_i32_141 : BitVec 32 := 0#32
  let v251 : BitVec 1 := Scalar.cmpi .ne v250 c0_i32_141
  let v255 : BitVec 1 := Scalar.andi v254 v251
  let v256 : BitVec 32 := Scalar.addi v250 v249
  let v257 : BitVec 32 := Scalar.select v255 v256 v250
  let v855 : Index := Scalar.indexCast v257
  let c15_395 : Index := 15#32
  let c0_396 : Index := 0#32
  let c0_397 : Index := 0#32
  ![v855.toNat, 15, 0, 0]
def k0_mult33 : BitVec 32 :=
  let c0_i32_137 : BitVec 32 := 0#32
  let c1_i32_418 : BitVec 32 := 1#32
  let v922 : BitVec 32 := Scalar.addi c0_i32_137 c1_i32_418
  let c8_i32_426 : BitVec 32 := 8#32
  let v934 : BitVec 32 := Scalar.muli v922 c8_i32_426
  let c0_i32_427 : BitVec 32 := 0#32
  let v935 : BitVec 32 := Scalar.addi v934 c0_i32_427
  let c128_i32_428 : BitVec 32 := 128#32
  let v936 : BitVec 32 := Scalar.muli v935 c128_i32_428
  v936
def k0_off22 (c0_i32_427 : BitVec 32) : Fin 3 → Nat :=
  let c0_429 : Index := 0#32
  let c0_i32_137 : BitVec 32 := 0#32
  let c1_i32_418 : BitVec 32 := 1#32
  let v922 : BitVec 32 := Scalar.addi c0_i32_137 c1_i32_418
  let c8_i32_426 : BitVec 32 := 8#32
  let v934 : BitVec 32 := Scalar.muli v922 c8_i32_426
  let v935 : BitVec 32 := Scalar.addi v934 c0_i32_427
  let c128_i32_428 : BitVec 32 := 128#32
  let v936 : BitVec 32 := Scalar.muli v935 c128_i32_428
  let v937 : BitVec 32 := v936
  let v938 : Index := Scalar.indexCast v937
  let c0_430 : Index := 0#32
  ![0, v938.toNat, 0]
def k0_off23 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v949 : Index := Scalar.indexCast v933
  let c0_435 : Index := 0#32
  let c0_436 : Index := 0#32
  let c0_437 : Index := 0#32
  ![v949.toNat, 0, 0, 0]
def k0_off24 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v957 : Index := Scalar.indexCast v933
  let c1_439 : Index := 1#32
  let c0_440 : Index := 0#32
  let c0_441 : Index := 0#32
  ![v957.toNat, 1, 0, 0]
def k0_mult34 : BitVec 32 :=
  let c0_i32_137 : BitVec 32 := 0#32
  let c1_i32_418 : BitVec 32 := 1#32
  let v922 : BitVec 32 := Scalar.addi c0_i32_137 c1_i32_418
  let c8_i32_442 : BitVec 32 := 8#32
  let v961 : BitVec 32 := Scalar.muli v922 c8_i32_442
  let c1_i32_443 : BitVec 32 := 1#32
  let v962 : BitVec 32 := Scalar.addi v961 c1_i32_443
  let c128_i32_444 : BitVec 32 := 128#32
  let v963 : BitVec 32 := Scalar.muli v962 c128_i32_444
  v963
def k0_off25 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v976 : Index := Scalar.indexCast v933
  let c2_451 : Index := 2#32
  let c0_452 : Index := 0#32
  let c0_453 : Index := 0#32
  ![v976.toNat, 2, 0, 0]
def k0_off26 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v984 : Index := Scalar.indexCast v933
  let c3_455 : Index := 3#32
  let c0_456 : Index := 0#32
  let c0_457 : Index := 0#32
  ![v984.toNat, 3, 0, 0]
def k0_mult35 : BitVec 32 :=
  let c0_i32_137 : BitVec 32 := 0#32
  let c1_i32_418 : BitVec 32 := 1#32
  let v922 : BitVec 32 := Scalar.addi c0_i32_137 c1_i32_418
  let c8_i32_458 : BitVec 32 := 8#32
  let v988 : BitVec 32 := Scalar.muli v922 c8_i32_458
  let c2_i32_459 : BitVec 32 := 2#32
  let v989 : BitVec 32 := Scalar.addi v988 c2_i32_459
  let c128_i32_460 : BitVec 32 := 128#32
  let v990 : BitVec 32 := Scalar.muli v989 c128_i32_460
  v990
def k0_off27 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1003 : Index := Scalar.indexCast v933
  let c4_467 : Index := 4#32
  let c0_468 : Index := 0#32
  let c0_469 : Index := 0#32
  ![v1003.toNat, 4, 0, 0]
def k0_off28 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1011 : Index := Scalar.indexCast v933
  let c5_471 : Index := 5#32
  let c0_472 : Index := 0#32
  let c0_473 : Index := 0#32
  ![v1011.toNat, 5, 0, 0]
def k0_mult36 : BitVec 32 :=
  let c0_i32_137 : BitVec 32 := 0#32
  let c1_i32_418 : BitVec 32 := 1#32
  let v922 : BitVec 32 := Scalar.addi c0_i32_137 c1_i32_418
  let c8_i32_474 : BitVec 32 := 8#32
  let v1015 : BitVec 32 := Scalar.muli v922 c8_i32_474
  let c3_i32_475 : BitVec 32 := 3#32
  let v1016 : BitVec 32 := Scalar.addi v1015 c3_i32_475
  let c128_i32_476 : BitVec 32 := 128#32
  let v1017 : BitVec 32 := Scalar.muli v1016 c128_i32_476
  v1017
def k0_off29 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1030 : Index := Scalar.indexCast v933
  let c6_483 : Index := 6#32
  let c0_484 : Index := 0#32
  let c0_485 : Index := 0#32
  ![v1030.toNat, 6, 0, 0]
def k0_off30 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1038 : Index := Scalar.indexCast v933
  let c7_487 : Index := 7#32
  let c0_488 : Index := 0#32
  let c0_489 : Index := 0#32
  ![v1038.toNat, 7, 0, 0]
def k0_mult37 : BitVec 32 :=
  let c0_i32_137 : BitVec 32 := 0#32
  let c1_i32_418 : BitVec 32 := 1#32
  let v922 : BitVec 32 := Scalar.addi c0_i32_137 c1_i32_418
  let c8_i32_490 : BitVec 32 := 8#32
  let v1042 : BitVec 32 := Scalar.muli v922 c8_i32_490
  let c4_i32_491 : BitVec 32 := 4#32
  let v1043 : BitVec 32 := Scalar.addi v1042 c4_i32_491
  let c128_i32_492 : BitVec 32 := 128#32
  let v1044 : BitVec 32 := Scalar.muli v1043 c128_i32_492
  v1044
def k0_off31 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1057 : Index := Scalar.indexCast v933
  let c8_499 : Index := 8#32
  let c0_500 : Index := 0#32
  let c0_501 : Index := 0#32
  ![v1057.toNat, 8, 0, 0]
def k0_off32 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1065 : Index := Scalar.indexCast v933
  let c9_503 : Index := 9#32
  let c0_504 : Index := 0#32
  let c0_505 : Index := 0#32
  ![v1065.toNat, 9, 0, 0]
def k0_mult38 : BitVec 32 :=
  let c0_i32_137 : BitVec 32 := 0#32
  let c1_i32_418 : BitVec 32 := 1#32
  let v922 : BitVec 32 := Scalar.addi c0_i32_137 c1_i32_418
  let c8_i32_506 : BitVec 32 := 8#32
  let v1069 : BitVec 32 := Scalar.muli v922 c8_i32_506
  let c5_i32_507 : BitVec 32 := 5#32
  let v1070 : BitVec 32 := Scalar.addi v1069 c5_i32_507
  let c128_i32_508 : BitVec 32 := 128#32
  let v1071 : BitVec 32 := Scalar.muli v1070 c128_i32_508
  v1071
def k0_off33 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1084 : Index := Scalar.indexCast v933
  let c10_515 : Index := 10#32
  let c0_516 : Index := 0#32
  let c0_517 : Index := 0#32
  ![v1084.toNat, 10, 0, 0]
def k0_off34 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1092 : Index := Scalar.indexCast v933
  let c11_519 : Index := 11#32
  let c0_520 : Index := 0#32
  let c0_521 : Index := 0#32
  ![v1092.toNat, 11, 0, 0]
def k0_mult39 : BitVec 32 :=
  let c0_i32_137 : BitVec 32 := 0#32
  let c1_i32_418 : BitVec 32 := 1#32
  let v922 : BitVec 32 := Scalar.addi c0_i32_137 c1_i32_418
  let c8_i32_522 : BitVec 32 := 8#32
  let v1096 : BitVec 32 := Scalar.muli v922 c8_i32_522
  let c6_i32_523 : BitVec 32 := 6#32
  let v1097 : BitVec 32 := Scalar.addi v1096 c6_i32_523
  let c128_i32_524 : BitVec 32 := 128#32
  let v1098 : BitVec 32 := Scalar.muli v1097 c128_i32_524
  v1098
def k0_off35 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1111 : Index := Scalar.indexCast v933
  let c12_531 : Index := 12#32
  let c0_532 : Index := 0#32
  let c0_533 : Index := 0#32
  ![v1111.toNat, 12, 0, 0]
def k0_off36 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1119 : Index := Scalar.indexCast v933
  let c13_535 : Index := 13#32
  let c0_536 : Index := 0#32
  let c0_537 : Index := 0#32
  ![v1119.toNat, 13, 0, 0]
def k0_mult40 : BitVec 32 :=
  let c0_i32_137 : BitVec 32 := 0#32
  let c1_i32_418 : BitVec 32 := 1#32
  let v922 : BitVec 32 := Scalar.addi c0_i32_137 c1_i32_418
  let c8_i32_538 : BitVec 32 := 8#32
  let v1123 : BitVec 32 := Scalar.muli v922 c8_i32_538
  let c7_i32_539 : BitVec 32 := 7#32
  let v1124 : BitVec 32 := Scalar.addi v1123 c7_i32_539
  let c128_i32_540 : BitVec 32 := 128#32
  let v1125 : BitVec 32 := Scalar.muli v1124 c128_i32_540
  v1125
def k0_off37 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1138 : Index := Scalar.indexCast v933
  let c14_547 : Index := 14#32
  let c0_548 : Index := 0#32
  let c0_549 : Index := 0#32
  ![v1138.toNat, 14, 0, 0]
def k0_off38 : Fin 4 → Nat :=
  let c0_i32_137 : BitVec 32 := 0#32
  let c1_i32_419 : BitVec 32 := 1#32
  let v923 : BitVec 32 := Scalar.addi c0_i32_137 c1_i32_419
  let c2_i32_420 : BitVec 32 := 2#32
  let c0_i32_421 : BitVec 32 := 0#32
  let v924 : BitVec 1 := Scalar.cmpi .eq c2_i32_420 c0_i32_421
  let c1_i32_422 : BitVec 32 := 1#32
  let v925 : BitVec 32 := Scalar.select v924 c1_i32_422 c2_i32_420
  let v926 : BitVec 32 := Scalar.remsi v923 v925
  let c0_i32_424 : BitVec 32 := 0#32
  let v928 : BitVec 1 := Scalar.cmpi .slt v926 c0_i32_424
  let c0_i32_425 : BitVec 32 := 0#32
  let v929 : BitVec 1 := Scalar.cmpi .slt v925 c0_i32_425
  let v930 : BitVec 1 := Scalar.xori v928 v929
  let c0_i32_423 : BitVec 32 := 0#32
  let v927 : BitVec 1 := Scalar.cmpi .ne v926 c0_i32_423
  let v931 : BitVec 1 := Scalar.andi v930 v927
  let v932 : BitVec 32 := Scalar.addi v926 v925
  let v933 : BitVec 32 := Scalar.select v931 v932 v926
  let v1146 : Index := Scalar.indexCast v933
  let c15_551 : Index := 15#32
  let c0_552 : Index := 0#32
  let c0_553 : Index := 0#32
  ![v1146.toNat, 15, 0, 0]
def k0_mult41 : BitVec 32 :=
  let c1024_i32 : BitVec 32 := 1024#32
  c1024_i32
def k0_mult42 : BitVec 32 :=
  let c1152_i32 : BitVec 32 := 1152#32
  c1152_i32
def k0_mult43 : BitVec 32 :=
  let c1280_i32 : BitVec 32 := 1280#32
  c1280_i32
def k0_mult44 : BitVec 32 :=
  let c1408_i32 : BitVec 32 := 1408#32
  c1408_i32
def k0_mult45 : BitVec 32 :=
  let c1536_i32 : BitVec 32 := 1536#32
  c1536_i32
def k0_mult46 : BitVec 32 :=
  let c1664_i32 : BitVec 32 := 1664#32
  c1664_i32
def k0_mult47 : BitVec 32 :=
  let c1792_i32 : BitVec 32 := 1792#32
  c1792_i32
def k0_mult48 : BitVec 32 :=
  let c1920_i32 : BitVec 32 := 1920#32
  c1920_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S16x2048x512 : Shape := ⟨3, ![16, 2048, 512]⟩
abbrev S1x512 : Shape := ⟨2, ![1, 512]⟩
abbrev S_ : Shape := ⟨0, ![]⟩
abbrev S16x16x128x8x64 : Shape := ⟨5, ![16, 16, 128, 8, 64]⟩
abbrev S8 : Shape := ⟨1, ![8]⟩
abbrev S128 : Shape := ⟨1, ![128]⟩
abbrev S1x8 : Shape := ⟨2, ![1, 8]⟩
abbrev S128x1 : Shape := ⟨2, ![128, 1]⟩
abbrev S128x8 : Shape := ⟨2, ![128, 8]⟩
abbrev S1x1x128x8x1 : Shape := ⟨5, ![1, 1, 128, 8, 1]⟩
abbrev S16x16x8x64x64 : Shape := ⟨5, ![16, 16, 8, 64, 64]⟩
abbrev S1x8x1x1 : Shape := ⟨4, ![1, 8, 1, 1]⟩
abbrev S16x8x64x64 : Shape := ⟨4, ![16, 8, 64, 64]⟩
abbrev S1x16x8x64x64 : Shape := ⟨5, ![1, 16, 8, 64, 64]⟩

abbrev nBuf : Space → Nat
  | .hbm => 124
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S1x512, .f32⟩
  | .hbm, ⟨5, _⟩ => ⟨S16x2048x512, .f32⟩
  | .hbm, ⟨6, _⟩ => ⟨S_, .f32⟩
  | .hbm, ⟨7, _⟩ => ⟨S16x2048x512, .f32⟩
  | .hbm, ⟨8, _⟩ => ⟨S16x2048x512, .f32⟩
  | .hbm, ⟨9, _⟩ => ⟨S16x16x128x8x64, .f32⟩
  | .hbm, ⟨10, _⟩ => ⟨S16x2048x512, .f32⟩
  | .hbm, ⟨11, _⟩ => ⟨S16x16x128x8x64, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S128, .f32⟩
  | .hbm, ⟨24, _⟩ => ⟨S1x8, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128x1, .f32⟩
  | .hbm, ⟨29, _⟩ => ⟨S128x8, .f32⟩
  | .hbm, ⟨30, _⟩ => ⟨S128x8, .f32⟩
  | .hbm, ⟨31, _⟩ => ⟨S128x8, .f32⟩
  | .hbm, ⟨32, _⟩ => ⟨S128x8, .f32⟩
  | .hbm, ⟨33, _⟩ => ⟨S1x1x128x8x1, .f32⟩
  | .hbm, ⟨34, _⟩ => ⟨S16x16x128x8x64, .f32⟩
  | .hbm, ⟨35, _⟩ => ⟨S16x16x128x8x64, .f32⟩
  | .hbm, ⟨36, _⟩ => ⟨S16x16x8x64x64, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S1x8x1x1, .f32⟩
  | .hbm, ⟨42, _⟩ => ⟨S_, .f32⟩
  | .hbm, ⟨43, _⟩ => ⟨S16x8x64x64, .f32⟩
  | .hbm, ⟨44, _⟩ => ⟨S16x8x64x64, .f32⟩
  | .hbm, ⟨45, _⟩ => ⟨S16x8x64x64, .f32⟩
  | .hbm, ⟨46, _⟩ => ⟨S1x16x8x64x64, .f32⟩
  | .hbm, ⟨47, _⟩ => ⟨S16x8x64x64, .f32⟩
  | .hbm, ⟨48, _⟩ => ⟨S16x8x64x64, .f32⟩
  | .hbm, ⟨49, _⟩ => ⟨S16x8x64x64, .f32⟩
  | .hbm, ⟨50, _⟩ => ⟨S16x8x64x64, .f32⟩
  | .hbm, ⟨51, _⟩ => ⟨S1x16x8x64x64, .f32⟩
  | .hbm, ⟨52, _⟩ => ⟨S16x8x64x64, .f32⟩
  | .hbm, ⟨53, _⟩ => ⟨S16x8x64x64, .f32⟩
  | .hbm, ⟨54, _⟩ => ⟨S16x8x64x64, .f32⟩
  | .hbm, ⟨55, _⟩ => ⟨S16x8x64x64, .f32⟩
  | .hbm, ⟨56, _⟩ => ⟨S1x16x8x64x64, .f32⟩
  | .hbm, ⟨57, _⟩ => ⟨S16x8x64x64, .f32⟩
  | .hbm, ⟨58, _⟩ => ⟨S16x8x64x64, .f32⟩
  | .hbm, ⟨59, _⟩ => ⟨S16x8x64x64, .f32⟩
  | .hbm, ⟨60, _⟩ => ⟨S16x8x64x64, .f32⟩
  | .hbm, ⟨61, _⟩ => ⟨S1x16x8x64x64, .f32⟩
  | .hbm, ⟨62, _⟩ => ⟨S16x8x64x64, .f32⟩
  | .hbm, ⟨63, _⟩ => ⟨S16x8x64x64, .f32⟩
  | .hbm, ⟨64, _⟩ => ⟨S16x8x64x64, .f32⟩
  | .hbm, ⟨65, _⟩ => ⟨S16x8x64x64, .f32⟩
  | .hbm, ⟨66, _⟩ => ⟨S1x16x8x64x64, .f32⟩
  | .hbm, ⟨67, _⟩ => ⟨S16x8x64x64, .f32⟩
  | .hbm, ⟨68, _⟩ => ⟨S16x8x64x64, .f32⟩
  | .hbm, ⟨69, _⟩ => ⟨S16x8x64x64, .f32⟩
  | .hbm, ⟨70, _⟩ => ⟨S16x8x64x64, .f32⟩
  | .hbm, ⟨71, _⟩ => ⟨S1x16x8x64x64, .f32⟩
  | .hbm, ⟨72, _⟩ => ⟨S16x8x64x64, .f32⟩
  | .hbm, ⟨73, _⟩ => ⟨S16x8x64x64, .f32⟩
  | .hbm, ⟨74, _⟩ => ⟨S16x8x64x64, .f32⟩
  | .hbm, ⟨75, _⟩ => ⟨S16x8x64x64, .f32⟩
  | .hbm, ⟨76, _⟩ => ⟨S1x16x8x64x64, .f32⟩
  | .hbm, ⟨77, _⟩ => ⟨S16x8x64x64, .f32⟩
  | .hbm, ⟨78, _⟩ => ⟨S16x8x64x64, .f32⟩
  | .hbm, ⟨79, _⟩ => ⟨S16x8x64x64, .f32⟩
  | .hbm, ⟨80, _⟩ => ⟨S16x8x64x64, .f32⟩
  | .hbm, ⟨81, _⟩ => ⟨S1x16x8x64x64, .f32⟩
  | .hbm, ⟨82, _⟩ => ⟨S16x8x64x64, .f32⟩
  | .hbm, ⟨83, _⟩ => ⟨S16x8x64x64, .f32⟩
  | .hbm, ⟨84, _⟩ => ⟨S16x8x64x64, .f32⟩
  | .hbm, ⟨85, _⟩ => ⟨S16x8x64x64, .f32⟩
  | .hbm, ⟨86, _⟩ => ⟨S1x16x8x64x64, .f32⟩
  | .hbm, ⟨87, _⟩ => ⟨S16x8x64x64, .f32⟩
  | .hbm, ⟨88, _⟩ => ⟨S16x8x64x64, .f32⟩
  | .hbm, ⟨89, _⟩ => ⟨S16x8x64x64, .f32⟩
  | .hbm, ⟨90, _⟩ => ⟨S16x8x64x64, .f32⟩
  | .hbm, ⟨91, _⟩ => ⟨S1x16x8x64x64, .f32⟩
  | .hbm, ⟨92, _⟩ => ⟨S16x8x64x64, .f32⟩
  | .hbm, ⟨93, _⟩ => ⟨S16x8x64x64, .f32⟩
  | .hbm, ⟨94, _⟩ => ⟨S16x8x64x64, .f32⟩
  | .hbm, ⟨95, _⟩ => ⟨S16x8x64x64, .f32⟩
  | .hbm, ⟨96, _⟩ => ⟨S1x16x8x64x64, .f32⟩
  | .hbm, ⟨97, _⟩ => ⟨S16x8x64x64, .f32⟩
  | .hbm, ⟨98, _⟩ => ⟨S16x8x64x64, .f32⟩
  | .hbm, ⟨99, _⟩ => ⟨S16x8x64x64, .f32⟩
  | .hbm, ⟨100, _⟩ => ⟨S16x8x64x64, .f32⟩
  | .hbm, ⟨101, _⟩ => ⟨S1x16x8x64x64, .f32⟩
  | .hbm, ⟨102, _⟩ => ⟨S16x8x64x64, .f32⟩
  | .hbm, ⟨103, _⟩ => ⟨S16x8x64x64, .f32⟩
  | .hbm, ⟨104, _⟩ => ⟨S16x8x64x64, .f32⟩
  | .hbm, ⟨105, _⟩ => ⟨S16x8x64x64, .f32⟩
  | .hbm, ⟨106, _⟩ => ⟨S1x16x8x64x64, .f32⟩
  | .hbm, ⟨107, _⟩ => ⟨S16x8x64x64, .f32⟩
  | .hbm, ⟨108, _⟩ => ⟨S16x8x64x64, .f32⟩
  | .hbm, ⟨109, _⟩ => ⟨S16x8x64x64, .f32⟩
  | .hbm, ⟨110, _⟩ => ⟨S16x8x64x64, .f32⟩
  | .hbm, ⟨111, _⟩ => ⟨S1x16x8x64x64, .f32⟩
  | .hbm, ⟨112, _⟩ => ⟨S16x8x64x64, .f32⟩
  | .hbm, ⟨113, _⟩ => ⟨S16x8x64x64, .f32⟩
  | .hbm, ⟨114, _⟩ => ⟨S16x8x64x64, .f32⟩
  | .hbm, ⟨115, _⟩ => ⟨S16x8x64x64, .f32⟩
  | .hbm, ⟨116, _⟩ => ⟨S1x16x8x64x64, .f32⟩
  | .hbm, ⟨117, _⟩ => ⟨S16x8x64x64, .f32⟩
  | .hbm, ⟨118, _⟩ => ⟨S16x8x64x64, .f32⟩
  | .hbm, ⟨119, _⟩ => ⟨S16x8x64x64, .f32⟩
  | .hbm, ⟨120, _⟩ => ⟨S16x8x64x64, .f32⟩
  | .hbm, ⟨121, _⟩ => ⟨S1x16x8x64x64, .f32⟩
  | .hbm, ⟨122, _⟩ => ⟨S16x8x64x64, .f32⟩
  | .hbm, ⟨123, _⟩ => ⟨S16x8x64x64, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩

abbrev nD : Nat := 1
abbrev τ : Topo := Topo.v7x

variable {F : FTy → Type} [FloatOps F]
-- ==== Proof.Experts.Layout.lean ====
/- The experts call of the layer, set up for its run: what the host look-ups leave in the buffers, the two
   look-up tables the call reads, the blocks its windows stage, and the staging memrefs at each of the 217 steps. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The host look-ups -/

/-- The host's stretches before the call, in order. -/
abbrev lookups : List (List (HloOp τ sig (Elt F))) := [hostOps0, hostOps0_1, hostOps0_2, hostOps0_3]

/-- What each buffer holds when the call starts. -/
abbrev entry (c : Dev nD) (b : Ref sig .tc) : Buf (Elt F) ((c : Thread nD τ).loc b) :=
  StableHlo.after (List.flatten lookups) (fun b => m (c, b)) b

theorem det0 : (hostOps0 : List (HloOp τ sig (Elt F))).Forall fun op => op.fresh = ∅ := by
  simp only [List.Forall]; repeat' constructor
theorem det1 : (hostOps0_1 : List (HloOp τ sig (Elt F))).Forall fun op => op.fresh = ∅ := by
  simp only [List.Forall]; repeat' constructor
theorem det2 : (hostOps0_2 : List (HloOp τ sig (Elt F))).Forall fun op => op.fresh = ∅ := by
  simp only [List.Forall]; repeat' constructor
theorem det3 : (hostOps0_3 : List (HloOp τ sig (Elt F))).Forall fun op => op.fresh = ∅ := by
  simp only [List.Forall]; repeat' constructor

set_option maxHeartbeats 800000 in
/-- @main is the look-ups and then the call. -/
theorem main_shape (𝒱 : Variants) : Pipeline.HMainP (Ix := Unit) (Name := ℕ) (U := UR sig nD τ) (Lvl := ℕ) pcfgs 0 defs₀ 𝒱 m
    (main (F := F)) (entry m) :=
  Pipeline.hmainP_prefixes pcfgs 0 defs₀ 𝒱 m main lookups
    (by simp only [List.Forall]; exact ⟨hostOps0_sub, hostOps0_1_sub, hostOps0_2_sub, hostOps0_3_sub⟩)
    (by simp only [List.Forall]; exact ⟨det0, det1, det2, det3⟩) main_chain

/-- No look-up writes a buffer outside `main_c … main_v18`: stated for one buffer no look-up names as its result. -/
theorem entry_of_unwritten (c : Dev nD) (b : Ref sig .tc)
    (h : (List.flatten (lookups (F := F))).Forall fun op => Proc.devRef .tc b ∉ op.writes) :
    entry m c b = m ((c : Thread nD τ).loc b) :=
  StableHlo.after_of_forall_not_mem (b := Proc.devRef .tc b) _ _ (List.forall_iff_forall_mem.mp h)

theorem entry_arg0 (c : Dev nD) : entry m c main_arg0 = m ((c : Thread nD τ).loc main_arg0) :=
  entry_of_unwritten m c _ (by
    simp only [lookups, hostOps0, hostOps0_1, hostOps0_2, hostOps0_3, List.flatten_cons, List.flatten_nil, List.append_nil,
      List.cons_append, List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))
theorem entry_arg1 (c : Dev nD) : entry m c main_arg1 = m ((c : Thread nD τ).loc main_arg1) :=
  entry_of_unwritten m c _ (by
    simp only [lookups, hostOps0, hostOps0_1, hostOps0_2, hostOps0_3, List.flatten_cons, List.flatten_nil, List.append_nil,
      List.cons_append, List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))
theorem entry_arg2 (c : Dev nD) : entry m c main_arg2 = m ((c : Thread nD τ).loc main_arg2) :=
  entry_of_unwritten m c _ (by
    simp only [lookups, hostOps0, hostOps0_1, hostOps0_2, hostOps0_3, List.flatten_cons, List.flatten_nil, List.append_nil,
      List.cons_append, List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))
theorem entry_arg3 (c : Dev nD) : entry m c main_arg3 = m ((c : Thread nD τ).loc main_arg3) :=
  entry_of_unwritten m c _ (by
    simp only [lookups, hostOps0, hostOps0_1, hostOps0_2, hostOps0_3, List.flatten_cons, List.flatten_nil, List.append_nil,
      List.cons_append, List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))
theorem entry_arg4 (c : Dev nD) : entry m c main_arg4 = m ((c : Thread nD τ).loc main_arg4) :=
  entry_of_unwritten m c _ (by
    simp only [lookups, hostOps0, hostOps0_1, hostOps0_2, hostOps0_3, List.flatten_cons, List.flatten_nil, List.append_nil,
      List.cons_append, List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

/-! ## The two look-up tables -/

/-- The tables as the call reads them: which expert each tile is for, and how many tiles are in use. -/
def tabs : pre0.Contents (Elt F) := fun j => entry m (0 : Dev nD) (pre0.ref j)

theorem entry_tabs (c : Dev nD) (j : Fin 2) : entry m c (pre0.ref j) = tabs m j := by
  obtain rfl : c = 0 := Subsingleton.elim _ _; rfl

/-- Every block the tables name lies inside its array. -/
abbrev Inside : Prop := ok0 (F := F) (tabs m)

abbrev adm (h : Inside m) : (pcfg0 (F := F)).Adm := ⟨tabs m, h⟩
abbrev cfgT (h : Inside m) : Pipeline.Cfg sig Λ₀ := cfg0 (adm m h)

abbrev ownerM : Memref sig .tc .smem S217 .i32 := Memref.whole main_v18
abbrev ownerM_whole : ownerM.IsWhole := Memref.isWhole_whole _
abbrev usedM : Memref sig .tc .smem S1 .i32 := Memref.whole main_v6
abbrev usedM_whole : usedM.IsWhole := Memref.isWhole_whole _

abbrev TabBuf (c : Dev nD) {S : Shape} {e : EltTy} (M : Memref sig .tc .smem S e) : Type := Buf (Elt F) (M.view.loc (c : Thread nD τ))
/-- The half of a table the body is lent. -/
abbrev tabHeld (c : Dev nD) {S : Shape} {e : EltTy} (M : Memref sig .tc .smem S e) (f : TabBuf (F := F) c M) : sProp 𝕄 :=
  M.view.loc (c : Thread nD τ) ↦{fullShare.right} f

theorem lent_eq (c : Dev nD) : (Pipeline.ΦT pre0 (tabs m) c : sProp 𝕄)
    = iprop(tabHeld c ownerM (tabs m 0) ∗ tabHeld c usedM (tabs m 1)) := by
  unfold Pipeline.ΦT Pipeline.prefHeld
  rw [show (Finset.univ : Finset (Fin 2)) = insert (0 : Fin 2) {(1 : Fin 2)} from by decide,
    bigSep_insert (by decide), bigSep_singleton]
  rfl

/-! ## Blocks -/

/-- Window `w`'s block at step `t`, read off its array. -/
def blk (h : Inside m) (c : Dev nD) (w : Fin (cfgT m h).W) (t : Fin (cfgT m h).N) :
    (((cfgT m h).win w).xblock ((cfgT m h).grid.coords t)).Idx → Elt F ((cfgT m h).win w).elt :=
  (((cfgT m h).win w).blk t).view.read (Elt F) (entry m c (Pipeline.arrRef spec0 w))

/-- A window's block is in place at every step, whether the step fetched it or an earlier one did. -/
theorem rows_in_place (h : Inside m) {c : Dev nD} (dat : Dat τ (Elt F) Unit ℕ (UR sig nD τ) ℕ (cfgT m h) c)
    (hA : dat.A 0 = entry m c (Pipeline.arrRef spec0 0)) (hafter : ∀ t, dat.after 0 t = blk m h c 0 t)
    (t : Fin (cfgT m h).N) (d) : dat.before 0 t d = blk m h c 0 t :=
  (dat.before_in_eq_fetched 0 rfl (fun _ => rfl) (fun _ _ _ => rfl)
    (fun t => by rw [hafter]; unfold Dat.blockOf blk; rw [hA]; try rfl) t d).trans
    (by unfold Dat.fetched Dat.blockOf blk; rw [hA]; try rfl)
theorem gate_in_place (h : Inside m) {c : Dev nD} (dat : Dat τ (Elt F) Unit ℕ (UR sig nD τ) ℕ (cfgT m h) c)
    (hA : dat.A 1 = entry m c (Pipeline.arrRef spec0 1)) (hafter : ∀ t, dat.after 1 t = blk m h c 1 t)
    (t : Fin (cfgT m h).N) (d) : dat.before 1 t d = blk m h c 1 t :=
  (dat.before_in_eq_fetched 1 rfl (fun _ => rfl) (fun _ _ _ => rfl)
    (fun t => by rw [hafter]; unfold Dat.blockOf blk; rw [hA]; try rfl) t d).trans
    (by unfold Dat.fetched Dat.blockOf blk; rw [hA]; try rfl)
theorem up_in_place (h : Inside m) {c : Dev nD} (dat : Dat τ (Elt F) Unit ℕ (UR sig nD τ) ℕ (cfgT m h) c)
    (hA : dat.A 2 = entry m c (Pipeline.arrRef spec0 2)) (hafter : ∀ t, dat.after 2 t = blk m h c 2 t)
    (t : Fin (cfgT m h).N) (d) : dat.before 2 t d = blk m h c 2 t :=
  (dat.before_in_eq_fetched 2 rfl (fun _ => rfl) (fun _ _ _ => rfl)
    (fun t => by rw [hafter]; unfold Dat.blockOf blk; rw [hA]; try rfl) t d).trans
    (by unfold Dat.fetched Dat.blockOf blk; rw [hA]; try rfl)
theorem down_in_place (h : Inside m) {c : Dev nD} (dat : Dat τ (Elt F) Unit ℕ (UR sig nD τ) ℕ (cfgT m h) c)
    (hA : dat.A 3 = entry m c (Pipeline.arrRef spec0 3)) (hafter : ∀ t, dat.after 3 t = blk m h c 3 t)
    (t : Fin (cfgT m h).N) (d) : dat.before 3 t d = blk m h c 3 t :=
  (dat.before_in_eq_fetched 3 rfl (fun _ => rfl) (fun _ _ _ => rfl)
    (fun t => by rw [hafter]; unfold Dat.blockOf blk; rw [hA]; try rfl) t d).trans
    (by unfold Dat.fetched Dat.blockOf blk; rw [hA]; try rfl)

/-! ## The staging memrefs at a step -/

abbrev stRows (h : Inside m) (t : Fin (cfgT m h).N) : Memref sig .tc .vmem S512x512 .i32 := spec0_0.stage ((cfgT m h).slots t 0)
abbrev stGate (h : Inside m) (t : Fin (cfgT m h).N) : Memref sig .tc .vmem S1x1024x256 .f32 := spec0_1.stage ((cfgT m h).slots t 1)
abbrev stUp (h : Inside m) (t : Fin (cfgT m h).N) : Memref sig .tc .vmem S1x1024x256 .f32 := spec0_2.stage ((cfgT m h).slots t 2)
abbrev stDown (h : Inside m) (t : Fin (cfgT m h).N) : Memref sig .tc .vmem S1x256x1024 .f32 := spec0_3.stage ((cfgT m h).slots t 3)
abbrev stOut (h : Inside m) (t : Fin (cfgT m h).N) : Memref sig .tc .vmem S512x1024 .bf16 := spec0_4.stage ((cfgT m h).slots t 4)

/-- The body at step `t`, on the memrefs the pipeline hands it. -/
abbrev bodyAt (h : Inside m) (t : Fin (cfgT m h).N) : Prog (TpuEff nD τ sig (Elt F) Λ₀ .tc) PUnit :=
  cc0_moe_experts (grid0.coords t) ownerM ownerM_whole usedM usedM_whole
    (stRows m h t) (hstage0_0 (((cfgT m h).slots t 0).cast nbuf0_0)) (stGate m h t) (hstage0_1 (((cfgT m h).slots t 1).cast nbuf0_1))
    (stUp m h t) (hstage0_2 (((cfgT m h).slots t 2).cast nbuf0_2)) (stDown m h t) (hstage0_3 (((cfgT m h).slots t 3).cast nbuf0_3))
    (stOut m h t) (hstage0_4 (((cfgT m h).slots t 4).cast nbuf0_4))

end Cert.Experts

end
-- ==== Proof.Experts.Body.lean ====
/- One step of the experts call: on a tile in use the body stores two halves of the tile's result, otherwise zeros. -/
module

public import proofs.«01_k».proof.Proof.Experts.Layout
public import Idealize.ShloMosaic.Lib.WritesUnit
public import Idealize.ShloMosaic.Lib.VecWindow
public import Idealize.ShloMosaic.Lib.ValueIdx

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (UR sig nD τ) ℕ

/-- The two branch conditions are opposite: below the count of tiles in use, and not below it. -/
theorem cond2_iff (i : grid0.Coords) (v : BitVec 32) : k0_cond2 i v = 1#1 ↔ ¬ k0_cond1 i v = 1#1 := by
  unfold k0_cond1 k0_cond2
  simp only [Scalar.cmpi, Scalar.extui, IntOp.cmpi]
  generalize BitVec.ofNat 32 (i 0).val = a
  rcases h : a.slt v <;> simp [BitVec.sle_eq_not_slt, h]

/-- The first 256 rows of a tile's packed words, and the other 256. -/
def rowsLo (x0 : Vec F S512x512 .i32) : Vec F S256x512 .i32 := fun j =>
  x0 ((Rect.unit (s := S512x512) ![0, 0] S256x512.size inb_S512x512_S256x512_0_0).emb j)
def rowsHi (x0 : Vec F S512x512 .i32) : Vec F S256x512 .i32 := fun j =>
  x0 ((Rect.unit (s := S512x512) ![256, 0] S256x512.size inb_S512x512_S256x512_256_0).emb j)

/-- What the body leaves of a tile in use: the first 256 rows from the first 256 rows of words, the rest from the rest. -/
def liveBlk (x0 : Vec F S512x512 .i32) (x1 x2 : Vec F S1x1024x256 .f32) (x3 : Vec F S1x256x1024 .f32) : Vec F S512x1024 .bf16 := fun y =>
  if h : (y 0).val < 256 then k0_pay6 x1 x2 x3 (rowsLo x0) (ix2 ⟨(y 0).val, h⟩ (y 1))
  else k0_pay1 (k0_pay3 x1) (k0_pay4 x2) (k0_pay5 x3) (rowsHi x0)
    (ix2 ⟨(y 0).val - 256, by have : (y 0).val < 512 := (y 0).isLt; omega⟩ (y 1))

/-- What the body leaves at point `i` when `word` tiles are in use. -/
def stepBlk (i : grid0.Coords) (word : BitVec 32) (x0 : Vec F S512x512 .i32) (x1 x2 : Vec F S1x1024x256 .f32) (x3 : Vec F S1x256x1024 .f32) :
    Vec F S512x1024 .bf16 :=
  if k0_cond1 i word = 1#1 then liveBlk x0 x1 x2 x3 else k0_pay2

/-- Two stores of half a tile read back as the whole. -/
theorem read_halves (v : View sig .tc .vmem S512x1024 .bf16) (f : v.ty.Contents (Elt F)) (x0 : Vec F S512x512 .i32)
    (x1 x2 : Vec F S1x1024x256 .f32) (x3 : Vec F S1x256x1024 .f32) :
    v.read (Elt F) (v.writes (Elt F) f
        [⟨Rect.unit (s := S512x1024) ![256, 0] S256x1024.size inb_S512x1024_S256x1024_256_0,
          k0_pay1 (k0_pay3 x1) (k0_pay4 x2) (k0_pay5 x3) (rowsHi x0)⟩,
        ⟨Rect.unit (s := S512x1024) ![0, 0] S256x1024.size inb_S512x1024_S256x1024_0_0, k0_pay6 x1 x2 x3 (rowsLo x0)⟩])
      = liveBlk x0 x1 x2 x3 := by
  funext y
  have hy : (y 0).val < 512 := (y 0).isLt
  unfold liveBlk
  split
  · rename_i h
    rw [View.read_writes_cons_rows_of_not_mem v f _ _ _ y (o := 256) (W := 256) rfl rfl (.inl h)]
    exact View.read_writes_cons_rows_of_mem v f _ _ _ y _ (o := 0) rfl (by show _ = 0 + (y 0).val; omega) rfl
  · rename_i h
    exact View.read_writes_cons_rows_of_mem v f _ _ _ y _ (o := 256) rfl (by show _ = 256 + ((y 0).val - 256); omega) rfl

-- (the run's proof term is large)
set_option maxHeartbeats 1000000 in
/-- One step of the body, the number of tiles in use being `word`. -/
theorem body_step (c : Dev nD) (i : grid0.Coords) (arg3 : Memref sig .tc .vmem S512x512 .i32) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S512x1024 .bf16) (harg7 : arg7.IsWhole)
    (x0 : Vec F S512x512 .i32) (x1 : Vec F S1x1024x256 .f32) (x2 : Vec F S1x1024x256 .f32) (x3 : Vec F S1x256x1024 .f32)
    (xt0 : TabBuf (F := F) c ownerM) (xt1 : TabBuf (F := F) c usedM) (word : BitVec 32) (hw : ∀ j, xt1 j = word) :
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d) ∗ tabHeld c ownerM xt0 ∗ tabHeld c usedM xt1
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare (stepBlk i word x0 x1 x2 x3)
              ∗ tabHeld c ownerM xt0 ∗ tabHeld c usedM xt1) -∗ K ⟨⟩))
          ⊢ wp frame (wpE (defs₀ (F := F)) Variants.none c none) E
              (cc0_moe_experts i ownerM ownerM_whole usedM usedM_whole arg3 harg3 arg4 harg4 arg5 harg5 arg6 harg6 arg7 harg7) K := by
  intro E K
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr
    · ipureintro; exact harg3.read_unread _
    · iexact H0
  isplitl [H1]
  · iexists _; isplitr
    · ipureintro; exact harg4.read_unread _
    · iexact H1
  isplitl [H2]
  · iexists _; isplitr
    · ipureintro; exact harg5.read_unread _
    · iexact H2
  isplitl [H3]
  · iexists _; isplitr
    · ipureintro; exact harg6.read_unread _
    · iexact H3
  isplitl [H4]
  · iexists _; isplitr
    rotate_left
    · iexact H4
    ipureintro
    have hr : body_step.sl.r c xt1 = word := hw _
    have e4 : View.readAt (Elt F) arg4.view (Rect.unit (s := S1x1024x256) ![0, 0, 0] S1x1024x256.size inb_S1x1024x256_S1x1024x256_0_0_0).toLoadRect (harg4.unread x1) = x1 := by
      rw [View.readAt_full, hf1]
    have e5 : View.readAt (Elt F) arg5.view (Rect.unit (s := S1x1024x256) ![0, 0, 0] S1x1024x256.size inb_S1x1024x256_S1x1024x256_0_0_0).toLoadRect (harg5.unread x2) = x2 := by
      rw [View.readAt_full, hf2]
    have e6 : View.readAt (Elt F) arg6.view (Rect.unit (s := S1x256x1024) ![0, 0, 0] S1x256x1024.size inb_S1x256x1024_S1x256x1024_0_0_0).toLoadRect (harg6.unread x3) = x3 := by
      rw [View.readAt_full, hf3]
    have e3l : View.readAt (Elt F) arg3.view (Rect.unit (s := S512x512) ![0, 0] S256x512.size inb_S512x512_S256x512_0_0).toLoadRect (harg3.unread x0) = rowsLo x0 := by
      rw [View.readAt_eq_ld, hf0]; rfl
    have e3h : View.readAt (Elt F) arg3.view (Rect.unit (s := S512x512) ![256, 0] S256x512.size inb_S512x512_S256x512_256_0).toLoadRect (harg3.unread x0) = rowsHi x0 := by
      rw [View.readAt_eq_ld, hf0]; rfl
    have p1 : body_step.sl.r_1 c arg4 harg4 x1 = k0_pay3 x1 := by unfold body_step.sl.r_1; rw [e4]
    have p2 : body_step.sl.r_2 c arg5 harg5 x2 = k0_pay4 x2 := by unfold body_step.sl.r_2; rw [e5]
    have p3 : body_step.sl.r_3 c arg6 harg6 x3 = k0_pay5 x3 := by unfold body_step.sl.r_3; rw [e6]
    rw [hr, p1, p2, p3, e4, e5, e6, e3l]
    unfold stepBlk
    by_cases hl : k0_cond1 i word = 1#1
    · have hd : ¬ k0_cond2 i word = 1#1 := fun h => (cond2_iff i _).mp h hl
      rw [dif_neg hd, dif_pos hl, if_pos hl]
      exact (congrArg (fun w => View.read (Elt F) arg7.view (View.writes arg7.view (Elt F) f4
        [⟨Rect.unit (s := S512x1024) ![256, 0] S256x1024.size inb_S512x1024_S256x1024_256_0, k0_pay1 (k0_pay3 x1) (k0_pay4 x2) (k0_pay5 x3) w⟩,
         ⟨Rect.unit (s := S512x1024) ![0, 0] S256x1024.size inb_S512x1024_S256x1024_0_0, k0_pay6 x1 x2 x3 (rowsLo x0)⟩])) e3h).trans
        (read_halves arg7.view f4 x0 x1 x2 x3)
    · have hd : k0_cond2 i word = 1#1 := (cond2_iff i _).mpr hl
      rw [dif_pos hd, if_neg hl]
      exact View.read_writes_full _ _ _ _ _
  isplitl [HT0]
  · iexact HT0
  iexact HT1

end Cert.Experts

end
-- ==== Proof.Experts.Run.lean ====
/- The run of the experts call: every tile's block is named, so the whole output array is. -/
module

public import proofs.«01_k».proof.Proof.Experts.Body

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- How many tiles are in use. -/
def used : BitVec 32 := (tabs m 1 : S1.Idx → BitVec 32) (ix1 0)

theorem tabs_used (j : S1.Idx) : (tabs m 1 : S1.Idx → BitVec 32) j = used m :=
  congrArg (tabs m 1 : S1.Idx → BitVec 32) (by rw [eq_ix1 j]; congr 1; exact Subsingleton.elim (α := Fin 1) _ _)

/-- No point leaves the output block alone: one of the two branches is always taken. -/
theorem never_idle (i : grid0.Coords) (w : BitVec 32) : (!(k0_cond1 i w == 1#1) && !(k0_cond2 i w == 1#1)) = false := by
  by_cases h : k0_cond1 i w = 1#1
  · simp [h]
  · simp [(cond2_iff i w).mpr h]

/-- The blocks, the invariant and the shares of the run. -/
def data (h : Inside m) (_ : Fin 1) (c : Dev nD) : Dat τ (Elt F) Unit ℕ (UR sig nD τ) ℕ (cfgT m h) c where
  A w := entry m c (Pipeline.arrRef spec0 w)
  after w t := match w with
    | ⟨0, _⟩ => blk m h c 0 t
    | ⟨1, _⟩ => blk m h c 1 t
    | ⟨2, _⟩ => blk m h c 2 t
    | ⟨3, _⟩ => blk m h c 3 t
    | ⟨4, _⟩ => stepBlk (grid0.coords t) (used m) (blk m h c 0 t) (blk m h c 1 t) (blk m h c 2 t) (blk m h c 3 t)
  Φ _ := iprop(Pipeline.ΦA spec0 c ∗ Pipeline.ΦT pre0 (tabs m) c)
  q _ := fullShare
  owed _ := 0

theorem data_arr (h : Inside m) (c : Dev nD) (w : Fin (cfgT m h).W) : (data m h 0 c).A w = entry m c (Pipeline.arrRef spec0 w) := by
  dsimp only [data]

theorem left_rows (h : Inside m) (c : Dev nD) (t : Fin (cfgT m h).N) : (data m h 0 c).after 0 t = blk m h c 0 t := by dsimp only [data]; try rfl
theorem left_gate (h : Inside m) (c : Dev nD) (t : Fin (cfgT m h).N) : (data m h 0 c).after 1 t = blk m h c 1 t := by dsimp only [data]; try rfl
theorem left_up (h : Inside m) (c : Dev nD) (t : Fin (cfgT m h).N) : (data m h 0 c).after 2 t = blk m h c 2 t := by dsimp only [data]; try rfl
theorem left_down (h : Inside m) (c : Dev nD) (t : Fin (cfgT m h).N) : (data m h 0 c).after 3 t = blk m h c 3 t := by dsimp only [data]; try rfl
theorem left_out (h : Inside m) (c : Dev nD) (t : Fin (cfgT m h).N) : (data m h 0 c).after 4 t
    = stepBlk (grid0.coords t) (used m) (blk m h c 0 t) (blk m h c 1 t) (blk m h c 2 t) (blk m h c 3 t) := by dsimp only [data]; try rfl

theorem found_rows (h : Inside m) (c : Dev nD) (t : Fin (cfgT m h).N) (d) : (data m h 0 c).before 0 t d = blk m h c 0 t :=
  rows_in_place m h (data m h 0 c) (data_arr m h c 0) (left_rows m h c) t d
theorem found_gate (h : Inside m) (c : Dev nD) (t : Fin (cfgT m h).N) (d) : (data m h 0 c).before 1 t d = blk m h c 1 t :=
  gate_in_place m h (data m h 0 c) (data_arr m h c 1) (left_gate m h c) t d
theorem found_up (h : Inside m) (c : Dev nD) (t : Fin (cfgT m h).N) (d) : (data m h 0 c).before 2 t d = blk m h c 2 t :=
  up_in_place m h (data m h 0 c) (data_arr m h c 2) (left_up m h c) t d
theorem found_down (h : Inside m) (c : Dev nD) (t : Fin (cfgT m h).N) (d) : (data m h 0 c).before 3 t d = blk m h c 3 t :=
  down_in_place m h (data m h 0 c) (data_arr m h c 3) (left_down m h c) t d

/-! ## The body at a step -/

/-- What the body is handed at step `t`. -/
def handed (h : Inside m) (c : Dev nD) (t : Fin (cfgT m h).N) : sProp 𝕄 :=
  iprop((data m h 0 c).Φ t.castSucc ∗ (data m h 0 c).owesAt () t.castSucc
    ∗ (∃ d, owns (c : Thread nD τ) (stRows m h t) fullShare ((data m h 0 c).before 0 t d))
    ∗ (∃ d, owns (c : Thread nD τ) (stGate m h t) fullShare ((data m h 0 c).before 1 t d))
    ∗ (∃ d, owns (c : Thread nD τ) (stUp m h t) fullShare ((data m h 0 c).before 2 t d))
    ∗ (∃ d, owns (c : Thread nD τ) (stDown m h t) fullShare ((data m h 0 c).before 3 t d))
    ∗ (∃ d, owns (c : Thread nD τ) (stOut m h t) fullShare ((data m h 0 c).before 4 t d)))

/-- What it hands back. -/
def handedBack (h : Inside m) (c : Dev nD) (t : Fin (cfgT m h).N) : sProp 𝕄 :=
  iprop((data m h 0 c).Φ t.succ ∗ (data m h 0 c).owesAt () t.succ
    ∗ owns (c : Thread nD τ) (stRows m h t) fullShare ((data m h 0 c).after 0 t)
    ∗ owns (c : Thread nD τ) (stGate m h t) fullShare ((data m h 0 c).after 1 t)
    ∗ owns (c : Thread nD τ) (stUp m h t) fullShare ((data m h 0 c).after 2 t)
    ∗ owns (c : Thread nD τ) (stDown m h t) fullShare ((data m h 0 c).after 3 t)
    ∗ owns (c : Thread nD τ) (stOut m h t) fullShare ((data m h 0 c).after 4 t))

theorem step_ok (h : Inside m) (c : Dev nD) (t : Fin (cfgT m h).N) :
    handed m h c t ⊢ wp frame (wpE (defs₀ (F := F)) Variants.none c none) Set.univ (bodyAt m h t) (fun _ => handedBack m h c t) := by
  unfold handed handedBack bodyAt
  simp only [found_rows, found_gate, found_up, found_down]
  rw [show (data m h 0 c).Φ t.succ = (data m h 0 c).Φ t.castSucc from rfl,
    show (data m h 0 c).owesAt () t.succ = (data m h 0 c).owesAt () t.castSucc from rfl,
    left_rows, left_gate, left_up, left_down, left_out]
  rw [show (data m h 0 c).Φ t.castSucc = iprop(Pipeline.ΦA spec0 c ∗ Pipeline.ΦT pre0 (tabs m) c) from rfl, lent_eq]
  iintro ⟨⟨HΦ, ⟨HT0, HT1⟩⟩, Ho, ⟨%d0, H0⟩, ⟨%d1, H1⟩, ⟨%d2, H2⟩, ⟨%d3, H3⟩, ⟨%d4, H4⟩⟩
  iapply ((body_step c (grid0.coords t) _ _ _ _ _ _ _ _ _ _ (blk m h c 0 t) (blk m h c 1 t) (blk m h c 2 t) (blk m h c 3 t)
    (tabs m 0) (tabs m 1) (used m) (tabs_used m)) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem row_of_table (h : Inside m) (t : Fin (cfgT m h).N) :
    defs₀ (F := F) .tc (cfgT m h).body ((cfgT m h).bodyArgs t ((cfgT m h).slots t)) = bodyAt m h t := by
  unfold defs₀; rw [Defs.onTc_tc]

theorem out_idle (a : (pcfg0 (F := F)).Adm) (i : grid0.Coords) : (cfg0 a).idle 4 i = false := never_idle _ _

theorem out_left (a : (pcfg0 (F := F)).Adm) {c : Dev nD} (dat : Dat τ (Elt F) Unit ℕ (UR sig nD τ) ℕ (cfg0 a) c) (t : Fin (cfg0 a).N) :
    dat.leavesExact 4 t = owns (c : Thread nD τ) (((cfg0 a).win 4).stage ((cfg0 a).slots t 4)) fullShare (dat.after 4 t) := by
  have h := out_idle a ((cfg0 a).grid.coords t)
  unfold Dat.leavesExact
  rw [h]

/-- What is handed back, as the pipeline asks for it. -/
theorem handed_over (a : (pcfg0 (F := F)).Adm) {c : Dev nD} (dat : Dat τ (Elt F) Unit ℕ (UR sig nD τ) ℕ (cfg0 a) c) (t : Fin (cfg0 a).N) :
    iprop(owns (c : Thread nD τ) (((cfg0 a).win 0).stage ((cfg0 a).slots t 0)) fullShare (dat.after 0 t)
    ∗ owns (c : Thread nD τ) (((cfg0 a).win 1).stage ((cfg0 a).slots t 1)) fullShare (dat.after 1 t)
    ∗ owns (c : Thread nD τ) (((cfg0 a).win 2).stage ((cfg0 a).slots t 2)) fullShare (dat.after 2 t)
    ∗ owns (c : Thread nD τ) (((cfg0 a).win 3).stage ((cfg0 a).slots t 3)) fullShare (dat.after 3 t)
    ∗ owns (c : Thread nD τ) (((cfg0 a).win 4).stage ((cfg0 a).slots t 4)) fullShare (dat.after 4 t))
    ⊢ bigSep Finset.univ fun w => dat.leavesExact w t := by
  rw [bigSep_W0]
  refine sep_mono .rfl (sep_mono .rfl (sep_mono .rfl (sep_mono .rfl ?_)))
  rw [out_left]

theorem obligation (h : Inside m) (c : Dev nD) : BodyObligation (data (F := F) m h 0 c) (defs₀ (F := F)) Variants.none () Set.univ := fun t => by
  rw [bigSep_W0, row_of_table m h]
  refine triple_restated (step_ok m h c t) rfl .rfl fun _ => ?_
  exact sep_mono .rfl (sep_mono .rfl (handed_over (adm m h) (data m h 0 c) t))

/-! ## The run -/

set_option backward.isDefEq.respectTransparency.types false in
/-- Every execution ends with each windowed array at what the steps leave, every other buffer as the look-ups left it,
    and every counter at zero. -/
theorem run_all (h : Inside m) : θ_run defs (onTc (τ := τ) (main (F := F))) (s₀ m ρ)
    (fun r => Pipeline.FramePost (Pipeline.pin pcfgs fun _ => adm m h) (data m h) 0 (entry m) r ∧ r.2.sem = fun _ => 0) :=
  Pipeline.θ_run_frameP (Q' := _) pcfgs (fun _ => adm m h) (data m h) (0 : Fin 1) launch0 defs₀ Variants.none m ρ main
    (hbody := fun c => (obligation m h c).loose) (hshare := fun c => (data m h 0 c).share_full fun _ => rfl)
    (howed := fun _ _ => rfl) (V := entry m) (hmain := main_shape m Variants.none) (hA := data_arr m h) (hpf := entry_tabs m)
    (hΦ := fun _ _ => rfl)

/-- The run as the claims read it: the output array, the arguments unchanged, the counters at zero. -/
theorem run_main (h : Inside m) : θ_run defs (onTc (τ := τ) (main (F := F))) ⟨m, fun _ => 0, ρ⟩ (fun r => (∀ c : Dev nD,
      r.2.mem ((c.tc : Thread nD τ).loc main_v19) = (data m h 0 c).arrAt 4 grid0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r hr => ⟨fun c => ⟨?_, ?_, ?_, ?_, ?_, ?_⟩, hr.2⟩) (run_all m ρ h)
  · exact (hr.1 c).1 4
  · exact ((hr.1 c).2 main_arg0 (by decide : main_arg0 ∈ Pipeline.restRefs sig spec0)).trans (entry_arg0 m c)
  · exact (((hr.1 c).1 0).trans (((data m h 0 c).arrAt_in 0 rfl _).trans (data_arr m h c 0))).trans (entry_arg1 m c)
  · exact (((hr.1 c).1 1).trans (((data m h 0 c).arrAt_in 1 rfl _).trans (data_arr m h c 1))).trans (entry_arg2 m c)
  · exact (((hr.1 c).1 2).trans (((data m h 0 c).arrAt_in 2 rfl _).trans (data_arr m h c 2))).trans (entry_arg3 m c)
  · exact (((hr.1 c).1 3).trans (((data m h 0 c).arrAt_in 3 rfl _).trans (data_arr m h c 3))).trans (entry_arg4 m c)

end Cert.Experts

end
-- ==== Proof.Experts.Tables.lean ====
/- What the look-ups compute from the experts' counts, and that every block the tables name lies inside its array. -/
module

public import proofs.«01_k».proof.Proof.Experts.Run
public import Idealize.ShloMosaic.Lib.StableHlo.RunRead
public import Idealize.ShloMosaic.Lib.Routing.Ops
public import Idealize.ShloMosaic.Lib.Routing.BitFacts
public import Idealize.ShloMosaic.Lib.WordArith

@[expose] public section

set_option maxRecDepth 16384

noncomputable section

namespace Cert.Experts

open Cert.KernelIdeal Cert.KernelIdeal.Gen
open Idealize.ShloMosaic Idealize.ShloMosaic.TcCoe Idealize.ShloMosaic.Tactic
open Idealize.ShloMosaic.ValueIdx

variable {F : FTy → Type} [FloatOps F]

variable (m : (ℓ : Loc nD τ sig) → Buf (Elt F) ℓ) (ρ : Dev nD → PrngReg)

/-- How many (token, choice) pairs each expert is handed. -/
abbrev counts : IVec S32 32 := m (((0 : Dev nD) : Thread nD τ).loc main_arg0)

/-- The rounded-up division of one count by the tile height, as jnp's floor division spells it. -/
def tilesOf (x : BitVec 32) : BitVec 32 :=
  let d := IntOp.subi (IntOp.addi x 512#32) 1#32
  let q := IntOp.divsi .host d 512#32
  Scalar.select
    (IntOp.andi
      (IntOp.cmpi (w := 32) .ne (if d = 0 then 0 else if d.msb then -1 else 1) (if (512#32 : BitVec 32) = 0 then 0 else if (512#32 : BitVec 32).msb then -1 else 1))
      (IntOp.cmpi .ne (IntOp.remsi .host d 512#32) 0#32))
    (IntOp.subi q 1#32) q

/-- How many tiles each expert takes. -/
def tileCounts (x : IVec S32 32) : IVec S32 32 := fun j => tilesOf (x j)

/-- Where each expert's tiles end. -/
def ends (x : IVec S32 32) : IVec S32 32 :=
  Host.reduceWindow IntOp.addi ![32] ![1] ![31] ![0] (tileCounts x) (fun _ => 0#32 : IVec S_ 32) reduceWindows_S32_S32_w32s1p31_0 h_S_

/-- The last tile in use at or before each tile, the experts' tiles ending at `e`. -/
def capped (e : IVec S32 32) : IVec S217 32 := fun j => IntOp.minsi (BitVec.ofNat 32 (j 0).val) (IntOp.subi (e (ix1 31)) 1#32)

/-- Whose tile each is: how many experts' tiles end at or before it. -/
def owners (e : IVec S32 32) : IVec S217 32 :=
  Host.reduce IntOp.addi (extui 32 (fun j : S217x32.Idx => IntOp.cmpi .sle (e (ix1 (j 1))) (capped e (ix1 (j 0)))) natLt_1_32 : IVec S217x32 32)
    (constantI S_ 32 0#32) reducesTo_S217x32_S217_d1 h_S_

set_option maxHeartbeats 1000000 in
theorem entry_ends (c : Dev nD) : (entry m c main_v5 : IVec S32 32) = ends (m ((c : Thread nD τ).loc main_arg0)) := by
  unfold entry lookups
  simp only [List.flatten_cons, List.flatten_nil, List.append_nil, hostOps0, hostOps0_1, hostOps0_2, hostOps0_3, List.cons_append, List.nil_append]
  after_reads_simp
  simp -implicitDefEqProofs only [StableHlo.TRef.toBuf, StableHlo.TRef.ofBuf, cast_cast, cast_eq]
  rfl

set_option maxHeartbeats 1000000 in
theorem entry_used (c : Dev nD) (j : S1.Idx) : (entry m c main_v6 : IVec S1 32) j = (entry m c main_v5 : IVec S32 32) (ix1 31) := by
  unfold entry lookups
  simp only [List.flatten_cons, List.flatten_nil, List.append_nil, hostOps0, hostOps0_1, hostOps0_2, hostOps0_3, List.cons_append, List.nil_append]
  after_reads_simp
  simp -implicitDefEqProofs only [StableHlo.TRef.toBuf, StableHlo.TRef.ofBuf, cast_cast, cast_eq]
  generalize Host.reduceWindow IntOp.addi _ _ _ _ _ _ _ _ = E
  have hj : j = ix1 0 := by rw [eq_ix1 j]; congr 1; exact Subsingleton.elim (α := Fin 1) _ _
  subst hj
  show E _ = E _
  congr 1
  funext a
  match a with
  | ⟨0, _⟩ => rfl

set_option maxHeartbeats 1000000 in
theorem entry_owners (c : Dev nD) : (entry m c main_v18 : IVec S217 32) = owners (entry m c main_v5 : IVec S32 32) := by
  unfold entry lookups
  simp only [List.flatten_cons, List.flatten_nil, List.append_nil, hostOps0, hostOps0_1, hostOps0_2, hostOps0_3, List.cons_append, List.nil_append]
  after_reads_simp
  simp -implicitDefEqProofs only [StableHlo.TRef.toBuf, StableHlo.TRef.ofBuf, cast_cast, cast_eq]
  generalize Host.reduceWindow IntOp.addi _ _ _ _ _ _ _ _ = E
  unfold owners
  refine congrArg (fun v : IVec S217x32 1 => Host.reduce IntOp.addi (extui 32 v natLt_1_32) (constantI S_ 32 0#32) reducesTo_S217x32_S217_d1 h_S_) ?_
  funext j
  show IntOp.cmpi .sle (E _) (IntOp.minsi _ (IntOp.subi (E _) 1#32)) = IntOp.cmpi .sle (E _) (IntOp.minsi _ (IntOp.subi (E _) 1#32))
  congr 1
  · congr 1
    funext a
    match a with
    | ⟨0, _⟩ => rfl
  · congr 2
    · funext a
      match a with
      | ⟨0, _⟩ => rfl
    · refine congrArg E (funext fun a => ?_)
      match a with
      | ⟨0, _⟩ =>
        refine Fin.ext ?_
        have h1 : ∀ z : S1.Idx, (z 0).val = 0 := fun z => Nat.lt_one_iff.mp (z 0).isLt
        show 31 + _ = 31
        exact congrArg (31 + ·) (h1 _)

/-! ## The words -/

/-- A count's tiles, as an integer, stay small whatever the count is. -/
theorem tilesOf_bounds (x : BitVec 32) : -4194305 ≤ (tilesOf x).toInt ∧ (tilesOf x).toInt ≤ 4194304 := by
  unfold tilesOf
  dsimp only
  generalize IntOp.subi (IntOp.addi x 512#32) 1#32 = d
  have hq : IntOp.divsi .host d 512#32 = d.sdiv 512#32 := by
    unfold IntOp.divsi; rw [if_neg]; unfold IntOp.SDivCorner; simp
  rw [hq]
  have hb : -4194304 ≤ (d.sdiv 512#32).toInt ∧ (d.sdiv 512#32).toInt ≤ 4194304 := by
    have h0 := BitVec.le_toInt d
    have h1 := BitVec.toInt_lt (x := d)
    have h5 : (512#32 : BitVec 32).toInt = 512 := by decide
    rw [BitVec.toInt_sdiv, h5, Int.tdiv_eq_ediv]
    have e : (if 0 ≤ d.toInt ∨ (512 : ℤ) ∣ d.toInt then (0 : ℤ) else Int.sign 512) = 0 ∨
        (if 0 ≤ d.toInt ∨ (512 : ℤ) ∣ d.toInt then (0 : ℤ) else Int.sign 512) = 1 := by
      split
      · exact .inl rfl
      · exact .inr rfl
    norm_num at h0 h1
    rcases e with e | e <;> rw [e, Int.bmod_eq_of_le (by omega) (by omega)] <;> constructor <;> omega
  generalize IntOp.andi _ _ = b
  unfold Scalar.select
  by_cases hc : b = 1
  · rw [if_pos hc]
    unfold IntOp.subi
    rw [WordArith.toInt_sub_of_bounds] <;> simp only [show (1#32 : BitVec 32).toInt = 1 from by decide] <;> omega
  · rw [if_neg hc]; omega

/-- A count that is a number of pairs takes that many pairs' tiles, rounded up. -/
theorem tilesOf_of_le (x : BitVec 32) (h : x.toNat ≤ 66048) : tilesOf x = BitVec.ofNat 32 ((x.toNat + 511) / 512) := by
  have hd : IntOp.subi (IntOp.addi x 512#32) 1#32 = BitVec.ofNat 32 (x.toNat + 511) := by
    apply BitVec.eq_of_toNat_eq
    unfold IntOp.subi IntOp.addi
    simp only [BitVec.toNat_sub, BitVec.toNat_add, BitVec.toNat_ofNat]
    norm_num
    omega
  unfold tilesOf
  dsimp only
  rw [hd]
  have hn : (BitVec.ofNat 32 (x.toNat + 511)).toNat = x.toNat + 511 := by rw [BitVec.toNat_ofNat]; omega
  have h0 : BitVec.ofNat 32 (x.toNat + 511) ≠ 0 := fun e => by
    have := congrArg BitVec.toNat e
    rw [hn] at this; simp at this
  have hm : (BitVec.ofNat 32 (x.toNat + 511)).msb = false := by
    rw [BitVec.msb_eq_false_iff_two_mul_lt, hn]; omega
  have hq : IntOp.divsi .host (BitVec.ofNat 32 (x.toNat + 511)) 512#32 = BitVec.ofNat 32 ((x.toNat + 511) / 512) := by
    unfold IntOp.divsi; rw [if_neg (by unfold IntOp.SDivCorner; simp)]
    exact Routing.sdiv_ofNat32 (b := 512) (by omega) (by omega)
  rw [hq, if_neg h0, hm]
  unfold Scalar.select
  rw [if_neg]
  simp [IntOp.andi, IntOp.cmpi, show (512#32 : BitVec 32).msb = false from by decide]

end Cert.Experts

end
-- ==== Proof.Experts.Owners.lean ====
/- Whose tile is whose: the tiles' ends as sums of counts, the owner of a tile as a count of ends, and from that that every
   block a table names lies inside its array, whatever the counts are. -/
module

public import proofs.«01_k».proof.Proof.Experts.Tables

@[expose] public section

set_option maxRecDepth 16384

noncomputable section

namespace Cert.Experts

open Cert.KernelIdeal Cert.KernelIdeal.Gen
open Idealize.ShloMosaic Idealize.ShloMosaic.TcCoe Idealize.ShloMosaic.Tactic
open Idealize.ShloMosaic.ValueIdx

variable {F : FTy → Type} [FloatOps F]

variable (m : (ℓ : Loc nD τ sig) → Buf (Elt F) ℓ) (ρ : Dev nD → PrngReg)

/-- Expert `e`'s number of tiles, as a word's natural number (0 past the last expert). -/
def tilesNat (x : IVec S32 32) (e : ℕ) : ℕ := if h : e < 32 then (tilesOf (x (ix1 ⟨e, h⟩))).toNat else 0

/-- An expert's tiles end after those of all experts up to it. -/
theorem ends_sum (x : IVec S32 32) (e : Fin 32) :
    ends x (ix1 e) = BitVec.ofNat 32 ((List.range (e.val + 1)).map (tilesNat x)).sum := by
  unfold ends
  refine Routing.cumsum1 (Nm1 := 31) rfl (tileCounts x) (tilesNat x) (fun i => ?_) _ rfl _ _ e
  unfold tilesNat tileCounts
  rw [dif_pos i.isLt, BitVec.ofNat_toNat, BitVec.setWidth_eq]

/-- The words' sum read as an integer: no more than the integers' sum can wrap. -/
theorem ends_bounds (x : IVec S32 32) (e : Fin 32) : -134217760 ≤ (ends x (ix1 e)).toInt ∧ (ends x (ix1 e)).toInt ≤ 134217760 := by
  rw [ends_sum]
  have key : ∀ n : ℕ, n ≤ 32 → ∃ z : ℤ, BitVec.ofNat 32 ((List.range n).map (tilesNat x)).sum = BitVec.ofInt 32 z ∧ -4194305 * n ≤ z ∧ z ≤ 4194305 * n := by
    intro n
    induction n with
    | zero => intro _; exact ⟨0, rfl, by simp, by simp⟩
    | succ n ih =>
      intro hn
      obtain ⟨z, hz, h1, h2⟩ := ih (by omega)
      have hb := tilesOf_bounds (x (ix1 ⟨n, by omega⟩))
      refine ⟨z + (tilesOf (x (ix1 ⟨n, by omega⟩))).toInt, ?_, by push_cast; omega, by push_cast; omega⟩
      rw [List.range_succ, List.map_append, List.sum_append, BitVec.ofNat_add, hz, BitVec.ofInt_add]
      congr 1
      simp only [List.map_cons, List.map_nil, List.sum_cons, List.sum_nil, Nat.add_zero]
      unfold tilesNat
      rw [dif_pos (by omega), BitVec.ofNat_toNat, BitVec.setWidth_eq, BitVec.ofInt_toInt]
  obtain ⟨z, hz, h1, h2⟩ := key (e.val + 1) (by omega)
  have := e.isLt
  rw [hz, BitVec.toInt_ofInt, Int.bmod_eq_of_le] <;> push_cast at h1 h2 ⊢ <;> omega

/-- Expert `q`'s tiles end at or before (the capped) tile `t`. -/
def EndsBy (e : IVec S32 32) (t : Fin 217) (q : ℕ) : Prop := ∃ h : q < 32, (e (ix1 ⟨q, h⟩)).toInt ≤ (capped e (ix1 t)).toInt

open Classical in
/-- The owner of a tile counts the experts whose tiles end at or before it. -/
theorem owners_count (e : IVec S32 32) (t : Fin 217) : owners e (ix1 t) = BitVec.ofNat 32 (Nat.count (EndsBy e t) 32) := by
  unfold owners
  refine Routing.reduce_count (m := 32) (by norm_num) _ _ _ _ t (EndsBy e t) fun q => ?_
  show IntOp.cmpi .sle (e (ix1 q)) (capped e (ix1 t)) = 1#1 ↔ _
  unfold IntOp.cmpi EndsBy
  simp only [BitVec.sle]
  constructor
  · intro h
    refine ⟨q.isLt, ?_⟩
    by_contra hc
    simp [hc] at h
  · rintro ⟨_, h⟩
    simp [h]

/-- The cap, as integers. -/
theorem capped_toInt (e : IVec S32 32) (t : Fin 217) (h : -2147483648 < (e (ix1 31)).toInt) :
    (capped e (ix1 t)).toInt = min (t.val : ℤ) ((e (ix1 31)).toInt - 1) := by
  have ht := t.isLt
  have hu := BitVec.toInt_lt (x := e (ix1 31))
  have h1 : (1#32 : BitVec 32).toInt = 1 := by decide
  have hs : (IntOp.subi (e (ix1 31)) 1#32).toInt = (e (ix1 31)).toInt - 1 := by
    unfold IntOp.subi
    rw [WordArith.toInt_sub_of_bounds] <;> rw [h1] <;> norm_num at hu ⊢ <;> omega
  have hn : (BitVec.ofNat 32 t.val).toInt = t.val := WordArith.toInt_ofNat_small _ (by norm_num; omega)
  show (IntOp.minsi (BitVec.ofNat 32 t.val) (IntOp.subi (e (ix1 31)) 1#32)).toInt = _
  unfold IntOp.minsi
  rw [BitVec.slt, hs, hn]
  split
  · rename_i h; rw [decide_eq_true_eq] at h; rw [hn]; omega
  · rename_i h; rw [decide_eq_true_eq] at h; rw [hs]; omega

/-- Every tile has an owner among the experts. -/
theorem owners_lt (x : IVec S32 32) (t : Fin 217) : (owners (ends x) (ix1 t)).toNat < 32 := by
  classical
  rw [owners_count]
  have hb := ends_bounds x 31
  have hc := capped_toInt (ends x) t (by omega)
  have h31 : ¬ EndsBy (ends x) t 31 := by
    rintro ⟨_, h⟩
    rw [hc] at h
    have h31 : ∀ h : 31 < 32, (⟨31, h⟩ : Fin 32) = 31 := by decide
    rw [h31] at h
    omega
  rw [Nat.count_succ, if_neg h31, BitVec.toNat_ofNat]
  have := Nat.count_le (p := EndsBy (ends x) t) (n := 31)
  omega

/-! ## The blocks lie inside -/

theorem rows_block (pf : pre0.Contents (Elt F)) (i : grid0.Coords) :
    ∃ w : BitVec 32, cc0_transform_0 inb_S1_S1_0 numel1_S1 pf i = ![(IntOp.maxsi (IntOp.minsi (BitVec.ofNat 32 (i 0).val) (IntOp.subi w 1#32)) 0#32).toNat, 0] := by
  exact ⟨_, rfl⟩

theorem owner_word (pf : pre0.Contents (Elt F)) (i : grid0.Coords) :
    cc0_transform_1 k0_off1_inb numel1_S1 pf i = ![((pf 0 : S217.Idx → BitVec 32) (ix1 (i 0))).toNat, 0, 0] := by
  have hi : (i 0).val < 217 := (i 0).isLt
  funext a
  match a with
  | ⟨0, _⟩ =>
    show ((pf 0 : S217.Idx → BitVec 32) _).toNat = ((pf 0 : S217.Idx → BitVec 32) (ix1 (i 0))).toNat
    refine congrArg (fun j : S217.Idx => ((pf 0 : S217.Idx → BitVec 32) j).toNat) (funext fun a => ?_)
    match a with
    | ⟨0, _⟩ =>
      refine Fin.ext ?_
      show (BitVec.ofNat 32 (i 0).val).toNat + 1 * _ = (i 0).val
      have h1 : ∀ z : S1.Idx, (z 0).val = 0 := fun z => Nat.lt_one_iff.mp (z 0).isLt
      refine (congrArg (fun n => (BitVec.ofNat 32 (i 0).val).toNat + 1 * n) (h1 _)).trans ?_
      rw [BitVec.toNat_ofNat]; omega
  | ⟨1, _⟩ => rfl
  | ⟨2, _⟩ => rfl

/-- The rows' block number: never past the step's own. -/
theorem clamp_le (n : ℕ) (hn : n < 217) (w : BitVec 32) : (IntOp.maxsi (IntOp.minsi (BitVec.ofNat 32 n) w) 0#32).toNat ≤ n := by
  have hi : (BitVec.ofNat 32 n).toInt = n := WordArith.toInt_ofNat_small _ (by norm_num; omega)
  have hN : (BitVec.ofNat 32 n).toNat = n := by rw [BitVec.toNat_ofNat]; omega
  have h0 : (0#32 : BitVec 32).toInt = 0 := by decide
  unfold IntOp.maxsi
  by_cases h : (0#32 : BitVec 32).slt (IntOp.minsi (BitVec.ofNat 32 n) w)
  · rw [if_pos h]
    rw [BitVec.slt, decide_eq_true_eq, h0] at h
    unfold IntOp.minsi at h ⊢
    by_cases h' : (BitVec.ofNat 32 n).slt w
    · rw [if_pos h', hN]
    · rw [if_neg h'] at h ⊢
      rw [BitVec.slt, decide_eq_true_eq, hi] at h'
      have := BitVec.toInt_eq_toNat_cond w
      split at this <;> omega
  · rw [if_neg h]; simp

theorem inside : Inside m := by
  have hown : ∀ t : Fin 217, ((tabs m 0 : S217.Idx → BitVec 32) (ix1 t)).toNat < 32 := fun t => by
    have h : (tabs m 0 : S217.Idx → BitVec 32) = owners (ends (m (((0 : Dev nD) : Thread nD τ).loc main_arg0))) :=
      (entry_owners m 0).trans (congrArg owners (entry_ends m 0))
    rw [h]; exact owners_lt _ t
  refine ⟨fun i => ?_, fun i => ?_, fun i => ?_, fun i => ?_⟩
  · have hi : (i 0).val < 217 := (i 0).isLt
    obtain ⟨w, hw⟩ := rows_block (tabs m) i
    refine ⟨fun a => ?_, .inl rfl⟩
    rw [hw]
    match a with
    | ⟨0, _⟩ =>
      have := clamp_le (i 0).val hi (IntOp.subi w 1#32)
      show ((IntOp.maxsi (IntOp.minsi (BitVec.ofNat 32 (i 0).val) (IntOp.subi w 1#32)) 0#32).toNat + 1) * 512 ≤ 111104
      omega
    | ⟨1, _⟩ => exact le_refl 512
  all_goals
    have h := hown (i 0)
    refine ⟨fun a => ?_, .inl rfl⟩
    have e := owner_word (tabs m) i
    first
      | rw [e]
      | rw [show cc0_transform_2 k0_off1_inb numel1_S1 (tabs m) i = _ from e]
      | rw [show cc0_transform_3 k0_off1_inb numel1_S1 (tabs m) i = _ from e]
    match a with
    | ⟨0, _⟩ =>
      show (((tabs m 0 : S217.Idx → BitVec 32) (ix1 (i 0))).toNat + 1) * 1 ≤ 32
      omega
    | ⟨1, _⟩ => exact le_refl _
    | ⟨2, _⟩ => exact le_refl _

end Cert.Experts

end
-- ==== Proof.Experts.Same.lean ====
/- The kernel's program and its reading at the ideal instance are one text: equal over any float values. -/
module

public import proofs.«01_k».proof.Proof.Gen.Kernel
public import proofs.«01_k».proof.Proof.Gen.KernelIdeal
public import proofs.«01_k».proof.Kernel
public import proofs.«01_k».proof.KernelIdeal

@[expose] public section

set_option maxRecDepth 16384
set_option maxHeartbeats 1000000

noncomputable section

namespace Cert.Experts

open Idealize.ShloMosaic

variable {F : FTy → Type} [FloatOps F]

theorem same_bodies : (@Cert.Kernel.defs₀ F _ Cert.Kernel.Gen.facts) = (@Cert.KernelIdeal.defs₀ F _ Cert.KernelIdeal.Gen.facts) := by
  unfold Cert.Kernel.defs₀ Cert.KernelIdeal.defs₀
  refine congrArg Defs.onTc (funext fun l => funext fun p => ?_)
  match l, p with
  | 0, (t, s) => rfl
  | ⟨_ + 1, h⟩, _ => exact absurd h (Nat.not_lt.2 (Nat.le_add_left _ _))

theorem same_defs : (@Cert.Kernel.defs F _ Cert.Kernel.Gen.facts) = (@Cert.KernelIdeal.defs F _ Cert.KernelIdeal.Gen.facts) := by
  unfold Cert.Kernel.defs
  rw [same_bodies]; rfl

theorem same_main : (@Cert.Kernel.main F _ Cert.Kernel.Gen.facts) = (@Cert.KernelIdeal.main F _ Cert.KernelIdeal.Gen.facts) := by
  unfold Cert.Kernel.main Cert.KernelIdeal.main
  rfl

end Cert.Experts

end
-- ==== Proof.Experts.Frames.lean ====
/- The frames: the kernel at both readings and the reference run, leaving their arguments as they were. -/
module

public import proofs.«01_k».proof.Proof.Experts.Owners
public import proofs.«01_k».proof.Proof.Experts.Same
public import proofs.«01_k».proof.Proof.Gen.ReferenceIdeal.Run
public import proofs.«01_k».proof.Defs

@[expose] public section

set_option maxRecDepth 16384

noncomputable section

namespace Cert.Experts

open Idealize.ShloMosaic Idealize.SL.Sem

theorem frame_kernel : Cert.quiescent_Kernel (hKernel := Cert.Kernel.Gen.facts) := fun m ρ _ =>
  Eq.mpr (congrArg₂ (fun d p => θ_run d (onTc (τ := Cert.Kernel.τ) p) ⟨m, fun _ => 0, ρ⟩ _) same_defs same_main)
    ((θ_run Cert.KernelIdeal.defs _ _).mono (fun _ h => ⟨fun c => (h.1 c).2, h.2⟩) (run_main (F := Bits) m ρ (inside m)))

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ (inside m))

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Experts

end
-- ==== Proof.Experts.Blocks.lean ====
/- Where each window's block lies in its array, at each of the 217 steps, and the call's result from the blocks it leaves. -/
module

public import proofs.«01_k».proof.Proof.Experts.Owners
public import Idealize.ShloMosaic.Lib.Pipeline.ValueKit.Geometry
public import Idealize.ShloMosaic.Lib.Pipeline.Covers

@[expose] public section

set_option maxRecDepth 16384

noncomputable section

namespace Cert.Experts

open Cert.KernelIdeal Cert.KernelIdeal.Gen
open Idealize.ShloMosaic Idealize.ShloMosaic.TcCoe Idealize.ShloMosaic.Tactic
open Idealize.ShloMosaic.ValueIdx
open Idealize.SL Idealize.SL.RA
open Idealize.ShloMosaic.Pipeline (Dat Cfg Window)

variable {F : FTy → Type} [FloatOps F]

theorem coord_val (t : Fin grid0.N) : (grid0.coords t 0).val = t.val := by
  have := t.isLt
  have hN : grid0.N = 217 := by decide
  rw [Pipeline.Grid.coords_val t 0 (S := 1) (B := 217) (by decide) rfl]
  omega

section Abstract

variable (a : (pcfg0 (F := F)).Adm)

theorem rows_read (V : S111104x512.Idx → BitVec 32) (t : Fin grid0.N) (n : ℕ)
    (hn : cc0_transform_0 inb_S1_S1_0 numel1_S1 a.1 (grid0.coords t) = ![n, 0])
    (y : S512x512.Idx) (i : S111104x512.Idx) (hi : (i 0).val = n * 512 + (y 0).val) (hi1 : (i 1).val = (y 1).val) :
    (((cfg0 a).win 0).blk t).view.read (Elt F) V y = V i := by
  show V ((((cfg0 a).win 0).blk t).view.emb y) = V i
  have e : ∀ b : Fin 2, (((((cfg0 a).win 0).blk t).view.emb y : S111104x512.Idx) b).val
      = cc0_transform_0 inb_S1_S1_0 numel1_S1 a.1 (grid0.coords t) b * S512x512.size b + 1 * (y b).val := fun _ => rfl
  refine congrArg V (funext fun b => Fin.ext ((e b).trans ?_))
  rw [hn]
  match b with
  | ⟨0, _⟩ => exact (show n * 512 + 1 * (y 0).val = (i 0).val by omega)
  | ⟨1, _⟩ => exact (show 0 * 512 + 1 * (y 1).val = (i 1).val by omega)

theorem gate_read (V : S32x1024x256.Idx → F .f32) (t : Fin grid0.N) (n : ℕ)
    (hn : cc0_transform_1 k0_off1_inb numel1_S1 a.1 (grid0.coords t) = ![n, 0, 0])
    (y : S1x1024x256.Idx) (i : S32x1024x256.Idx) (hi : (i 0).val = n + (y 0).val) (hi1 : (i 1).val = (y 1).val) (hi2 : (i 2).val = (y 2).val) :
    (((cfg0 a).win 1).blk t).view.read (Elt F) V y = V i := by
  show V ((((cfg0 a).win 1).blk t).view.emb y) = V i
  have e : ∀ b : Fin 3, (((((cfg0 a).win 1).blk t).view.emb y : S32x1024x256.Idx) b).val
      = cc0_transform_1 k0_off1_inb numel1_S1 a.1 (grid0.coords t) b * S1x1024x256.size b + 1 * (y b).val := fun _ => rfl
  refine congrArg V (funext fun b => Fin.ext ((e b).trans ?_))
  rw [hn]
  match b with
  | ⟨0, _⟩ => exact (show n * 1 + 1 * (y 0).val = (i 0).val by omega)
  | ⟨1, _⟩ => exact (show 0 * 1024 + 1 * (y 1).val = (i 1).val by omega)
  | ⟨2, _⟩ => exact (show 0 * 256 + 1 * (y 2).val = (i 2).val by omega)

theorem up_read (V : S32x1024x256.Idx → F .f32) (t : Fin grid0.N) (n : ℕ)
    (hn : cc0_transform_2 k0_off1_inb numel1_S1 a.1 (grid0.coords t) = ![n, 0, 0])
    (y : S1x1024x256.Idx) (i : S32x1024x256.Idx) (hi : (i 0).val = n + (y 0).val) (hi1 : (i 1).val = (y 1).val) (hi2 : (i 2).val = (y 2).val) :
    (((cfg0 a).win 2).blk t).view.read (Elt F) V y = V i := by
  show V ((((cfg0 a).win 2).blk t).view.emb y) = V i
  have e : ∀ b : Fin 3, (((((cfg0 a).win 2).blk t).view.emb y : S32x1024x256.Idx) b).val
      = cc0_transform_2 k0_off1_inb numel1_S1 a.1 (grid0.coords t) b * S1x1024x256.size b + 1 * (y b).val := fun _ => rfl
  refine congrArg V (funext fun b => Fin.ext ((e b).trans ?_))
  rw [hn]
  match b with
  | ⟨0, _⟩ => exact (show n * 1 + 1 * (y 0).val = (i 0).val by omega)
  | ⟨1, _⟩ => exact (show 0 * 1024 + 1 * (y 1).val = (i 1).val by omega)
  | ⟨2, _⟩ => exact (show 0 * 256 + 1 * (y 2).val = (i 2).val by omega)

theorem down_read (V : S32x256x1024.Idx → F .f32) (t : Fin grid0.N) (n : ℕ)
    (hn : cc0_transform_3 k0_off1_inb numel1_S1 a.1 (grid0.coords t) = ![n, 0, 0])
    (y : S1x256x1024.Idx) (i : S32x256x1024.Idx) (hi : (i 0).val = n + (y 0).val) (hi1 : (i 1).val = (y 1).val) (hi2 : (i 2).val = (y 2).val) :
    (((cfg0 a).win 3).blk t).view.read (Elt F) V y = V i := by
  show V ((((cfg0 a).win 3).blk t).view.emb y) = V i
  have e : ∀ b : Fin 3, (((((cfg0 a).win 3).blk t).view.emb y : S32x256x1024.Idx) b).val
      = cc0_transform_3 k0_off1_inb numel1_S1 a.1 (grid0.coords t) b * S1x256x1024.size b + 1 * (y b).val := fun _ => rfl
  refine congrArg V (funext fun b => Fin.ext ((e b).trans ?_))
  rw [hn]
  match b with
  | ⟨0, _⟩ => exact (show n * 1 + 1 * (y 0).val = (i 0).val by omega)
  | ⟨1, _⟩ => exact (show 0 * 256 + 1 * (y 1).val = (i 1).val by omega)
  | ⟨2, _⟩ => exact (show 0 * 1024 + 1 * (y 2).val = (i 2).val by omega)

theorem out_emb (t : Fin grid0.N) (y : S512x1024.Idx) (i : S111104x1024.Idx) (hi : (i 0).val = t.val * 512 + (y 0).val) (hi1 : (i 1).val = (y 1).val) :
    ((((cfg0 a).win 4).blk t).view.emb y : S111104x1024.Idx) = i := by
  have e : ∀ b : Fin 2, (((((cfg0 a).win 4).blk t).view.emb y : S111104x1024.Idx) b).val
      = cc0_transform_4 (grid0.coords t) b * S512x1024.size b + 1 * (y b).val := fun _ => rfl
  have ht := t.isLt
  have hN : grid0.N = 217 := by decide
  refine funext fun b => Fin.ext ((e b).trans ?_)
  match b with
  | ⟨0, _⟩ =>
    show (BitVec.ofNat 32 (grid0.coords t 0).val).toNat * 512 + 1 * (y 0).val = (i 0).val
    rw [coord_val, BitVec.toNat_ofNat, Nat.mod_eq_of_lt (by omega)]; omega
  | ⟨1, _⟩ => exact (show 0 * 1024 + 1 * (y 1).val = (i 1).val by omega)

theorem flush_out : ∀ t : Fin grid0.N, Pipeline.Window.flushOf grid0 true cc0_transform_4 t = true :=
  fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _)

set_option maxHeartbeats 2000000 in
/-- The result from the blocks left: row `t·512 + r` is step `t`'s row `r`. -/
theorem out_array {c : Dev nD} (dat : Dat τ (Elt F) Unit ℕ (UR sig nD τ) ℕ (cfg0 a) c) (G : S111104x1024.Idx → F .bf16)
    (hG : ∀ (t : Fin grid0.N) (y : S512x1024.Idx) (i : S111104x1024.Idx), (i 0).val = t.val * 512 + (y 0).val → (i 1).val = (y 1).val →
      (dat.after 4 t : S512x1024.Idx → F .bf16) y = G i) : dat.arrAt 4 grid0.N = G := by
  have hN : grid0.N = 217 := by decide
  have back : ∀ (t : Fin grid0.N) (y : S512x1024.Idx),
      (dat.after 4 t : S512x1024.Idx → F .bf16) y = G ((((cfg0 a).win 4).blk t).view.emb y : S111104x1024.Idx) := fun t y => by
    have ht : t.val < 217 := hN ▸ t.isLt
    have h0 : (y 0).val < 512 := (y 0).isLt
    have hi := out_emb a t y (ix2 ⟨t.val * 512 + (y 0).val, by omega⟩ (y 1)) rfl rfl
    exact (hG t y _ rfl rfl).trans (congrArg G hi.symm)
  have in_block : ∀ (t : Fin grid0.N) (y : S512x1024.Idx) (i : S111104x1024.Idx), (i 0).val = t.val * 512 + (y 0).val → (i 1).val = (y 1).val →
      i ∈ (((cfg0 a).win 4).blk t).view.set := fun t y i h0 h1 =>
    (congrArg (· ∈ (((cfg0 a).win 4).blk t).view.set) (out_emb a t y i h0 h1)).mp ((((cfg0 a).win 4).blk t).view.emb_mem_set y)
  have cover : ∀ i : S111104x1024.Idx, ∃ t : Fin grid0.N, i ∈ (((cfg0 a).win 4).blk t).view.set := fun i => by
    have hi : (i 0).val < 111104 := (i 0).isLt
    have hq : (i 0).val / 512 < grid0.N := by rw [hN]; omega
    obtain ⟨t, ht⟩ : ∃ t : Fin grid0.N, t.val = (i 0).val / 512 := ⟨⟨_, hq⟩, rfl⟩
    refine ⟨t, in_block t (ix2 ⟨(i 0).val % 512, Nat.mod_lt _ (by norm_num)⟩ (i 1)) i
      (show (i 0).val = t.val * 512 + (i 0).val % 512 by omega) rfl⟩
  exact dat.arrAt_eq_of_emb 4 G (fun t _ y => back t y) (fun i => (cover i).imp fun t ht => ⟨flush_out t, ht⟩)

end Abstract

end Cert.Experts

end
-- ==== Proof.Experts.Reference.lean ====
/- The reference read at an element: over all experts and hidden units, the gated units' products with the last weights. -/
module

public import proofs.«01_k».proof.Proof.Gen.ReferenceIdeal.Run
public import Idealize.ShloMosaic.Lib.Pointwise

@[expose] public section

set_option maxRecDepth 16384
set_option maxHeartbeats 1000000

noncomputable section

namespace Cert.Experts.Ref

open Idealize.ShloMosaic Cert.ReferenceIdeal Cert.ReferenceIdeal.Gen Cert.ReferenceIdeal.Value

/-- The tiles per expert. -/
def tiles (cnt : IVec S32 32) : IVec S32 32 :=
  select (andi (cmpi .ne (signi (subi (addi cnt (broadcastInDim S32 ![] bcast_S_S32 (constantI S_ 32 512#32))) (broadcastInDim S32 ![] bcast_S_S32 (constantI S_ 32 1#32)))) (broadcastInDim S32 ![] bcast_S_S32 (signi (id (constantI S_ 32 512#32))))) (cmpi .ne (Host.remsi (subi (addi cnt (broadcastInDim S32 ![] bcast_S_S32 (constantI S_ 32 512#32))) (broadcastInDim S32 ![] bcast_S_S32 (constantI S_ 32 1#32))) (broadcastInDim S32 ![] bcast_S_S32 (id (constantI S_ 32 512#32)))) (broadcastInDim S32 ![] bcast_S_S32 (constantI S_ 32 0#32)))) (subi (Host.divsi (subi (addi cnt (broadcastInDim S32 ![] bcast_S_S32 (constantI S_ 32 512#32))) (broadcastInDim S32 ![] bcast_S_S32 (constantI S_ 32 1#32))) (broadcastInDim S32 ![] bcast_S_S32 (id (constantI S_ 32 512#32)))) (broadcastInDim S32 ![] bcast_S_S32 (constantI S_ 32 1#32))) (Host.divsi (subi (addi cnt (broadcastInDim S32 ![] bcast_S_S32 (constantI S_ 32 512#32))) (broadcastInDim S32 ![] bcast_S_S32 (constantI S_ 32 1#32))) (broadcastInDim S32 ![] bcast_S_S32 (id (constantI S_ 32 512#32))))

/-- Where they end. -/
def ends (tiles : IVec S32 32) : IVec S32 32 :=
  Host.reduceWindow IntOp.addi ![32] ![1] ![31] ![0] tiles (broadcastInDim S_ ![] bcast_S_S_ (constantI S_ 32 0#32)) reduceWindows_S32_S32_w32s1p31_0 h_S_

/-- The rows, widened. -/
def rows (xs : IVec S111104x512 32) : FVec Ideal S217x512x1024 .f32 :=
  shapeCast S217x512x1024 (concatenate S111104x1024 1 [⟨S111104x512, (bitcastToFloat (F := Ideal) .f32 (Host.shli xs (broadcastInDim S111104x512 ![] bcast_S_S111104x512 (constantI S_ 32 16#32))))⟩, ⟨S111104x512, (bitcastToFloat (F := Ideal) .f32 (andi xs (broadcastInDim S111104x512 ![] bcast_S_S111104x512 (constantI S_ 32 4294901760#32))))⟩] concatenates_S111104x512_S111104x512_S111104x1024_d1) shapeCasts_S111104x1024_S217x512x1024

/-- One where a tile is an expert's, zero elsewhere. -/
def gates (tiles ends : IVec S32 32) : FVec Ideal S217x32 .f32 :=
  uitofp .f32 (andi (cmpi .sle (broadcastInDim S217x32 ![0, 1] bcast_S1x32_S217x32_0_1 (broadcastInDim S1x32 ![1] bcast_S32_S1x32_1 (subi ends tiles))) (broadcastInDim S217x32 ![0, 1] bcast_S217x1_S217x32_0_1 (broadcastInDim S217x1 ![0] bcast_S217_S217x1_0 (iotaInDim S217 32 0)))) (cmpi .slt (broadcastInDim S217x32 ![0, 1] bcast_S217x1_S217x32_0_1 (broadcastInDim S217x1 ![0] bcast_S217_S217x1_0 (iotaInDim S217 32 0))) (broadcastInDim S217x32 ![0, 1] bcast_S1x32_S217x32_0_1 (broadcastInDim S1x32 ![1] bcast_S32_S1x32_1 ends))))

/-- The experts' network over all tiles and experts. -/
def network (x : FVec Ideal S217x512x1024 .f32) (gate : FVec Ideal S217x32 .f32) (wg wu : FVec Ideal S32x1024x256 .f32)
    (wd : FVec Ideal S32x256x1024 .f32) : FVec Ideal S111104x1024 .bf16 :=
  truncf .bf16 (shapeCast S111104x1024 (Host.dotGeneral dot_S217x512x32x256_S32x256x1024_S217x512x1024_23_01_01_2_n_n none (mulf (mulf (mulf (Host.dotGeneral dot_S217x512x1024_S32x1024x256_S217x512x32x256_2_1_01_02_n_n none x wg) (Host.divf (broadcastInDim S217x512x32x256 ![] bcast_S_S217x512x32x256 (constant S_ .f32 0x3F800000#32)) (addf (broadcastInDim S217x512x32x256 ![] bcast_S_S217x512x32x256 (constant S_ .f32 0x3F800000#32)) (Host.exp (Host.negf (Host.dotGeneral dot_S217x512x1024_S32x1024x256_S217x512x32x256_2_1_01_02_n_n none x wg)))))) (Host.dotGeneral dot_S217x512x1024_S32x1024x256_S217x512x32x256_2_1_01_02_n_n none x wu)) (broadcastInDim S217x512x32x256 ![0, 1, 2, 3] bcast_S217x1x32x1_S217x512x32x256_0_1_2_3 (broadcastInDim S217x1x32x1 ![0, 2] bcast_S217x32_S217x1x32x1_0_2 gate))) wd) shapeCasts_S217x512x1024_S111104x1024) bitsLt_bf16_f32

theorem result_eq (m : (ℓ : Loc nD τ sig) → Buf (Elt Ideal) ℓ) (c : Dev nD) : res_main_v36 m c
    = network (rows (m ((c.tc : Thread nD τ).loc main_arg1)))
        (gates (tiles (m ((c.tc : Thread nD τ).loc main_arg0))) (ends (tiles (m ((c.tc : Thread nD τ).loc main_arg0)))))
        (m ((c.tc : Thread nD τ).loc main_arg2)) (m ((c.tc : Thread nD τ).loc main_arg3)) (m ((c.tc : Thread nD τ).loc main_arg4)) := by
  unfold res_main_v36 network rows gates ends tiles
  rfl

end Cert.Experts.Ref

end
-- ==== Proof.Experts.Halves.lean ====
/- The two bfloat16 of a word, as extended reals: the one in the low half is the word shifted up read as a float, the one in the
   high half the word with its low half cleared. -/
module

public import Idealize.ShloMosaic.PureOps.Ideal
public import Mathlib.Tactic.Linarith

@[expose] public section

noncomputable section

namespace Cert.Experts

open Idealize.ShloMosaic

theorem float_of_half (c : BitVec 16) : Ideal.ieee 8 23 (c ++ 0#16) = Ideal.ieee 8 7 c := by
  have hs : (c ++ 0#16).extractLsb' 31 1 = c.extractLsb' 15 1 := by
    apply BitVec.eq_of_toNat_eq
    rw [BitVec.extractLsb'_toNat, BitVec.extractLsb'_toNat, BitVec.toNat_append]
    simp only [BitVec.toNat_ofNat, Nat.zero_mod, Nat.or_zero, Nat.shiftLeft_eq, Nat.shiftRight_eq_div_pow]
    omega
  have he : (c ++ 0#16).extractLsb' 23 8 = c.extractLsb' 7 8 := by
    ext i hi
    simp only [BitVec.getElem_extractLsb', BitVec.getLsbD_append]
    rw [if_neg (by omega)]
    congr 1; omega
  have hf : ((c ++ 0#16).extractLsb' 0 23).toNat = (c.extractLsb' 0 7).toNat * 2 ^ 16 := by
    rw [BitVec.extractLsb'_toNat, BitVec.extractLsb'_toNat, BitVec.toNat_append]
    simp only [Nat.shiftRight_zero, BitVec.toNat_ofNat, Nat.zero_mod, Nat.or_zero, Nat.shiftLeft_eq]
    omega
  unfold Ideal.ieee
  simp only [Nat.reduceAdd, hs, he, hf]
  generalize (c.extractLsb' 7 8).toNat = ex
  generalize (c.extractLsb' 0 7).toNat = fr
  generalize (c.extractLsb' 15 1 == 1#1) = s
  by_cases h1 : ex = 2 ^ 8 - 1
  · rw [if_pos h1, if_pos h1]
    by_cases h2 : fr = 0
    · rw [if_pos (by omega), if_pos h2]
    · rw [if_neg (by omega), if_neg h2]
  rw [if_neg h1, if_neg h1]
  by_cases h0 : ex = 0
  · rw [if_pos h0, if_pos h0]
    congr 1
    generalize (if s = true then (-1 : ℝ) else 1) = sg
    rw [show (1 - (2 ^ (8 - 1) - 1 : ℤ) - (7 : ℕ) : ℤ) = (1 - (2 ^ (8 - 1) - 1 : ℤ) - (23 : ℕ) : ℤ) + 16 from by norm_num,
      zpow_add₀ (by norm_num : (2 : ℝ) ≠ 0)]
    push_cast
    norm_num
    ring
  · rw [if_neg h0, if_neg h0]
    congr 1
    generalize (if s = true then (-1 : ℝ) else 1) = sg
    rw [show ((ex : ℤ) - (2 ^ (8 - 1) - 1 : ℤ) - (7 : ℕ) : ℤ) = ((ex : ℤ) - (2 ^ (8 - 1) - 1 : ℤ) - (23 : ℕ) : ℤ) + 16 from by push_cast; ring,
      zpow_add₀ (by norm_num : (2 : ℝ) ≠ 0)]
    push_cast
    norm_num
    ring

theorem low_half (w : BitVec 32) : Ideal.ofBits .bf16 (w.extractLsb' 0 16) = Ideal.ofBits .f32 (w <<< 16) := by
  have h : w <<< 16 = w.extractLsb' 0 16 ++ 0#16 := by
    apply BitVec.eq_of_toNat_eq
    rw [BitVec.toNat_append, BitVec.extractLsb'_toNat, BitVec.toNat_shiftLeft]
    simp only [BitVec.toNat_ofNat, Nat.zero_mod, Nat.or_zero, Nat.shiftLeft_eq, Nat.shiftRight_eq_div_pow]
    omega
  rw [h]
  exact (float_of_half _).symm

theorem high_half (w : BitVec 32) : Ideal.ofBits .bf16 (w.extractLsb' 16 16) = Ideal.ofBits .f32 (w &&& 4294901760#32) := by
  have h : w &&& 4294901760#32 = w.extractLsb' 16 16 ++ 0#16 := by

    ext i hi
    rw [BitVec.getElem_and, BitVec.getElem_eq_testBit_toNat (4294901760#32), BitVec.getElem_append]
    have hmask : Nat.testBit (4294901760#32 : BitVec 32).toNat i = decide (16 ≤ i) := by
      have : ∀ i : Fin 32, Nat.testBit (4294901760#32 : BitVec 32).toNat i.val = decide (16 ≤ i.val) := by decide
      exact this ⟨i, hi⟩
    rw [hmask]
    by_cases h : i < 16
    · have h' : ¬ 16 ≤ i := by omega
      simp [h, h']
    · have h' : 16 ≤ i := by omega
      simp only [h, dite_false, h', decide_true, Bool.and_true]
      rw [BitVec.getElem_extractLsb', show 16 + (i - 16) = i by omega, BitVec.getLsbD_eq_getElem hi]
  rw [h]
  exact (float_of_half _).symm

end Cert.Experts

end
-- ==== Proof.Experts.Network.lean ====
/- The network of one expert on one row, and the two spellings of it: the kernel's over a row's two halves, the reference's over
   all experts with a gate that is one at the row's own. -/
module

public import proofs.«01_k».proof.Proof.Experts.Body
public import proofs.«01_k».proof.Proof.Experts.Reference
public import proofs.«01_k».proof.Proof.Experts.Halves
public import Idealize.ShloMosaic.Lib.Pointwise
public import Idealize.ShloMosaic.Lib.Pointwise.IndexBridge

@[expose] public section

set_option maxRecDepth 16384
set_option maxHeartbeats 1000000

noncomputable section

namespace Cert.Experts

open Idealize.ShloMosaic

/-- A gated unit: `a · sigmoid a · b`. -/
def unit (a b : EReal) : EReal := a * Ideal.div 1 (1 + Ideal.exp (-a)) * b

/-- A row's number `k`: of the words' low halves for the first 512, of their high halves for the others. -/
def number (w : Fin 512 → BitVec 32) (k : Fin 1024) : EReal :=
  if h : k.val < 512 then Ideal.ofBits .f32 (w ⟨k.val, h⟩ <<< 16)
  else Ideal.ofBits .f32 (w ⟨k.val - 512, by omega⟩ &&& 4294901760#32)

/-- One expert's network on one row, at one output column. -/
def expert (x : Fin 1024 → EReal) (wg wu : Fin 1024 → Fin 256 → EReal) (wd : Fin 256 → EReal) : EReal :=
  ∑ f : Fin 256, unit (∑ k, x k * wg k f) (∑ k, x k * wu k f) * wd f

/-- A product over a row is that over its low halves and that over its high halves. -/
theorem halves_sum (w : Fin 512 → BitVec 32) (v : Fin 1024 → EReal) :
    ∑ k : Fin 512, Ideal.ofBits .bf16 ((w k).extractLsb' 0 16) * v ⟨k.val, by omega⟩
      + ∑ k : Fin 512, Ideal.ofBits .bf16 ((w k).extractLsb' 16 16) * v ⟨512 + k.val, by omega⟩ = ∑ k, number w k * v k := by
  rw [Fin.sum_univ_two_halves 512 512 rfl]
  congr 1
  · refine Finset.sum_congr rfl fun k _ => ?_
    unfold number
    rw [dif_pos k.isLt, low_half]
  · refine Finset.sum_congr rfl fun k _ => ?_
    unfold number
    rw [dif_neg (by simp), high_half]
    have e : (⟨512 + k.val - 512, by omega⟩ : Fin 512) = k := Fin.ext (by simp)
    simp only [e]

section Kernel

open Cert.KernelIdeal Cert.KernelIdeal.Gen

theorem low_rows_at (x1 x2 : Vec Ideal S1x1024x256 .f32) (x3 : Vec Ideal S1x256x1024 .f32) (w : Vec Ideal S256x512 .i32) (r : Fin 256) (d : Fin 1024) :
    k0_pay6 x1 x2 x3 w (ix2 r d)
      = expert (number fun k => w (ix2 r k)) (fun k f => x1 (ix3 0 k f)) (fun k f => x2 (ix3 0 k f)) (fun f => x3 (ix3 0 f d)) := by
  pointwise [k0_pay6, k0_pay3, k0_pay4, k0_pay5]
  unfold expert unit
  refine Finset.sum_congr rfl fun f _ => ?_
  rw [← halves_sum (fun k => w (ix2 r k)) (fun k => x1 (ix3 0 k f)), ← halves_sum (fun k => w (ix2 r k)) (fun k => x2 (ix3 0 k f)), zero_sub]

theorem high_rows_at (x1 x2 : Vec Ideal S1x1024x256 .f32) (x3 : Vec Ideal S1x256x1024 .f32) (w : Vec Ideal S256x512 .i32) (r : Fin 256) (d : Fin 1024) :
    k0_pay1 (k0_pay3 x1) (k0_pay4 x2) (k0_pay5 x3) w (ix2 r d)
      = expert (number fun k => w (ix2 r k)) (fun k f => x1 (ix3 0 k f)) (fun k f => x2 (ix3 0 k f)) (fun f => x3 (ix3 0 f d)) := by
  pointwise [k0_pay1, k0_pay3, k0_pay4, k0_pay5]
  unfold expert unit
  refine Finset.sum_congr rfl fun f _ => ?_
  rw [← halves_sum (fun k => w (ix2 r k)) (fun k => x1 (ix3 0 k f)), ← halves_sum (fun k => w (ix2 r k)) (fun k => x2 (ix3 0 k f)), zero_sub]

/-- A live tile's result, row by row. -/
theorem live_at (x0 : Vec Ideal S512x512 .i32) (x1 x2 : Vec Ideal S1x1024x256 .f32) (x3 : Vec Ideal S1x256x1024 .f32) (r : Fin 512) (d : Fin 1024) :
    liveBlk x0 x1 x2 x3 (ix2 r d)
      = expert (number fun k => x0 (ix2 r k)) (fun k f => x1 (ix3 0 k f)) (fun k f => x2 (ix3 0 k f)) (fun f => x3 (ix3 0 f d)) := by
  unfold liveBlk
  by_cases h : r.val < 256
  · rw [dif_pos (show ((ix2 r d : S512x1024.Idx) 0).val < 256 from h)]
    refine (congrArg (k0_pay6 x1 x2 x3 (rowsLo x0)) (ix2_eq_valueIdx (⟨r.val, h⟩ : Fin 256) d).symm).trans ?_
    refine (low_rows_at x1 x2 x3 _ ⟨r.val, h⟩ d).trans ?_
    congr 1
    congr 1
    funext k
    unfold rowsLo
    congr 1
    funext a
    match a with
    | ⟨0, _⟩ => exact Fin.ext (by show 0 + 1 * r.val = r.val; omega)
    | ⟨1, _⟩ => exact Fin.ext (by show 0 + 1 * k.val = k.val; omega)
  · rw [dif_neg (show ¬ ((ix2 r d : S512x1024.Idx) 0).val < 256 from h)]
    refine (congrArg (k0_pay1 (k0_pay3 x1) (k0_pay4 x2) (k0_pay5 x3) (rowsHi x0)) (ix2_eq_valueIdx (⟨r.val - 256, by omega⟩ : Fin 256) d).symm).trans ?_
    refine (high_rows_at x1 x2 x3 _ ⟨r.val - 256, by omega⟩ d).trans ?_
    congr 1
    congr 1
    funext k
    unfold rowsHi
    congr 1
    funext a
    match a with
    | ⟨0, _⟩ => exact Fin.ext (by show 256 + 1 * (r.val - 256) = r.val; omega)
    | ⟨1, _⟩ => exact Fin.ext (by show 0 + 1 * k.val = k.val; omega)

/-- A dead tile's result. -/
theorem dead_at (r : Fin 512) (d : Fin 1024) : (k0_pay2 (F := Ideal)) (ix2 r d) = 0 := by
  pointwise [k0_pay2]

end Kernel

section Reference

open Cert.ReferenceIdeal Cert.ReferenceIdeal.Gen

/-- The reference at an element whose tile is expert `e₀`'s alone. -/
theorem network_one (x : FVec Ideal S217x512x1024 .f32) (gate : FVec Ideal S217x32 .f32) (wg wu : FVec Ideal S32x1024x256 .f32)
    (wd : FVec Ideal S32x256x1024 .f32) (t : Fin 217) (r : Fin 512) (i : Fin 111104) (hi : i.val = t.val * 512 + r.val) (d : Fin 1024)
    (e₀ : Fin 32) (h1 : gate (ix2 t e₀) = 1) (h0 : ∀ e, e ≠ e₀ → gate (ix2 t e) = 0) :
    Ref.network x gate wg wu wd (ix2 i d)
      = expert (fun k => x (ix3 t r k)) (fun k f => wg (ix3 e₀ k f)) (fun k f => wu (ix3 e₀ k f)) (fun f => wd (ix3 e₀ f d)) := by
  have e1 : ∀ h, (⟨i.val / 512, h⟩ : Fin 217) = t := fun _ => Fin.ext (by show i.val / 512 = t.val; omega)
  have e2 : ∀ h, (⟨i.val % 512, h⟩ : Fin 512) = r := fun _ => Fin.ext (by show i.val % 512 = r.val; omega)
  pointwise [Ref.network]
  simp only [e1, e2]
  rw [Finset.sum_eq_single e₀]
  · unfold expert unit
    refine Finset.sum_congr rfl fun f _ => ?_
    rw [h1, mul_one]
  · intro e _ he
    refine Finset.sum_eq_zero fun f _ => ?_
    rw [h0 e he, mul_zero, zero_mul]
  · intro h; exact absurd (Finset.mem_univ _) h

/-- The reference at an element whose tile is nobody's. -/
theorem network_none (x : FVec Ideal S217x512x1024 .f32) (gate : FVec Ideal S217x32 .f32) (wg wu : FVec Ideal S32x1024x256 .f32)
    (wd : FVec Ideal S32x256x1024 .f32) (t : Fin 217) (r : Fin 512) (i : Fin 111104) (hi : i.val = t.val * 512 + r.val) (d : Fin 1024)
    (h0 : ∀ e, gate (ix2 t e) = 0) : Ref.network x gate wg wu wd (ix2 i d) = 0 := by
  have e1 : ∀ h, (⟨i.val / 512, h⟩ : Fin 217) = t := fun _ => Fin.ext (by show i.val / 512 = t.val; omega)
  pointwise [Ref.network]
  simp only [e1]
  refine Finset.sum_eq_zero fun e _ => Finset.sum_eq_zero fun f _ => ?_
  rw [h0 e, mul_zero, zero_mul]

theorem rows_at (xs : IVec S111104x512 32) (t : Fin 217) (r : Fin 512) (k : Fin 1024) :
    Ref.rows xs (ix3 t r k) = number (fun q => xs (ix2 ⟨t.val * 512 + r.val, by omega⟩ q)) k := by
  pointwise [Ref.rows]
  rfl

theorem gate_on (tiles ends : IVec S32 32) (t : Fin 217) (e : Fin 32)
    (h1 : (IntOp.subi (ends (ix1 e)) (tiles (ix1 e))).sle (BitVec.ofNat 32 t.val) = true) (h2 : (BitVec.ofNat 32 t.val).slt (ends (ix1 e)) = true) :
    Ref.gates tiles ends (ix2 t e) = 1 := by
  pointwise [Ref.gates]
  simp only [IntOp.cmpi, h1, h2]
  exact (by norm_num : ((((1 : ℕ) : ℝ)) : EReal) = 1)

theorem gate_off (tiles ends : IVec S32 32) (t : Fin 217) (e : Fin 32)
    (h : ¬ ((IntOp.subi (ends (ix1 e)) (tiles (ix1 e))).sle (BitVec.ofNat 32 t.val) = true ∧ (BitVec.ofNat 32 t.val).slt (ends (ix1 e)) = true)) :
    Ref.gates tiles ends (ix2 t e) = 0 := by
  pointwise [Ref.gates]
  have hz : IntOp.andi (IntOp.cmpi .sle (IntOp.subi (ends (ix1 e)) (tiles (ix1 e))) (BitVec.ofNat 32 t.val))
      (IntOp.cmpi .slt (BitVec.ofNat 32 t.val) (ends (ix1 e))) = 0#1 := by
    simp only [IntOp.cmpi]
    rcases Bool.eq_false_or_eq_true ((IntOp.subi (ends (ix1 e)) (tiles (ix1 e))).sle (BitVec.ofNat 32 t.val)) with h1 | h1 <;>
      rcases Bool.eq_false_or_eq_true ((BitVec.ofNat 32 t.val).slt (ends (ix1 e))) with h2 | h2 <;>
      simp only [h1, h2] <;> first | rfl | exact absurd ⟨h1, h2⟩ h
  rw [hz]
  exact (by norm_num : ((((0 : ℕ) : ℝ)) : EReal) = 0)

end Reference

end Cert.Experts

end
-- ==== Proof.Experts.Routing.lean ====
/- Whose tile is whose when every count is a number of pairs: a tile in use lies between the start and the end of its owner's
   tiles and of nobody else's, a tile out of use between nobody's. -/
module

public import proofs.«01_k».proof.Proof.Experts.Owners

@[expose] public section

set_option maxRecDepth 16384

noncomputable section

namespace Cert.Experts

open Cert.KernelIdeal Cert.KernelIdeal.Gen
open Idealize.ShloMosaic Idealize.ShloMosaic.TcCoe Idealize.ShloMosaic.Tactic
open Idealize.ShloMosaic.ValueIdx

/-- How many tiles the first `n` experts take. -/
def upTo (x : IVec S32 32) (n : ℕ) : ℕ := ((List.range n).map (tilesNat x)).sum

theorem upTo_succ (x : IVec S32 32) (n : ℕ) : upTo x (n + 1) = upTo x n + tilesNat x n := by
  unfold upTo
  rw [List.range_succ, List.map_append, List.sum_append]
  simp

theorem upTo_mono (x : IVec S32 32) : Monotone (upTo x) := monotone_nat_of_le_succ fun n => by rw [upTo_succ]; omega

/-- Tile `t` lies at or after the start of expert `e`'s tiles and before their end. -/
def Between (x : IVec S32 32) (t : Fin 217) (e : Fin 32) : Prop :=
  (IntOp.subi (ends x (ix1 e)) (tileCounts x (ix1 e))).sle (BitVec.ofNat 32 t.val) = true ∧ (BitVec.ofNat 32 t.val).slt (ends x (ix1 e)) = true

variable (x : IVec S32 32) (hx : ∀ j, (x j).toNat ≤ 66048)
include hx

theorem tilesNat_le (n : ℕ) : tilesNat x n ≤ 129 := by
  unfold tilesNat
  split
  · rw [tilesOf_of_le _ (hx _), BitVec.toNat_ofNat]
    have := hx (ix1 ⟨n, by assumption⟩)
    exact (Nat.mod_le _ _).trans (by omega)
  · omega

theorem upTo_le (n : ℕ) : upTo x n ≤ 129 * n := by
  induction n with
  | zero => exact le_refl 0
  | succ n ih => rw [upTo_succ]; have := tilesNat_le x hx n; omega

theorem ends_toInt (e : Fin 32) : (ends x (ix1 e)).toInt = upTo x (e.val + 1) := by
  rw [ends_sum]
  refine WordArith.toInt_ofNat_small _ ?_
  have := upTo_le x hx (e.val + 1)
  unfold upTo at this
  norm_num
  omega

theorem start_toInt (e : Fin 32) : (IntOp.subi (ends x (ix1 e)) (tileCounts x (ix1 e))).toInt = upTo x e.val := by
  have h1 := ends_toInt x hx e
  have h2 := upTo_succ x e.val
  have h3 := upTo_le x hx (e.val + 1)
  have h4 := tilesNat_le x hx e.val
  have ht : (tileCounts x (ix1 e)).toInt = tilesNat x e.val := by
    have hn : tilesNat x e.val = (tilesOf (x (ix1 e))).toNat := by unfold tilesNat; rw [dif_pos e.isLt]
    show (tilesOf (x (ix1 e))).toInt = _
    rw [hn, BitVec.toInt_eq_toNat_of_lt (by rw [← hn]; norm_num; omega)]
  unfold IntOp.subi
  rw [WordArith.toInt_sub_of_bounds] <;> rw [h1, ht] <;> norm_num <;> omega

theorem between_iff (t : Fin 217) (e : Fin 32) : Between x t e ↔ upTo x e.val ≤ t.val ∧ t.val < upTo x (e.val + 1) := by
  have ht : (BitVec.ofNat 32 t.val).toInt = t.val := WordArith.toInt_ofNat_small _ (by norm_num; omega)
  unfold Between
  simp only [BitVec.sle, BitVec.slt, decide_eq_true_eq]
  rw [start_toInt x hx, ends_toInt x hx, ht]
  omega

/-- The word that says how many tiles are in use, compared with a tile's number. -/
theorem used_iff (t : Fin 217) : (BitVec.ofNat 32 t.val).slt (ends x (ix1 31)) = true ↔ t.val < upTo x 32 := by
  have ht : (BitVec.ofNat 32 t.val).toInt = t.val := WordArith.toInt_ofNat_small _ (by norm_num; omega)
  simp only [BitVec.slt, decide_eq_true_eq]
  rw [ends_toInt x hx, ht]
  show (t.val : ℤ) < (upTo x 32 : ℕ) ↔ _
  omega

/-- Past the tiles in use a tile is nobody's. -/
theorem nobody (t : Fin 217) (h : ¬ t.val < upTo x 32) (e : Fin 32) : ¬ Between x t e := by
  rw [between_iff x hx]
  have := upTo_mono x (show e.val + 1 ≤ 32 by omega)
  omega

/-- The cap leaves a tile in use as it is. -/
theorem capped_used (t : Fin 217) (h : t.val < upTo x 32) : capped (ends x) (ix1 t) = BitVec.ofNat 32 t.val := by
  have h1 := ends_toInt x hx 31
  have h2 : ((31 : Fin 32).val + 1) = 32 := rfl
  rw [h2] at h1
  have hc := capped_toInt (ends x) t (by rw [h1]; omega)
  have ht : (BitVec.ofNat 32 t.val).toInt = t.val := WordArith.toInt_ofNat_small _ (by norm_num; omega)
  apply BitVec.eq_of_toInt_eq
  rw [hc, ht, h1]
  omega

/-- A tile in use is its owner's alone. -/
theorem owner_used (t : Fin 217) (h : t.val < upTo x 32) :
    ∃ o : Fin 32, (owners (ends x) (ix1 t)).toNat = o.val ∧ ∀ e, Between x t e ↔ e = o := by
  classical
  have hex : ∃ n, t.val < upTo x (n + 1) := ⟨31, h⟩
  have ho := Nat.find_spec hex
  have hmin : ∀ q, q < Nat.find hex → upTo x (q + 1) ≤ t.val := fun q hq => Nat.not_lt.mp (Nat.find_min hex hq)
  have hlt : Nat.find hex < 32 := lt_of_le_of_lt (Nat.find_min' hex (show t.val < upTo x (31 + 1) from h)) (by omega)
  generalize Nat.find hex = o at ho hmin hlt
  have hlo : upTo x o ≤ t.val := by
    cases o with
    | zero => exact Nat.zero_le _
    | succ o => exact hmin o (by omega)
  have hP : ∀ q, q < 32 → (EndsBy (ends x) t q ↔ q < o) := fun q hq => by
    have ht : (BitVec.ofNat 32 t.val).toInt = t.val := WordArith.toInt_ofNat_small _ (by norm_num; omega)
    unfold EndsBy
    rw [capped_used x hx t h, ht]
    constructor
    · rintro ⟨_, hle⟩
      rw [ends_toInt x hx] at hle
      by_contra hc
      have := upTo_mono x (show o + 1 ≤ q + 1 by omega)
      have h5 : upTo x (q + 1) ≤ t.val := by exact_mod_cast hle
      omega
    · intro hqo
      refine ⟨hq, ?_⟩
      rw [ends_toInt x hx]
      exact_mod_cast hmin q hqo
  refine ⟨⟨o, hlt⟩, ?_, fun e => ?_⟩
  · rw [owners_count, Routing.count_congr_of_lt 32 hP, Nat.count_eq_card_filter_range,
      show (Finset.range 32).filter (fun q => q < o) = Finset.range o from by ext q; simp; omega, Finset.card_range, BitVec.toNat_ofNat]
    exact Nat.mod_eq_of_lt (by omega)
  · rw [between_iff x hx]
    constructor
    · rintro ⟨h1, h2⟩
      refine Fin.ext (show e.val = o from ?_)
      by_contra hne
      rcases Nat.lt_or_gt_of_ne hne with hl | hl
      · have := upTo_mono x (show e.val + 1 ≤ o by omega); omega
      · have := upTo_mono x (show o + 1 ≤ e.val by omega); omega
    · rintro rfl
      exact ⟨hlo, ho⟩

end Cert.Experts

end
-- ==== Proof.Experts.Equation.lean ====
/- The kernel's result is the reference's, element by element. -/
module

public import proofs.«01_k».proof.Proof.Experts.Blocks
public import proofs.«01_k».proof.Proof.Experts.Network
public import proofs.«01_k».proof.Proof.Experts.Routing

@[expose] public section

set_option maxRecDepth 16384

noncomputable section

namespace Cert.Experts

open Cert.KernelIdeal Cert.KernelIdeal.Gen
open Idealize.ShloMosaic Idealize.ShloMosaic.TcCoe

theorem ref_tiles (x : IVec S32 32) : Ref.tiles x = tileCounts x := by
  funext j
  rfl

theorem ref_ends (x : IVec S32 32) : Ref.ends (tileCounts x) = ends x := by
  unfold Ref.ends ends
  rfl

theorem live_iff (t : Fin grid0.N) (w : BitVec 32) : k0_cond1 (grid0.coords t) w = 1#1 ↔ (BitVec.ofNat 32 t.val).slt w = true := by
  unfold k0_cond1
  simp only [Scalar.cmpi, IntOp.cmpi]
  rw [coord_val]
  rcases h : (BitVec.ofNat 32 t.val).slt w <;> simp [Scalar.extui]

section Indices

variable {F : FTy → Type} [FloatOps F] (m : (ℓ : Loc nD τ sig) → Buf (Elt F) ℓ)

theorem used_eq : used m = ends (m (((0 : Dev nD) : Thread nD τ).loc main_arg0)) (ValueIdx.ix1 31) :=
  (entry_used m 0 _).trans (congrFun (entry_ends m 0) _)

theorem owner_eq (t : Fin 217) : (tabs m 0 : S217.Idx → BitVec 32) (ValueIdx.ix1 t)
    = owners (ends (m (((0 : Dev nD) : Thread nD τ).loc main_arg0))) (ValueIdx.ix1 t) :=
  congrFun ((entry_owners m 0).trans (congrArg owners (entry_ends m 0))) _

theorem rows_index (pf : pre0.Contents (Elt F)) (w : BitVec 32) (hw : ∀ j : S1.Idx, (pf 1 : S1.Idx → BitVec 32) j = w) (i : grid0.Coords) :
    cc0_transform_0 inb_S1_S1_0 numel1_S1 pf i
      = ![(IntOp.maxsi (IntOp.minsi (BitVec.ofNat 32 (i 0).val) (IntOp.subi w 1#32)) 0#32).toNat, 0] :=
  congrArg (fun w : BitVec 32 => ![(IntOp.maxsi (IntOp.minsi (BitVec.ofNat 32 (i 0).val) (IntOp.subi w 1#32)) 0#32).toNat, 0]) (hw _)

end Indices

variable (m : (ℓ : Loc nD τ sig) → Buf (Elt Ideal) ℓ)

/-- The reference's result at the kernel's arguments. -/
abbrev answer (c : Dev nD) : S111104x1024.Idx → EReal :=
  Ref.network (Ref.rows (m ((c : Thread nD τ).loc main_arg1)))
    (Ref.gates (Ref.tiles (m ((c : Thread nD τ).loc main_arg0))) (Ref.ends (Ref.tiles (m ((c : Thread nD τ).loc main_arg0)))))
    (m ((c : Thread nD τ).loc main_arg2)) (m ((c : Thread nD τ).loc main_arg3)) (m ((c : Thread nD τ).loc main_arg4))

theorem gate_at (x : IVec S32 32) (t : Fin 217) (e : Fin 32) (h : Between x t e) :
    Ref.gates (Ref.tiles x) (Ref.ends (Ref.tiles x)) (ix2 t e) = 1 := by
  rw [ref_tiles, ref_ends]
  unfold Between at h
  rw [← ix1_eq_valueIdx] at h
  exact gate_on _ _ t e h.1 h.2

theorem gate_else (x : IVec S32 32) (t : Fin 217) (e : Fin 32) (h : ¬ Between x t e) :
    Ref.gates (Ref.tiles x) (Ref.ends (Ref.tiles x)) (ix2 t e) = 0 := by
  rw [ref_tiles, ref_ends]
  unfold Between at h
  rw [← ix1_eq_valueIdx] at h
  exact gate_off _ _ t e h

theorem step_answer (hx : ∀ j, ((m (((0 : Dev nD) : Thread nD τ).loc main_arg0) : IVec S32 32) j).toNat ≤ 66048) (t : Fin grid0.N) (tt : Fin 217) (htt : tt.val = t.val)
    (r : Fin 512) (d : Fin 1024) (i : Fin 111104) (hi : i.val = tt.val * 512 + r.val)
    (x0 : Vec Ideal S512x512 .i32) (x1 x2 : Vec Ideal S1x1024x256 .f32) (x3 : Vec Ideal S1x256x1024 .f32)
    (h0 : tt.val < upTo (m (((0 : Dev nD) : Thread nD τ).loc main_arg0)) 32 → ∀ q : Fin 512, x0 (ix2 r q) = (m (((0 : Dev nD) : Thread nD τ).loc main_arg1) : IVec S111104x512 32) (ix2 i q))
    (h1 : ∀ o : Fin 32, (owners (ends (m (((0 : Dev nD) : Thread nD τ).loc main_arg0))) (ValueIdx.ix1 tt)).toNat = o.val →
      (∀ k f, x1 (ix3 0 k f) = (m (((0 : Dev nD) : Thread nD τ).loc main_arg2) : FVec Ideal S32x1024x256 .f32) (ix3 o k f))
      ∧ (∀ k f, x2 (ix3 0 k f) = (m (((0 : Dev nD) : Thread nD τ).loc main_arg3) : FVec Ideal S32x1024x256 .f32) (ix3 o k f))
      ∧ (∀ f, x3 (ix3 0 f d) = (m (((0 : Dev nD) : Thread nD τ).loc main_arg4) : FVec Ideal S32x256x1024 .f32) (ix3 o f d))) :
    stepBlk (F := Ideal) (grid0.coords t) (used m) x0 x1 x2 x3 (ix2 r d) = answer m 0 (ix2 i d) := by
  unfold stepBlk
  by_cases hl : tt.val < upTo (m (((0 : Dev nD) : Thread nD τ).loc main_arg0)) 32
  · have hc : k0_cond1 (grid0.coords t) (used m) = 1#1 := by
      rw [live_iff, used_eq, ← htt]; exact (used_iff _ hx tt).mpr hl
    rw [if_pos hc]
    obtain ⟨o, ho, hb⟩ := owner_used _ hx tt hl
    obtain ⟨e1, e2, e3⟩ := h1 o ho
    have e0 := h0 hl
    refine (live_at x0 x1 x2 x3 r d).trans ?_
    refine Eq.trans ?_ (network_one _ _ _ _ _ tt r i hi d o (gate_at _ tt o ((hb o).mpr rfl))
      (fun e he => gate_else _ tt e (fun hbe => he ((hb e).mp hbe)))).symm
    have ei : (⟨tt.val * 512 + r.val, by omega⟩ : Fin 111104) = i := Fin.ext hi.symm
    have en : (number fun k => x0 (ix2 r k)) = fun k => Ref.rows (m (((0 : Dev nD) : Thread nD τ).loc main_arg1)) (ix3 tt r k) := by
      funext k
      rw [rows_at, ei]
      exact congrArg (fun w => number w k) (funext e0)
    rw [en]
    simp only [e1, e2, e3]
  · have hc : ¬ k0_cond1 (grid0.coords t) (used m) = 1#1 := by
      rw [live_iff, used_eq, ← htt]; exact fun h => hl ((used_iff _ hx tt).mp h)
    rw [if_neg hc, dead_at]
    exact (network_none _ _ _ _ _ tt r i hi d (fun e => gate_else _ tt e (nobody _ hx tt hl e))).symm

theorem result_answer (hx : ∀ j, ((m (((0 : Dev nD) : Thread nD τ).loc main_arg0) : IVec S32 32) j).toNat ≤ 66048) :
    (data m (inside m) 0 (0 : Dev nD)).arrAt 4 grid0.N = answer m 0 := by
  refine out_array (adm m (inside m)) (data m (inside m) 0 0) (answer m 0) (fun t y i hi hi1 => ?_)
  have hN : grid0.N = 217 := by decide
  have ht : t.val < 217 := hN ▸ t.isLt
  rw [left_out]
  have hy : y = ix2 (y 0) (y 1) := (ValueIdx.eq_ix2 y).trans (ix2_eq_valueIdx _ _).symm
  have hi' : i = ix2 (i 0) (y 1) := ((ValueIdx.eq_ix2 i).trans (ix2_eq_valueIdx _ _).symm).trans (congrArg (ix2 (i 0)) (Fin.ext hi1))
  refine (congrArg _ hy).trans (Eq.trans ?_ (congrArg (answer m 0) hi'.symm))
  have hown : ∀ o : Fin 32, (owners (ends (m (((0 : Dev nD) : Thread nD τ).loc main_arg0))) (ValueIdx.ix1 ⟨t.val, ht⟩)).toNat = o.val →
      cc0_transform_1 k0_off1_inb numel1_S1 (tabs m) (grid0.coords t) = ![o.val, 0, 0] := fun o ho => by
    have hc : (grid0.coords t 0 : Fin 217) = ⟨t.val, ht⟩ := Fin.ext (coord_val t)
    refine (owner_word (tabs m) (grid0.coords t)).trans ?_
    have e : ((tabs m 0 : S217.Idx → BitVec 32) (ValueIdx.ix1 (grid0.coords t 0))).toNat = o.val :=
      (congrArg (fun q : Fin 217 => ((tabs m 0 : S217.Idx → BitVec 32) (ValueIdx.ix1 q)).toNat) hc).trans
        ((congrArg BitVec.toNat (owner_eq m ⟨t.val, ht⟩)).trans ho)
    exact congrArg (fun n => ![n, 0, 0]) e
  refine step_answer m hx t ⟨t.val, ht⟩ rfl (y 0) (y 1) (i 0) hi _ _ _ _ (fun hl q => ?_) (fun o ho => ⟨fun k f => ?_, fun k f => ?_, fun f => ?_⟩)
  · have hidx : cc0_transform_0 inb_S1_S1_0 numel1_S1 (tabs m) (grid0.coords t) = ![t.val, 0] := by
      rw [rows_index (tabs m) (used m) (tabs_used m), coord_val, used_eq]
      have hcap : IntOp.minsi (BitVec.ofNat 32 t.val) (IntOp.subi (ends (m (((0 : Dev nD) : Thread nD τ).loc main_arg0)) (ValueIdx.ix1 31)) 1#32)
          = BitVec.ofNat 32 t.val := capped_used _ hx ⟨t.val, ht⟩ hl
      rw [hcap]
      have hm : (IntOp.maxsi (BitVec.ofNat 32 t.val) 0#32).toNat = t.val := by
        have h1 : (BitVec.ofNat 32 t.val).toInt = t.val := WordArith.toInt_ofNat_small _ (by norm_num; omega)
        have h2 : (0#32 : BitVec 32).toInt = 0 := by decide
        unfold IntOp.maxsi
        rw [BitVec.slt, h1, h2]
        split
        · rw [BitVec.toNat_ofNat]; omega
        · rename_i hz; rw [decide_eq_true_eq] at hz; simp; omega
      rw [hm]
    exact (rows_read (adm m (inside m)) (entry m 0 main_arg1) t t.val hidx (ix2 (y 0) q) (ix2 (i 0) q) hi rfl).trans
      (congrFun (entry_arg1 m 0) _)
  · exact (gate_read (adm m (inside m)) (entry m 0 main_arg2) t o.val (hown o ho) (ix3 0 k f) (ix3 o k f) rfl rfl rfl).trans
      (congrFun (entry_arg2 m 0) _)
  · exact (up_read (adm m (inside m)) (entry m 0 main_arg3) t o.val (hown o ho) (ix3 0 k f) (ix3 o k f) rfl rfl rfl).trans
      (congrFun (entry_arg3 m 0) _)
  · exact (down_read (adm m (inside m)) (entry m 0 main_arg4) t o.val (hown o ho) (ix3 0 f (y 1)) (ix3 o f (y 1)) rfl rfl rfl).trans
      (congrFun (entry_arg4 m 0) _)

end Cert.Experts

end
-- ==== Proof.Experts.Algebra.lean ====
/- From counts that are numbers of pairs, the kernel and the reference end with equal results. -/
module

public import proofs.«01_k».proof.Proof.Experts.Equation
public import proofs.«01_k».proof.Defs

@[expose] public section

set_option maxRecDepth 16384

noncomputable section

namespace Cert.Experts

open Idealize.ShloMosaic Idealize.SL.Sem Idealize.ShloMosaic.TcCoe

theorem pre_facts : Cert.Pre_counts_routed.Facts where
  bcast_S_S32 := by decide

/-- What the precondition says of each count. -/
theorem count_le (m : (ℓ : Loc Cert.KernelIdeal.nD Cert.KernelIdeal.τ Cert.KernelIdeal.sig) → Buf (Elt Ideal) ℓ)
    (h : Cert.Pre_KernelIdeal_counts_routed (hPre_counts_routed := pre_facts) m) (j : Cert.KernelIdeal.S32.Idx) :
    ((m (((0 : Dev Cert.KernelIdeal.nD) : Thread Cert.KernelIdeal.nD Cert.KernelIdeal.τ).loc Cert.KernelIdeal.main_arg0) : IVec Cert.KernelIdeal.S32 32) j).toNat ≤ 66048 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  have e := congrFun (h 0) j
  simp only [Cert.Pre_counts_routed.fn, andi, cmpi, broadcastInDim, constantI, IntOp.cmpi, both, one, Bool.and_eq_true] at e
  obtain ⟨hge, hle⟩ := e
  generalize (m (((0 : Dev Cert.KernelIdeal.nD) : Thread Cert.KernelIdeal.nD Cert.KernelIdeal.τ).loc Cert.KernelIdeal.main_arg0) : IVec Cert.KernelIdeal.S32 32) j = w at hge hle ⊢
  simp only [BitVec.sle, decide_eq_true_eq, BitVec.toInt, BitVec.toNat_ofNat] at hge hle
  omega

theorem algebraic : Cert.algebraic_KernelIdeal_ReferenceIdeal_pre_counts_routed (hKernelIdeal := Cert.KernelIdeal.Gen.facts)
    (hReferenceIdeal := Cert.ReferenceIdeal.Gen.facts) (hPre_counts_routed := pre_facts) := by
  intro m g m' g' hpre hargs
  refine ⟨fun c => answer m c, ?_, ?_⟩
  · refine (θ_run _ _ _).mono (fun r hr c => ?_) (run_main m g (inside m))
    obtain rfl : c = 0 := Subsingleton.elim _ _
    obtain ⟨h, ha⟩ := hr.1 0
    exact ⟨h.trans (result_answer m (count_le m hpre)), ha⟩
  · refine (θ_run _ _ _).mono (fun r hr c => ?_) (Cert.ReferenceIdeal.Value.run m' g')
    obtain ⟨h, ha⟩ := hr c
    obtain ⟨e0, e1, e2, e3, e4⟩ := hargs c
    refine ⟨h.trans ((Ref.result_eq m' c).trans ?_), ha⟩
    rw [e0, e1, e2, e3, e4]

end Cert.Experts

end
-- ==== Proof.Packed.Layout.lean ====
/- The experts call of the layer as the version has it, its result packed into words: what the host look-ups leave, the two
   tables, the blocks its windows stage, and the staging memrefs at each of the 217 steps. -/
module

public import proofs.«01_k».proof.Proof.Gen.Kernel2.Launch
public import proofs.«01_k».proof.Proof.Gen.Kernel2.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Packed

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

local notation "𝕄" => MT nD τ sig Unit (Elt F) ℕ (UR sig nD τ) ℕ

variable (m : (ℓ : Loc nD τ sig) → Buf (Elt F) ℓ)

/-! ## The host look-ups -/

/-- The host's stretches before the call, in order. -/
abbrev lookups : List (List (HloOp τ sig (Elt F))) := [hostOps0, hostOps0_1, hostOps0_2, hostOps0_3]

/-- What each buffer holds when the call starts. -/
abbrev entry (c : Dev nD) (b : Ref sig .tc) : Buf (Elt F) ((c : Thread nD τ).loc b) :=
  StableHlo.after (List.flatten lookups) (fun b => m (c, b)) b

theorem det0 : (hostOps0 : List (HloOp τ sig (Elt F))).Forall fun op => op.fresh = ∅ := by
  simp only [List.Forall]; repeat' constructor
theorem det1 : (hostOps0_1 : List (HloOp τ sig (Elt F))).Forall fun op => op.fresh = ∅ := by
  simp only [List.Forall]; repeat' constructor
theorem det2 : (hostOps0_2 : List (HloOp τ sig (Elt F))).Forall fun op => op.fresh = ∅ := by
  simp only [List.Forall]; repeat' constructor
theorem det3 : (hostOps0_3 : List (HloOp τ sig (Elt F))).Forall fun op => op.fresh = ∅ := by
  simp only [List.Forall]; repeat' constructor

set_option maxHeartbeats 800000 in
/-- @main is the look-ups and then the call. -/
theorem main_shape (𝒱 : Variants) : Pipeline.HMainP (Ix := Unit) (Name := ℕ) (U := UR sig nD τ) (Lvl := ℕ) pcfgs 0 defs₀ 𝒱 m
    (main (F := F)) (entry m) :=
  Pipeline.hmainP_prefixes pcfgs 0 defs₀ 𝒱 m main lookups
    (by simp only [List.Forall]; exact ⟨hostOps0_sub, hostOps0_1_sub, hostOps0_2_sub, hostOps0_3_sub⟩)
    (by simp only [List.Forall]; exact ⟨det0, det1, det2, det3⟩) main_chain

/-- No look-up writes a buffer outside `main_c … main_v18`: stated for one buffer no look-up names as its result. -/
theorem entry_of_unwritten (c : Dev nD) (b : Ref sig .tc)
    (h : (List.flatten (lookups (F := F))).Forall fun op => Proc.devRef .tc b ∉ op.writes) :
    entry m c b = m ((c : Thread nD τ).loc b) :=
  StableHlo.after_of_forall_not_mem (b := Proc.devRef .tc b) _ _ (List.forall_iff_forall_mem.mp h)

/-- The five arguments are as they were. -/
theorem entry_arg (c : Dev nD) (b : Ref sig .tc) (h : b = main_arg0 ∨ b = main_arg1 ∨ b = main_arg2 ∨ b = main_arg3 ∨ b = main_arg4) :
    entry m c b = m ((c : Thread nD τ).loc b) :=
  entry_of_unwritten m c b (by
    rcases h with rfl | rfl | rfl | rfl | rfl
    all_goals
      simp only [lookups, hostOps0, hostOps0_1, hostOps0_2, hostOps0_3, List.flatten_cons, List.flatten_nil, List.append_nil,
        List.cons_append, List.nil_append, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))

/-! ## The two look-up tables -/

/-- The tables as the call reads them: which expert each tile is for, and how many tiles are in use. -/
def tabs : pre0.Contents (Elt F) := fun j => entry m (0 : Dev nD) (pre0.ref j)

theorem entry_tabs (c : Dev nD) (j : Fin 2) : entry m c (pre0.ref j) = tabs m j := by
  obtain rfl : c = 0 := Subsingleton.elim _ _; rfl

/-- Every block the tables name lies inside its array. -/
abbrev Inside : Prop := ok0 (F := F) (tabs m)

abbrev adm (h : Inside m) : (pcfg0 (F := F)).Adm := ⟨tabs m, h⟩
abbrev cfgT (h : Inside m) : Pipeline.Cfg sig Λ₀ := cfg0 (adm m h)

abbrev ownerM : Memref sig .tc .smem S217 .i32 := Memref.whole main_v18
abbrev ownerM_whole : ownerM.IsWhole := Memref.isWhole_whole _
abbrev usedM : Memref sig .tc .smem S1 .i32 := Memref.whole main_v6
abbrev usedM_whole : usedM.IsWhole := Memref.isWhole_whole _

abbrev TabBuf (c : Dev nD) {S : Shape} {e : EltTy} (M : Memref sig .tc .smem S e) : Type := Buf (Elt F) (M.view.loc (c : Thread nD τ))
/-- The half of a table the body is lent. -/
abbrev tabHeld (c : Dev nD) {S : Shape} {e : EltTy} (M : Memref sig .tc .smem S e) (f : TabBuf (F := F) c M) : sProp 𝕄 :=
  M.view.loc (c : Thread nD τ) ↦{fullShare.right} f

theorem lent_eq (c : Dev nD) : (Pipeline.ΦT pre0 (tabs m) c : sProp 𝕄)
    = iprop(tabHeld c ownerM (tabs m 0) ∗ tabHeld c usedM (tabs m 1)) := by
  unfold Pipeline.ΦT Pipeline.prefHeld
  rw [show (Finset.univ : Finset (Fin 2)) = insert (0 : Fin 2) {(1 : Fin 2)} from by decide,
    bigSep_insert (by decide), bigSep_singleton]
  rfl

/-! ## Blocks -/

/-- Window `w`'s block at step `t`, read off its array. -/
def blk (h : Inside m) (c : Dev nD) (w : Fin (cfgT m h).W) (t : Fin (cfgT m h).N) :
    (((cfgT m h).win w).xblock ((cfgT m h).grid.coords t)).Idx → Elt F ((cfgT m h).win w).elt :=
  (((cfgT m h).win w).blk t).view.read (Elt F) (entry m c (Pipeline.arrRef spec0 w))

/-- A window's block is in place at every step, whether the step fetched it or an earlier one did. -/
theorem rows_in_place (h : Inside m) {c : Dev nD} (dat : Dat τ (Elt F) Unit ℕ (UR sig nD τ) ℕ (cfgT m h) c)
    (hA : dat.A 0 = entry m c (Pipeline.arrRef spec0 0)) (hafter : ∀ t, dat.after 0 t = blk m h c 0 t)
    (t : Fin (cfgT m h).N) (d) : dat.before 0 t d = blk m h c 0 t :=
  (dat.before_in_eq_fetched 0 rfl (fun _ => rfl) (fun _ _ _ => rfl)
    (fun t => by rw [hafter]; unfold Dat.blockOf blk; rw [hA]; try rfl) t d).trans
    (by unfold Dat.fetched Dat.blockOf blk; rw [hA]; try rfl)
theorem gate_in_place (h : Inside m) {c : Dev nD} (dat : Dat τ (Elt F) Unit ℕ (UR sig nD τ) ℕ (cfgT m h) c)
    (hA : dat.A 1 = entry m c (Pipeline.arrRef spec0 1)) (hafter : ∀ t, dat.after 1 t = blk m h c 1 t)
    (t : Fin (cfgT m h).N) (d) : dat.before 1 t d = blk m h c 1 t :=
  (dat.before_in_eq_fetched 1 rfl (fun _ => rfl) (fun _ _ _ => rfl)
    (fun t => by rw [hafter]; unfold Dat.blockOf blk; rw [hA]; try rfl) t d).trans
    (by unfold Dat.fetched Dat.blockOf blk; rw [hA]; try rfl)
theorem up_in_place (h : Inside m) {c : Dev nD} (dat : Dat τ (Elt F) Unit ℕ (UR sig nD τ) ℕ (cfgT m h) c)
    (hA : dat.A 2 = entry m c (Pipeline.arrRef spec0 2)) (hafter : ∀ t, dat.after 2 t = blk m h c 2 t)
    (t : Fin (cfgT m h).N) (d) : dat.before 2 t d = blk m h c 2 t :=
  (dat.before_in_eq_fetched 2 rfl (fun _ => rfl) (fun _ _ _ => rfl)
    (fun t => by rw [hafter]; unfold Dat.blockOf blk; rw [hA]; try rfl) t d).trans
    (by unfold Dat.fetched Dat.blockOf blk; rw [hA]; try rfl)
theorem down_in_place (h : Inside m) {c : Dev nD} (dat : Dat τ (Elt F) Unit ℕ (UR sig nD τ) ℕ (cfgT m h) c)
    (hA : dat.A 3 = entry m c (Pipeline.arrRef spec0 3)) (hafter : ∀ t, dat.after 3 t = blk m h c 3 t)
    (t : Fin (cfgT m h).N) (d) : dat.before 3 t d = blk m h c 3 t :=
  (dat.before_in_eq_fetched 3 rfl (fun _ => rfl) (fun _ _ _ => rfl)
    (fun t => by rw [hafter]; unfold Dat.blockOf blk; rw [hA]; try rfl) t d).trans
    (by unfold Dat.fetched Dat.blockOf blk; rw [hA]; try rfl)

/-! ## The staging memrefs at a step -/

abbrev stRows (h : Inside m) (t : Fin (cfgT m h).N) : Memref sig .tc .vmem S512x512 .i32 := spec0_0.stage ((cfgT m h).slots t 0)
abbrev stGate (h : Inside m) (t : Fin (cfgT m h).N) : Memref sig .tc .vmem S1x1024x256 .f32 := spec0_1.stage ((cfgT m h).slots t 1)
abbrev stUp (h : Inside m) (t : Fin (cfgT m h).N) : Memref sig .tc .vmem S1x1024x256 .f32 := spec0_2.stage ((cfgT m h).slots t 2)
abbrev stDown (h : Inside m) (t : Fin (cfgT m h).N) : Memref sig .tc .vmem S1x256x1024 .f32 := spec0_3.stage ((cfgT m h).slots t 3)
abbrev stOut (h : Inside m) (t : Fin (cfgT m h).N) : Memref sig .tc .vmem S512x512 .i32 := spec0_4.stage ((cfgT m h).slots t 4)

/-- The body at step `t`, on the memrefs the pipeline hands it. -/
abbrev bodyAt (h : Inside m) (t : Fin (cfgT m h).N) : Prog (TpuEff nD τ sig (Elt F) Λ₀ .tc) PUnit :=
  cc0_moe_experts (grid0.coords t) ownerM ownerM_whole usedM usedM_whole
    (stRows m h t) (hstage0_0 (((cfgT m h).slots t 0).cast nbuf0_0)) (stGate m h t) (hstage0_1 (((cfgT m h).slots t 1).cast nbuf0_1))
    (stUp m h t) (hstage0_2 (((cfgT m h).slots t 2).cast nbuf0_2)) (stDown m h t) (hstage0_3 (((cfgT m h).slots t 3).cast nbuf0_3))
    (stOut m h t) (hstage0_4 (((cfgT m h).slots t 4).cast nbuf0_4))

end Cert.Packed

end
-- ==== Proof.Packed.Body.lean ====
/- One step of the packed call: on a tile in use the body stores two halves of packed words, otherwise zeros. -/
module

public import proofs.«01_k».proof.Proof.Packed.Layout
public import Idealize.ShloMosaic.Lib.WritesUnit
public import Idealize.ShloMosaic.Lib.VecWindow
public import Idealize.ShloMosaic.Lib.ValueIdx

@[expose] public section

set_option maxRecDepth 16384

noncomputable section

namespace Cert.Packed

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [BitOps F]

local notation "𝕄" => MT nD τ sig Unit (Elt F) ℕ (UR sig nD τ) ℕ

/-- The two branch conditions are opposite: below the count of tiles in use, and not below it. -/
theorem cond2_iff (i : grid0.Coords) (v : BitVec 32) : k0_cond2 i v = 1#1 ↔ ¬ k0_cond1 i v = 1#1 := by
  unfold k0_cond1 k0_cond2
  simp only [Scalar.cmpi, Scalar.extui, IntOp.cmpi]
  generalize BitVec.ofNat 32 (i 0).val = a
  rcases h : a.slt v <;> simp [BitVec.sle_eq_not_slt, h]

/-- The first 256 rows of a tile's packed words, and the other 256. -/
def rowsLo (x0 : Vec F S512x512 .i32) : Vec F S256x512 .i32 := fun j =>
  x0 ((Rect.unit (s := S512x512) ![0, 0] S256x512.size inb_S512x512_S256x512_0_0).emb j)
def rowsHi (x0 : Vec F S512x512 .i32) : Vec F S256x512 .i32 := fun j =>
  x0 ((Rect.unit (s := S512x512) ![256, 0] S256x512.size inb_S512x512_S256x512_256_0).emb j)

/-- What the body leaves of a tile in use: the first 256 rows from the first 256 rows of words, the rest from the rest. -/
def liveBlk (x0 : Vec F S512x512 .i32) (x1 x2 : Vec F S1x1024x256 .f32) (x3 : Vec F S1x256x1024 .f32) : Vec F S512x512 .i32 := fun y =>
  if h : (y 0).val < 256 then k0_pay6 x1 x2 x3 (rowsLo x0) (ix2 ⟨(y 0).val, h⟩ (y 1))
  else k0_pay1 (k0_pay3 x1) (k0_pay4 x2) (k0_pay5 x3) (rowsHi x0)
    (ix2 ⟨(y 0).val - 256, by have : (y 0).val < 512 := (y 0).isLt; omega⟩ (y 1))

/-- What the body leaves at point `i` when `word` tiles are in use. -/
def stepBlk (i : grid0.Coords) (word : BitVec 32) (x0 : Vec F S512x512 .i32) (x1 x2 : Vec F S1x1024x256 .f32) (x3 : Vec F S1x256x1024 .f32) :
    Vec F S512x512 .i32 :=
  if k0_cond1 i word = 1#1 then liveBlk x0 x1 x2 x3 else k0_pay2

/-- Two stores of half a tile read back as the whole. -/
theorem read_halves (v : View sig .tc .vmem S512x512 .i32) (f : v.ty.Contents (Elt F)) (x0 : Vec F S512x512 .i32)
    (x1 x2 : Vec F S1x1024x256 .f32) (x3 : Vec F S1x256x1024 .f32) :
    v.read (Elt F) (v.writes (Elt F) f
        [⟨Rect.unit (s := S512x512) ![256, 0] S256x512.size inb_S512x512_S256x512_256_0,
          k0_pay1 (k0_pay3 x1) (k0_pay4 x2) (k0_pay5 x3) (rowsHi x0)⟩,
        ⟨Rect.unit (s := S512x512) ![0, 0] S256x512.size inb_S512x512_S256x512_0_0, k0_pay6 x1 x2 x3 (rowsLo x0)⟩])
      = liveBlk x0 x1 x2 x3 := by
  funext y
  have hy : (y 0).val < 512 := (y 0).isLt
  unfold liveBlk
  split
  · rename_i h
    rw [View.read_writes_cons_rows_of_not_mem v f _ _ _ y (o := 256) (W := 256) rfl rfl (.inl h)]
    exact View.read_writes_cons_rows_of_mem v f _ _ _ y _ (o := 0) rfl (by show _ = 0 + (y 0).val; omega) rfl
  · rename_i h
    exact View.read_writes_cons_rows_of_mem v f _ _ _ y _ (o := 256) rfl (by show _ = 256 + ((y 0).val - 256); omega) rfl

-- (the run's proof term is large)
set_option maxHeartbeats 1000000 in
/-- One step of the body, the number of tiles in use being `word`. -/
theorem body_step (c : Dev nD) (i : grid0.Coords) (arg3 : Memref sig .tc .vmem S512x512 .i32) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S512x512 .i32) (harg7 : arg7.IsWhole)
    (x0 : Vec F S512x512 .i32) (x1 : Vec F S1x1024x256 .f32) (x2 : Vec F S1x1024x256 .f32) (x3 : Vec F S1x256x1024 .f32)
    (xt0 : TabBuf (F := F) c ownerM) (xt1 : TabBuf (F := F) c usedM) (word : BitVec 32) (hw : ∀ j, xt1 j = word) :
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d) ∗ tabHeld c ownerM xt0 ∗ tabHeld c usedM xt1
            ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare (stepBlk i word x0 x1 x2 x3)
              ∗ tabHeld c ownerM xt0 ∗ tabHeld c usedM xt1) -∗ K ⟨⟩))
          ⊢ wp frame (wpE (defs₀ (F := F)) Variants.none c none) E
              (cc0_moe_experts i ownerM ownerM_whole usedM usedM_whole arg3 harg3 arg4 harg4 arg5 harg5 arg6 harg6 arg7 harg7) K := by
  intro E K
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr
    · ipureintro; exact harg3.read_unread _
    · iexact H0
  isplitl [H1]
  · iexists _; isplitr
    · ipureintro; exact harg4.read_unread _
    · iexact H1
  isplitl [H2]
  · iexists _; isplitr
    · ipureintro; exact harg5.read_unread _
    · iexact H2
  isplitl [H3]
  · iexists _; isplitr
    · ipureintro; exact harg6.read_unread _
    · iexact H3
  isplitl [H4]
  · iexists _; isplitr
    rotate_left
    · iexact H4
    ipureintro
    have hr : body_step.sl.r c xt1 = word := hw _
    have e4 : View.readAt (Elt F) arg4.view (Rect.unit (s := S1x1024x256) ![0, 0, 0] S1x1024x256.size inb_S1x1024x256_S1x1024x256_0_0_0).toLoadRect (harg4.unread x1) = x1 := by
      rw [View.readAt_full, hf1]
    have e5 : View.readAt (Elt F) arg5.view (Rect.unit (s := S1x1024x256) ![0, 0, 0] S1x1024x256.size inb_S1x1024x256_S1x1024x256_0_0_0).toLoadRect (harg5.unread x2) = x2 := by
      rw [View.readAt_full, hf2]
    have e6 : View.readAt (Elt F) arg6.view (Rect.unit (s := S1x256x1024) ![0, 0, 0] S1x256x1024.size inb_S1x256x1024_S1x256x1024_0_0_0).toLoadRect (harg6.unread x3) = x3 := by
      rw [View.readAt_full, hf3]
    have e3l : View.readAt (Elt F) arg3.view (Rect.unit (s := S512x512) ![0, 0] S256x512.size inb_S512x512_S256x512_0_0).toLoadRect (harg3.unread x0) = rowsLo x0 := by
      rw [View.readAt_eq_ld, hf0]; rfl
    have e3h : View.readAt (Elt F) arg3.view (Rect.unit (s := S512x512) ![256, 0] S256x512.size inb_S512x512_S256x512_256_0).toLoadRect (harg3.unread x0) = rowsHi x0 := by
      rw [View.readAt_eq_ld, hf0]; rfl
    have p1 : body_step.sl.r_1 c arg4 harg4 x1 = k0_pay3 x1 := by unfold body_step.sl.r_1; rw [e4]
    have p2 : body_step.sl.r_2 c arg5 harg5 x2 = k0_pay4 x2 := by unfold body_step.sl.r_2; rw [e5]
    have p3 : body_step.sl.r_3 c arg6 harg6 x3 = k0_pay5 x3 := by unfold body_step.sl.r_3; rw [e6]
    have p4 : body_step.sl.r_4 c arg3 harg3 arg4 harg4 arg5 harg5 arg6 harg6 x0 x1 x2 x3 = k0_pay6 x1 x2 x3 (rowsLo x0) := by
      unfold body_step.sl.r_4; rw [e4, e5, e6, e3l]
    rw [hr, p1, p2, p3, p4]
    unfold stepBlk
    by_cases hl : k0_cond1 i word = 1#1
    · have hd : ¬ k0_cond2 i word = 1#1 := fun h => (cond2_iff i _).mp h hl
      rw [dif_neg hd, dif_pos hl, if_pos hl]
      exact (congrArg (fun w => View.read (Elt F) arg7.view (View.writes arg7.view (Elt F) f4
        [⟨Rect.unit (s := S512x512) ![256, 0] S256x512.size inb_S512x512_S256x512_256_0, k0_pay1 (k0_pay3 x1) (k0_pay4 x2) (k0_pay5 x3) w⟩,
         ⟨Rect.unit (s := S512x512) ![0, 0] S256x512.size inb_S512x512_S256x512_0_0, k0_pay6 x1 x2 x3 (rowsLo x0)⟩])) e3h).trans
        (read_halves arg7.view f4 x0 x1 x2 x3)
    · have hd : k0_cond2 i word = 1#1 := (cond2_iff i _).mpr hl
      rw [dif_pos hd, if_neg hl]
      exact View.read_writes_full _ _ _ _ _
  isplitl [HT0]
  · iexact HT0
  iexact HT1

end Cert.Packed

end
-- ==== Proof.Packed.Frame.lean ====
/- The packed call's frame: its look-ups are those of the experts' program, so every block the tables name lies inside. -/
module

public import proofs.«01_k».proof.Proof.Packed.Run
public import proofs.«01_k».proof.Proof.Experts.Owners
public import proofs.«01_k».proof.Defs
public import Idealize.ShloMosaic.Lib.StableHlo.RunRead

@[expose] public section

set_option maxRecDepth 16384

noncomputable section

namespace Cert.Packed

open Cert.Kernel2 Cert.Kernel2.Gen
open Idealize.ShloMosaic Idealize.ShloMosaic.TcCoe Idealize.ShloMosaic.Tactic Idealize.SL.Sem
open Idealize.ShloMosaic.ValueIdx
open Cert.Experts (ends owners capped owners_lt clamp_le)

variable {F : FTy → Type} [BitOps F]

variable (m : (ℓ : Loc nD τ sig) → Buf (Elt F) ℓ) (ρ : Dev nD → PrngReg)

set_option maxHeartbeats 1000000 in
/-- The look-ups leave the ends of the experts' tiles, as in the other program. -/
theorem entry_ends (c : Dev nD) : (entry m c main_v5 : IVec S32 32) = ends (m ((c : Thread nD τ).loc main_arg0)) := by
  unfold entry lookups
  simp only [List.flatten_cons, List.flatten_nil, List.append_nil, hostOps0, hostOps0_1, hostOps0_2, hostOps0_3, List.cons_append, List.nil_append]
  after_reads_simp
  simp -implicitDefEqProofs only [StableHlo.TRef.toBuf, StableHlo.TRef.ofBuf, cast_cast, cast_eq]
  rfl

set_option maxHeartbeats 1000000 in
/-- The first table holds each tile's owner, as in the other program. -/
theorem entry_owners (c : Dev nD) : (entry m c main_v18 : IVec S217 32) = owners (entry m c main_v5 : IVec S32 32) := by
  unfold entry lookups
  simp only [List.flatten_cons, List.flatten_nil, List.append_nil, hostOps0, hostOps0_1, hostOps0_2, hostOps0_3, List.cons_append, List.nil_append]
  after_reads_simp
  simp -implicitDefEqProofs only [StableHlo.TRef.toBuf, StableHlo.TRef.ofBuf, cast_cast, cast_eq]
  generalize Host.reduceWindow IntOp.addi _ _ _ _ _ _ _ _ = E
  unfold owners
  refine congrArg (fun v : IVec S217x32 1 => Host.reduce IntOp.addi (extui 32 v natLt_1_32) (constantI S_ 32 0#32) reducesTo_S217x32_S217_d1 h_S_) ?_
  funext j
  show IntOp.cmpi .sle (E _) (IntOp.minsi _ (IntOp.subi (E _) 1#32)) = IntOp.cmpi .sle (E _) (IntOp.minsi _ (IntOp.subi (E _) 1#32))
  congr 1
  · congr 1
    funext a
    match a with
    | ⟨0, _⟩ => rfl
  · congr 2
    · funext a
      match a with
      | ⟨0, _⟩ => rfl
    · refine congrArg E (funext fun a => ?_)
      match a with
      | ⟨0, _⟩ =>
        refine Fin.ext ?_
        have h1 : ∀ z : S1.Idx, (z 0).val = 0 := fun z => Nat.lt_one_iff.mp (z 0).isLt
        show 31 + _ = 31
        exact congrArg (31 + ·) (h1 _)

/-- A step's rows are at most as far on as the step. -/
theorem rows_block (pf : pre0.Contents (Elt F)) (i : grid0.Coords) :
    ∃ w : BitVec 32, cc0_transform_0 inb_S1_S1_0 numel1_S1 pf i = ![(IntOp.maxsi (IntOp.minsi (BitVec.ofNat 32 (i 0).val) (IntOp.subi w 1#32)) 0#32).toNat, 0] := by
  exact ⟨_, rfl⟩

/-- A step's expert is the word at its place in the table. -/
theorem owner_word (pf : pre0.Contents (Elt F)) (i : grid0.Coords) :
    cc0_transform_1 k0_off1_inb numel1_S1 pf i = ![((pf 0 : S217.Idx → BitVec 32) (ix1 (i 0))).toNat, 0, 0] := by
  have hi : (i 0).val < 217 := (i 0).isLt
  funext a
  match a with
  | ⟨0, _⟩ =>
    show ((pf 0 : S217.Idx → BitVec 32) _).toNat = ((pf 0 : S217.Idx → BitVec 32) (ix1 (i 0))).toNat
    refine congrArg (fun j : S217.Idx => ((pf 0 : S217.Idx → BitVec 32) j).toNat) (funext fun a => ?_)
    match a with
    | ⟨0, _⟩ =>
      refine Fin.ext ?_
      show (BitVec.ofNat 32 (i 0).val).toNat + 1 * _ = (i 0).val
      have h1 : ∀ z : S1.Idx, (z 0).val = 0 := fun z => Nat.lt_one_iff.mp (z 0).isLt
      refine (congrArg (fun n => (BitVec.ofNat 32 (i 0).val).toNat + 1 * n) (h1 _)).trans ?_
      rw [BitVec.toNat_ofNat]; omega
  | ⟨1, _⟩ => rfl
  | ⟨2, _⟩ => rfl

theorem inside : Inside m := by
  have hown : ∀ t : Fin 217, ((tabs m 0 : S217.Idx → BitVec 32) (ix1 t)).toNat < 32 := fun t => by
    rw [show (tabs m 0 : S217.Idx → BitVec 32) = _ from (entry_owners m 0).trans (congrArg owners (entry_ends m 0))]; exact owners_lt _ t
  refine ⟨fun i => ?_, fun i => ?_, fun i => ?_, fun i => ?_⟩
  · have hi : (i 0).val < 217 := (i 0).isLt
    obtain ⟨w, hw⟩ := rows_block (tabs m) i
    refine ⟨fun a => ?_, .inl rfl⟩
    rw [hw]
    match a with
    | ⟨0, _⟩ =>
      have := clamp_le (i 0).val hi (IntOp.subi w 1#32)
      show ((IntOp.maxsi (IntOp.minsi (BitVec.ofNat 32 (i 0).val) (IntOp.subi w 1#32)) 0#32).toNat + 1) * 512 ≤ 111104
      omega
    | ⟨1, _⟩ => exact le_refl 512
  all_goals
    have h := hown (i 0)
    refine ⟨fun a => ?_, .inl rfl⟩
    have e := owner_word (tabs m) i
    first
      | rw [e]
      | rw [show cc0_transform_2 k0_off1_inb numel1_S1 (tabs m) i = _ from e]
      | rw [show cc0_transform_3 k0_off1_inb numel1_S1 (tabs m) i = _ from e]
    match a with
    | ⟨0, _⟩ =>
      show (((tabs m 0 : S217.Idx → BitVec 32) (ix1 (i 0))).toNat + 1) * 1 ≤ 32
      omega
    | ⟨1, _⟩ => exact le_refl _
    | ⟨2, _⟩ => exact le_refl _

end Cert.Packed

namespace Cert.Packed

open Idealize.ShloMosaic Idealize.SL.Sem

theorem frame_kernel : Cert.quiescent_Kernel2 (hKernel2 := Cert.Kernel2.Gen.facts) := fun m ρ _ =>
  (θ_run Cert.Kernel2.defs _ _).mono (fun _ h => ⟨fun c => (h.1 c).2, h.2⟩) (run_main (F := Bits) m ρ (inside m))

end Cert.Packed

end
-- ==== Proof.Prompt.Blocks.lean ====
/- Where each block of the prompt's projection lies in its array, and each result from the blocks left. -/
module

public import proofs.«01_k».proof.Proof.Gen.Kernel3Ideal.Value
public import Idealize.ShloMosaic.Lib.Pipeline.ValueKit.Geometry
public import Idealize.ShloMosaic.Lib.Pipeline.Covers
public import Idealize.ShloMosaic.Lib.Pointwise

@[expose] public section

set_option maxRecDepth 16384

noncomputable section

namespace Cert.Prompt

open Cert.Kernel3Ideal Cert.Kernel3Ideal.Gen
open Idealize.ShloMosaic Idealize.ShloMosaic.TcCoe Idealize.ShloMosaic.Tactic
open Idealize.SL Idealize.SL.RA
open Idealize.ShloMosaic.Pipeline (Dat Cfg Window)

variable {F : FTy → Type} [FloatOps F]

/-- Step `t` takes the `t`-th block of rows, -/
theorem tile (t : Fin cfg0.N) : cc0_transform_0 (grid0.coords t) = ![t.val, 0] :=
  (by decide +kernel : ∀ t : Fin grid0.N, cc0_transform_0 (grid0.coords t) = ![t.val, 0]) t

theorem tile_row (t : Fin cfg0.N) (r : ℕ) : cc0_transform_0 (grid0.coords t) 0 * 1024 + 1 * r = t.val * 1024 + r := by
  rw [tile]; exact (by omega : t.val * 1024 + 1 * r = t.val * 1024 + r)

/-- whole in every other direction. -/
theorem whole (n r : ℕ) : 0 * n + 1 * r = r := by omega

/-! ## The blocks read -/

theorem read0 (V : S32768x1024.Idx → F .f32) (t : Fin cfg0.N) (y : S1024x1024.Idx) (i : S32768x1024.Idx)
    (h0 : (i 0).val = t.val * 1024 + (y 0).val) (h1 : (i 1).val = (y 1).val) : ((cfg0.win 0).blk t).view.read (Elt F) V y = V i := by
  show V (((cfg0.win 0).blk t).view.emb y) = V i
  refine congrArg V (funext fun b => Fin.ext ?_)
  match b with
  | ⟨0, _⟩ => exact (tile_row t (y 0).val).trans h0.symm
  | ⟨1, _⟩ => exact (whole 1024 (y 1).val).trans h1.symm

theorem read1 (V : S1x1024.Idx → F .f32) (t : Fin cfg0.N) : ((cfg0.win 1).blk t).view.read (Elt F) V = V :=
  funext fun y => congrArg V (funext fun b => Fin.ext (match b with
    | ⟨0, _⟩ => whole 1 (y 0).val
    | ⟨1, _⟩ => whole 1024 (y 1).val))

theorem read2 (V : S1024x3584.Idx → F .bf16) (t : Fin cfg0.N) : ((cfg0.win 2).blk t).view.read (Elt F) V = V :=
  funext fun y => congrArg V (funext fun b => Fin.ext (match b with
    | ⟨0, _⟩ => whole 1024 (y 0).val
    | ⟨1, _⟩ => whole 3584 (y 1).val))

theorem read3 (V : S1x512.Idx → F .f32) (t : Fin cfg0.N) : ((cfg0.win 3).blk t).view.read (Elt F) V = V :=
  funext fun y => congrArg V (funext fun b => Fin.ext (match b with
    | ⟨0, _⟩ => whole 1 (y 0).val
    | ⟨1, _⟩ => whole 512 (y 1).val))

theorem read4 (V : S1x512.Idx → F .f32) (t : Fin cfg0.N) : ((cfg0.win 4).blk t).view.read (Elt F) V = V :=
  funext fun y => congrArg V (funext fun b => Fin.ext (match b with
    | ⟨0, _⟩ => whole 1 (y 0).val
    | ⟨1, _⟩ => whole 512 (y 1).val))

/-! ## The results from the blocks left -/

theorem array5 {c : Dev nD} (dat : Dat τ (Elt F) Unit ℕ (UR sig nD τ) ℕ cfg0 c) (G : S32768x512.Idx → F .bf16)
    (hG : ∀ (t : Fin cfg0.N) (y : S1024x512.Idx) (i : S32768x512.Idx), (i 0).val = t.val * 1024 + (y 0).val → (i 1).val = (y 1).val →
      (dat.after 5 t : S1024x512.Idx → F .bf16) y = G i) : dat.arrAt 5 cfg0.N = G :=
  dat.arrAt_eq_of_covers 5 G (by decide +kernel) fun t _ y => hG t y _ (tile_row t _) (whole 512 _)

theorem array6 {c : Dev nD} (dat : Dat τ (Elt F) Unit ℕ (UR sig nD τ) ℕ cfg0 c) (G : S32768x512.Idx → F .bf16)
    (hG : ∀ (t : Fin cfg0.N) (y : S1024x512.Idx) (i : S32768x512.Idx), (i 0).val = t.val * 1024 + (y 0).val → (i 1).val = (y 1).val →
      (dat.after 6 t : S1024x512.Idx → F .bf16) y = G i) : dat.arrAt 6 cfg0.N = G :=
  dat.arrAt_eq_of_covers 6 G (by decide +kernel) fun t _ y => hG t y _ (tile_row t _) (whole 512 _)

theorem array7 {c : Dev nD} (dat : Dat τ (Elt F) Unit ℕ (UR sig nD τ) ℕ cfg0 c) (G : S32768x512.Idx → F .bf16)
    (hG : ∀ (t : Fin cfg0.N) (y : S1024x512.Idx) (i : S32768x512.Idx), (i 0).val = t.val * 1024 + (y 0).val → (i 1).val = (y 1).val →
      (dat.after 7 t : S1024x512.Idx → F .bf16) y = G i) : dat.arrAt 7 cfg0.N = G :=
  dat.arrAt_eq_of_covers 7 G (by decide +kernel) fun t _ y => hG t y _ (tile_row t _) (whole 512 _)

theorem array8 {c : Dev nD} (dat : Dat τ (Elt F) Unit ℕ (UR sig nD τ) ℕ cfg0 c) (G : S32768x512.Idx → F .bf16)
    (hG : ∀ (t : Fin cfg0.N) (y : S1024x512.Idx) (i : S32768x512.Idx), (i 0).val = t.val * 1024 + (y 0).val → (i 1).val = (y 1).val →
      (dat.after 8 t : S1024x512.Idx → F .bf16) y = G i) : dat.arrAt 8 cfg0.N = G :=
  dat.arrAt_eq_of_covers 8 G (by decide +kernel) fun t _ y => hG t y _ (tile_row t _) (whole 512 _)

theorem array9 {c : Dev nD} (dat : Dat τ (Elt F) Unit ℕ (UR sig nD τ) ℕ cfg0 c) (G : S32768x512.Idx → F .bf16)
    (hG : ∀ (t : Fin cfg0.N) (y : S1024x512.Idx) (i : S32768x512.Idx), (i 0).val = t.val * 1024 + (y 0).val → (i 1).val = (y 1).val →
      (dat.after 9 t : S1024x512.Idx → F .bf16) y = G i) : dat.arrAt 9 cfg0.N = G :=
  dat.arrAt_eq_of_covers 9 G (by decide +kernel) fun t _ y => hG t y _ (tile_row t _) (whole 512 _)

theorem array10 {c : Dev nD} (dat : Dat τ (Elt F) Unit ℕ (UR sig nD τ) ℕ cfg0 c) (G : S32768x512.Idx → F .bf16)
    (hG : ∀ (t : Fin cfg0.N) (y : S1024x512.Idx) (i : S32768x512.Idx), (i 0).val = t.val * 1024 + (y 0).val → (i 1).val = (y 1).val →
      (dat.after 10 t : S1024x512.Idx → F .bf16) y = G i) : dat.arrAt 10 cfg0.N = G :=
  dat.arrAt_eq_of_covers 10 G (by decide +kernel) fun t _ y => hG t y _ (tile_row t _) (whole 512 _)

theorem array11 {c : Dev nD} (dat : Dat τ (Elt F) Unit ℕ (UR sig nD τ) ℕ cfg0 c) (G : S32768x512.Idx → F .bf16)
    (hG : ∀ (t : Fin cfg0.N) (y : S1024x512.Idx) (i : S32768x512.Idx), (i 0).val = t.val * 1024 + (y 0).val → (i 1).val = (y 1).val →
      (dat.after 11 t : S1024x512.Idx → F .bf16) y = G i) : dat.arrAt 11 cfg0.N = G :=
  dat.arrAt_eq_of_covers 11 G (by decide +kernel) fun t _ y => hG t y _ (tile_row t _) (whole 512 _)

/-- A transposed result takes half of a sequence's columns at each step. -/
theorem half (t : Fin cfg0.N) : cc0_transform_12 (grid0.coords t) = ![t.val / 2, 0, t.val % 2] :=
  (by decide +kernel : ∀ t : Fin grid0.N, cc0_transform_12 (grid0.coords t) = ![t.val / 2, 0, t.val % 2]) t

theorem half_first (t : Fin cfg0.N) (r : ℕ) : cc0_transform_12 (grid0.coords t) 0 * 1 + 1 * r = t.val / 2 + r := by
  rw [half]; exact (by omega : t.val / 2 * 1 + 1 * r = t.val / 2 + r)
theorem half_whole (t : Fin cfg0.N) (r : ℕ) : cc0_transform_12 (grid0.coords t) 1 * 512 + 1 * r = r := by
  rw [half]; exact (by omega : 0 * 512 + 1 * r = r)
theorem half_last (t : Fin cfg0.N) (r : ℕ) : cc0_transform_12 (grid0.coords t) 2 * 1024 + 1 * r = t.val % 2 * 1024 + r := by
  rw [half]; exact (by omega : t.val % 2 * 1024 + 1 * r = t.val % 2 * 1024 + r)

theorem array12 {c : Dev nD} (dat : Dat τ (Elt F) Unit ℕ (UR sig nD τ) ℕ cfg0 c) (G : S16x512x2048.Idx → F .f32)
    (hG : ∀ (t : Fin cfg0.N) (y : S1x512x1024.Idx) (i : S16x512x2048.Idx), (i 0).val = t.val / 2 + (y 0).val → (i 1).val = (y 1).val →
      (i 2).val = t.val % 2 * 1024 + (y 2).val → (dat.after 12 t : S1x512x1024.Idx → F .f32) y = G i) : dat.arrAt 12 cfg0.N = G :=
  dat.arrAt_eq_of_covers 12 G (by decide +kernel) fun t _ y => hG t y _ (half_first t _) (half_whole t _) (half_last t _)

theorem array13 {c : Dev nD} (dat : Dat τ (Elt F) Unit ℕ (UR sig nD τ) ℕ cfg0 c) (G : S16x512x2048.Idx → F .f32)
    (hG : ∀ (t : Fin cfg0.N) (y : S1x512x1024.Idx) (i : S16x512x2048.Idx), (i 0).val = t.val / 2 + (y 0).val → (i 1).val = (y 1).val →
      (i 2).val = t.val % 2 * 1024 + (y 2).val → (dat.after 13 t : S1x512x1024.Idx → F .f32) y = G i) : dat.arrAt 13 cfg0.N = G :=
  dat.arrAt_eq_of_covers 13 G (by decide +kernel) fun t _ y => hG t y _ (half_first t _) (half_whole t _) (half_last t _)

end Cert.Prompt

end
-- ==== Proof.Layer.Norm.lean ====
/- The layer's normalization of a row, as extended reals: each number by the reciprocal root of the row's mean square, by its gain. -/
module

public import Idealize.ShloMosaic.PureOps.Ideal
public import Idealize.ShloMosaic.Lib.Pointwise

@[expose] public section

noncomputable section

namespace Cert.Layer

open Idealize.ShloMosaic

/-- The reciprocal root of a row's mean square, of `d` numbers. -/
def scale {n : ℕ} (d : EReal) (x : Fin n → EReal) : EReal :=
  Ideal.rsqrt (Ideal.div (∑ k, x k * x k) d + Ideal.ofBits .f32 0x358637BD#32)

/-- A row normalized and scaled by its gains. -/
def norm {n : ℕ} (d : EReal) (x g : Fin n → EReal) (j : Fin n) : EReal := x j * scale d x * g j

/-- A row's products with a matrix's columns. -/
def mul {n k : ℕ} (x : Fin n → EReal) (w : Fin n → Fin k → EReal) (j : Fin k) : EReal := ∑ q, x q * w q j

end Cert.Layer

end
-- ==== Proof.Layer.Heads.lean ====
/- The normalization of a row's heads of 64 numbers: two heads lie side by side in 128 lanes, and the sum over one head is a sum over
   all lanes with the other head's masked. -/
module

public import proofs.«01_k».proof.Proof.Layer.Norm
public import Idealize.ShloMosaic.Lib.IdealHost

@[expose] public section

noncomputable section

namespace Cert.Layer

open Idealize.ShloMosaic

/-- A row of 1024, normalized, times a matrix. -/
def product {k : ℕ} (x g : Fin 1024 → EReal) (w : Fin 1024 → Fin k → EReal) : Fin k → EReal :=
  mul (norm (Ideal.ofBits .f32 0x44800000#32) x g) w

/-- Number `j` of eight heads of 64, each normalized. -/
def head (p g : Fin 512 → EReal) (j : Fin 512) : EReal :=
  p j * scale (Ideal.ofBits .f32 0x42800000#32) (fun q : Fin 64 => p ⟨j.val / 64 * 64 + q.val, by omega⟩) * g j

/-- The seven column blocks of 512 of the projection. -/
def part (x g : Fin 1024 → EReal) (w : Fin 1024 → Fin 3584 → EReal) (n : Fin 7) (j : Fin 512) : EReal :=
  product x g w ⟨n.val * 512 + j.val, by omega⟩

/-- A column block, its heads normalized, with one gain for each of a head's 64 numbers. -/
def headed (x g : Fin 1024 → EReal) (w : Fin 1024 → Fin 3584 → EReal) (n : Fin 7) (e : Fin 64 → EReal) (j : Fin 512) : EReal :=
  head (part x g w n) (fun j => e ⟨j.val % 64, by omega⟩) j

theorem head_eq (p : Fin 512 → EReal) (e : Fin 64 → EReal) (j : Fin 512) :
    norm (Ideal.ofBits .f32 0x42800000#32) (fun q : Fin 64 => p ⟨j.val / 64 * 64 + q.val, by omega⟩) e ⟨j.val % 64, by omega⟩
      = head p (fun j => e ⟨j.val % 64, by omega⟩) j := by
  have h : (⟨j.val / 64 * 64 + j.val % 64, by omega⟩ : Fin 512) = j := Fin.ext (by show j.val / 64 * 64 + j.val % 64 = j.val; omega)
  exact congrArg (fun a => p a * scale _ _ * _) h

theorem sixty_four : Ideal.ofBits .f32 0x42800000#32 = ((64 : ℝ) : EReal) := by
  simp [Ideal.ofBits, Ideal.ieee, -EReal.coe_mul]; norm_num

theorem one_sixty_fourth : Ideal.ofBits .f32 0x3C800000#32 = ((64 : ℝ)⁻¹ : ℝ) := by
  simp [Ideal.ofBits, Ideal.ieee, -EReal.coe_mul]; norm_num

/-- A product with a sixty-fourth is the quotient by sixty-four. -/
theorem mul_sixty_fourth (x : EReal) : x * Ideal.ofBits .f32 0x3C800000#32 = Ideal.div x (Ideal.ofBits .f32 0x42800000#32) := by
  rw [sixty_four, one_sixty_fourth, Ideal.div, if_neg (by exact_mod_cast (by norm_num : (64 : ℝ) ≠ 0)), EReal.coe_inv]

/-- The sum over 128 lanes with the upper ones masked. -/
theorem sum_lower (f : Fin 128 → EReal) :
    ∑ l : Fin 128, (if l.val < 64 then f l else 0) = ∑ q : Fin 64, f ⟨q.val, by omega⟩ := by
  rw [Fin.sum_univ_add (a := 64) (b := 64) (fun l => if l.val < 64 then f l else 0)]
  have h1 : ∀ q : Fin 64, (if (Fin.castAdd 64 q).val < 64 then f (Fin.castAdd 64 q) else 0) = f ⟨q.val, by omega⟩ := fun q => if_pos q.isLt
  have h2 : ∀ q : Fin 64, (if (Fin.natAdd 64 q).val < 64 then f (Fin.natAdd 64 q) else 0) = 0 :=
    fun q => if_neg (by show ¬ 64 + q.val < 64; omega)
  rw [Finset.sum_congr rfl fun q _ => h1 q, Finset.sum_congr rfl fun q _ => h2 q, Finset.sum_const_zero, add_zero]

/-- The sum over 128 lanes with the lower ones masked. -/
theorem sum_upper (f : Fin 128 → EReal) :
    ∑ l : Fin 128, (if l.val < 64 then 0 else f l) = ∑ q : Fin 64, f ⟨64 + q.val, by omega⟩ := by
  rw [Fin.sum_univ_add (a := 64) (b := 64) (fun l => if l.val < 64 then 0 else f l)]
  have h1 : ∀ q : Fin 64, (if (Fin.castAdd 64 q).val < 64 then 0 else f (Fin.castAdd 64 q)) = 0 := fun q => if_pos q.isLt
  have h2 : ∀ q : Fin 64, (if (Fin.natAdd 64 q).val < 64 then 0 else f (Fin.natAdd 64 q)) = f ⟨64 + q.val, by omega⟩ :=
    fun q => if_neg (by show ¬ 64 + q.val < 64; omega)
  rw [Finset.sum_congr rfl fun q _ => h1 q, Finset.sum_congr rfl fun q _ => h2 q, Finset.sum_const_zero, zero_add]

/-- The lane's mean square of its own head, picked from the two masked sums. -/
theorem half_scale (f : Fin 128 → EReal) (l : Fin 128) :
    Ideal.rsqrt ((if l.val < 64 then ∑ k : Fin 128, (if k.val < 64 then f k * f k else 0) else ∑ k : Fin 128, (if k.val < 64 then 0 else f k * f k))
        * Ideal.ofBits .f32 0x3C800000#32 + Ideal.ofBits .f32 0x358637BD#32)
      = scale (Ideal.ofBits .f32 0x42800000#32) (fun q : Fin 64 => f ⟨l.val / 64 * 64 + q.val, by omega⟩) := by
  rw [mul_sixty_fourth, sum_lower fun k => f k * f k, sum_upper fun k => f k * f k]
  unfold scale
  by_cases h : l.val < 64
  · rw [if_pos h]
    have e : ∀ q : Fin 64, (⟨l.val / 64 * 64 + q.val, by omega⟩ : Fin 128) = ⟨q.val, by omega⟩ := fun q => Fin.ext (by show l.val / 64 * 64 + q.val = q.val; omega)
    simp only [e]
  · rw [if_neg h]
    have e : ∀ q : Fin 64, (⟨l.val / 64 * 64 + q.val, by omega⟩ : Fin 128) = ⟨64 + q.val, by omega⟩ := fun q => Fin.ext (by show l.val / 64 * 64 + q.val = 64 + q.val; omega)
    simp only [e]

/-- The mask picks the lower 64 lanes. -/
theorem pick_lower {α : Type} (l : Fin 128) (a b : α) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h l]
  by_cases hl : l.val < 64
  · rw [if_pos hl, if_pos hl]; rfl
  · rw [if_neg hl, if_neg hl]; rfl

end Cert.Layer

end
-- ==== Proof.Prompt.Kernel.lean ====
/- What the prompt rows' projection leaves, read at an element. -/
module

public import proofs.«01_k».proof.Proof.Gen.Kernel3Ideal.Value
public import proofs.«01_k».proof.Proof.Layer.Heads

@[expose] public section

set_option maxRecDepth 16384
set_option maxHeartbeats 1000000

noncomputable section

namespace Cert.Prompt

open Idealize.ShloMosaic Cert.Kernel3Ideal Cert.Kernel3Ideal.Gen Cert.Kernel3Ideal.Value Cert.Layer

/-- The two heads in 128 lanes, each normalized, as the body writes it. -/
def halves (s : FVec Ideal S1024x128 .f32) : FVec Ideal S1024x128 .f32 :=
  mulf s (rsqrt (addf (mulf (select k0_pay14
      (broadcastTo S1024x128 (shapeCast S1024x1 (shapeCast S1024x1 (multiReduction .add [1] S1024 (select k0_pay14 (mulf s s) (broadcast S1024x128 (Scalar.ofBits .f32 0x00000000#32))) 0x00000000#32 reduces_S1024x128_S1024 (.inl rfl) rfl) shapeCasts_S1024_S1024x1) shapeCasts_S1024x1_S1024x1) broadcasts_S1024x1_S1024x128)
      (broadcastTo S1024x128 (shapeCast S1024x1 (shapeCast S1024x1 (multiReduction .add [1] S1024 (select k0_pay14 (broadcast S1024x128 (Scalar.ofBits .f32 0x00000000#32)) (mulf s s)) 0x00000000#32 reduces_S1024x128_S1024 (.inl rfl) rfl) shapeCasts_S1024_S1024x1) shapeCasts_S1024x1_S1024x1) broadcasts_S1024x1_S1024x128))
    (broadcast S1024x128 (Scalar.ofBits .f32 0x3C800000#32))) (broadcast S1024x128 (Scalar.ofBits .f32 0x358637BD#32))))

theorem halves_at (s : FVec Ideal S1024x128 .f32) (r : Fin 1024) (l : Fin 128) :
    halves s (ix2 r l) = s (ix2 r l) * scale (Ideal.ofBits .f32 0x42800000#32) (fun q : Fin 64 => s (ix2 r ⟨l.val / 64 * 64 + q.val, by omega⟩)) := by
  pointwise [halves, k0_pay14]
  simp only [pick_lower]
  exact congrArg (s (ix2 r l) * ·) (half_scale (fun l => s (ix2 r l)) l)

/-- The rows' products with a matrix. -/
theorem product_at (x : Vec Ideal S1024x1024 .f32) (g : Vec Ideal S1x1024 .f32) (w : Vec Ideal S1024x512 .bf16) (r : Fin 1024) (j : Fin 512) :
    k0_pay12 (k0_pay7 x g) w (ix2 r j) = product (fun k => x (ix2 r k)) (fun k => g (ix2 0 k)) (fun k j => w (ix2 k j)) j := by
  pointwise [k0_pay12, k0_pay7]
  rfl

/-- Two heads' lanes of the products. -/
def lanes (Y : FVec Ideal S1024x512 .f32) (n : Fin 4) : FVec Ideal S1024x128 .f32 :=
  fun i => Y (ix2 (i 0) ⟨n.val * 128 + (i 1).val, by have h : (i 1).val < 128 := (i 1).isLt; omega⟩)

theorem lanes_eq (Y : FVec Ideal S1024x512 .f32) (n : Fin 4) (h : S1024x512.Slices ![0, n.val * 128] S1024x128) :
    extractStridedSlice S1024x128 ![0, n.val * 128] Y h = lanes Y n := by
  funext i
  refine congrArg Y (funext fun a => ?_)
  match a with
  | ⟨0, _⟩ => exact Fin.ext (by show 0 + (i 0).val = (i 0).val; omega)
  | ⟨1, _⟩ => rfl

theorem queries_cat (x : Vec Ideal S1024x1024 .f32) (g : Vec Ideal S1x1024 .f32) (w : Vec Ideal S1024x512 .bf16) (gq : Vec Ideal S1x512 .f32) (n : Fin 4) :
    Cat9_0 x g w gq n = halves (lanes (k0_pay12 (k0_pay7 x g) w) n) := by
  rw [← lanes_eq _ n (match n with
    | 0 => slices_S1024x512_o0_0_S1024x128 | 1 => slices_S1024x512_o0_128_S1024x128 | 2 => slices_S1024x512_o0_256_S1024x128 | 3 => slices_S1024x512_o0_384_S1024x128)]
  match n with
  | 0 => rfl
  | 1 => rfl
  | 2 => rfl
  | 3 => rfl

theorem keys_cat (x : Vec Ideal S1024x1024 .f32) (g : Vec Ideal S1x1024 .f32) (w : Vec Ideal S1024x512 .bf16) (gk : Vec Ideal S1x512 .f32) (n : Fin 4) :
    Cat10_0 x g w gk n = Cat9_0 x g w gk n := by
  match n with
  | 0 => rfl
  | 1 => rfl
  | 2 => rfl
  | 3 => rfl

/-- Two heads' lanes, normalized, read at an element of the row. -/
theorem lanes_head (Y : FVec Ideal S1024x512 .f32) (gq : Vec Ideal S1x512 .f32) (r : Fin 1024) (j : Fin 512) :
    halves (lanes Y ⟨j.val / 128, by omega⟩) (ix2 r ⟨j.val % 128, by omega⟩) * gq (ix2 0 j)
      = head (fun j => Y (ix2 r j)) (fun j => gq (ix2 0 j)) j := by
  rw [halves_at]
  have e : (⟨j.val / 128 * 128 + j.val % 128, by omega⟩ : Fin 512) = j := Fin.ext (by show j.val / 128 * 128 + j.val % 128 = j.val; omega)
  have e' : ∀ q : Fin 64, (⟨j.val / 128 * 128 + (j.val % 128 / 64 * 64 + q.val), by omega⟩ : Fin 512) = ⟨j.val / 64 * 64 + q.val, by omega⟩ :=
    fun q => Fin.ext (by show j.val / 128 * 128 + (j.val % 128 / 64 * 64 + q.val) = j.val / 64 * 64 + q.val; omega)
  show Y (ix2 r ⟨j.val / 128 * 128 + j.val % 128, _⟩) * scale _ (fun q : Fin 64 => Y (ix2 r ⟨j.val / 128 * 128 + (j.val % 128 / 64 * 64 + q.val), _⟩)) * _ = _
  simp only [e, e']
  rfl

theorem queries_at (x : Vec Ideal S1024x1024 .f32) (g : Vec Ideal S1x1024 .f32) (w : Vec Ideal S1024x512 .bf16) (gq : Vec Ideal S1x512 .f32) (r : Fin 1024) (j : Fin 512) :
    E9 x g w gq (ix2 r j) = head (fun j => k0_pay12 (k0_pay7 x g) w (ix2 r j)) (fun j => gq (ix2 0 j)) j := by
  have e0 : ix9_0 (ix2 r j) = ix2 r ⟨j.val % 128, by omega⟩ := funext fun a => match a with | ⟨0, _⟩ => rfl | ⟨1, _⟩ => rfl
  have e1 : ix9_1 (ix2 r j) = ix2 0 j := funext fun a => match a with | ⟨0, _⟩ => rfl | ⟨1, _⟩ => rfl
  have e2 : csel9_0 (ix2 r j) = (⟨j.val / 128, by omega⟩ : Fin 4) := rfl
  unfold E9
  rw [e0, e1, e2, queries_cat]
  exact lanes_head _ gq r j

theorem keys_at (x : Vec Ideal S1024x1024 .f32) (g : Vec Ideal S1x1024 .f32) (w : Vec Ideal S1024x512 .bf16) (gk : Vec Ideal S1x512 .f32) (y : S1024x512.Idx) :
    E10 x g w gk y = E9 x g w gk y := by
  unfold E10 E9
  rw [keys_cat]

theorem values_at (x : Vec Ideal S1024x1024 .f32) (g : Vec Ideal S1x1024 .f32) (w : Vec Ideal S1024x512 .bf16) (y : S1024x512.Idx) :
    E11 x g w y = k0_pay12 (k0_pay7 x g) w y := by
  have e : ix11_0 y = y := funext fun a => match a with | ⟨0, _⟩ => rfl | ⟨1, _⟩ => rfl
  unfold E11
  rw [e]
  rfl

/-- The keys turned: of every row, as its column. -/
theorem turned_keys_at (x : Vec Ideal S1024x1024 .f32) (g : Vec Ideal S1x1024 .f32) (w : Vec Ideal S1024x512 .bf16) (gk : Vec Ideal S1x512 .f32)
    (z : Fin 1) (j : Fin 512) (r : Fin 1024) : E12 x g w gk (ix3 z j r) = E10 x g w gk (ix2 r j) := rfl

/-- The values turned. -/
theorem turned_values_at (x : Vec Ideal S1024x1024 .f32) (g : Vec Ideal S1x1024 .f32) (w : Vec Ideal S1024x512 .bf16)
    (z : Fin 1) (j : Fin 512) (r : Fin 1024) : E13 x g w (ix3 z j r) = E11 x g w (ix2 r j) := rfl

end Cert.Prompt

end
-- ==== Proof.Prompt.Reference.lean ====
/- The prompt rows' projection's reference, read at an element. -/
module

public import proofs.«01_k».proof.Proof.Gen.Reference3Ideal.Run
public import proofs.«01_k».proof.Proof.Layer.Heads

@[expose] public section

set_option maxRecDepth 16384
set_option maxHeartbeats 1000000

noncomputable section

namespace Cert.Prompt.Ref

open Idealize.ShloMosaic Cert.Reference3Ideal Cert.Reference3Ideal.Gen Cert.Layer

/-- The rows, normalized. -/
def rows (x0 : FVec Ideal S16x2048x1024 .f32) (x1 : FVec Ideal S1x1024 .f32) : FVec Ideal S16x2048x1024 .f32 :=
  (mulf (mulf x0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x0 x0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ x1 shapeCasts_S1x1024_S1024))))

/-- Their products with the matrix. -/
def products (x0 : FVec Ideal S16x2048x1024 .f32) (x1 : FVec Ideal S1x1024 .f32) (x2 : FVec Ideal S1x1024x3584 .f32) : FVec Ideal S16x2048x3584 .f32 :=
  (Host.dotGeneral (F := Ideal) dot_S16x2048x1024_S1024x3584_S16x2048x3584_2_0_01_1_n_n none (rows x0 x1) (shapeCast _ x2 shapeCasts_S1x1024x3584_S1024x3584))

/-- Each head normalized. -/
def headnorm (h : FVec Ideal S16x2048x8x64 .f32) (x3 : FVec Ideal S1x64 .f32) : FVec Ideal S16x2048x8x64 .f32 :=
  (mulf (mulf h (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf h h) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 (shapeCast _ x3 shapeCasts_S1x64_S64))))

/-- A block of 512 columns. -/
def cols (P : FVec Ideal S16x2048x3584 .f32) (n : Fin 7) : FVec Ideal S16x2048x512 .f32 :=
  fun i => P (ix3 (i 0) (i 1) ⟨n.val * 512 + (i 2).val, by have h : (i 2).val < 512 := (i 2).isLt; omega⟩)

theorem cols_eq (P : FVec Ideal S16x2048x3584 .f32) (n : Fin 7) (h : S16x2048x3584.Slices ![0, 0, n.val * 512] S16x2048x512) :
    extractStridedSlice S16x2048x512 ![0, 0, n.val * 512] P h = cols P n := by
  funext i
  refine congrArg P (funext fun a => ?_)
  match a with
  | ⟨0, _⟩ => exact Fin.ext (Nat.zero_add _)
  | ⟨1, _⟩ => exact Fin.ext (Nat.zero_add _)
  | ⟨2, _⟩ => rfl

theorem rows_at (x0 : FVec Ideal S16x2048x1024 .f32) (x1 : FVec Ideal S1x1024 .f32) (b : Fin 16) (s : Fin 2048) (k : Fin 1024) :
    rows x0 x1 (ix3 b s k) = norm (Ideal.ofBits .f32 0x44800000#32) (fun k => x0 (ix3 b s k)) (fun k => x1 (ix2 0 k)) k := by
  pointwise [rows]
  rfl

theorem products_at (x0 : FVec Ideal S16x2048x1024 .f32) (x1 : FVec Ideal S1x1024 .f32) (x2 : FVec Ideal S1x1024x3584 .f32)
    (b : Fin 16) (s : Fin 2048) (j : Fin 3584) :
    products x0 x1 x2 (ix3 b s j) = product (fun k => x0 (ix3 b s k)) (fun k => x1 (ix2 0 k)) (fun k j => x2 (ix3 0 k j)) j := by
  pointwise [products]
  simp only [rows_at]
  rfl

theorem cols_at (x0 : FVec Ideal S16x2048x1024 .f32) (x1 : FVec Ideal S1x1024 .f32) (x2 : FVec Ideal S1x1024x3584 .f32) (n : Fin 7)
    (b : Fin 16) (s : Fin 2048) (j : Fin 512) :
    cols (products x0 x1 x2) n (ix3 b s j) = part (fun k => x0 (ix3 b s k)) (fun k => x1 (ix2 0 k)) (fun k j => x2 (ix3 0 k j)) n j :=
  products_at x0 x1 x2 b s _

theorem headnorm_at (h : FVec Ideal S16x2048x8x64 .f32) (x3 : FVec Ideal S1x64 .f32) (b : Fin 16) (s : Fin 2048) (n : Fin 8) (e : Fin 64) :
    headnorm h x3 (ix4 b s n e) = norm (Ideal.ofBits .f32 0x42800000#32) (fun q => h (ix4 b s n q)) (fun q => x3 (ix2 0 q)) e := by
  pointwise [headnorm]
  rfl

/-- Row `n` of the prompt rows, the 16 prompts' 2048 one after another. -/
def row (X : FVec Ideal S16x2048x1024 .f32) (n : Fin 32768) : Fin 1024 → EReal :=
  fun k => X (ix3 ⟨n.val / 2048, by omega⟩ ⟨n.val % 2048, by omega⟩ k)

/-- The rows' column block `n`. -/
def parts (X : FVec Ideal S16x2048x1024 .f32) (g : FVec Ideal S1x1024 .f32) (w : FVec Ideal S1x1024x3584 .f32) (n : Fin 7) : S32768x512.Idx → EReal :=
  fun i => part (row X (i 0)) (fun k => g (ix2 0 k)) (fun k j => w (ix3 0 k j)) n (i 1)

/-- The rows' column block `n`, its heads normalized. -/
def heads (X : FVec Ideal S16x2048x1024 .f32) (g : FVec Ideal S1x1024 .f32) (w : FVec Ideal S1x1024x3584 .f32) (n : Fin 7) (e : FVec Ideal S1x64 .f32) :
    S32768x512.Idx → EReal :=
  fun i => headed (row X (i 0)) (fun k => g (ix2 0 k)) (fun k j => w (ix3 0 k j)) n (fun q => e (ix2 0 q)) (i 1)

/-- The column block `n` of every prompt, its rows turned to columns. -/
def turnedParts (X : FVec Ideal S16x2048x1024 .f32) (g : FVec Ideal S1x1024 .f32) (w : FVec Ideal S1x1024x3584 .f32) (n : Fin 7) : S16x512x2048.Idx → EReal :=
  fun i => part (fun k => X (ix3 (i 0) (i 2) k)) (fun k => g (ix2 0 k)) (fun k j => w (ix3 0 k j)) n (i 1)

/-- The column block `n` of every prompt, its heads normalized and its rows turned to columns. -/
def turnedHeads (X : FVec Ideal S16x2048x1024 .f32) (g : FVec Ideal S1x1024 .f32) (w : FVec Ideal S1x1024x3584 .f32) (n : Fin 7) (e : FVec Ideal S1x64 .f32) :
    S16x512x2048.Idx → EReal :=
  fun i => headed (fun k => X (ix3 (i 0) (i 2) k)) (fun k => g (ix2 0 k)) (fun k j => w (ix3 0 k j)) n (fun q => e (ix2 0 q)) (i 1)

variable (x0 : FVec Ideal S16x2048x1024 .f32) (x1 : FVec Ideal S1x1024 .f32) (w : FVec Ideal S1x1024x3584 .f32) (e : FVec Ideal S1x64 .f32)

theorem parts_eq (n : Fin 7) (h : S16x2048x3584.Slices ![0, 0, n.val * 512] S16x2048x512) :
    (truncf .bf16 (shapeCast S32768x512 (extractStridedSlice S16x2048x512 ![0, 0, n.val * 512] (products x0 x1 w) h) shapeCasts_S16x2048x512_S32768x512)
      bitsLt_bf16_f32 : FVec Ideal S32768x512 .bf16) = parts x0 x1 w n := by
  rw [cols_eq]
  funext i
  obtain ⟨r, j, rfl⟩ : ∃ (r : Fin 32768) (j : Fin 512), i = ix2 r j := ⟨i 0, i 1, eq_ix2 i⟩
  pointwise
  simp only [cols_at]
  rfl

theorem heads_eq (n : Fin 7) (h : S16x2048x3584.Slices ![0, 0, n.val * 512] S16x2048x512) :
    (truncf .bf16 (shapeCast S32768x512 (headnorm (shapeCast S16x2048x8x64 (extractStridedSlice S16x2048x512 ![0, 0, n.val * 512] (products x0 x1 w) h) shapeCasts_S16x2048x512_S16x2048x8x64) e)
      shapeCasts_S16x2048x8x64_S32768x512) bitsLt_bf16_f32 : FVec Ideal S32768x512 .bf16) = heads x0 x1 w n e := by
  rw [cols_eq]
  funext i
  obtain ⟨r, j, rfl⟩ : ∃ (r : Fin 32768) (j : Fin 512), i = ix2 r j := ⟨i 0, i 1, eq_ix2 i⟩
  refine Eq.trans ?_ (head_eq (part (row x0 r) (fun k => x1 (ix2 0 k)) (fun k j => w (ix3 0 k j)) n) (fun q => e (ix2 0 q)) j)
  pointwise
  simp only [headnorm_at]
  pointwise
  simp only [cols_at]
  rfl

/-- The values' reference, which goes by way of the heads. -/
theorem values_eq (n : Fin 7) (h : S16x2048x3584.Slices ![0, 0, n.val * 512] S16x2048x512) :
    (truncf .bf16 (shapeCast S32768x512 (shapeCast S16x2048x8x64 (extractStridedSlice S16x2048x512 ![0, 0, n.val * 512] (products x0 x1 w) h) shapeCasts_S16x2048x512_S16x2048x8x64)
      shapeCasts_S16x2048x8x64_S32768x512) bitsLt_bf16_f32 : FVec Ideal S32768x512 .bf16) = parts x0 x1 w n := by
  rw [cols_eq]
  funext i
  obtain ⟨r, j, rfl⟩ : ∃ (r : Fin 32768) (j : Fin 512), i = ix2 r j := ⟨i 0, i 1, eq_ix2 i⟩
  pointwise
  simp only [cols_at]
  rfl

theorem turned_values_eq (n : Fin 7) (h : S16x2048x3584.Slices ![0, 0, n.val * 512] S16x2048x512) :
    shapeCast S16x512x2048 (transpose S16x8x64x2048 [0, 2, 3, 1] (shapeCast S16x2048x8x64 (extractStridedSlice S16x2048x512 ![0, 0, n.val * 512] (products x0 x1 w) h)
      shapeCasts_S16x2048x512_S16x2048x8x64) transposes_S16x2048x8x64_S16x8x64x2048_0_2_3_1) shapeCasts_S16x8x64x2048_S16x512x2048 = turnedParts x0 x1 w n := by
  rw [cols_eq]
  funext i
  obtain ⟨b, j, s, rfl⟩ : ∃ (b : Fin 16) (j : Fin 512) (s : Fin 2048), i = ix3 b j s := ⟨i 0, i 1, i 2, eq_ix3 i⟩
  pointwise
  simp only [cols_at]
  rfl

theorem turned_heads_eq (n : Fin 7) (h : S16x2048x3584.Slices ![0, 0, n.val * 512] S16x2048x512) :
    shapeCast S16x512x2048 (transpose S16x8x64x2048 [0, 2, 3, 1] (headnorm (shapeCast S16x2048x8x64 (extractStridedSlice S16x2048x512 ![0, 0, n.val * 512] (products x0 x1 w) h)
      shapeCasts_S16x2048x512_S16x2048x8x64) e) transposes_S16x2048x8x64_S16x8x64x2048_0_2_3_1) shapeCasts_S16x8x64x2048_S16x512x2048 = turnedHeads x0 x1 w n e := by
  rw [cols_eq]
  funext i
  obtain ⟨b, j, s, rfl⟩ : ∃ (b : Fin 16) (j : Fin 512) (s : Fin 2048), i = ix3 b j s := ⟨i 0, i 1, i 2, eq_ix3 i⟩
  refine Eq.trans ?_ (head_eq (part (fun k => x0 (ix3 b s k)) (fun k => x1 (ix2 0 k)) (fun k j => w (ix3 0 k j)) n) (fun q => e (ix2 0 q)) j)
  pointwise
  simp only [headnorm_at]
  pointwise
  simp only [cols_at]

end Cert.Prompt.Ref

end
-- ==== Proof.Prompt.Results.lean ====
/- The prompt rows' projection's results as the rows' column blocks. -/
module

public import proofs.«01_k».proof.Proof.Prompt.Blocks
public import proofs.«01_k».proof.Proof.Prompt.Kernel
public import proofs.«01_k».proof.Proof.Prompt.Reference
public import Idealize.ShloMosaic.Lib.Pipeline.ValueKit.Tiles

@[expose] public section

set_option maxRecDepth 16384
set_option maxHeartbeats 1000000

noncomputable section

namespace Cert.Prompt

open Idealize.ShloMosaic Idealize.SL.Sem Idealize.ShloMosaic.TcCoe Idealize.ShloMosaic.Tactic Cert.Layer
open Cert.Kernel3Ideal Cert.Kernel3Ideal.Gen Cert.Kernel3Ideal.Value

variable (m : (ℓ : Loc nD τ sig) → Buf (Elt Ideal) ℓ)

/-! ## The arrays the call reads -/

/-- A head's gains, once for each of the eight heads. -/
def gains (e : FVec Ideal S1x64 .f32) : FVec Ideal S1x512 .f32 :=
  shapeCast S1x512 (shapeCast S512 (broadcastInDim S8x64 ![0, 1] bcast_S1x64_S8x64_0_1 (shapeCast S1x64 (shapeCast S64 e shapeCasts_S1x64_S64) shapeCasts_S64_S1x64)) shapeCasts_S8x64_S512) shapeCasts_S512_S1x512

theorem entry_x (c : Dev nD) : V m c main_v12 = shapeCast S32768x1024 (m ((c : Thread nD τ).loc main_arg0) : FVec Ideal S16x2048x1024 .f32) shapeCasts_S16x2048x1024_S32768x1024 := by
  unfold V hostOps0
  after_results_simp <;> rfl
theorem entry_g (c : Dev nD) : V m c main_v14 = shapeCast S1x1024 (shapeCast S1024 (m ((c : Thread nD τ).loc main_arg1) : FVec Ideal S1x1024 .f32) shapeCasts_S1x1024_S1024) shapeCasts_S1024_S1x1024 := by
  unfold V hostOps0
  after_results_simp <;> rfl
theorem entry_w (c : Dev nD) : V m c main_v11 = (truncf .bf16 (shapeCast S1024x3584 (m ((c : Thread nD τ).loc main_arg2) : FVec Ideal S1x1024x3584 .f32) shapeCasts_S1x1024x3584_S1024x3584) bitsLt_bf16_f32 : FVec Ideal S1024x3584 .bf16) := by
  unfold V hostOps0
  after_results_simp <;> rfl
theorem entry_q (c : Dev nD) : V m c main_v4 = gains (m ((c : Thread nD τ).loc main_arg3)) := by
  unfold V hostOps0
  after_results_simp <;> rfl
theorem entry_k (c : Dev nD) : V m c main_v9 = gains (m ((c : Thread nD τ).loc main_arg4)) := by
  unfold V hostOps0
  after_results_simp <;> rfl

theorem x_at (X : FVec Ideal S16x2048x1024 .f32) (n : Fin 32768) (k : Fin 1024) :
    shapeCast S32768x1024 X shapeCasts_S16x2048x1024_S32768x1024 (ix2 n k) = Ref.row X n k := by
  pointwise
  rfl
theorem g_at (g : FVec Ideal S1x1024 .f32) (k : Fin 1024) :
    shapeCast S1x1024 (shapeCast S1024 g shapeCasts_S1x1024_S1024) shapeCasts_S1024_S1x1024 (ix2 0 k) = g (ix2 0 k) := by
  pointwise
theorem w_at (w : FVec Ideal S1x1024x3584 .f32) (k : Fin 1024) (j : Fin 3584) :
    (truncf .bf16 (shapeCast S1024x3584 w shapeCasts_S1x1024x3584_S1024x3584) bitsLt_bf16_f32 : FVec Ideal S1024x3584 .bf16) (ix2 k j) = w (ix3 0 k j) := by
  pointwise
theorem gains_at (e : FVec Ideal S1x64 .f32) (j : Fin 512) : gains e (ix2 0 j) = e (ix2 0 ⟨j.val % 64, by omega⟩) := by
  pointwise [gains]

/-! ## The blocks, read -/

theorem blk_x (c : Dev nD) (t : Fin cfg0.N) (r : Fin 1024) (n : Fin 32768) (hn : n.val = t.val * 1024 + r.val) (k : Fin 1024) :
    (iblk m c 0 t : S1024x1024.Idx → EReal) (ix2 r k) = Ref.row (m ((c : Thread nD τ).loc main_arg0)) n k :=
  ((read0 (F := Ideal) (V m c main_v12) t (ix2 r k) (ix2 n k) hn rfl).trans (congrFun (entry_x m c) _)).trans (x_at _ n k)
theorem blk_g (c : Dev nD) (t : Fin cfg0.N) (k : Fin 1024) :
    (iblk m c 1 t : S1x1024.Idx → EReal) (ix2 0 k) = (m ((c : Thread nD τ).loc main_arg1) : FVec Ideal S1x1024 .f32) (ix2 0 k) :=
  ((congrFun (read1 (F := Ideal) (V m c main_v14) t) _).trans (congrFun (entry_g m c) _)).trans (g_at _ k)
theorem blk_w (c : Dev nD) (t : Fin cfg0.N) (k : Fin 1024) (j : Fin 3584) :
    (iblk m c 2 t : S1024x3584.Idx → EReal) (ix2 k j) = (m ((c : Thread nD τ).loc main_arg2) : FVec Ideal S1x1024x3584 .f32) (ix3 0 k j) :=
  ((congrFun (read2 (F := Ideal) (V m c main_v11) t) _).trans (congrFun (entry_w m c) _)).trans (w_at _ k j)
theorem blk_q (c : Dev nD) (t : Fin cfg0.N) (j : Fin 512) :
    (iblk m c 3 t : S1x512.Idx → EReal) (ix2 0 j) = (m ((c : Thread nD τ).loc main_arg3) : FVec Ideal S1x64 .f32) (ix2 0 ⟨j.val % 64, by omega⟩) :=
  ((congrFun (read3 (F := Ideal) (V m c main_v4) t) _).trans (congrFun (entry_q m c) _)).trans (gains_at _ j)
theorem blk_k (c : Dev nD) (t : Fin cfg0.N) (j : Fin 512) :
    (iblk m c 4 t : S1x512.Idx → EReal) (ix2 0 j) = (m ((c : Thread nD τ).loc main_arg4) : FVec Ideal S1x64 .f32) (ix2 0 ⟨j.val % 64, by omega⟩) :=
  ((congrFun (read4 (F := Ideal) (V m c main_v9) t) _).trans (congrFun (entry_k m c) _)).trans (gains_at _ j)

/-! ## What a step leaves, from the blocks -/

section Left

variable (x0 : Vec Ideal S1024x1024 .f32) (x1 : Vec Ideal S1x1024 .f32) (x2 : Vec Ideal S1024x3584 .bf16) (x3 x4 : Vec Ideal S1x512 .f32)

/-- The products with a block of 512 columns. -/
theorem part_at (n : Fin 7) (inb : ∀ a, (![0, n.val * 512] : Fin 2 → ℕ) a + S1024x512.size a ≤ S1024x3584.size a) (r : Fin 1024) (j : Fin 512) :
    k0_pay12 (k0_pay7 (View.ld x0 r0_0) (View.ld x1 r0_1)) (View.ld x2 (Rect.unit (s := S1024x3584) ![0, n.val * 512] S1024x512.size inb)) (ix2 r j)
      = part (fun k => x0 (ix2 r k)) (fun k => x1 (ix2 0 k)) (fun k j => x2 (ix2 k j)) n j := by
  have e : ∀ (k : Fin 1024) (j : Fin 512), View.ld x2 (Rect.unit (s := S1024x3584) ![0, n.val * 512] S1024x512.size inb) (ix2 k j)
      = x2 (ix2 k ⟨n.val * 512 + j.val, by omega⟩) := fun k j =>
    View.ld_unit_apply_of x2 _ _ inb (ix2 k j) _ fun a => match a with | ⟨0, _⟩ => (Nat.zero_add _).symm | ⟨1, _⟩ => rfl
  refine (product_at _ _ _ r j).trans ?_
  rw [View.ld_unit_lit _ x0 (by decide), View.ld_unit_lit _ x1 (by decide)]
  simp only [e]
  rfl

/-- A block of 512 columns, its heads normalized. -/
theorem headed_at (n : Fin 7) (inb : ∀ a, (![0, n.val * 512] : Fin 2 → ℕ) a + S1024x512.size a ≤ S1024x3584.size a) (g : Vec Ideal S1x512 .f32) (r : Fin 1024) (j : Fin 512) :
    E9 (View.ld x0 r0_0) (View.ld x1 r0_1) (View.ld x2 (Rect.unit (s := S1024x3584) ![0, n.val * 512] S1024x512.size inb)) (View.ld g r0_8) (ix2 r j)
      = head (part (fun k => x0 (ix2 r k)) (fun k => x1 (ix2 0 k)) (fun k j => x2 (ix2 k j)) n) (fun j => g (ix2 0 j)) j := by
  rw [queries_at, View.ld_unit_lit _ g (by decide), funext (part_at x0 x1 x2 n inb r)]

theorem left5 (r : Fin 1024) (j : Fin 512) : out0_5 x0 x1 x2 x3 x4 (ix2 r j)
    = part (fun k => x0 (ix2 r k)) (fun k => x1 (ix2 0 k)) (fun k j => x2 (ix2 k j)) 0 j :=
  (congrFun (View.canon_cons_unit_lit (S := S1024x512) _ _ [] (by decide)) _).trans (part_at x0 x1 x2 0 _ r j)
theorem left6 (r : Fin 1024) (j : Fin 512) : out0_6 x0 x1 x2 x3 x4 (ix2 r j)
    = part (fun k => x0 (ix2 r k)) (fun k => x1 (ix2 0 k)) (fun k j => x2 (ix2 k j)) 1 j :=
  (congrFun (View.canon_cons_unit_lit (S := S1024x512) _ _ [] (by decide)) _).trans (part_at x0 x1 x2 1 _ r j)
theorem left7 (r : Fin 1024) (j : Fin 512) : out0_7 x0 x1 x2 x3 x4 (ix2 r j)
    = part (fun k => x0 (ix2 r k)) (fun k => x1 (ix2 0 k)) (fun k j => x2 (ix2 k j)) 2 j :=
  (congrFun (View.canon_cons_unit_lit (S := S1024x512) _ _ [] (by decide)) _).trans (part_at x0 x1 x2 2 _ r j)
theorem left8 (r : Fin 1024) (j : Fin 512) : out0_8 x0 x1 x2 x3 x4 (ix2 r j)
    = part (fun k => x0 (ix2 r k)) (fun k => x1 (ix2 0 k)) (fun k j => x2 (ix2 k j)) 3 j :=
  (congrFun (View.canon_cons_unit_lit (S := S1024x512) _ _ [] (by decide)) _).trans (part_at x0 x1 x2 3 _ r j)
theorem left9 (r : Fin 1024) (j : Fin 512) : out0_9 x0 x1 x2 x3 x4 (ix2 r j)
    = head (part (fun k => x0 (ix2 r k)) (fun k => x1 (ix2 0 k)) (fun k j => x2 (ix2 k j)) 4) (fun j => x3 (ix2 0 j)) j :=
  (canon9_eq (View.ld x0 r0_0) (View.ld x1 r0_1) (View.ld x2 r0_7) (View.ld x3 r0_8) _).trans (headed_at x0 x1 x2 4 _ x3 r j)
theorem left10 (r : Fin 1024) (j : Fin 512) : out0_10 x0 x1 x2 x3 x4 (ix2 r j)
    = head (part (fun k => x0 (ix2 r k)) (fun k => x1 (ix2 0 k)) (fun k j => x2 (ix2 k j)) 5) (fun j => x4 (ix2 0 j)) j :=
  ((canon10_eq (View.ld x0 r0_0) (View.ld x1 r0_1) (View.ld x2 r0_9) (View.ld x4 r0_8) _).trans (keys_at _ _ _ _ _)).trans (headed_at x0 x1 x2 5 _ x4 r j)
theorem left11 (r : Fin 1024) (j : Fin 512) : out0_11 x0 x1 x2 x3 x4 (ix2 r j)
    = part (fun k => x0 (ix2 r k)) (fun k => x1 (ix2 0 k)) (fun k j => x2 (ix2 k j)) 6 j :=
  ((canon11_eq (View.ld x0 r0_0) (View.ld x1 r0_1) (View.ld x2 r0_10) _).trans (values_at _ _ _ _)).trans (part_at x0 x1 x2 6 _ r j)
theorem left12 (z : Fin 1) (j : Fin 512) (r : Fin 1024) : out0_12 x0 x1 x2 x3 x4 (ix3 z j r)
    = head (part (fun k => x0 (ix2 r k)) (fun k => x1 (ix2 0 k)) (fun k j => x2 (ix2 k j)) 5) (fun j => x4 (ix2 0 j)) j :=
  (((canon12_eq (View.ld x0 r0_0) (View.ld x1 r0_1) (View.ld x2 r0_9) (View.ld x4 r0_8) _).trans (turned_keys_at _ _ _ _ z j r)).trans
    (keys_at _ _ _ _ _)).trans (headed_at x0 x1 x2 5 _ x4 r j)
theorem left13 (z : Fin 1) (j : Fin 512) (r : Fin 1024) : out0_13 x0 x1 x2 x3 x4 (ix3 z j r)
    = part (fun k => x0 (ix2 r k)) (fun k => x1 (ix2 0 k)) (fun k j => x2 (ix2 k j)) 6 j :=
  (((canon13_eq (View.ld x0 r0_0) (View.ld x1 r0_1) (View.ld x2 r0_10) _).trans (turned_values_at _ _ _ z j r)).trans
    (values_at _ _ _ _)).trans (part_at x0 x1 x2 6 _ r j)

end Left

/-! ## The results -/

/-- Column block `n` of the rows. -/
abbrev partsOf (c : Dev nD) (n : Fin 7) : S32768x512.Idx → EReal :=
  Ref.parts (m ((c : Thread nD τ).loc main_arg0)) (m ((c : Thread nD τ).loc main_arg1)) (m ((c : Thread nD τ).loc main_arg2)) n

/-- Column block `n` of the rows, its heads normalized. -/
abbrev headsOf (c : Dev nD) (n : Fin 7) (e : FVec Ideal S1x64 .f32) : S32768x512.Idx → EReal :=
  Ref.heads (m ((c : Thread nD τ).loc main_arg0)) (m ((c : Thread nD τ).loc main_arg1)) (m ((c : Thread nD τ).loc main_arg2)) n e

/-- Column block `n` of every prompt, turned. -/
abbrev turnedPartsOf (c : Dev nD) (n : Fin 7) : S16x512x2048.Idx → EReal :=
  Ref.turnedParts (m ((c : Thread nD τ).loc main_arg0)) (m ((c : Thread nD τ).loc main_arg1)) (m ((c : Thread nD τ).loc main_arg2)) n

/-- Column block `n` of every prompt, its heads normalized, turned. -/
abbrev turnedHeadsOf (c : Dev nD) (n : Fin 7) (e : FVec Ideal S1x64 .f32) : S16x512x2048.Idx → EReal :=
  Ref.turnedHeads (m ((c : Thread nD τ).loc main_arg0)) (m ((c : Thread nD τ).loc main_arg1)) (m ((c : Thread nD τ).loc main_arg2)) n e

/-- A row of a step's block, as a row of its prompt. -/
theorem blk_prompt (c : Dev nD) (t : Fin cfg0.N) (r : Fin 1024) (b : Fin 16) (s : Fin 2048) (hb : b.val = t.val / 2) (hs : s.val = t.val % 2 * 1024 + r.val) :
    (fun k => (iblk m c 0 t : S1024x1024.Idx → EReal) (ix2 r k)) = fun k => (m ((c : Thread nD τ).loc main_arg0) : FVec Ideal S16x2048x1024 .f32) (ix3 b s k) := by
  funext k
  rw [blk_x m c t r ⟨b.val * 2048 + s.val, by omega⟩ (by show b.val * 2048 + s.val = t.val * 1024 + r.val; omega) k]
  refine congrArg _ (funext fun a => ?_)
  match a with
  | ⟨0, _⟩ => exact Fin.ext (by show (b.val * 2048 + s.val) / 2048 = b.val; omega)
  | ⟨1, _⟩ => exact Fin.ext (by show (b.val * 2048 + s.val) % 2048 = s.val; omega)
  | ⟨2, _⟩ => rfl

/-- An array a step leaves a column block in. -/
theorem leaves_part (c : Dev nD) (n : Fin 7) (t : Fin cfg0.N) (y : S1024x512.Idx) (i : S32768x512.Idx) (h0 : (i 0).val = t.val * 1024 + (y 0).val) (h1 : (i 1).val = (y 1).val)
    (f : S1024x512.Idx → EReal) (hf : ∀ (r : Fin 1024) (j : Fin 512), f (ix2 r j) = part (fun k => (iblk m c 0 t : S1024x1024.Idx → EReal) (ix2 r k))
      (fun k => (iblk m c 1 t : S1x1024.Idx → EReal) (ix2 0 k)) (fun k j => (iblk m c 2 t : S1024x3584.Idx → EReal) (ix2 k j)) n j) :
    f y = partsOf m c n i := by
  have e1 : (y 1 : Fin 512) = i 1 := Fin.ext h1.symm
  refine ((congrArg f (eq_ix2 (n0 := 1024) (n1 := 512) y)).trans (hf (y 0) (y 1))).trans ?_
  rw [funext fun k => blk_x m c t (y 0) (i 0) h0 k, funext (blk_g m c t), funext fun k => funext (blk_w m c t k), e1]
  rfl

/-- An array a step leaves a column block in, its heads normalized. -/
theorem leaves_heads (c : Dev nD) (n : Fin 7) (e : FVec Ideal S1x64 .f32) (t : Fin cfg0.N) (y : S1024x512.Idx) (i : S32768x512.Idx)
    (h0 : (i 0).val = t.val * 1024 + (y 0).val) (h1 : (i 1).val = (y 1).val) (g : Fin 512 → EReal) (hg : ∀ j, g j = e (ix2 0 ⟨j.val % 64, by omega⟩))
    (f : S1024x512.Idx → EReal) (hf : ∀ (r : Fin 1024) (j : Fin 512), f (ix2 r j) = head (part (fun k => (iblk m c 0 t : S1024x1024.Idx → EReal) (ix2 r k))
      (fun k => (iblk m c 1 t : S1x1024.Idx → EReal) (ix2 0 k)) (fun k j => (iblk m c 2 t : S1024x3584.Idx → EReal) (ix2 k j)) n) g j) :
    f y = headsOf m c n e i := by
  have e1 : (y 1 : Fin 512) = i 1 := Fin.ext h1.symm
  refine ((congrArg f (eq_ix2 (n0 := 1024) (n1 := 512) y)).trans (hf (y 0) (y 1))).trans ?_
  rw [funext fun k => blk_x m c t (y 0) (i 0) h0 k, funext (blk_g m c t), funext fun k => funext (blk_w m c t k), e1, funext hg]
  rfl

theorem result5 (c : Dev nD) : (dats m 0 c).arrAt 5 cfg0.N = partsOf m c 0 :=
  array5 (dats m 0 c) _ fun t y i h0 h1 => by
    rw [after0_5]
    exact leaves_part m c 0 t y i h0 h1 _ (left5 _ _ _ _ _)
theorem result6 (c : Dev nD) : (dats m 0 c).arrAt 6 cfg0.N = partsOf m c 1 :=
  array6 (dats m 0 c) _ fun t y i h0 h1 => by
    rw [after0_6]
    exact leaves_part m c 1 t y i h0 h1 _ (left6 _ _ _ _ _)
theorem result7 (c : Dev nD) : (dats m 0 c).arrAt 7 cfg0.N = partsOf m c 2 :=
  array7 (dats m 0 c) _ fun t y i h0 h1 => by
    rw [after0_7]
    exact leaves_part m c 2 t y i h0 h1 _ (left7 _ _ _ _ _)
theorem result8 (c : Dev nD) : (dats m 0 c).arrAt 8 cfg0.N = partsOf m c 3 :=
  array8 (dats m 0 c) _ fun t y i h0 h1 => by
    rw [after0_8]
    exact leaves_part m c 3 t y i h0 h1 _ (left8 _ _ _ _ _)
theorem result9 (c : Dev nD) : (dats m 0 c).arrAt 9 cfg0.N = headsOf m c 4 (m ((c : Thread nD τ).loc main_arg3)) :=
  array9 (dats m 0 c) _ fun t y i h0 h1 => by
    rw [after0_9]
    exact leaves_heads m c 4 _ t y i h0 h1 _ (blk_q m c t) _ (left9 _ _ _ _ _)
theorem result10 (c : Dev nD) : (dats m 0 c).arrAt 10 cfg0.N = headsOf m c 5 (m ((c : Thread nD τ).loc main_arg4)) :=
  array10 (dats m 0 c) _ fun t y i h0 h1 => by
    rw [after0_10]
    exact leaves_heads m c 5 _ t y i h0 h1 _ (blk_k m c t) _ (left10 _ _ _ _ _)
theorem result11 (c : Dev nD) : (dats m 0 c).arrAt 11 cfg0.N = partsOf m c 6 :=
  array11 (dats m 0 c) _ fun t y i h0 h1 => by
    rw [after0_11]
    exact leaves_part m c 6 t y i h0 h1 _ (left11 _ _ _ _ _)
theorem result12 (c : Dev nD) : (dats m 0 c).arrAt 12 cfg0.N = turnedHeadsOf m c 5 (m ((c : Thread nD τ).loc main_arg4)) :=
  array12 (dats m 0 c) _ fun t y i h0 h1 h2 => by
    have e1 : (y 1 : Fin 512) = i 1 := Fin.ext h1.symm
    have hz : (y 0).val < 1 := (y 0).isLt
    rw [after0_12]
    refine ((congrArg _ (eq_ix3 (n0 := 1) (n1 := 512) (n2 := 1024) y)).trans (left12 (iblk m c 0 t) (iblk m c 1 t) (iblk m c 2 t) (iblk m c 3 t) (iblk m c 4 t) (y 0) (y 1) (y 2))).trans ?_
    rw [blk_prompt m c t (y 2) (i 0) (i 2) (by omega) h2, funext (blk_g m c t), funext fun k => funext (blk_w m c t k), e1, funext (blk_k m c t)]
    rfl
theorem result13 (c : Dev nD) : (dats m 0 c).arrAt 13 cfg0.N = turnedPartsOf m c 6 :=
  array13 (dats m 0 c) _ fun t y i h0 h1 h2 => by
    have e1 : (y 1 : Fin 512) = i 1 := Fin.ext h1.symm
    have hz : (y 0).val < 1 := (y 0).isLt
    rw [after0_13]
    refine ((congrArg _ (eq_ix3 (n0 := 1) (n1 := 512) (n2 := 1024) y)).trans (left13 (iblk m c 0 t) (iblk m c 1 t) (iblk m c 2 t) (iblk m c 3 t) (iblk m c 4 t) (y 0) (y 1) (y 2))).trans ?_
    rw [blk_prompt m c t (y 2) (i 0) (i 2) (by omega) h2, funext (blk_g m c t), funext fun k => funext (blk_w m c t k), e1]
    rfl

end Cert.Prompt

end
-- ==== Proof.Prompt.Algebra.lean ====
/- The prompt rows' projection and its reference end with equal results. -/
module

public import proofs.«01_k».proof.Proof.Prompt.Results
public import proofs.«01_k».proof.Proof.Gen.Kernel3
public import proofs.«01_k».proof.Defs

@[expose] public section

set_option maxRecDepth 16384
set_option maxHeartbeats 1000000

noncomputable section

namespace Cert.Prompt

open Idealize.ShloMosaic Idealize.SL.Sem Idealize.ShloMosaic.TcCoe

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, fun c => (Cert.Kernel3Ideal.Gen.dats m 0 c).arrAt 12 Cert.Kernel3Ideal.cfg0.N,
    fun c => (Cert.Kernel3Ideal.Gen.dats m 0 c).arrAt 13 Cert.Kernel3Ideal.cfg0.N,
    Cert.Kernel3Ideal.Value.run_blocks m g, (θ_run _ _ _).mono (fun r hr c => ?_) (Cert.Reference3Ideal.Value.run m' g')⟩
  obtain ⟨h5, h6, h7, h8, h9, h10, h11, h12, h13, ha⟩ := hr c
  obtain ⟨e0, e1, e2, e3, e4⟩ := hargs c
  have hp : ∀ n : Fin 7, Ref.parts (m' ((c : Thread Cert.Reference3Ideal.nD Cert.Reference3Ideal.τ).loc Cert.Reference3Ideal.main_arg0))
      (m' ((c : Thread Cert.Reference3Ideal.nD Cert.Reference3Ideal.τ).loc Cert.Reference3Ideal.main_arg1))
      (m' ((c : Thread Cert.Reference3Ideal.nD Cert.Reference3Ideal.τ).loc Cert.Reference3Ideal.main_arg2)) n = partsOf m c n := fun n => by rw [e0, e1, e2]
  refine ⟨h5.trans ((Ref.parts_eq _ _ _ 0 _).trans ((hp 0).trans (result5 m c).symm)), h6.trans ((Ref.parts_eq _ _ _ 1 _).trans ((hp 1).trans (result6 m c).symm)),
    h7.trans ((Ref.parts_eq _ _ _ 2 _).trans ((hp 2).trans (result7 m c).symm)), h8.trans ((Ref.parts_eq _ _ _ 3 _).trans ((hp 3).trans (result8 m c).symm)),
    h9.trans ((Ref.heads_eq _ _ _ _ 4 _).trans (Eq.trans ?_ (result9 m c).symm)), h10.trans ((Ref.heads_eq _ _ _ _ 5 _).trans (Eq.trans ?_ (result10 m c).symm)),
    h11.trans ((Ref.values_eq _ _ _ 6 _).trans ((hp 6).trans (result11 m c).symm)),
    h12.trans ((Ref.turned_heads_eq _ _ _ _ 5 _).trans (Eq.trans ?_ (result12 m c).symm)), h13.trans ((Ref.turned_values_eq _ _ _ 6 _).trans (Eq.trans ?_ (result13 m c).symm)), ha⟩
  · rw [e0, e1, e2, e3]
  · rw [e0, e1, e2, e4]
  · rw [e0, e1, e2, e4]
  · rw [e0, e1, e2]

/-! ## The frames -/

theorem same_defs {F : FTy → Type} [FloatOps F] : (@Cert.Kernel3.defs F _ Cert.Kernel3.Gen.facts) = (@Cert.Kernel3Ideal.defs F _ Cert.Kernel3Ideal.Gen.facts) := by
  unfold Cert.Kernel3.defs Cert.Kernel3.defs₀
  refine congrArg _ (congrArg Defs.onTc (funext fun l => funext fun p => ?_))
  match l, p with
  | 0, (t, s) => rfl
  | ⟨_ + 1, h⟩, _ => exact absurd h (Nat.not_lt.2 (Nat.le_add_left _ _))

theorem same_main {F : FTy → Type} [FloatOps F] : (@Cert.Kernel3.main F _ Cert.Kernel3.Gen.facts) = (@Cert.Kernel3Ideal.main F _ Cert.Kernel3Ideal.Gen.facts) := by
  unfold Cert.Kernel3.main Cert.Kernel3Ideal.main
  rfl

theorem frame_kernel : Cert.quiescent_Kernel3 (hKernel3 := Cert.Kernel3.Gen.facts) := fun m ρ _ =>
  Eq.mpr (congrArg₂ (fun d p => θ_run d (onTc (τ := Cert.Kernel3.τ) p) ⟨m, fun _ => 0, ρ⟩ _) same_defs same_main)
    (Cert.Kernel3Ideal.Gen.frame (F := Bits) m ρ)

theorem frame_ideal : Cert.quiescent_Kernel3Ideal (hKernel3Ideal := Cert.Kernel3Ideal.Gen.facts) := fun m ρ _ =>
  Cert.Kernel3Ideal.Gen.frame (F := Ideal) m ρ

theorem frame_reference : Cert.quiescent_Reference3Ideal (hReference3Ideal := Cert.Reference3Ideal.Gen.facts) := fun m ρ _ =>
  (θ_run Cert.Reference3Ideal.defs _ _).mono (fun r h => ⟨fun c => (h c).2.2.2.2.2.2.2.2.2, Idealize.ShloMosaic.sem_eq_zero_of_no_sems (by decide) r.2⟩)
    (Cert.Reference3Ideal.Value.run (F := Ideal) m ρ)

end Cert.Prompt

end
-- ==== Proof.Sample.Blocks.lean ====
/- Where each block of the sample's projection lies in its array, and each result from the blocks left. -/
module

public import proofs.«01_k».proof.Proof.Gen.Kernel4Ideal.Value
public import Idealize.ShloMosaic.Lib.Pipeline.ValueKit.Geometry
public import Idealize.ShloMosaic.Lib.Pipeline.Covers
public import Idealize.ShloMosaic.Lib.Pointwise

@[expose] public section

set_option maxRecDepth 16384

noncomputable section

namespace Cert.Sample

open Cert.Kernel4Ideal Cert.Kernel4Ideal.Gen
open Idealize.ShloMosaic Idealize.ShloMosaic.TcCoe Idealize.ShloMosaic.Tactic
open Idealize.SL Idealize.SL.RA
open Idealize.ShloMosaic.Pipeline (Dat Cfg Window)

variable {F : FTy → Type} [FloatOps F]

/-- Step `t` takes the `t`-th block of rows, -/
theorem tile (t : Fin cfg0.N) : cc0_transform_0 (grid0.coords t) = ![t.val, 0] :=
  (by decide +kernel : ∀ t : Fin grid0.N, cc0_transform_0 (grid0.coords t) = ![t.val, 0]) t

theorem tile_row (t : Fin cfg0.N) (r : ℕ) : cc0_transform_0 (grid0.coords t) 0 * 256 + 1 * r = t.val * 256 + r := by
  rw [tile]; exact (by omega : t.val * 256 + 1 * r = t.val * 256 + r)

/-- whole in every other direction. -/
theorem whole (n r : ℕ) : 0 * n + 1 * r = r := by omega

/-! ## The blocks read -/

theorem read0 (V : S256x1024.Idx → F .f32) (t : Fin cfg0.N) (y : S256x1024.Idx) (i : S256x1024.Idx)
    (h0 : (i 0).val = t.val * 256 + (y 0).val) (h1 : (i 1).val = (y 1).val) : ((cfg0.win 0).blk t).view.read (Elt F) V y = V i := by
  show V (((cfg0.win 0).blk t).view.emb y) = V i
  refine congrArg V (funext fun b => Fin.ext ?_)
  match b with
  | ⟨0, _⟩ => exact (tile_row t (y 0).val).trans h0.symm
  | ⟨1, _⟩ => exact (whole 1024 (y 1).val).trans h1.symm

theorem read1 (V : S1x1024.Idx → F .f32) (t : Fin cfg0.N) : ((cfg0.win 1).blk t).view.read (Elt F) V = V :=
  funext fun y => congrArg V (funext fun b => Fin.ext (match b with
    | ⟨0, _⟩ => whole 1 (y 0).val
    | ⟨1, _⟩ => whole 1024 (y 1).val))

theorem read2 (V : S1024x3584.Idx → F .bf16) (t : Fin cfg0.N) : ((cfg0.win 2).blk t).view.read (Elt F) V = V :=
  funext fun y => congrArg V (funext fun b => Fin.ext (match b with
    | ⟨0, _⟩ => whole 1024 (y 0).val
    | ⟨1, _⟩ => whole 3584 (y 1).val))

theorem read3 (V : S1x512.Idx → F .f32) (t : Fin cfg0.N) : ((cfg0.win 3).blk t).view.read (Elt F) V = V :=
  funext fun y => congrArg V (funext fun b => Fin.ext (match b with
    | ⟨0, _⟩ => whole 1 (y 0).val
    | ⟨1, _⟩ => whole 512 (y 1).val))

theorem read4 (V : S1x512.Idx → F .f32) (t : Fin cfg0.N) : ((cfg0.win 4).blk t).view.read (Elt F) V = V :=
  funext fun y => congrArg V (funext fun b => Fin.ext (match b with
    | ⟨0, _⟩ => whole 1 (y 0).val
    | ⟨1, _⟩ => whole 512 (y 1).val))

/-! ## The results from the blocks left -/

theorem array5 {c : Dev nD} (dat : Dat τ (Elt F) Unit ℕ (UR sig nD τ) ℕ cfg0 c) (G : S256x512.Idx → F .f32)
    (hG : ∀ (t : Fin cfg0.N) (y : S256x512.Idx) (i : S256x512.Idx), (i 0).val = t.val * 256 + (y 0).val → (i 1).val = (y 1).val →
      (dat.after 5 t : S256x512.Idx → F .f32) y = G i) : dat.arrAt 5 cfg0.N = G :=
  dat.arrAt_eq_of_covers 5 G (by decide +kernel) fun t _ y => hG t y _ (tile_row t _) (whole 512 _)

theorem array6 {c : Dev nD} (dat : Dat τ (Elt F) Unit ℕ (UR sig nD τ) ℕ cfg0 c) (G : S256x512.Idx → F .f32)
    (hG : ∀ (t : Fin cfg0.N) (y : S256x512.Idx) (i : S256x512.Idx), (i 0).val = t.val * 256 + (y 0).val → (i 1).val = (y 1).val →
      (dat.after 6 t : S256x512.Idx → F .f32) y = G i) : dat.arrAt 6 cfg0.N = G :=
  dat.arrAt_eq_of_covers 6 G (by decide +kernel) fun t _ y => hG t y _ (tile_row t _) (whole 512 _)

theorem array7 {c : Dev nD} (dat : Dat τ (Elt F) Unit ℕ (UR sig nD τ) ℕ cfg0 c) (G : S256x512.Idx → F .f32)
    (hG : ∀ (t : Fin cfg0.N) (y : S256x512.Idx) (i : S256x512.Idx), (i 0).val = t.val * 256 + (y 0).val → (i 1).val = (y 1).val →
      (dat.after 7 t : S256x512.Idx → F .f32) y = G i) : dat.arrAt 7 cfg0.N = G :=
  dat.arrAt_eq_of_covers 7 G (by decide +kernel) fun t _ y => hG t y _ (tile_row t _) (whole 512 _)

theorem array8 {c : Dev nD} (dat : Dat τ (Elt F) Unit ℕ (UR sig nD τ) ℕ cfg0 c) (G : S256x512.Idx → F .f32)
    (hG : ∀ (t : Fin cfg0.N) (y : S256x512.Idx) (i : S256x512.Idx), (i 0).val = t.val * 256 + (y 0).val → (i 1).val = (y 1).val →
      (dat.after 8 t : S256x512.Idx → F .f32) y = G i) : dat.arrAt 8 cfg0.N = G :=
  dat.arrAt_eq_of_covers 8 G (by decide +kernel) fun t _ y => hG t y _ (tile_row t _) (whole 512 _)

theorem array9 {c : Dev nD} (dat : Dat τ (Elt F) Unit ℕ (UR sig nD τ) ℕ cfg0 c) (G : S256x512.Idx → F .f32)
    (hG : ∀ (t : Fin cfg0.N) (y : S256x512.Idx) (i : S256x512.Idx), (i 0).val = t.val * 256 + (y 0).val → (i 1).val = (y 1).val →
      (dat.after 9 t : S256x512.Idx → F .f32) y = G i) : dat.arrAt 9 cfg0.N = G :=
  dat.arrAt_eq_of_covers 9 G (by decide +kernel) fun t _ y => hG t y _ (tile_row t _) (whole 512 _)

theorem array10 {c : Dev nD} (dat : Dat τ (Elt F) Unit ℕ (UR sig nD τ) ℕ cfg0 c) (G : S256x512.Idx → F .f32)
    (hG : ∀ (t : Fin cfg0.N) (y : S256x512.Idx) (i : S256x512.Idx), (i 0).val = t.val * 256 + (y 0).val → (i 1).val = (y 1).val →
      (dat.after 10 t : S256x512.Idx → F .f32) y = G i) : dat.arrAt 10 cfg0.N = G :=
  dat.arrAt_eq_of_covers 10 G (by decide +kernel) fun t _ y => hG t y _ (tile_row t _) (whole 512 _)

theorem array11 {c : Dev nD} (dat : Dat τ (Elt F) Unit ℕ (UR sig nD τ) ℕ cfg0 c) (G : S256x512.Idx → F .f32)
    (hG : ∀ (t : Fin cfg0.N) (y : S256x512.Idx) (i : S256x512.Idx), (i 0).val = t.val * 256 + (y 0).val → (i 1).val = (y 1).val →
      (dat.after 11 t : S256x512.Idx → F .f32) y = G i) : dat.arrAt 11 cfg0.N = G :=
  dat.arrAt_eq_of_covers 11 G (by decide +kernel) fun t _ y => hG t y _ (tile_row t _) (whole 512 _)

end Cert.Sample

end
-- ==== Proof.Sample.Kernel.lean ====
/- What the decode rows' projection leaves, read at an element. -/
module

public import proofs.«01_k».proof.Proof.Gen.Kernel4Ideal.Value
public import proofs.«01_k».proof.Proof.Layer.Heads

@[expose] public section

set_option maxRecDepth 16384
set_option maxHeartbeats 1000000

noncomputable section

namespace Cert.Sample

open Idealize.ShloMosaic Cert.Kernel4Ideal Cert.Kernel4Ideal.Gen Cert.Kernel4Ideal.Value Cert.Layer

/-- The two heads in 128 lanes, each normalized, as the body writes it. -/
def halves (s : FVec Ideal S256x128 .f32) : FVec Ideal S256x128 .f32 :=
  mulf s (rsqrt (addf (mulf (select k0_pay11
      (broadcastTo S256x128 (shapeCast S256x1 (shapeCast S256x1 (multiReduction .add [1] S256 (select k0_pay11 (mulf s s) (broadcast S256x128 (Scalar.ofBits .f32 0x00000000#32))) 0x00000000#32 reduces_S256x128_S256 (.inl rfl) rfl) shapeCasts_S256_S256x1) shapeCasts_S256x1_S256x1) broadcasts_S256x1_S256x128)
      (broadcastTo S256x128 (shapeCast S256x1 (shapeCast S256x1 (multiReduction .add [1] S256 (select k0_pay11 (broadcast S256x128 (Scalar.ofBits .f32 0x00000000#32)) (mulf s s)) 0x00000000#32 reduces_S256x128_S256 (.inl rfl) rfl) shapeCasts_S256_S256x1) shapeCasts_S256x1_S256x1) broadcasts_S256x1_S256x128))
    (broadcast S256x128 (Scalar.ofBits .f32 0x3C800000#32))) (broadcast S256x128 (Scalar.ofBits .f32 0x358637BD#32))))

theorem halves_at (s : FVec Ideal S256x128 .f32) (r : Fin 256) (l : Fin 128) :
    halves s (ix2 r l) = s (ix2 r l) * scale (Ideal.ofBits .f32 0x42800000#32) (fun q : Fin 64 => s (ix2 r ⟨l.val / 64 * 64 + q.val, by omega⟩)) := by
  pointwise [halves, k0_pay11]
  simp only [pick_lower]
  exact congrArg (s (ix2 r l) * ·) (half_scale (fun l => s (ix2 r l)) l)

/-- The rows' products with a matrix. -/
theorem product_at (x : Vec Ideal S256x1024 .f32) (g : Vec Ideal S1x1024 .f32) (w : Vec Ideal S1024x512 .bf16) (r : Fin 256) (j : Fin 512) :
    k0_pay9 (k0_pay3 x g) w (ix2 r j) = product (fun k => x (ix2 r k)) (fun k => g (ix2 0 k)) (fun k j => w (ix2 k j)) j := by
  pointwise [k0_pay9, k0_pay3]
  rfl

/-- Two heads' lanes of the products. -/
def lanes (Y : FVec Ideal S256x512 .f32) (n : Fin 4) : FVec Ideal S256x128 .f32 :=
  fun i => Y (ix2 (i 0) ⟨n.val * 128 + (i 1).val, by have h : (i 1).val < 128 := (i 1).isLt; omega⟩)

theorem lanes_eq (Y : FVec Ideal S256x512 .f32) (n : Fin 4) (h : S256x512.Slices ![0, n.val * 128] S256x128) :
    extractStridedSlice S256x128 ![0, n.val * 128] Y h = lanes Y n := by
  funext i
  refine congrArg Y (funext fun a => ?_)
  match a with
  | ⟨0, _⟩ => exact Fin.ext (by show 0 + (i 0).val = (i 0).val; omega)
  | ⟨1, _⟩ => rfl

theorem queries_cat (x : Vec Ideal S256x1024 .f32) (g : Vec Ideal S1x1024 .f32) (w : Vec Ideal S1024x512 .bf16) (gq : Vec Ideal S1x512 .f32) (n : Fin 4) :
    Cat9_0 x g w gq n = halves (lanes (k0_pay9 (k0_pay3 x g) w) n) := by
  rw [← lanes_eq _ n (match n with
    | 0 => slices_S256x512_o0_0_S256x128 | 1 => slices_S256x512_o0_128_S256x128 | 2 => slices_S256x512_o0_256_S256x128 | 3 => slices_S256x512_o0_384_S256x128)]
  match n with
  | 0 => rfl
  | 1 => rfl
  | 2 => rfl
  | 3 => rfl

theorem keys_cat (x : Vec Ideal S256x1024 .f32) (g : Vec Ideal S1x1024 .f32) (w : Vec Ideal S1024x512 .bf16) (gk : Vec Ideal S1x512 .f32) (n : Fin 4) :
    Cat10_0 x g w gk n = Cat9_0 x g w gk n := by
  match n with
  | 0 => rfl
  | 1 => rfl
  | 2 => rfl
  | 3 => rfl

/-- Two heads' lanes, normalized, read at an element of the row. -/
theorem lanes_head (Y : FVec Ideal S256x512 .f32) (gq : Vec Ideal S1x512 .f32) (r : Fin 256) (j : Fin 512) :
    halves (lanes Y ⟨j.val / 128, by omega⟩) (ix2 r ⟨j.val % 128, by omega⟩) * gq (ix2 0 j)
      = head (fun j => Y (ix2 r j)) (fun j => gq (ix2 0 j)) j := by
  rw [halves_at]
  have e : (⟨j.val / 128 * 128 + j.val % 128, by omega⟩ : Fin 512) = j := Fin.ext (by show j.val / 128 * 128 + j.val % 128 = j.val; omega)
  have e' : ∀ q : Fin 64, (⟨j.val / 128 * 128 + (j.val % 128 / 64 * 64 + q.val), by omega⟩ : Fin 512) = ⟨j.val / 64 * 64 + q.val, by omega⟩ :=
    fun q => Fin.ext (by show j.val / 128 * 128 + (j.val % 128 / 64 * 64 + q.val) = j.val / 64 * 64 + q.val; omega)
  show Y (ix2 r ⟨j.val / 128 * 128 + j.val % 128, _⟩) * scale _ (fun q : Fin 64 => Y (ix2 r ⟨j.val / 128 * 128 + (j.val % 128 / 64 * 64 + q.val), _⟩)) * _ = _
  simp only [e, e']
  rfl

theorem queries_at (x : Vec Ideal S256x1024 .f32) (g : Vec Ideal S1x1024 .f32) (w : Vec Ideal S1024x512 .bf16) (gq : Vec Ideal S1x512 .f32) (r : Fin 256) (j : Fin 512) :
    E9 x g w gq (ix2 r j) = head (fun j => k0_pay9 (k0_pay3 x g) w (ix2 r j)) (fun j => gq (ix2 0 j)) j := by
  have e0 : ix9_0 (ix2 r j) = ix2 r ⟨j.val % 128, by omega⟩ := funext fun a => match a with | ⟨0, _⟩ => rfl | ⟨1, _⟩ => rfl
  have e1 : ix9_1 (ix2 r j) = ix2 0 j := funext fun a => match a with | ⟨0, _⟩ => rfl | ⟨1, _⟩ => rfl
  have e2 : csel9_0 (ix2 r j) = (⟨j.val / 128, by omega⟩ : Fin 4) := rfl
  unfold E9
  rw [e0, e1, e2, queries_cat]
  exact lanes_head _ gq r j

theorem keys_at (x : Vec Ideal S256x1024 .f32) (g : Vec Ideal S1x1024 .f32) (w : Vec Ideal S1024x512 .bf16) (gk : Vec Ideal S1x512 .f32) (y : S256x512.Idx) :
    E10 x g w gk y = E9 x g w gk y := by
  unfold E10 E9
  rw [keys_cat]

end Cert.Sample

end
-- ==== Proof.Sample.Reference.lean ====
/- The decode rows' projection's reference, read at an element. -/
module

public import proofs.«01_k».proof.Proof.Gen.Reference4Ideal.Run
public import proofs.«01_k».proof.Proof.Layer.Heads

@[expose] public section

set_option maxRecDepth 16384
set_option maxHeartbeats 1000000

noncomputable section

namespace Cert.Sample.Ref

open Idealize.ShloMosaic Cert.Reference4Ideal Cert.Reference4Ideal.Gen Cert.Layer

/-- The rows, normalized. -/
def rows (x0 : FVec Ideal S32x8x1024 .f32) (x1 : FVec Ideal S1x1024 .f32) : FVec Ideal S32x8x1024 .f32 :=
  (mulf (mulf x0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf x0 x0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ x1 shapeCasts_S1x1024_S1024))))

/-- Their products with the matrix. -/
def products (x0 : FVec Ideal S32x8x1024 .f32) (x1 : FVec Ideal S1x1024 .f32) (x2 : FVec Ideal S1x1024x3584 .f32) : FVec Ideal S32x8x3584 .f32 :=
  (Host.dotGeneral (F := Ideal) dot_S32x8x1024_S1024x3584_S32x8x3584_2_0_01_1_n_n none (rows x0 x1) (shapeCast _ x2 shapeCasts_S1x1024x3584_S1024x3584))

/-- Each head normalized. -/
def headnorm (h : FVec Ideal S32x8x8x64 .f32) (x3 : FVec Ideal S1x64 .f32) : FVec Ideal S32x8x8x64 .f32 :=
  (mulf (mulf h (broadcastInDim S32x8x8x64 ![0, 1, 2, 3] bcast_S32x8x8x1_S32x8x8x64_0_1_2_3 (Host.rsqrt (addf (Host.divf (broadcastInDim S32x8x8x1 ![0, 1, 2] bcast_S32x8x8_S32x8x8x1_0_1_2 (Host.reduceAdd (mulf h h) (constant S_ .f32 0x00000000#32) reducesTo_S32x8x8x64_S32x8x8_d3 h_S_)) (broadcastInDim S32x8x8x1 ![] bcast_S_S32x8x8x1 (constant S_ .f32 0x42800000#32))) (broadcastInDim S32x8x8x1 ![] bcast_S_S32x8x8x1 (constant S_ .f32 0x358637BD#32)))))) (broadcastInDim S32x8x8x64 ![0, 1, 2, 3] bcast_S1x1x1x64_S32x8x8x64_0_1_2_3 (broadcastInDim S1x1x1x64 ![3] bcast_S64_S1x1x1x64_3 (shapeCast _ x3 shapeCasts_S1x64_S64))))

/-- A block of 512 columns. -/
def cols (P : FVec Ideal S32x8x3584 .f32) (n : Fin 7) : FVec Ideal S32x8x512 .f32 :=
  fun i => P (ix3 (i 0) (i 1) ⟨n.val * 512 + (i 2).val, by have h : (i 2).val < 512 := (i 2).isLt; omega⟩)

theorem cols_eq (P : FVec Ideal S32x8x3584 .f32) (n : Fin 7) (h : S32x8x3584.Slices ![0, 0, n.val * 512] S32x8x512) :
    extractStridedSlice S32x8x512 ![0, 0, n.val * 512] P h = cols P n := by
  funext i
  refine congrArg P (funext fun a => ?_)
  match a with
  | ⟨0, _⟩ => exact Fin.ext (Nat.zero_add _)
  | ⟨1, _⟩ => exact Fin.ext (Nat.zero_add _)
  | ⟨2, _⟩ => rfl

theorem rows_at (x0 : FVec Ideal S32x8x1024 .f32) (x1 : FVec Ideal S1x1024 .f32) (b : Fin 32) (s : Fin 8) (k : Fin 1024) :
    rows x0 x1 (ix3 b s k) = norm (Ideal.ofBits .f32 0x44800000#32) (fun k => x0 (ix3 b s k)) (fun k => x1 (ix2 0 k)) k := by
  pointwise [rows]
  rfl

theorem products_at (x0 : FVec Ideal S32x8x1024 .f32) (x1 : FVec Ideal S1x1024 .f32) (x2 : FVec Ideal S1x1024x3584 .f32)
    (b : Fin 32) (s : Fin 8) (j : Fin 3584) :
    products x0 x1 x2 (ix3 b s j) = product (fun k => x0 (ix3 b s k)) (fun k => x1 (ix2 0 k)) (fun k j => x2 (ix3 0 k j)) j := by
  pointwise [products]
  simp only [rows_at]
  rfl

theorem cols_at (x0 : FVec Ideal S32x8x1024 .f32) (x1 : FVec Ideal S1x1024 .f32) (x2 : FVec Ideal S1x1024x3584 .f32) (n : Fin 7)
    (b : Fin 32) (s : Fin 8) (j : Fin 512) :
    cols (products x0 x1 x2) n (ix3 b s j) = part (fun k => x0 (ix3 b s k)) (fun k => x1 (ix2 0 k)) (fun k j => x2 (ix3 0 k j)) n j :=
  products_at x0 x1 x2 b s _

theorem headnorm_at (h : FVec Ideal S32x8x8x64 .f32) (x3 : FVec Ideal S1x64 .f32) (b : Fin 32) (s : Fin 8) (n : Fin 8) (e : Fin 64) :
    headnorm h x3 (ix4 b s n e) = norm (Ideal.ofBits .f32 0x42800000#32) (fun q => h (ix4 b s n q)) (fun q => x3 (ix2 0 q)) e := by
  pointwise [headnorm]
  rfl

/-- Row `n` of the decode rows, the 32 sequences' eight one after another. -/
def row (X : FVec Ideal S32x8x1024 .f32) (n : Fin 256) : Fin 1024 → EReal :=
  fun k => X (ix3 ⟨n.val / 8, by omega⟩ ⟨n.val % 8, by omega⟩ k)

/-- The rows' column block `n`. -/
def parts (X : FVec Ideal S32x8x1024 .f32) (g : FVec Ideal S1x1024 .f32) (w : FVec Ideal S1x1024x3584 .f32) (n : Fin 7) : S256x512.Idx → EReal :=
  fun i => part (row X (i 0)) (fun k => g (ix2 0 k)) (fun k j => w (ix3 0 k j)) n (i 1)

/-- The rows' column block `n`, its heads normalized. -/
def heads (X : FVec Ideal S32x8x1024 .f32) (g : FVec Ideal S1x1024 .f32) (w : FVec Ideal S1x1024x3584 .f32) (n : Fin 7) (e : FVec Ideal S1x64 .f32) :
    S256x512.Idx → EReal :=
  fun i => headed (row X (i 0)) (fun k => g (ix2 0 k)) (fun k j => w (ix3 0 k j)) n (fun q => e (ix2 0 q)) (i 1)

variable (x0 : FVec Ideal S32x8x1024 .f32) (x1 : FVec Ideal S1x1024 .f32) (w : FVec Ideal S1x1024x3584 .f32) (e : FVec Ideal S1x64 .f32)

theorem parts_eq (n : Fin 7) (h : S32x8x3584.Slices ![0, 0, n.val * 512] S32x8x512) :
    shapeCast S256x512 (extractStridedSlice S32x8x512 ![0, 0, n.val * 512] (products x0 x1 w) h) shapeCasts_S32x8x512_S256x512 = parts x0 x1 w n := by
  rw [cols_eq]
  funext i
  obtain ⟨r, j, rfl⟩ : ∃ (r : Fin 256) (j : Fin 512), i = ix2 r j := ⟨i 0, i 1, eq_ix2 i⟩
  pointwise
  simp only [cols_at]
  rfl

theorem heads_eq (n : Fin 7) (h : S32x8x3584.Slices ![0, 0, n.val * 512] S32x8x512) :
    shapeCast S256x512 (headnorm (shapeCast S32x8x8x64 (extractStridedSlice S32x8x512 ![0, 0, n.val * 512] (products x0 x1 w) h) shapeCasts_S32x8x512_S32x8x8x64) e)
      shapeCasts_S32x8x8x64_S256x512 = heads x0 x1 w n e := by
  rw [cols_eq]
  funext i
  obtain ⟨r, j, rfl⟩ : ∃ (r : Fin 256) (j : Fin 512), i = ix2 r j := ⟨i 0, i 1, eq_ix2 i⟩
  refine Eq.trans ?_ (head_eq (part (row x0 r) (fun k => x1 (ix2 0 k)) (fun k j => w (ix3 0 k j)) n) (fun q => e (ix2 0 q)) j)
  pointwise
  simp only [headnorm_at]
  pointwise
  simp only [cols_at]
  rfl

end Cert.Sample.Ref

end
-- ==== Proof.Sample.Results.lean ====
/- The decode rows' projection's results as the rows' column blocks. -/
module

public import proofs.«01_k».proof.Proof.Sample.Blocks
public import proofs.«01_k».proof.Proof.Sample.Kernel
public import proofs.«01_k».proof.Proof.Sample.Reference
public import Idealize.ShloMosaic.Lib.Pipeline.ValueKit.Tiles

@[expose] public section

set_option maxRecDepth 16384
set_option maxHeartbeats 1000000

noncomputable section

namespace Cert.Sample

open Idealize.ShloMosaic Idealize.SL.Sem Idealize.ShloMosaic.TcCoe Idealize.ShloMosaic.Tactic Cert.Layer
open Cert.Kernel4Ideal Cert.Kernel4Ideal.Gen Cert.Kernel4Ideal.Value

variable (m : (ℓ : Loc nD τ sig) → Buf (Elt Ideal) ℓ)

/-! ## The arrays the call reads -/

/-- A head's gains, once for each of the eight heads. -/
def gains (e : FVec Ideal S1x64 .f32) : FVec Ideal S1x512 .f32 :=
  shapeCast S1x512 (shapeCast S512 (broadcastInDim S8x64 ![0, 1] bcast_S1x64_S8x64_0_1 (shapeCast S1x64 (shapeCast S64 e shapeCasts_S1x64_S64) shapeCasts_S64_S1x64)) shapeCasts_S8x64_S512) shapeCasts_S512_S1x512

theorem entry_x (c : Dev nD) : V m c main_v12 = shapeCast S256x1024 (m ((c : Thread nD τ).loc main_arg0) : FVec Ideal S32x8x1024 .f32) shapeCasts_S32x8x1024_S256x1024 := by
  unfold V hostOps0
  after_results_simp <;> rfl
theorem entry_g (c : Dev nD) : V m c main_v14 = shapeCast S1x1024 (shapeCast S1024 (m ((c : Thread nD τ).loc main_arg1) : FVec Ideal S1x1024 .f32) shapeCasts_S1x1024_S1024) shapeCasts_S1024_S1x1024 := by
  unfold V hostOps0
  after_results_simp <;> rfl
theorem entry_w (c : Dev nD) : V m c main_v11 = (truncf .bf16 (shapeCast S1024x3584 (m ((c : Thread nD τ).loc main_arg2) : FVec Ideal S1x1024x3584 .f32) shapeCasts_S1x1024x3584_S1024x3584) bitsLt_bf16_f32 : FVec Ideal S1024x3584 .bf16) := by
  unfold V hostOps0
  after_results_simp <;> rfl
theorem entry_q (c : Dev nD) : V m c main_v4 = gains (m ((c : Thread nD τ).loc main_arg3)) := by
  unfold V hostOps0
  after_results_simp <;> rfl
theorem entry_k (c : Dev nD) : V m c main_v9 = gains (m ((c : Thread nD τ).loc main_arg4)) := by
  unfold V hostOps0
  after_results_simp <;> rfl

theorem x_at (X : FVec Ideal S32x8x1024 .f32) (n : Fin 256) (k : Fin 1024) :
    shapeCast S256x1024 X shapeCasts_S32x8x1024_S256x1024 (ix2 n k) = Ref.row X n k := by
  pointwise
  rfl
theorem g_at (g : FVec Ideal S1x1024 .f32) (k : Fin 1024) :
    shapeCast S1x1024 (shapeCast S1024 g shapeCasts_S1x1024_S1024) shapeCasts_S1024_S1x1024 (ix2 0 k) = g (ix2 0 k) := by
  pointwise
theorem w_at (w : FVec Ideal S1x1024x3584 .f32) (k : Fin 1024) (j : Fin 3584) :
    (truncf .bf16 (shapeCast S1024x3584 w shapeCasts_S1x1024x3584_S1024x3584) bitsLt_bf16_f32 : FVec Ideal S1024x3584 .bf16) (ix2 k j) = w (ix3 0 k j) := by
  pointwise
theorem gains_at (e : FVec Ideal S1x64 .f32) (j : Fin 512) : gains e (ix2 0 j) = e (ix2 0 ⟨j.val % 64, by omega⟩) := by
  pointwise [gains]

/-! ## The blocks, read -/

theorem blk_x (c : Dev nD) (t : Fin cfg0.N) (r n : Fin 256) (hn : n.val = t.val * 256 + r.val) (k : Fin 1024) :
    (iblk m c 0 t : S256x1024.Idx → EReal) (ix2 r k) = Ref.row (m ((c : Thread nD τ).loc main_arg0)) n k :=
  ((read0 (F := Ideal) (V m c main_v12) t (ix2 r k) (ix2 n k) hn rfl).trans (congrFun (entry_x m c) _)).trans (x_at _ n k)
theorem blk_g (c : Dev nD) (t : Fin cfg0.N) (k : Fin 1024) :
    (iblk m c 1 t : S1x1024.Idx → EReal) (ix2 0 k) = (m ((c : Thread nD τ).loc main_arg1) : FVec Ideal S1x1024 .f32) (ix2 0 k) :=
  ((congrFun (read1 (F := Ideal) (V m c main_v14) t) _).trans (congrFun (entry_g m c) _)).trans (g_at _ k)
theorem blk_w (c : Dev nD) (t : Fin cfg0.N) (k : Fin 1024) (j : Fin 3584) :
    (iblk m c 2 t : S1024x3584.Idx → EReal) (ix2 k j) = (m ((c : Thread nD τ).loc main_arg2) : FVec Ideal S1x1024x3584 .f32) (ix3 0 k j) :=
  ((congrFun (read2 (F := Ideal) (V m c main_v11) t) _).trans (congrFun (entry_w m c) _)).trans (w_at _ k j)
theorem blk_q (c : Dev nD) (t : Fin cfg0.N) (j : Fin 512) :
    (iblk m c 3 t : S1x512.Idx → EReal) (ix2 0 j) = (m ((c : Thread nD τ).loc main_arg3) : FVec Ideal S1x64 .f32) (ix2 0 ⟨j.val % 64, by omega⟩) :=
  ((congrFun (read3 (F := Ideal) (V m c main_v4) t) _).trans (congrFun (entry_q m c) _)).trans (gains_at _ j)
theorem blk_k (c : Dev nD) (t : Fin cfg0.N) (j : Fin 512) :
    (iblk m c 4 t : S1x512.Idx → EReal) (ix2 0 j) = (m ((c : Thread nD τ).loc main_arg4) : FVec Ideal S1x64 .f32) (ix2 0 ⟨j.val % 64, by omega⟩) :=
  ((congrFun (read4 (F := Ideal) (V m c main_v9) t) _).trans (congrFun (entry_k m c) _)).trans (gains_at _ j)

/-! ## What a step leaves, from the blocks -/

section Left

variable (x0 : Vec Ideal S256x1024 .f32) (x1 : Vec Ideal S1x1024 .f32) (x2 : Vec Ideal S1024x3584 .bf16) (x3 x4 : Vec Ideal S1x512 .f32)

/-- The products with a block of 512 columns. -/
theorem part_at (n : Fin 7) (inb : ∀ a, (![0, n.val * 512] : Fin 2 → ℕ) a + S1024x512.size a ≤ S1024x3584.size a) (r : Fin 256) (j : Fin 512) :
    k0_pay9 (k0_pay3 (View.ld x0 r0_0) (View.ld x1 r0_1)) (View.ld x2 (Rect.unit (s := S1024x3584) ![0, n.val * 512] S1024x512.size inb)) (ix2 r j)
      = part (fun k => x0 (ix2 r k)) (fun k => x1 (ix2 0 k)) (fun k j => x2 (ix2 k j)) n j := by
  have e : ∀ (k : Fin 1024) (j : Fin 512), View.ld x2 (Rect.unit (s := S1024x3584) ![0, n.val * 512] S1024x512.size inb) (ix2 k j)
      = x2 (ix2 k ⟨n.val * 512 + j.val, by omega⟩) := fun k j =>
    View.ld_unit_apply_of x2 _ _ inb (ix2 k j) _ fun a => match a with | ⟨0, _⟩ => (Nat.zero_add _).symm | ⟨1, _⟩ => rfl
  refine (product_at _ _ _ r j).trans ?_
  rw [View.ld_unit_lit _ x0 (by decide), View.ld_unit_lit _ x1 (by decide)]
  simp only [e]
  rfl

/-- A block of 512 columns, its heads normalized. -/
theorem headed_at (n : Fin 7) (inb : ∀ a, (![0, n.val * 512] : Fin 2 → ℕ) a + S1024x512.size a ≤ S1024x3584.size a) (g : Vec Ideal S1x512 .f32) (r : Fin 256) (j : Fin 512) :
    E9 (View.ld x0 r0_0) (View.ld x1 r0_1) (View.ld x2 (Rect.unit (s := S1024x3584) ![0, n.val * 512] S1024x512.size inb)) (View.ld g r0_8) (ix2 r j)
      = head (part (fun k => x0 (ix2 r k)) (fun k => x1 (ix2 0 k)) (fun k j => x2 (ix2 k j)) n) (fun j => g (ix2 0 j)) j := by
  rw [queries_at, View.ld_unit_lit _ g (by decide), funext (part_at x0 x1 x2 n inb r)]

theorem left5 (r : Fin 256) (j : Fin 512) : out0_5 x0 x1 x2 x3 x4 (ix2 r j)
    = part (fun k => x0 (ix2 r k)) (fun k => x1 (ix2 0 k)) (fun k j => x2 (ix2 k j)) 0 j :=
  (congrFun (View.canon_cons_unit_lit (S := S256x512) _ _ [] (by decide)) _).trans (part_at x0 x1 x2 0 _ r j)
theorem left6 (r : Fin 256) (j : Fin 512) : out0_6 x0 x1 x2 x3 x4 (ix2 r j)
    = part (fun k => x0 (ix2 r k)) (fun k => x1 (ix2 0 k)) (fun k j => x2 (ix2 k j)) 1 j :=
  (congrFun (View.canon_cons_unit_lit (S := S256x512) _ _ [] (by decide)) _).trans (part_at x0 x1 x2 1 _ r j)
theorem left7 (r : Fin 256) (j : Fin 512) : out0_7 x0 x1 x2 x3 x4 (ix2 r j)
    = part (fun k => x0 (ix2 r k)) (fun k => x1 (ix2 0 k)) (fun k j => x2 (ix2 k j)) 2 j :=
  (congrFun (View.canon_cons_unit_lit (S := S256x512) _ _ [] (by decide)) _).trans (part_at x0 x1 x2 2 _ r j)
theorem left8 (r : Fin 256) (j : Fin 512) : out0_8 x0 x1 x2 x3 x4 (ix2 r j)
    = part (fun k => x0 (ix2 r k)) (fun k => x1 (ix2 0 k)) (fun k j => x2 (ix2 k j)) 3 j :=
  (congrFun (View.canon_cons_unit_lit (S := S256x512) _ _ [] (by decide)) _).trans (part_at x0 x1 x2 3 _ r j)
theorem left9 (r : Fin 256) (j : Fin 512) : out0_9 x0 x1 x2 x3 x4 (ix2 r j)
    = head (part (fun k => x0 (ix2 r k)) (fun k => x1 (ix2 0 k)) (fun k j => x2 (ix2 k j)) 4) (fun j => x3 (ix2 0 j)) j :=
  (canon9_eq (View.ld x0 r0_0) (View.ld x1 r0_1) (View.ld x2 r0_7) (View.ld x3 r0_8) _).trans (headed_at x0 x1 x2 4 _ x3 r j)
theorem left10 (r : Fin 256) (j : Fin 512) : out0_10 x0 x1 x2 x3 x4 (ix2 r j)
    = head (part (fun k => x0 (ix2 r k)) (fun k => x1 (ix2 0 k)) (fun k j => x2 (ix2 k j)) 5) (fun j => x4 (ix2 0 j)) j :=
  ((canon10_eq (View.ld x0 r0_0) (View.ld x1 r0_1) (View.ld x2 r0_9) (View.ld x4 r0_8) _).trans (keys_at _ _ _ _ _)).trans (headed_at x0 x1 x2 5 _ x4 r j)
theorem left11 (r : Fin 256) (j : Fin 512) : out0_11 x0 x1 x2 x3 x4 (ix2 r j)
    = part (fun k => x0 (ix2 r k)) (fun k => x1 (ix2 0 k)) (fun k j => x2 (ix2 k j)) 6 j :=
  (congrFun (View.canon_cons_unit_lit (S := S256x512) _ _ [] (by decide)) _).trans (part_at x0 x1 x2 6 _ r j)

end Left

/-! ## The results -/

/-- Column block `n` of the rows. -/
abbrev partsOf (c : Dev nD) (n : Fin 7) : S256x512.Idx → EReal :=
  Ref.parts (m ((c : Thread nD τ).loc main_arg0)) (m ((c : Thread nD τ).loc main_arg1)) (m ((c : Thread nD τ).loc main_arg2)) n

/-- Column block `n` of the rows, its heads normalized. -/
abbrev headsOf (c : Dev nD) (n : Fin 7) (e : FVec Ideal S1x64 .f32) : S256x512.Idx → EReal :=
  Ref.heads (m ((c : Thread nD τ).loc main_arg0)) (m ((c : Thread nD τ).loc main_arg1)) (m ((c : Thread nD τ).loc main_arg2)) n e

/-- An array a step leaves a column block in. -/
theorem leaves_part (c : Dev nD) (n : Fin 7) (t : Fin cfg0.N) (y i : S256x512.Idx) (h0 : (i 0).val = t.val * 256 + (y 0).val) (h1 : (i 1).val = (y 1).val)
    (f : S256x512.Idx → EReal) (hf : ∀ (r : Fin 256) (j : Fin 512), f (ix2 r j) = part (fun k => (iblk m c 0 t : S256x1024.Idx → EReal) (ix2 r k))
      (fun k => (iblk m c 1 t : S1x1024.Idx → EReal) (ix2 0 k)) (fun k j => (iblk m c 2 t : S1024x3584.Idx → EReal) (ix2 k j)) n j) :
    f y = partsOf m c n i := by
  have e1 : (y 1 : Fin 512) = i 1 := Fin.ext h1.symm
  refine ((congrArg f (eq_ix2 (n0 := 256) (n1 := 512) y)).trans (hf (y 0) (y 1))).trans ?_
  rw [funext fun k => blk_x m c t (y 0) (i 0) h0 k, funext (blk_g m c t), funext fun k => funext (blk_w m c t k), e1]
  rfl

/-- An array a step leaves a column block in, its heads normalized. -/
theorem leaves_heads (c : Dev nD) (n : Fin 7) (e : FVec Ideal S1x64 .f32) (t : Fin cfg0.N) (y i : S256x512.Idx)
    (h0 : (i 0).val = t.val * 256 + (y 0).val) (h1 : (i 1).val = (y 1).val) (g : Fin 512 → EReal) (hg : ∀ j, g j = e (ix2 0 ⟨j.val % 64, by omega⟩))
    (f : S256x512.Idx → EReal) (hf : ∀ (r : Fin 256) (j : Fin 512), f (ix2 r j) = head (part (fun k => (iblk m c 0 t : S256x1024.Idx → EReal) (ix2 r k))
      (fun k => (iblk m c 1 t : S1x1024.Idx → EReal) (ix2 0 k)) (fun k j => (iblk m c 2 t : S1024x3584.Idx → EReal) (ix2 k j)) n) g j) :
    f y = headsOf m c n e i := by
  have e1 : (y 1 : Fin 512) = i 1 := Fin.ext h1.symm
  refine ((congrArg f (eq_ix2 (n0 := 256) (n1 := 512) y)).trans (hf (y 0) (y 1))).trans ?_
  rw [funext fun k => blk_x m c t (y 0) (i 0) h0 k, funext (blk_g m c t), funext fun k => funext (blk_w m c t k), e1, funext hg]
  rfl

theorem result5 (c : Dev nD) : (dats m 0 c).arrAt 5 cfg0.N = partsOf m c 0 :=
  array5 (dats m 0 c) _ fun t y i h0 h1 => by
    rw [after0_5]
    exact leaves_part m c 0 t y i h0 h1 _ (left5 _ _ _ _ _)
theorem result6 (c : Dev nD) : (dats m 0 c).arrAt 6 cfg0.N = partsOf m c 1 :=
  array6 (dats m 0 c) _ fun t y i h0 h1 => by
    rw [after0_6]
    exact leaves_part m c 1 t y i h0 h1 _ (left6 _ _ _ _ _)
theorem result7 (c : Dev nD) : (dats m 0 c).arrAt 7 cfg0.N = partsOf m c 2 :=
  array7 (dats m 0 c) _ fun t y i h0 h1 => by
    rw [after0_7]
    exact leaves_part m c 2 t y i h0 h1 _ (left7 _ _ _ _ _)
theorem result8 (c : Dev nD) : (dats m 0 c).arrAt 8 cfg0.N = partsOf m c 3 :=
  array8 (dats m 0 c) _ fun t y i h0 h1 => by
    rw [after0_8]
    exact leaves_part m c 3 t y i h0 h1 _ (left8 _ _ _ _ _)
theorem result9 (c : Dev nD) : (dats m 0 c).arrAt 9 cfg0.N = headsOf m c 4 (m ((c : Thread nD τ).loc main_arg3)) :=
  array9 (dats m 0 c) _ fun t y i h0 h1 => by
    rw [after0_9]
    exact leaves_heads m c 4 _ t y i h0 h1 _ (blk_q m c t) _ (left9 _ _ _ _ _)
theorem result10 (c : Dev nD) : (dats m 0 c).arrAt 10 cfg0.N = headsOf m c 5 (m ((c : Thread nD τ).loc main_arg4)) :=
  array10 (dats m 0 c) _ fun t y i h0 h1 => by
    rw [after0_10]
    exact leaves_heads m c 5 _ t y i h0 h1 _ (blk_k m c t) _ (left10 _ _ _ _ _)
theorem result11 (c : Dev nD) : (dats m 0 c).arrAt 11 cfg0.N = partsOf m c 6 :=
  array11 (dats m 0 c) _ fun t y i h0 h1 => by
    rw [after0_11]
    exact leaves_part m c 6 t y i h0 h1 _ (left11 _ _ _ _ _)

end Cert.Sample

end
-- ==== Proof.Sample.Algebra.lean ====
/- The decode rows' projection and its reference end with equal results. -/
module

public import proofs.«01_k».proof.Proof.Sample.Results
public import proofs.«01_k».proof.Proof.Gen.Kernel4
public import proofs.«01_k».proof.Defs

@[expose] public section

set_option maxRecDepth 16384
set_option maxHeartbeats 1000000

noncomputable section

namespace Cert.Sample

open Idealize.ShloMosaic Idealize.SL.Sem Idealize.ShloMosaic.TcCoe

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    fun c => (Cert.Kernel4Ideal.Gen.dats m 0 c).arrAt 7 Cert.Kernel4Ideal.cfg0.N, fun c => (Cert.Kernel4Ideal.Gen.dats m 0 c).arrAt 8 Cert.Kernel4Ideal.cfg0.N,
    fun c => (Cert.Kernel4Ideal.Gen.dats m 0 c).arrAt 9 Cert.Kernel4Ideal.cfg0.N, fun c => (Cert.Kernel4Ideal.Gen.dats m 0 c).arrAt 10 Cert.Kernel4Ideal.cfg0.N,
    fun c => (Cert.Kernel4Ideal.Gen.dats m 0 c).arrAt 11 Cert.Kernel4Ideal.cfg0.N,
    Cert.Kernel4Ideal.Value.run_blocks m g, (θ_run _ _ _).mono (fun r hr c => ?_) (Cert.Reference4Ideal.Value.run m' g')⟩
  obtain ⟨h5, h6, h7, h8, h9, h10, h11, ha⟩ := hr c
  obtain ⟨e0, e1, e2, e3, e4⟩ := hargs c
  have hp : ∀ n : Fin 7, Ref.parts (m' ((c : Thread Cert.Reference4Ideal.nD Cert.Reference4Ideal.τ).loc Cert.Reference4Ideal.main_arg0))
      (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2)) n = partsOf m c n := fun n => by rw [e0, e1, e2]
  refine ⟨h5.trans ((Ref.parts_eq _ _ _ 0 _).trans ((hp 0).trans (result5 m c).symm)), h6.trans ((Ref.parts_eq _ _ _ 1 _).trans ((hp 1).trans (result6 m c).symm)),
    h7.trans ((Ref.parts_eq _ _ _ 2 _).trans ((hp 2).trans (result7 m c).symm)), h8.trans ((Ref.parts_eq _ _ _ 3 _).trans ((hp 3).trans (result8 m c).symm)),
    h9.trans ((Ref.heads_eq _ _ _ _ 4 _).trans (Eq.trans ?_ (result9 m c).symm)), h10.trans ((Ref.heads_eq _ _ _ _ 5 _).trans (Eq.trans ?_ (result10 m c).symm)),
    h11.trans ((Ref.parts_eq _ _ _ 6 _).trans ((hp 6).trans (result11 m c).symm)), ha⟩
  · rw [e0, e1, e2, e3]
  · rw [e0, e1, e2, e4]

/-! ## The frames -/

theorem same_defs {F : FTy → Type} [FloatOps F] : (@Cert.Kernel4.defs F _ Cert.Kernel4.Gen.facts) = (@Cert.Kernel4Ideal.defs F _ Cert.Kernel4Ideal.Gen.facts) := by
  unfold Cert.Kernel4.defs Cert.Kernel4.defs₀
  refine congrArg _ (congrArg Defs.onTc (funext fun l => funext fun p => ?_))
  match l, p with
  | 0, (t, s) => rfl
  | ⟨_ + 1, h⟩, _ => exact absurd h (Nat.not_lt.2 (Nat.le_add_left _ _))

theorem same_main {F : FTy → Type} [FloatOps F] : (@Cert.Kernel4.main F _ Cert.Kernel4.Gen.facts) = (@Cert.Kernel4Ideal.main F _ Cert.Kernel4Ideal.Gen.facts) := by
  unfold Cert.Kernel4.main Cert.Kernel4Ideal.main
  rfl

theorem frame_kernel : Cert.quiescent_Kernel4 (hKernel4 := Cert.Kernel4.Gen.facts) := fun m ρ _ =>
  Eq.mpr (congrArg₂ (fun d p => θ_run d (onTc (τ := Cert.Kernel4.τ) p) ⟨m, fun _ => 0, ρ⟩ _) same_defs same_main)
    (Cert.Kernel4Ideal.Gen.frame (F := Bits) m ρ)

theorem frame_ideal : Cert.quiescent_Kernel4Ideal (hKernel4Ideal := Cert.Kernel4Ideal.Gen.facts) := fun m ρ _ =>
  Cert.Kernel4Ideal.Gen.frame (F := Ideal) m ρ

theorem frame_reference : Cert.quiescent_Reference4Ideal (hReference4Ideal := Cert.Reference4Ideal.Gen.facts) := fun m ρ _ =>
  (θ_run Cert.Reference4Ideal.defs _ _).mono (fun r h => ⟨fun c => (h c).2.2.2.2.2.2.2, Idealize.ShloMosaic.sem_eq_zero_of_no_sems (by decide) r.2⟩)
    (Cert.Reference4Ideal.Value.run (F := Ideal) m ρ)

end Cert.Sample

end
-- ==== Proof.Memory.Blocks.lean ====
/- Where each block of the memory projection lies in its array, and each result from the blocks left. -/
module

public import proofs.«01_k».proof.Proof.Gen.Kernel5Ideal.Value
public import Idealize.ShloMosaic.Lib.Pipeline.ValueKit.Geometry
public import Idealize.ShloMosaic.Lib.Pipeline.Covers
public import Idealize.ShloMosaic.Lib.Pointwise

@[expose] public section

set_option maxRecDepth 16384

noncomputable section

namespace Cert.Memory

open Cert.Kernel5Ideal Cert.Kernel5Ideal.Gen
open Idealize.ShloMosaic Idealize.ShloMosaic.TcCoe Idealize.ShloMosaic.Tactic
open Idealize.SL Idealize.SL.RA
open Idealize.ShloMosaic.Pipeline (Dat Cfg Window)

variable {F : FTy → Type} [FloatOps F]

/-- Step `t` takes the `t`-th block of rows, -/
theorem tile (t : Fin cfg0.N) : cc0_transform_0 (grid0.coords t) = ![t.val, 0] :=
  (by decide +kernel : ∀ t : Fin grid0.N, cc0_transform_0 (grid0.coords t) = ![t.val, 0]) t

theorem tile_row (t : Fin cfg0.N) (r : ℕ) : cc0_transform_0 (grid0.coords t) 0 * 256 + 1 * r = t.val * 256 + r := by
  rw [tile]; exact (by omega : t.val * 256 + 1 * r = t.val * 256 + r)

/-- whole in every other direction. -/
theorem whole (n r : ℕ) : 0 * n + 1 * r = r := by omega

/-! ## The blocks read -/

theorem read0 (V : S4096x1024.Idx → F .f32) (t : Fin cfg0.N) (y : S256x1024.Idx) (i : S4096x1024.Idx)
    (h0 : (i 0).val = t.val * 256 + (y 0).val) (h1 : (i 1).val = (y 1).val) : ((cfg0.win 0).blk t).view.read (Elt F) V y = V i := by
  show V (((cfg0.win 0).blk t).view.emb y) = V i
  refine congrArg V (funext fun b => Fin.ext ?_)
  match b with
  | ⟨0, _⟩ => exact (tile_row t (y 0).val).trans h0.symm
  | ⟨1, _⟩ => exact (whole 1024 (y 1).val).trans h1.symm

theorem read1 (V : S1x1024.Idx → F .f32) (t : Fin cfg0.N) : ((cfg0.win 1).blk t).view.read (Elt F) V = V :=
  funext fun y => congrArg V (funext fun b => Fin.ext (match b with
    | ⟨0, _⟩ => whole 1 (y 0).val
    | ⟨1, _⟩ => whole 1024 (y 1).val))

theorem read2 (V : S1024x1024.Idx → F .bf16) (t : Fin cfg0.N) : ((cfg0.win 2).blk t).view.read (Elt F) V = V :=
  funext fun y => congrArg V (funext fun b => Fin.ext (match b with
    | ⟨0, _⟩ => whole 1024 (y 0).val
    | ⟨1, _⟩ => whole 1024 (y 1).val))

theorem read3 (V : S1024x1024.Idx → F .bf16) (t : Fin cfg0.N) : ((cfg0.win 3).blk t).view.read (Elt F) V = V :=
  funext fun y => congrArg V (funext fun b => Fin.ext (match b with
    | ⟨0, _⟩ => whole 1024 (y 0).val
    | ⟨1, _⟩ => whole 1024 (y 1).val))

theorem read4 (V : S1x256.Idx → F .f32) (t : Fin cfg0.N) : ((cfg0.win 4).blk t).view.read (Elt F) V = V :=
  funext fun y => congrArg V (funext fun b => Fin.ext (match b with
    | ⟨0, _⟩ => whole 1 (y 0).val
    | ⟨1, _⟩ => whole 256 (y 1).val))

/-! ## The results from the blocks left -/

theorem array5 {c : Dev nD} (dat : Dat τ (Elt F) Unit ℕ (UR sig nD τ) ℕ cfg0 c) (G : S4096x4x256.Idx → F .f32)
    (hG : ∀ (t : Fin cfg0.N) (y : S256x4x256.Idx) (i : S4096x4x256.Idx), (i 0).val = t.val * 256 + (y 0).val → (i 1).val = (y 1).val → (i 2).val = (y 2).val →
      (dat.after 5 t : S256x4x256.Idx → F .f32) y = G i) : dat.arrAt 5 cfg0.N = G :=
  dat.arrAt_eq_of_covers 5 G (by decide +kernel) fun t _ y => hG t y _ (tile_row t _) (whole 4 _) (whole 256 _)

theorem array6 {c : Dev nD} (dat : Dat τ (Elt F) Unit ℕ (UR sig nD τ) ℕ cfg0 c) (G : S4096x4x256.Idx → F .f32)
    (hG : ∀ (t : Fin cfg0.N) (y : S256x4x256.Idx) (i : S4096x4x256.Idx), (i 0).val = t.val * 256 + (y 0).val → (i 1).val = (y 1).val → (i 2).val = (y 2).val →
      (dat.after 6 t : S256x4x256.Idx → F .f32) y = G i) : dat.arrAt 6 cfg0.N = G :=
  dat.arrAt_eq_of_covers 6 G (by decide +kernel) fun t _ y => hG t y _ (tile_row t _) (whole 4 _) (whole 256 _)

theorem array7 {c : Dev nD} (dat : Dat τ (Elt F) Unit ℕ (UR sig nD τ) ℕ cfg0 c) (G : S4096x1024.Idx → F .bf16)
    (hG : ∀ (t : Fin cfg0.N) (y : S256x1024.Idx) (i : S4096x1024.Idx), (i 0).val = t.val * 256 + (y 0).val → (i 1).val = (y 1).val →
      (dat.after 7 t : S256x1024.Idx → F .bf16) y = G i) : dat.arrAt 7 cfg0.N = G :=
  dat.arrAt_eq_of_covers 7 G (by decide +kernel) fun t _ y => hG t y _ (tile_row t _) (whole 1024 _)

theorem array8 {c : Dev nD} (dat : Dat τ (Elt F) Unit ℕ (UR sig nD τ) ℕ cfg0 c) (G : S4096x1024.Idx → F .bf16)
    (hG : ∀ (t : Fin cfg0.N) (y : S256x1024.Idx) (i : S4096x1024.Idx), (i 0).val = t.val * 256 + (y 0).val → (i 1).val = (y 1).val →
      (dat.after 8 t : S256x1024.Idx → F .bf16) y = G i) : dat.arrAt 8 cfg0.N = G :=
  dat.arrAt_eq_of_covers 8 G (by decide +kernel) fun t _ y => hG t y _ (tile_row t _) (whole 1024 _)

end Cert.Memory

end
-- ==== Proof.Memory.Kernel.lean ====
/- What the memory projection's body leaves, read at an element. -/
module

public import proofs.«01_k».proof.Proof.Gen.Kernel5Ideal.Value
public import proofs.«01_k».proof.Proof.Layer.Norm

@[expose] public section

set_option maxRecDepth 16384
set_option maxHeartbeats 1000000

noncomputable section

namespace Cert.Memory

open Idealize.ShloMosaic Cert.Kernel5Ideal Cert.Kernel5Ideal.Gen Cert.Kernel5Ideal.Value Cert.Layer

/-- A row of the memory, normalized, times a matrix. -/
def product (x g : Fin 1024 → EReal) (w : Fin 1024 → Fin 1024 → EReal) : Fin 1024 → EReal :=
  mul (norm (Ideal.ofBits .f32 0x44800000#32) x g) w

/-- Head `h`'s key: its 256 numbers of the product, normalized. -/
def key (x g : Fin 1024 → EReal) (w : Fin 1024 → Fin 1024 → EReal) (gk : Fin 256 → EReal) (h : Fin 4) : Fin 256 → EReal :=
  norm (Ideal.ofBits .f32 0x43800000#32) (fun q => product x g w ⟨h.val * 256 + q.val, by omega⟩) gk

theorem product_at (x : Vec Ideal S256x1024 .f32) (g : Vec Ideal S1x1024 .f32) (w : Vec Ideal S1024x1024 .bf16) (r : Fin 256) (j : Fin 1024) :
    k0_pay3 x g w (ix2 r j) = product (fun k => x (ix2 r k)) (fun k => g (ix2 0 k)) (fun k j => w (ix2 k j)) j := by
  pointwise [k0_pay3, k0_pay2]
  rfl

theorem product'_at (x : Vec Ideal S256x1024 .f32) (g : Vec Ideal S1x1024 .f32) (w : Vec Ideal S1024x1024 .bf16) (r : Fin 256) (j : Fin 1024) :
    k0_pay5 x g w (ix2 r j) = product (fun k => x (ix2 r k)) (fun k => g (ix2 0 k)) (fun k j => w (ix2 k j)) j := by
  pointwise [k0_pay5, k0_pay2]
  rfl

/-- A head's sum of squares. -/
theorem squares_at (x : Vec Ideal S256x1024 .f32) (g : Vec Ideal S1x1024 .f32) (w : Vec Ideal S1024x1024 .bf16) (gk : Vec Ideal S1x256 .f32)
    (r : Fin 256) (h : Fin 4) : Fam5_1 x g w gk h (ix1 r)
      = ∑ q : Fin 256, k0_pay3 x g w (ix2 r ⟨h.val * 256 + q.val, by omega⟩) * k0_pay3 x g w (ix2 r ⟨h.val * 256 + q.val, by omega⟩) := by
  match h with
  | ⟨0, _⟩ => pointwise [Fam5_1]
  | ⟨1, _⟩ => pointwise [Fam5_1]
  | ⟨2, _⟩ => pointwise [Fam5_1]
  | ⟨3, _⟩ => pointwise [Fam5_1]

/-- A head's sum of squares, again. -/
theorem squares'_at (x : Vec Ideal S256x1024 .f32) (g : Vec Ideal S1x1024 .f32) (w : Vec Ideal S1024x1024 .bf16) (gk : Vec Ideal S1x256 .f32)
    (r : Fin 256) (h : Fin 4) : Fam7_1 x g w gk h (ix1 r)
      = ∑ q : Fin 256, k0_pay3 x g w (ix2 r ⟨h.val * 256 + q.val, by omega⟩) * k0_pay3 x g w (ix2 r ⟨h.val * 256 + q.val, by omega⟩) := by
  match h with
  | ⟨0, _⟩ => pointwise [Fam7_1]
  | ⟨1, _⟩ => pointwise [Fam7_1]
  | ⟨2, _⟩ => pointwise [Fam7_1]
  | ⟨3, _⟩ => pointwise [Fam7_1]

theorem keys_at (x : Vec Ideal S256x1024 .f32) (g : Vec Ideal S1x1024 .f32) (w : Vec Ideal S1024x1024 .bf16) (gk : Vec Ideal S1x256 .f32)
    (r : Fin 256) (h : Fin 4) (e : Fin 256) : E5 x g w gk (ix3 r h e)
      = key (fun k => x (ix2 r k)) (fun k => g (ix2 0 k)) (fun k j => w (ix2 k j)) (fun q => gk (ix2 0 q)) h e := by
  have e0 : ix5_0 (ix3 r h e) = ix2 r ⟨h.val * 256 + e.val, by omega⟩ := funext fun a => match a with | ⟨0, _⟩ => rfl | ⟨1, _⟩ => rfl
  have e1 : ix5_1 (ix3 r h e) = ix1 r := funext fun a => match a with | ⟨0, _⟩ => rfl
  have e2 : ix5_2 (ix3 r h e) = ix2 0 e := funext fun a => match a with | ⟨0, _⟩ => rfl | ⟨1, _⟩ => rfl
  have e3 : sel5 (ix3 r h e) = h := rfl
  unfold E5
  rw [e0, e1, e2, e3, squares_at]
  simp only [product_at]
  rfl

theorem values_at (x : Vec Ideal S256x1024 .f32) (g : Vec Ideal S1x1024 .f32) (w : Vec Ideal S1024x1024 .bf16)
    (r : Fin 256) (h : Fin 4) (e : Fin 256) : E6 x g w (ix3 r h e)
      = product (fun k => x (ix2 r k)) (fun k => g (ix2 0 k)) (fun k j => w (ix2 k j)) ⟨h.val * 256 + e.val, by omega⟩ := by
  have e0 : ix6_0 (ix3 r h e) = ix2 r ⟨h.val * 256 + e.val, by omega⟩ := funext fun a => match a with | ⟨0, _⟩ => rfl | ⟨1, _⟩ => rfl
  unfold E6
  rw [e0]
  exact product'_at x g w r _

theorem flat_keys_at (x : Vec Ideal S256x1024 .f32) (g : Vec Ideal S1x1024 .f32) (w : Vec Ideal S1024x1024 .bf16) (gk : Vec Ideal S1x256 .f32)
    (r : Fin 256) (j : Fin 1024) : E7 x g w gk (ix2 r j)
      = key (fun k => x (ix2 r k)) (fun k => g (ix2 0 k)) (fun k j => w (ix2 k j)) (fun q => gk (ix2 0 q)) ⟨j.val / 256, by omega⟩ ⟨j.val % 256, by omega⟩ := by
  have e0 : ix7_0 (ix2 r j) = ix2 r ⟨(j.val / 256) * 256 + j.val % 256, by omega⟩ :=
    funext fun a => match a with | ⟨0, _⟩ => rfl | ⟨1, _⟩ => Fin.ext (by show j.val = (j.val / 256) * 256 + j.val % 256; omega)
  have e1 : ix7_1 (ix2 r j) = ix1 r := funext fun a => match a with | ⟨0, _⟩ => rfl
  have e2 : ix7_2 (ix2 r j) = ix2 0 ⟨j.val % 256, by omega⟩ := funext fun a => match a with | ⟨0, _⟩ => rfl | ⟨1, _⟩ => rfl
  have e3 : sel7 (ix2 r j) = (⟨j.val / 256, by omega⟩ : Fin 4) := rfl
  unfold E7
  rw [e0, e1, e2, e3, squares'_at]
  simp only [product_at]
  rfl

theorem flat_values_at (x : Vec Ideal S256x1024 .f32) (g : Vec Ideal S1x1024 .f32) (w : Vec Ideal S1024x1024 .bf16)
    (r : Fin 256) (j : Fin 1024) : k0_pay6 x g w (ix2 r j)
      = product (fun k => x (ix2 r k)) (fun k => g (ix2 0 k)) (fun k j => w (ix2 k j)) j := by
  pointwise [k0_pay6]
  exact product'_at x g w r j

end Cert.Memory

end
-- ==== Proof.Memory.Reference.lean ====
/- The memory projection's reference, read at an element. -/
module

public import proofs.«01_k».proof.Proof.Gen.Reference5Ideal.Run
public import proofs.«01_k».proof.Proof.Memory.Kernel

@[expose] public section

set_option maxRecDepth 16384
set_option maxHeartbeats 1000000

noncomputable section

namespace Cert.Memory.Ref

open Idealize.ShloMosaic Cert.Reference5Ideal Cert.Reference5Ideal.Gen Cert.Layer

/-- The memories' rows, normalized. -/
def rows (x0 : FVec Ideal S16x256x1024 .f32) (x1 : FVec Ideal S1x1024 .f32) : FVec Ideal S16x256x1024 .f32 :=
  (mulf (mulf x0 (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x0 x0) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ x1 shapeCasts_S1x1024_S1024))))

/-- Their products with a matrix, head by head. -/
def heads (x0 : FVec Ideal S16x256x1024 .f32) (x1 : FVec Ideal S1x1024 .f32) (x2 : FVec Ideal S1x1024x1024 .f32) : FVec Ideal S16x256x4x256 .f32 :=
  (shapeCast _ (Host.dotGeneral (F := Ideal) dot_S16x256x1024_S1024x1024_S16x256x1024_2_0_01_1_n_n none (rows x0 x1) (shapeCast _ x2 shapeCasts_S1x1024x1024_S1024x1024)) shapeCasts_S16x256x1024_S16x256x4x256)

/-- Each head normalized. -/
def headnorm (h : FVec Ideal S16x256x4x256 .f32) (x4 : FVec Ideal S1x256 .f32) : FVec Ideal S16x256x4x256 .f32 :=
  (mulf (mulf h (broadcastInDim S16x256x4x256 ![0, 1, 2, 3] bcast_S16x256x4x1_S16x256x4x256_0_1_2_3 (Host.rsqrt (addf (Host.divf (broadcastInDim S16x256x4x1 ![0, 1, 2] bcast_S16x256x4_S16x256x4x1_0_1_2 (Host.reduceAdd (mulf h h) (constant S_ .f32 0x00000000#32) reducesTo_S16x256x4x256_S16x256x4_d3 h_S_)) (broadcastInDim S16x256x4x1 ![] bcast_S_S16x256x4x1 (constant S_ .f32 0x43800000#32))) (broadcastInDim S16x256x4x1 ![] bcast_S_S16x256x4x1 (constant S_ .f32 0x358637BD#32)))))) (broadcastInDim S16x256x4x256 ![0, 1, 2, 3] bcast_S1x1x1x256_S16x256x4x256_0_1_2_3 (broadcastInDim S1x1x1x256 ![3] bcast_S256_S1x1x1x256_3 (shapeCast _ x4 shapeCasts_S1x256_S256))))

theorem rows_at (x0 : FVec Ideal S16x256x1024 .f32) (x1 : FVec Ideal S1x1024 .f32) (b : Fin 16) (s : Fin 256) (k : Fin 1024) :
    rows x0 x1 (ix3 b s k) = norm (Ideal.ofBits .f32 0x44800000#32) (fun k => x0 (ix3 b s k)) (fun k => x1 (ix2 0 k)) k := by
  pointwise [rows]
  rfl

theorem heads_at (x0 : FVec Ideal S16x256x1024 .f32) (x1 : FVec Ideal S1x1024 .f32) (x2 : FVec Ideal S1x1024x1024 .f32)
    (b : Fin 16) (s : Fin 256) (h : Fin 4) (e : Fin 256) :
    heads x0 x1 x2 (ix4 b s h e)
      = product (fun k => x0 (ix3 b s k)) (fun k => x1 (ix2 0 k)) (fun k j => x2 (ix3 0 k j)) ⟨h.val * 256 + e.val, by omega⟩ := by
  pointwise [heads]
  simp only [rows_at]
  rfl

theorem headnorm_at (h : FVec Ideal S16x256x4x256 .f32) (x4 : FVec Ideal S1x256 .f32) (b : Fin 16) (s : Fin 256) (n : Fin 4) (e : Fin 256) :
    headnorm h x4 (ix4 b s n e) = norm (Ideal.ofBits .f32 0x43800000#32) (fun q => h (ix4 b s n q)) (fun q => x4 (ix2 0 q)) e := by
  pointwise [headnorm]
  rfl

end Cert.Memory.Ref

end
-- ==== Proof.Memory.Results.lean ====
/- The memory projection's results as the rows' keys and values. -/
module

public import proofs.«01_k».proof.Proof.Memory.Blocks
public import proofs.«01_k».proof.Proof.Memory.Reference

@[expose] public section

set_option maxRecDepth 16384
set_option maxHeartbeats 1000000

noncomputable section

namespace Cert.Memory

open Idealize.ShloMosaic Idealize.SL.Sem Idealize.ShloMosaic.TcCoe Idealize.ShloMosaic.Tactic Cert.Layer
open Cert.Kernel5Ideal Cert.Kernel5Ideal.Gen Cert.Kernel5Ideal.Value

/-- Row `n` of the memories, the 16 memories' 256 rows one after another. -/
def row (X : FVec Ideal S16x256x1024 .f32) (n : ℕ) (hn : n < 4096) : Fin 1024 → EReal :=
  fun k => X (ix3 ⟨n / 256, by omega⟩ ⟨n % 256, by omega⟩ k)

def keyOf (X : FVec Ideal S16x256x1024 .f32) (g : FVec Ideal S1x1024 .f32) (w : FVec Ideal S1x1024x1024 .f32) (gk : FVec Ideal S1x256 .f32)
    (n : Fin 4096) (h : Fin 4) (e : Fin 256) : EReal :=
  key (row X n.val n.isLt) (fun k => g (ix2 0 k)) (fun k j => w (ix3 0 k j)) (fun q => gk (ix2 0 q)) h e

def valueOf (X : FVec Ideal S16x256x1024 .f32) (g : FVec Ideal S1x1024 .f32) (w : FVec Ideal S1x1024x1024 .f32)
    (n : Fin 4096) (j : Fin 1024) : EReal :=
  product (row X n.val n.isLt) (fun k => g (ix2 0 k)) (fun k j => w (ix3 0 k j)) j

def keys (X : FVec Ideal S16x256x1024 .f32) (g : FVec Ideal S1x1024 .f32) (w : FVec Ideal S1x1024x1024 .f32) (gk : FVec Ideal S1x256 .f32) :
    S4096x4x256.Idx → EReal := fun i => keyOf X g w gk (i 0) (i 1) (i 2)

def values (X : FVec Ideal S16x256x1024 .f32) (g : FVec Ideal S1x1024 .f32) (w : FVec Ideal S1x1024x1024 .f32) :
    S4096x4x256.Idx → EReal := fun i =>
  valueOf X g w (i 0) ⟨(i 1).val * 256 + (i 2).val, by have h1 : (i 1).val < 4 := (i 1).isLt; have h2 : (i 2).val < 256 := (i 2).isLt; omega⟩

def flatKeys (X : FVec Ideal S16x256x1024 .f32) (g : FVec Ideal S1x1024 .f32) (w : FVec Ideal S1x1024x1024 .f32) (gk : FVec Ideal S1x256 .f32) :
    S4096x1024.Idx → EReal := fun i =>
  keyOf X g w gk (i 0) ⟨(i 1).val / 256, by have h1 : (i 1).val < 1024 := (i 1).isLt; omega⟩ ⟨(i 1).val % 256, by omega⟩

def flatValues (X : FVec Ideal S16x256x1024 .f32) (g : FVec Ideal S1x1024 .f32) (w : FVec Ideal S1x1024x1024 .f32) :
    S4096x1024.Idx → EReal := fun i => valueOf X g w (i 0) (i 1)

variable (m : (ℓ : Loc nD τ sig) → Buf (Elt Ideal) ℓ)

/-! ## The arrays the call reads -/

theorem entry_x (c : Dev nD) : V m c main_v4 = shapeCast S4096x1024 (m ((c : Thread nD τ).loc main_arg0) : FVec Ideal S16x256x1024 .f32) shapeCasts_S16x256x1024_S4096x1024 := by
  unfold V hostOps0
  after_results_simp <;> rfl
theorem entry_g (c : Dev nD) : V m c main_v6 = shapeCast S1x1024 (shapeCast S1024 (m ((c : Thread nD τ).loc main_arg1) : FVec Ideal S1x1024 .f32) shapeCasts_S1x1024_S1024) shapeCasts_S1024_S1x1024 := by
  unfold V hostOps0
  after_results_simp <;> rfl
theorem entry_wk (c : Dev nD) : V m c main_v1 = (truncf .bf16 (shapeCast S1024x1024 (m ((c : Thread nD τ).loc main_arg2) : FVec Ideal S1x1024x1024 .f32) shapeCasts_S1x1024x1024_S1024x1024) bitsLt_bf16_f32 : FVec Ideal S1024x1024 .bf16) := by
  unfold V hostOps0
  after_results_simp <;> rfl
theorem entry_wv (c : Dev nD) : V m c main_v3 = (truncf .bf16 (shapeCast S1024x1024 (m ((c : Thread nD τ).loc main_arg3) : FVec Ideal S1x1024x1024 .f32) shapeCasts_S1x1024x1024_S1024x1024) bitsLt_bf16_f32 : FVec Ideal S1024x1024 .bf16) := by
  unfold V hostOps0
  after_results_simp <;> rfl
theorem entry_gk (c : Dev nD) : V m c main_v8 = shapeCast S1x256 (shapeCast S256 (m ((c : Thread nD τ).loc main_arg4) : FVec Ideal S1x256 .f32) shapeCasts_S1x256_S256) shapeCasts_S256_S1x256 := by
  unfold V hostOps0
  after_results_simp <;> rfl

theorem x_at (X : FVec Ideal S16x256x1024 .f32) (n : Fin 4096) (k : Fin 1024) :
    shapeCast S4096x1024 X shapeCasts_S16x256x1024_S4096x1024 (ix2 n k) = row X n.val n.isLt k := by
  pointwise
  rfl
theorem g_at (g : FVec Ideal S1x1024 .f32) (k : Fin 1024) :
    shapeCast S1x1024 (shapeCast S1024 g shapeCasts_S1x1024_S1024) shapeCasts_S1024_S1x1024 (ix2 0 k) = g (ix2 0 k) := by
  pointwise
theorem w_at (w : FVec Ideal S1x1024x1024 .f32) (k j : Fin 1024) :
    (truncf .bf16 (shapeCast S1024x1024 w shapeCasts_S1x1024x1024_S1024x1024) bitsLt_bf16_f32 : FVec Ideal S1024x1024 .bf16) (ix2 k j) = w (ix3 0 k j) := by
  pointwise
theorem gk_at (g : FVec Ideal S1x256 .f32) (k : Fin 256) :
    shapeCast S1x256 (shapeCast S256 g shapeCasts_S1x256_S256) shapeCasts_S256_S1x256 (ix2 0 k) = g (ix2 0 k) := by
  pointwise

/-! ## The blocks, read -/

theorem blk_x (c : Dev nD) (t : Fin cfg0.N) (r : Fin 256) (n : Fin 4096) (hn : n.val = t.val * 256 + r.val) (k : Fin 1024) :
    (iblk m c 0 t : S256x1024.Idx → EReal) (ix2 r k) = row (m ((c : Thread nD τ).loc main_arg0)) n.val n.isLt k :=
  ((read0 (F := Ideal) (V m c main_v4) t (ix2 r k) (ix2 n k) hn rfl).trans (congrFun (entry_x m c) _)).trans (x_at _ n k)
theorem blk_g (c : Dev nD) (t : Fin cfg0.N) (k : Fin 1024) :
    (iblk m c 1 t : S1x1024.Idx → EReal) (ix2 0 k) = (m ((c : Thread nD τ).loc main_arg1) : FVec Ideal S1x1024 .f32) (ix2 0 k) :=
  ((congrFun (read1 (F := Ideal) (V m c main_v6) t) _).trans (congrFun (entry_g m c) _)).trans (g_at _ k)
theorem blk_wk (c : Dev nD) (t : Fin cfg0.N) (k j : Fin 1024) :
    (iblk m c 2 t : S1024x1024.Idx → EReal) (ix2 k j) = (m ((c : Thread nD τ).loc main_arg2) : FVec Ideal S1x1024x1024 .f32) (ix3 0 k j) :=
  ((congrFun (read2 (F := Ideal) (V m c main_v1) t) _).trans (congrFun (entry_wk m c) _)).trans (w_at _ k j)
theorem blk_wv (c : Dev nD) (t : Fin cfg0.N) (k j : Fin 1024) :
    (iblk m c 3 t : S1024x1024.Idx → EReal) (ix2 k j) = (m ((c : Thread nD τ).loc main_arg3) : FVec Ideal S1x1024x1024 .f32) (ix3 0 k j) :=
  ((congrFun (read3 (F := Ideal) (V m c main_v3) t) _).trans (congrFun (entry_wv m c) _)).trans (w_at _ k j)
theorem blk_gk (c : Dev nD) (t : Fin cfg0.N) (k : Fin 256) :
    (iblk m c 4 t : S1x256.Idx → EReal) (ix2 0 k) = (m ((c : Thread nD τ).loc main_arg4) : FVec Ideal S1x256 .f32) (ix2 0 k) :=
  ((congrFun (read4 (F := Ideal) (V m c main_v8) t) _).trans (congrFun (entry_gk m c) _)).trans (gk_at _ k)

/-! ## What a step leaves, from the blocks -/

section Left

variable (x0 : Vec Ideal S256x1024 .f32) (x1 : Vec Ideal S1x1024 .f32) (x2 x3 : Vec Ideal S1024x1024 .bf16) (x4 : Vec Ideal S1x256 .f32)

theorem left5 (r : Fin 256) (h : Fin 4) (e : Fin 256) : out0_5 x0 x1 x2 x3 x4 (ix3 r h e)
    = key (fun k => x0 (ix2 r k)) (fun k => x1 (ix2 0 k)) (fun k j => x2 (ix2 k j)) (fun q => x4 (ix2 0 q)) h e := by
  have e : out0_5 x0 x1 x2 x3 x4 (ix3 r h e) = E5 (View.ld x0 r0_0) (View.ld x1 r0_1) (View.ld x2 r0_2) (View.ld x4 r0_3) (ix3 r h e) :=
    canon5_eq (View.ld x0 r0_0) (View.ld x1 r0_1) (View.ld x2 r0_2) (View.ld x4 r0_3) _
  rw [e, keys_at, View.ld_unit_lit _ x0 (by decide), View.ld_unit_lit _ x1 (by decide), View.ld_unit_lit _ x2 (by decide), View.ld_unit_lit _ x4 (by decide)]

theorem left6 (r : Fin 256) (h : Fin 4) (e : Fin 256) : out0_6 x0 x1 x2 x3 x4 (ix3 r h e)
    = product (fun k => x0 (ix2 r k)) (fun k => x1 (ix2 0 k)) (fun k j => x3 (ix2 k j)) ⟨h.val * 256 + e.val, by omega⟩ := by
  have e : out0_6 x0 x1 x2 x3 x4 (ix3 r h e) = E6 (View.ld x0 r0_0) (View.ld x1 r0_1) (View.ld x3 r0_2) (ix3 r h e) :=
    canon6_eq (View.ld x0 r0_0) (View.ld x1 r0_1) (View.ld x3 r0_2) _
  rw [e, values_at, View.ld_unit_lit _ x0 (by decide), View.ld_unit_lit _ x1 (by decide), View.ld_unit_lit _ x3 (by decide)]

theorem left7 (r : Fin 256) (j : Fin 1024) : out0_7 x0 x1 x2 x3 x4 (ix2 r j)
    = key (fun k => x0 (ix2 r k)) (fun k => x1 (ix2 0 k)) (fun k j => x2 (ix2 k j)) (fun q => x4 (ix2 0 q)) ⟨j.val / 256, by omega⟩ ⟨j.val % 256, by omega⟩ := by
  have e : out0_7 x0 x1 x2 x3 x4 (ix2 r j) = E7 (View.ld x0 r0_0) (View.ld x1 r0_1) (View.ld x2 r0_2) (View.ld x4 r0_3) (ix2 r j) :=
    canon7_eq (View.ld x0 r0_0) (View.ld x1 r0_1) (View.ld x2 r0_2) (View.ld x4 r0_3) _
  rw [e, flat_keys_at, View.ld_unit_lit _ x0 (by decide), View.ld_unit_lit _ x1 (by decide), View.ld_unit_lit _ x2 (by decide), View.ld_unit_lit _ x4 (by decide)]

theorem left8 (r : Fin 256) (j : Fin 1024) : out0_8 x0 x1 x2 x3 x4 (ix2 r j)
    = product (fun k => x0 (ix2 r k)) (fun k => x1 (ix2 0 k)) (fun k j => x3 (ix2 k j)) j := by
  have e : out0_8 x0 x1 x2 x3 x4 = k0_pay6 (View.ld x0 r0_0) (View.ld x1 r0_1) (View.ld x3 r0_2) :=
    View.canon_cons_unit_lit (S := S256x1024) _ _ [] (by decide)
  rw [e, View.ld_unit_lit _ x0 (by decide), View.ld_unit_lit _ x1 (by decide), View.ld_unit_lit _ x3 (by decide), flat_values_at]

end Left

/-! ## The results -/

theorem result5 (c : Dev nD) : (dats m 0 c).arrAt 5 cfg0.N = keys (m ((c : Thread nD τ).loc main_arg0)) (m ((c : Thread nD τ).loc main_arg1))
    (m ((c : Thread nD τ).loc main_arg2)) (m ((c : Thread nD τ).loc main_arg4)) :=
  array5 (dats m 0 c) _ fun t y i h0 h1 h2 => by
    have hx := funext fun k => blk_x m c t (y 0) (i 0) h0 k
    have e1 : (y 1 : Fin 4) = i 1 := Fin.ext h1.symm
    have e2 : (y 2 : Fin 256) = i 2 := Fin.ext h2.symm
    rw [after0_5]
    refine ((congrArg _ (eq_ix3 (n0 := 256) (n1 := 4) (n2 := 256) y)).trans (left5 (iblk m c 0 t) (iblk m c 1 t) (iblk m c 2 t) (iblk m c 3 t) (iblk m c 4 t) (y 0) (y 1) (y 2))).trans ?_
    rw [hx, funext (blk_g m c t), funext fun k => funext (blk_wk m c t k), funext (blk_gk m c t), e1, e2]
    rfl

theorem result6 (c : Dev nD) : (dats m 0 c).arrAt 6 cfg0.N = values (m ((c : Thread nD τ).loc main_arg0)) (m ((c : Thread nD τ).loc main_arg1))
    (m ((c : Thread nD τ).loc main_arg3)) :=
  array6 (dats m 0 c) _ fun t y i h0 h1 h2 => by
    have hx := funext fun k => blk_x m c t (y 0) (i 0) h0 k
    have e1 : (y 1 : Fin 4) = i 1 := Fin.ext h1.symm
    have e2 : (y 2 : Fin 256) = i 2 := Fin.ext h2.symm
    rw [after0_6]
    refine ((congrArg _ (eq_ix3 (n0 := 256) (n1 := 4) (n2 := 256) y)).trans (left6 (iblk m c 0 t) (iblk m c 1 t) (iblk m c 2 t) (iblk m c 3 t) (iblk m c 4 t) (y 0) (y 1) (y 2))).trans ?_
    rw [hx, funext (blk_g m c t), funext fun k => funext (blk_wv m c t k), e1, e2]
    rfl

theorem result7 (c : Dev nD) : (dats m 0 c).arrAt 7 cfg0.N = flatKeys (m ((c : Thread nD τ).loc main_arg0)) (m ((c : Thread nD τ).loc main_arg1))
    (m ((c : Thread nD τ).loc main_arg2)) (m ((c : Thread nD τ).loc main_arg4)) :=
  array7 (dats m 0 c) _ fun t y i h0 h1 => by
    have hx := funext fun k => blk_x m c t (y 0) (i 0) h0 k
    have e1 : (y 1 : Fin 1024) = i 1 := Fin.ext h1.symm
    rw [after0_7]
    refine ((congrArg _ (eq_ix2 (n0 := 256) (n1 := 1024) y)).trans (left7 (iblk m c 0 t) (iblk m c 1 t) (iblk m c 2 t) (iblk m c 3 t) (iblk m c 4 t) (y 0) (y 1))).trans ?_
    rw [hx, funext (blk_g m c t), funext fun k => funext (blk_wk m c t k), funext (blk_gk m c t), e1]
    rfl

theorem result8 (c : Dev nD) : (dats m 0 c).arrAt 8 cfg0.N = flatValues (m ((c : Thread nD τ).loc main_arg0)) (m ((c : Thread nD τ).loc main_arg1))
    (m ((c : Thread nD τ).loc main_arg3)) :=
  array8 (dats m 0 c) _ fun t y i h0 h1 => by
    have hx := funext fun k => blk_x m c t (y 0) (i 0) h0 k
    have e1 : (y 1 : Fin 1024) = i 1 := Fin.ext h1.symm
    rw [after0_8]
    refine ((congrArg _ (eq_ix2 (n0 := 256) (n1 := 1024) y)).trans (left8 (iblk m c 0 t) (iblk m c 1 t) (iblk m c 2 t) (iblk m c 3 t) (iblk m c 4 t) (y 0) (y 1))).trans ?_
    rw [hx, funext (blk_g m c t), funext fun k => funext (blk_wv m c t k), e1]
    rfl

end Cert.Memory

end
-- ==== Proof.Memory.Algebra.lean ====
/- The memory projection and its reference end with equal results. -/
module

public import proofs.«01_k».proof.Proof.Memory.Results
public import proofs.«01_k».proof.Proof.Gen.Kernel5
public import proofs.«01_k».proof.Defs

@[expose] public section

set_option maxRecDepth 16384
set_option maxHeartbeats 1000000

noncomputable section

namespace Cert.Memory

open Idealize.ShloMosaic Idealize.SL.Sem Idealize.ShloMosaic.TcCoe Cert.Layer

section Reference

open Cert.Reference5Ideal Cert.Reference5Ideal.Gen

variable (x0 : FVec Ideal S16x256x1024 .f32) (x1 : FVec Ideal S1x1024 .f32) (w : FVec Ideal S1x1024x1024 .f32) (x4 : FVec Ideal S1x256 .f32)

theorem ref_keys : shapeCast S4096x4x256 (Ref.headnorm (Ref.heads x0 x1 w) x4) shapeCasts_S16x256x4x256_S4096x4x256 = keys x0 x1 w x4 := by
  funext i
  obtain ⟨n, h, e, rfl⟩ : ∃ (n : Fin 4096) (h : Fin 4) (e : Fin 256), i = ix3 n h e := ⟨i 0, i 1, i 2, eq_ix3 i⟩
  pointwise
  simp only [Ref.headnorm_at, Ref.heads_at]
  rfl

theorem ref_values : shapeCast S4096x4x256 (Ref.heads x0 x1 w) shapeCasts_S16x256x4x256_S4096x4x256 = values x0 x1 w := by
  funext i
  obtain ⟨n, h, e, rfl⟩ : ∃ (n : Fin 4096) (h : Fin 4) (e : Fin 256), i = ix3 n h e := ⟨i 0, i 1, i 2, eq_ix3 i⟩
  pointwise
  simp only [Ref.heads_at]
  rfl

theorem ref_flat_keys : (truncf .bf16 (shapeCast S4096x1024 (Ref.headnorm (Ref.heads x0 x1 w) x4) shapeCasts_S16x256x4x256_S4096x1024) bitsLt_bf16_f32 : FVec Ideal S4096x1024 .bf16) = flatKeys x0 x1 w x4 := by
  funext i
  obtain ⟨n, j, rfl⟩ : ∃ (n : Fin 4096) (j : Fin 1024), i = ix2 n j := ⟨i 0, i 1, eq_ix2 i⟩
  pointwise
  simp only [Ref.headnorm_at, Ref.heads_at]
  rfl

theorem ref_flat_values : (truncf .bf16 (shapeCast S4096x1024 (Ref.heads x0 x1 w) shapeCasts_S16x256x4x256_S4096x1024) bitsLt_bf16_f32 : FVec Ideal S4096x1024 .bf16) = flatValues x0 x1 w := by
  funext i
  obtain ⟨n, j, rfl⟩ : ∃ (n : Fin 4096) (j : Fin 1024), i = ix2 n j := ⟨i 0, i 1, eq_ix2 i⟩
  pointwise
  simp only [Ref.heads_at]
  exact congrArg (product _ _ _) (Fin.ext (show j.val / 256 * 256 + j.val % 256 = j.val by omega))

end Reference

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N,
    fun c => (Cert.Kernel5Ideal.Gen.dats m 0 c).arrAt 7 Cert.Kernel5Ideal.cfg0.N, fun c => (Cert.Kernel5Ideal.Gen.dats m 0 c).arrAt 8 Cert.Kernel5Ideal.cfg0.N,
    Cert.Kernel5Ideal.Value.run_blocks m g, (θ_run _ _ _).mono (fun r hr c => ?_) (Cert.Reference5Ideal.Value.run m' g')⟩
  obtain ⟨h5, h6, h7, h8, ha⟩ := hr c
  obtain ⟨e0, e1, e2, e3, e4⟩ := hargs c
  refine ⟨h5.trans ((ref_keys _ _ _ _).trans (Eq.trans ?_ (result5 m c).symm)), h6.trans ((ref_values _ _ _).trans (Eq.trans ?_ (result6 m c).symm)),
    h7.trans ((ref_flat_keys _ _ _ _).trans (Eq.trans ?_ (result7 m c).symm)), h8.trans ((ref_flat_values _ _ _).trans (Eq.trans ?_ (result8 m c).symm)), ha⟩
  · rw [e0, e1, e2, e4]
  · rw [e0, e1, e3]
  · rw [e0, e1, e2, e4]
  · rw [e0, e1, e3]

/-! ## The frames -/

theorem same_defs {F : FTy → Type} [FloatOps F] : (@Cert.Kernel5.defs F _ Cert.Kernel5.Gen.facts) = (@Cert.Kernel5Ideal.defs F _ Cert.Kernel5Ideal.Gen.facts) := by
  unfold Cert.Kernel5.defs Cert.Kernel5.defs₀
  refine congrArg _ (congrArg Defs.onTc (funext fun l => funext fun p => ?_))
  match l, p with
  | 0, (t, s) => rfl
  | ⟨_ + 1, h⟩, _ => exact absurd h (Nat.not_lt.2 (Nat.le_add_left _ _))

theorem same_main {F : FTy → Type} [FloatOps F] : (@Cert.Kernel5.main F _ Cert.Kernel5.Gen.facts) = (@Cert.Kernel5Ideal.main F _ Cert.Kernel5Ideal.Gen.facts) := by
  unfold Cert.Kernel5.main Cert.Kernel5Ideal.main
  rfl

theorem frame_kernel : Cert.quiescent_Kernel5 (hKernel5 := Cert.Kernel5.Gen.facts) := fun m ρ _ =>
  Eq.mpr (congrArg₂ (fun d p => θ_run d (onTc (τ := Cert.Kernel5.τ) p) ⟨m, fun _ => 0, ρ⟩ _) same_defs same_main)
    (Cert.Kernel5Ideal.Gen.frame (F := Bits) m ρ)

theorem frame_ideal : Cert.quiescent_Kernel5Ideal (hKernel5Ideal := Cert.Kernel5Ideal.Gen.facts) := fun m ρ _ =>
  Cert.Kernel5Ideal.Gen.frame (F := Ideal) m ρ

theorem frame_reference : Cert.quiescent_Reference5Ideal (hReference5Ideal := Cert.Reference5Ideal.Gen.facts) := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

end Cert.Memory

end
-- ==== Proof.Mixer.Blocks.lean ====
/- Where each block of the decode mixer lies in its array, and each result from the blocks left. -/
module

public import proofs.«01_k».proof.Proof.Gen.Kernel6Ideal.Value
public import Idealize.ShloMosaic.Lib.Pipeline.ValueKit.Geometry
public import Idealize.ShloMosaic.Lib.Pipeline.Covers
public import Idealize.ShloMosaic.Lib.Pointwise

@[expose] public section

set_option maxRecDepth 16384

noncomputable section

namespace Cert.Mixer

open Cert.Kernel6Ideal Cert.Kernel6Ideal.Gen
open Idealize.ShloMosaic Idealize.ShloMosaic.TcCoe Idealize.ShloMosaic.Tactic
open Idealize.SL Idealize.SL.RA
open Idealize.ShloMosaic.Pipeline (Dat Cfg Window)

variable {F : FTy → Type} [FloatOps F]

/-- Step `t` takes the `t`-th block of rows, -/
theorem tile (t : Fin cfg0.N) : cc0_transform_3 (grid0.coords t) = ![t.val, 0] :=
  (by decide +kernel : ∀ t : Fin grid0.N, cc0_transform_3 (grid0.coords t) = ![t.val, 0]) t

theorem tile_row (t : Fin cfg0.N) (r : ℕ) : cc0_transform_3 (grid0.coords t) 0 * 8 + 1 * r = t.val * 8 + r := by
  rw [tile]; exact (by omega : t.val * 8 + 1 * r = t.val * 8 + r)

/-- and the `t`-th row's state, -/
theorem deep (t : Fin cfg0.N) : cc0_transform_10 (grid0.coords t) = ![t.val, 0, 0, 0] :=
  (by decide +kernel : ∀ t : Fin grid0.N, cc0_transform_10 (grid0.coords t) = ![t.val, 0, 0, 0]) t

theorem deep_row (t : Fin cfg0.N) (r : ℕ) : cc0_transform_10 (grid0.coords t) 0 * 1 + 1 * r = t.val + r := by
  rw [deep]; exact (by omega : t.val * 1 + 1 * r = t.val + r)

/-- whole in every other direction. -/
theorem whole (n r : ℕ) : 0 * n + 1 * r = r := by omega

/-! ## The blocks read -/

theorem read0 (V : S1x512.Idx → F .f32) (t : Fin cfg0.N) : ((cfg0.win 0).blk t).view.read (Elt F) V = V :=
  funext fun y => congrArg V (funext fun b => Fin.ext (match b with
    | ⟨0, _⟩ => whole 1 (y 0).val
    | ⟨1, _⟩ => whole 512 (y 1).val))

theorem read1 (V : S1x512.Idx → F .f32) (t : Fin cfg0.N) : ((cfg0.win 1).blk t).view.read (Elt F) V = V :=
  funext fun y => congrArg V (funext fun b => Fin.ext (match b with
    | ⟨0, _⟩ => whole 1 (y 0).val
    | ⟨1, _⟩ => whole 512 (y 1).val))

theorem read3 (V : S256x512.Idx → F .f32) (t : Fin cfg0.N) (y : S8x512.Idx) (i : S256x512.Idx)
    (h0 : (i 0).val = t.val * 8 + (y 0).val) (h1 : (i 1).val = (y 1).val) : ((cfg0.win 3).blk t).view.read (Elt F) V y = V i := by
  show V (((cfg0.win 3).blk t).view.emb y) = V i
  refine congrArg V (funext fun b => Fin.ext ?_)
  match b with
  | ⟨0, _⟩ => exact (tile_row t (y 0).val).trans h0.symm
  | ⟨1, _⟩ => exact (whole 512 (y 1).val).trans h1.symm

theorem read4 (V : S256x512.Idx → F .f32) (t : Fin cfg0.N) (y : S8x512.Idx) (i : S256x512.Idx)
    (h0 : (i 0).val = t.val * 8 + (y 0).val) (h1 : (i 1).val = (y 1).val) : ((cfg0.win 4).blk t).view.read (Elt F) V y = V i := by
  show V (((cfg0.win 4).blk t).view.emb y) = V i
  refine congrArg V (funext fun b => Fin.ext ?_)
  match b with
  | ⟨0, _⟩ => exact (tile_row t (y 0).val).trans h0.symm
  | ⟨1, _⟩ => exact (whole 512 (y 1).val).trans h1.symm

theorem read5 (V : S256x512.Idx → F .f32) (t : Fin cfg0.N) (y : S8x512.Idx) (i : S256x512.Idx)
    (h0 : (i 0).val = t.val * 8 + (y 0).val) (h1 : (i 1).val = (y 1).val) : ((cfg0.win 5).blk t).view.read (Elt F) V y = V i := by
  show V (((cfg0.win 5).blk t).view.emb y) = V i
  refine congrArg V (funext fun b => Fin.ext ?_)
  match b with
  | ⟨0, _⟩ => exact (tile_row t (y 0).val).trans h0.symm
  | ⟨1, _⟩ => exact (whole 512 (y 1).val).trans h1.symm

theorem read6 (V : S256x512.Idx → F .f32) (t : Fin cfg0.N) (y : S8x512.Idx) (i : S256x512.Idx)
    (h0 : (i 0).val = t.val * 8 + (y 0).val) (h1 : (i 1).val = (y 1).val) : ((cfg0.win 6).blk t).view.read (Elt F) V y = V i := by
  show V (((cfg0.win 6).blk t).view.emb y) = V i
  refine congrArg V (funext fun b => Fin.ext ?_)
  match b with
  | ⟨0, _⟩ => exact (tile_row t (y 0).val).trans h0.symm
  | ⟨1, _⟩ => exact (whole 512 (y 1).val).trans h1.symm

theorem read10 (V : S32x8x64x64.Idx → F .f32) (t : Fin cfg0.N) (y : S1x8x64x64.Idx) (i : S32x8x64x64.Idx)
    (h0 : (i 0).val = t.val + (y 0).val) (h1 : (i 1).val = (y 1).val) (h2 : (i 2).val = (y 2).val) (h3 : (i 3).val = (y 3).val) :
    ((cfg0.win 10).blk t).view.read (Elt F) V y = V i := by
  show V (((cfg0.win 10).blk t).view.emb y) = V i
  refine congrArg V (funext fun b => Fin.ext ?_)
  match b with
  | ⟨0, _⟩ => exact (deep_row t (y 0).val).trans h0.symm
  | ⟨1, _⟩ => exact (whole 8 (y 1).val).trans h1.symm
  | ⟨2, _⟩ => exact (whole 64 (y 2).val).trans h2.symm
  | ⟨3, _⟩ => exact (whole 64 (y 3).val).trans h3.symm

/-! ## The results from the blocks left -/

theorem array13 {c : Dev nD} (dat : Dat τ (Elt F) Unit ℕ (UR sig nD τ) ℕ cfg0 c) (G : S256x512.Idx → F .f32)
    (hG : ∀ (t : Fin cfg0.N) (y : S8x512.Idx) (i : S256x512.Idx), (i 0).val = t.val * 8 + (y 0).val → (i 1).val = (y 1).val →
      (dat.after 13 t : S8x512.Idx → F .f32) y = G i) : dat.arrAt 13 cfg0.N = G :=
  dat.arrAt_eq_of_covers 13 G (by decide +kernel) fun t _ y => hG t y _ (tile_row t _) (whole 512 _)

theorem array15 {c : Dev nD} (dat : Dat τ (Elt F) Unit ℕ (UR sig nD τ) ℕ cfg0 c) (G : S32x8x64x64.Idx → F .f32)
    (hG : ∀ (t : Fin cfg0.N) (y : S1x8x64x64.Idx) (i : S32x8x64x64.Idx), (i 0).val = t.val + (y 0).val → (i 1).val = (y 1).val →
      (i 2).val = (y 2).val → (i 3).val = (y 3).val →
      (dat.after 15 t : S1x8x64x64.Idx → F .f32) y = G i) : dat.arrAt 15 cfg0.N = G :=
  dat.arrAt_eq_of_covers 15 G (by decide +kernel) fun t _ y => hG t y _ (deep_row t _) (whole 8 _) (whole 64 _) (whole 64 _)

end Cert.Mixer

end
-- ==== Proof.Layer.Retain.lean ====
/- One decode step's retention of one head: eight positions with a decay between them, and the state carried over. -/
module

public import proofs.«01_k».proof.Proof.Layer.Heads

@[expose] public section

noncomputable section

namespace Cert.Layer

open Idealize.ShloMosaic

/-- A position among eight, as a number. -/
def count (j : Fin 8) : EReal := FloatOps.sitofp (F := Ideal) .f32 (BitVec.ofNat 32 j.val)

/-- A head's decay. -/
def fade (h : Fin 8) : EReal :=
  Ideal.log (1 - Ideal.pow (Ideal.ofBits .f32 0x40000000#32) (Ideal.ofBits .f32 0xC0A00000#32 - count h))

/-- The state's new entry, of the head's decay, the keys' and values' columns and the old entry. -/
def kept (l : EReal) (k v : Fin 8 → EReal) (s : EReal) : EReal :=
  Ideal.exp (l * Ideal.ofBits .f32 0x41000000#32) * s
    + ∑ j : Fin 8, k j * (Ideal.exp (l * (Ideal.ofBits .f32 0x40E00000#32 - count j)) * Ideal.ofBits .f32 0x3E000000#32) * v j

/-- The decay from position `j` to position `i`, nothing for a later one. -/
def decay (l : EReal) (i j : Fin 8) : EReal :=
  if 0 ≤ count i - count j then Ideal.exp (l * max (count i - count j) 0) else 0

/-- The answer at a position: what the positions up to it hold, and what the carried state does. -/
def told (l : EReal) (i : Fin 8) (q : Fin 64 → EReal) (k : Fin 8 → Fin 64 → EReal) (v : Fin 8 → EReal) (s : Fin 64 → EReal) : EReal :=
  (∑ j : Fin 8, (∑ d : Fin 64, q d * k j d) * (decay l i j * Ideal.ofBits .f32 0x3E000000#32) * v j)
    + (∑ d : Fin 64, q d * s d) * Ideal.exp (l * (count i + 1))

/-- Lane `j` less its head's mean. -/
def centred (p : Fin 512 → EReal) (j : Fin 512) : EReal :=
  p j - Ideal.div (∑ q : Fin 64, p ⟨j.val / 64 * 64 + q.val, by omega⟩) (Ideal.ofBits .f32 0x42800000#32)

/-- The heads normalized about their means. -/
def levelled (p : Fin 512 → EReal) (j : Fin 512) : EReal :=
  centred p j * scale (Ideal.ofBits .f32 0x42800000#32) (fun q : Fin 64 => centred p ⟨j.val / 64 * 64 + q.val, by omega⟩)

/-- A gate. -/
def gate (g : EReal) : EReal :=
  g * Ideal.div 1 (1 + Ideal.exp (-g))

/-- A lane's sum over its own half of 128, picked from the two masked sums. -/
theorem half_sum (f : Fin 128 → EReal) (l : Fin 128) :
    (if l.val < 64 then ∑ k : Fin 128, (if k.val < 64 then f k else 0) else ∑ k : Fin 128, (if k.val < 64 then 0 else f k))
      = ∑ q : Fin 64, f ⟨l.val / 64 * 64 + q.val, by omega⟩ := by
  rw [sum_lower f, sum_upper f]
  by_cases h : l.val < 64
  · rw [if_pos h]
    exact Finset.sum_congr rfl fun q _ => congrArg f (Fin.ext (by show q.val = l.val / 64 * 64 + q.val; omega))
  · rw [if_neg h]
    exact Finset.sum_congr rfl fun q _ => congrArg f (Fin.ext (by show 64 + q.val = l.val / 64 * 64 + q.val; omega))

/-- The difference of two positions, taken before or after they are numbers. -/
theorem count_sub (i j : Fin 8) : FloatOps.sitofp (F := Ideal) .f32 (IntOp.subi (BitVec.ofNat 32 i.val) (BitVec.ofNat 32 j.val)) = count i - count j := by
  have h : ∀ i j : Fin 8, (BitVec.ofNat 32 i.val - BitVec.ofNat 32 j.val).toInt = (BitVec.ofNat 32 i.val).toInt - (BitVec.ofNat 32 j.val).toInt := by
    decide +kernel
  show (((BitVec.ofNat 32 i.val - BitVec.ofNat 32 j.val).toInt : ℝ) : EReal)
    = (((BitVec.ofNat 32 i.val).toInt : ℝ) : EReal) - (((BitVec.ofNat 32 j.val).toInt : ℝ) : EReal)
  rw [h i j, Int.cast_sub, EReal.coe_sub]

theorem one_eighth : Ideal.ofBits .f32 0x3E000000#32 = ((1 / 8 : ℝ) : EReal) := by
  simp [Ideal.ofBits, Ideal.ieee, -EReal.coe_mul]
  norm_num

/-- An eighth comes out of a sum. -/
theorem sum_eighth {n : ℕ} (q k : Fin n → EReal) :
    ∑ d, q d * (k d * Ideal.ofBits .f32 0x3E000000#32) = (∑ d, q d * k d) * Ideal.ofBits .f32 0x3E000000#32 := by
  rw [one_eighth]
  have h0 : (0 : EReal) ≤ ((1 / 8 : ℝ) : EReal) := EReal.coe_nonneg.2 (by norm_num)
  have h1 : ((1 / 8 : ℝ) : EReal) ≠ ⊤ := EReal.coe_ne_top _
  have key : ∀ s : Finset (Fin n), ∑ d ∈ s, q d * (k d * ((1 / 8 : ℝ) : EReal)) = (∑ d ∈ s, q d * k d) * ((1 / 8 : ℝ) : EReal) := by
    intro s
    induction s using Finset.induction_on with
    | empty => simp
    | insert a s ha ih => rw [Finset.sum_insert ha, Finset.sum_insert ha, ih, EReal.right_distrib_of_nonneg_of_ne_top h0 h1, mul_assoc]
  exact key Finset.univ

/-- The state's entry with the eighth on the keys. -/
theorem kept_keys (l : EReal) (k v : Fin 8 → EReal) (s : EReal) :
    Ideal.exp (l * Ideal.ofBits .f32 0x41000000#32) * s
      + ∑ j : Fin 8, k j * Ideal.ofBits .f32 0x3E000000#32 * Ideal.exp (l * (Ideal.ofBits .f32 0x40E00000#32 - count j)) * v j = kept l k v s := by
  refine congrArg (_ + ·) (Finset.sum_congr rfl fun j _ => congrArg (· * v j) ?_)
  rw [mul_assoc, mul_comm (Ideal.ofBits .f32 0x3E000000#32)]

/-- The answer with the eighth on the keys, and the products the other way round. -/
theorem told_keys (l : EReal) (i : Fin 8) (q : Fin 64 → EReal) (k : Fin 8 → Fin 64 → EReal) (v : Fin 8 → EReal) (s : Fin 64 → EReal) :
    (∑ j : Fin 8, v j * ((∑ d : Fin 64, q d * (k j d * Ideal.ofBits .f32 0x3E000000#32)) * decay l i j))
      + (∑ d : Fin 64, s d * q d) * Ideal.exp (l * (count i + 1)) = told l i q k v s := by
  refine congrArg₂ (· + ·) (Finset.sum_congr rfl fun j _ => ?_) (congrArg (· * _) (Finset.sum_congr rfl fun d _ => mul_comm _ _))
  rw [sum_eighth, mul_comm (v j), mul_assoc (∑ d, q d * k j d), mul_comm (Ideal.ofBits .f32 0x3E000000#32)]

end Cert.Layer

end
-- ==== Proof.Mixer.Kernel.lean ====
/- What the decode mixer's step leaves of the retention, read at an element. -/
module

public import proofs.«01_k».proof.Proof.Gen.Kernel6Ideal.Value
public import proofs.«01_k».proof.Proof.Layer.Retain
public import Idealize.ShloMosaic.Lib.WholeRead
public import Idealize.ShloMosaic.Lib.Pipeline.ReadBack
public import Idealize.ShloMosaic.Lib.Pipeline.ValueKit.Tiles

@[expose] public section

set_option maxRecDepth 16384
set_option maxHeartbeats 1000000

noncomputable section

namespace Cert.Mixer

open Idealize.ShloMosaic Cert.Kernel6Ideal Cert.Kernel6Ideal.Gen Cert.Layer

/-- A head's first lane of the decay table. -/
def lane (x : FVec Ideal S1x512 .f32) (n : Fin 8) : FVec Ideal S1x1 .f32 := fun _ => x (ix2 0 ⟨n.val * 64, by omega⟩)

/-- A head's 64 lanes of eight rows. -/
def cols (x : FVec Ideal S8x512 .f32) (n : Fin 8) : FVec Ideal S8x64 .f32 :=
  fun i => x (ix2 (i 0) ⟨n.val * 64 + (i 1).val, by have h : (i 1).val < 64 := (i 1).isLt; omega⟩)

theorem lane_eq (x : FVec Ideal S1x512 .f32) (n : Fin 8) (h : S1x512.Slices ![0, n.val * 64] S1x1) :
    extractStridedSlice S1x1 ![0, n.val * 64] x h = lane x n := by
  funext i
  refine congrArg x (funext fun a => ?_)
  match a with
  | ⟨0, _⟩ => exact Fin.ext (by show 0 + (i 0).val = 0; have h : (i 0).val < 1 := (i 0).isLt; omega)
  | ⟨1, _⟩ => exact Fin.ext (by show n.val * 64 + (i 1).val = n.val * 64; have h : (i 1).val < 1 := (i 1).isLt; omega)

theorem cols_eq (x : FVec Ideal S8x512 .f32) (n : Fin 8) (h : S8x512.Slices ![0, n.val * 64] S8x64) :
    extractStridedSlice S8x64 ![0, n.val * 64] x h = cols x n := by
  funext i
  refine congrArg x (funext fun a => ?_)
  match a with
  | ⟨0, _⟩ => exact Fin.ext (by show 0 + (i 0).val = (i 0).val; omega)
  | ⟨1, _⟩ => rfl

/-- A head's state after the step. -/
def held (l : FVec Ideal S1x1 .f32) (k v : FVec Ideal S8x64 .f32) (s : FVec Ideal S1x1x64x64 .f32) : FVec Ideal S1x1x64x64 .f32 :=
  k0_pay36 k0_pay30 l k v (k0_pay34 s)

theorem held_at (l : FVec Ideal S1x1 .f32) (k v : FVec Ideal S8x64 .f32) (s : FVec Ideal S1x1x64x64 .f32) (d e : Fin 64) :
    held l k v s (ix4 0 0 d e) = kept (l (ix2 0 0)) (fun j => k (ix2 j d)) (fun j => v (ix2 j e)) (s (ix4 0 0 d e)) := by
  pointwise [held, k0_pay36, k0_pay30, k0_pay34]
  rfl

/-- The step's state block. -/
def state (x0 : FVec Ideal S1x512 .f32) (x4 x5 : FVec Ideal S8x512 .f32) (x10 : FVec Ideal S1x8x64x64 .f32) : S1x8x64x64.Idx → Elt Ideal .f32 := fun y =>
  kept (x0 (ix2 0 ⟨(y 1).val * 64, by have h : (y 1).val < 8 := (y 1).isLt; omega⟩))
    (fun j => x4 (ix2 j ⟨(y 1).val * 64 + (y 2).val, by have h : (y 1).val < 8 := (y 1).isLt; have h : (y 2).val < 64 := (y 2).isLt; omega⟩))
    (fun j => x5 (ix2 j ⟨(y 1).val * 64 + (y 3).val, by have h : (y 1).val < 8 := (y 1).isLt; have h : (y 3).val < 64 := (y 3).isLt; omega⟩))
    (x10 y)

section
variable {sp : Space} {κ : Kind}

/-- A load of a whole row of lanes, -/
theorem load_row {a : Memref sig κ sp S1x512 .f32} (h : a.IsWhole) (x : FVec Ideal S1x512 .f32) (inb) :
    View.readAt (Elt Ideal) a.view (Rect.unit (s := S1x512) ![0, 0] S1x512.size inb).toLoadRect (h.unread x) = x := by
  funext y
  refine (h.readAt_unread (Val := Elt Ideal) x _ y).trans (congrArg x (funext fun b => Fin.ext ?_))
  match b with
  | ⟨0, _⟩ => show 0 + 1 * (y 0).val = (y 0).val; omega
  | ⟨1, _⟩ => show 0 + 1 * (y 1).val = (y 1).val; omega

/-- of a whole block of rows, -/
theorem load_rows {a : Memref sig κ sp S8x512 .f32} (h : a.IsWhole) (x : FVec Ideal S8x512 .f32) (inb) :
    View.readAt (Elt Ideal) a.view (Rect.unit (s := S8x512) ![0, 0] S8x512.size inb).toLoadRect (h.unread x) = x := by
  funext y
  refine (h.readAt_unread (Val := Elt Ideal) x _ y).trans (congrArg x (funext fun b => Fin.ext ?_))
  match b with
  | ⟨0, _⟩ => show 0 + 1 * (y 0).val = (y 0).val; omega
  | ⟨1, _⟩ => show 0 + 1 * (y 1).val = (y 1).val; omega

/-- of one head's state. -/
theorem load_head {a : Memref sig κ sp S1x8x64x64 .f32} (h : a.IsWhole) (x : FVec Ideal S1x8x64x64 .f32) (n : Fin 8) (inb) (d e : Fin 64) :
    View.readAt (Elt Ideal) a.view (Rect.unit (s := S1x8x64x64) ![0, n.val, 0, 0] S1x1x64x64.size inb).toLoadRect (h.unread x) (ix4 0 0 d e) = x (ix4 0 n d e) := by
  refine (h.readAt_unread (Val := Elt Ideal) x _ _).trans (congrArg x (funext fun b => Fin.ext ?_))
  match b with
  | ⟨0, _⟩ => rfl
  | ⟨1, _⟩ => show n.val + 1 * 0 = n.val; omega
  | ⟨2, _⟩ => show 0 + 1 * d.val = d.val; omega
  | ⟨3, _⟩ => show 0 + 1 * e.val = e.val; omega

/-- What is stored of one head's state. -/
theorem piece (n : Fin 8) {a0 : Memref sig κ sp S1x512 .f32} (h0 : a0.IsWhole) {a4 a5 : Memref sig κ sp S8x512 .f32} (h4 : a4.IsWhole) (h5 : a5.IsWhole)
    {a10 : Memref sig κ sp S1x8x64x64 .f32} (h10 : a10.IsWhole) (x0 : FVec Ideal S1x512 .f32) (x4 x5 : FVec Ideal S8x512 .f32) (x10 : FVec Ideal S1x8x64x64 .f32)
    (i0 i4 i5 i10) (s1 : S1x512.Slices ![0, n.val * 64] S1x1) (s8 : S8x512.Slices ![0, n.val * 64] S8x64)
    (x : (Rect.unit (s := S1x8x64x64) ![0, n.val, 0, 0] S1x1x64x64.size i10).shape.Idx) :
    held (extractStridedSlice S1x1 ![0, n.val * 64] (k0_pay28 (View.readAt (Elt Ideal) a0.view (Rect.unit (s := S1x512) ![0, 0] S1x512.size i0).toLoadRect (h0.unread x0))) s1)
      (extractStridedSlice (s := S8x512) S8x64 ![0, n.val * 64] (View.readAt (Elt Ideal) a4.view (Rect.unit (s := S8x512) ![0, 0] S8x512.size i4).toLoadRect (h4.unread x4) : FVec Ideal S8x512 .f32) s8)
      (extractStridedSlice (s := S8x512) S8x64 ![0, n.val * 64] (View.readAt (Elt Ideal) a5.view (Rect.unit (s := S8x512) ![0, 0] S8x512.size i5).toLoadRect (h5.unread x5) : FVec Ideal S8x512 .f32) s8)
      (View.readAt (Elt Ideal) a10.view (Rect.unit (s := S1x8x64x64) ![0, n.val, 0, 0] S1x1x64x64.size i10).toLoadRect (h10.unread x10)) x
      = state x0 x4 x5 x10 ((Rect.unit (s := S1x8x64x64) ![0, n.val, 0, 0] S1x1x64x64.size i10).emb x) := by
  rw [load_row, load_rows, load_rows, lane_eq, cols_eq, cols_eq]
  obtain ⟨d, e, rfl⟩ : ∃ d e : Fin 64, x = ix4 0 0 d e := ⟨x 2, x 3, funext fun b => match b with
    | ⟨0, _⟩ => Fin.ext (by show (x 0).val = 0; have h : (x 0).val < 1 := (x 0).isLt; omega)
    | ⟨1, _⟩ => Fin.ext (by show (x 1).val = 0; have h : (x 1).val < 1 := (x 1).isLt; omega)
    | ⟨2, _⟩ => rfl
    | ⟨3, _⟩ => rfl⟩
  have hx : (Rect.unit (s := S1x8x64x64) ![0, n.val, 0, 0] S1x1x64x64.size i10).emb (ix4 0 0 d e) = ix4 0 n d e := funext fun b => Fin.ext (match b with
    | ⟨0, _⟩ => rfl
    | ⟨1, _⟩ => (by show n.val + 1 * 0 = n.val; omega)
    | ⟨2, _⟩ => (by show 0 + 1 * d.val = d.val; omega)
    | ⟨3, _⟩ => (by show 0 + 1 * e.val = e.val; omega))
  rw [held_at, load_head, hx]
  have hl : k0_pay28 x0 = x0 := funext fun y => by pointwise [k0_pay28]
  rw [hl]
  rfl

end

variable (m : (ℓ : Loc nD τ sig) → Buf (Elt Ideal) ℓ)

open Idealize.ShloMosaic.TcCoe

theorem left15 (c : Dev nD) (t : Fin cfg0.N) (y : S1x8x64x64.Idx) :
    (dats m 0 c).after 15 t y = state (iblk m c 0 t) (iblk m c 4 t) (iblk m c 5 t) (iblk m c 10 t) y := by
  have p := fun (n : Fin 8) i s1 s8 => piece n (hs0_0 t) (hs0_4 t) (hs0_5 t) (hs0_10 t) (iblk m c 0 t) (iblk m c 4 t) (iblk m c 5 t) (iblk m c 10 t)
    inb_S1x512_S1x512_0_0 inb_S8x512_S8x512_0_0 inb_S8x512_S8x512_0_0 i s1 s8
  rw [after0_15]
  by_cases h0 : t.val % 32 = 0
  · rw [outsAt0_A m c t h0]
    dsimp only
    unfold out0_A_15
    rw [View.read_writes_junk_eq_canon]
    refine View.canon_apply_of_pieces (state (iblk m c 0 t) (iblk m c 4 t) (iblk m c 5 t) (iblk m c 10 t)) _ (View.PiecesOf.mem ?_)
      y (cover0_A_15 c _ _ _ _ _ _ _ _ _ _ _ _ _ _ _ _ _ _ _ _ _ _ _ _ _ _ _ _ _ _ _ _ _ _ _ _ _ _ _ _ _ _ _ _ _ _ _ _ _ _ _ y)
    exact ⟨p 7 _ slices_S1x512_o0_448_S1x1 slices_S8x512_o0_448_S8x64,
      p 6 _ slices_S1x512_o0_384_S1x1 slices_S8x512_o0_384_S8x64,
      p 5 _ slices_S1x512_o0_320_S1x1 slices_S8x512_o0_320_S8x64,
      p 4 _ slices_S1x512_o0_256_S1x1 slices_S8x512_o0_256_S8x64,
      p 3 _ slices_S1x512_o0_192_S1x1 slices_S8x512_o0_192_S8x64,
      p 2 _ slices_S1x512_o0_128_S1x1 slices_S8x512_o0_128_S8x64,
      p 1 _ slices_S1x512_o0_64_S1x1 slices_S8x512_o0_64_S8x64,
      p 0 _ slices_S1x512_o0_0_S1x1 slices_S8x512_o0_0_S8x64, trivial⟩
  · rw [outsAt0_B m c t h0]
    dsimp only
    unfold out0_B_15
    rw [View.read_writes_junk_eq_canon]
    refine View.canon_apply_of_pieces (state (iblk m c 0 t) (iblk m c 4 t) (iblk m c 5 t) (iblk m c 10 t)) _ (View.PiecesOf.mem ?_)
      y (cover0_B_15 c _ _ _ _ _ _ _ _ _ _ _ _ _ _ _ _ _ _ _ _ _ _ _ _ _ _ _ _ _ _ _ _ _ _ _ _ _ _ _ _ _ _ _ _ _ _ _ _ _ _ _ _ _ y)
    exact ⟨p 7 _ slices_S1x512_o0_448_S1x1 slices_S8x512_o0_448_S8x64,
      p 6 _ slices_S1x512_o0_384_S1x1 slices_S8x512_o0_384_S8x64,
      p 5 _ slices_S1x512_o0_320_S1x1 slices_S8x512_o0_320_S8x64,
      p 4 _ slices_S1x512_o0_256_S1x1 slices_S8x512_o0_256_S8x64,
      p 3 _ slices_S1x512_o0_192_S1x1 slices_S8x512_o0_192_S8x64,
      p 2 _ slices_S1x512_o0_128_S1x1 slices_S8x512_o0_128_S8x64,
      p 1 _ slices_S1x512_o0_64_S1x1 slices_S8x512_o0_64_S8x64,
      p 0 _ slices_S1x512_o0_0_S1x1 slices_S8x512_o0_0_S8x64, trivial⟩

end Cert.Mixer

end
-- ==== Proof.Mixer.Answers.lean ====
/- What the decode mixer's step leaves of the answers, read at an element. -/
module

public import proofs.«01_k».proof.Proof.Mixer.Kernel

@[expose] public section

set_option maxRecDepth 16384
set_option maxHeartbeats 1000000

noncomputable section

namespace Cert.Mixer

open Idealize.ShloMosaic Cert.Kernel6Ideal Cert.Kernel6Ideal.Gen Cert.Layer

/-- A head's answer. -/
def answer (l : FVec Ideal S1x1 .f32) (q k v : FVec Ideal S8x64 .f32) (s : FVec Ideal S1x1x64x64 .f32) : FVec Ideal S8x64 .f32 :=
  addf (matmul dot_S8x8_S8x64_S8x64_1_0_0_1_n_n none
      (mulf (matmul dot_S8x64_S8x64_S8x8_1_1_0_0_n_n none q k (constant S8x8 .f32 0x00000000#32))
        (mulf (select (cmpf .oge (k0_pay29 (F := Ideal)) (broadcast S8x8 (Scalar.ofBits .f32 0x00000000#32)))
            (exp (mulf (broadcastTo S8x8 l broadcasts_S1x1_S8x8) (maximumf (k0_pay29 (F := Ideal)) (broadcast S8x8 (Scalar.ofBits .f32 0x00000000#32)))))
            (broadcast S8x8 (Scalar.ofBits .f32 0x00000000#32)))
          (broadcast S8x8 (Scalar.ofBits .f32 0x3E000000#32)))) v (constant S8x64 .f32 0x00000000#32))
    (mulf (matmul dot_S8x64_S64x64_S8x64_1_0_0_1_n_n none q (k0_pay34 s) (constant S8x64 .f32 0x00000000#32))
      (exp (mulf (broadcastTo S8x64 l broadcasts_S1x1_S8x64) (addf (k0_pay30 (F := Ideal)) (broadcast S8x64 (Scalar.ofBits .f32 0x3F800000#32))))))

theorem answer_at (l : FVec Ideal S1x1 .f32) (q k v : FVec Ideal S8x64 .f32) (s : FVec Ideal S1x1x64x64 .f32) (i : Fin 8) (e : Fin 64) :
    answer l q k v s (ix2 i e)
      = told (l (ix2 0 0)) i (fun d => q (ix2 i d)) (fun j d => k (ix2 j d)) (fun j => v (ix2 j e)) (fun d => s (ix4 0 0 d e)) := by
  pointwise [answer, k0_pay29, k0_pay30, k0_pay34]
  simp only [count_sub]
  rfl

/-- The sums over a lane's own half of 128. -/
def halves (s : FVec Ideal S8x128 .f32) : FVec Ideal S8x128 .f32 :=
  select k0_pay95
    (broadcastTo S8x128 (shapeCast S8x1 (shapeCast S8x1 (multiReduction .add [1] S8 (select k0_pay95 s (broadcast S8x128 (Scalar.ofBits .f32 0x00000000#32))) 0x00000000#32 reduces_S8x128_S8 (.inl rfl) rfl) shapeCasts_S8_S8x1) shapeCasts_S8x1_S8x1) broadcasts_S8x1_S8x128)
    (broadcastTo S8x128 (shapeCast S8x1 (shapeCast S8x1 (multiReduction .add [1] S8 (select k0_pay95 (broadcast S8x128 (Scalar.ofBits .f32 0x00000000#32)) s) 0x00000000#32 reduces_S8x128_S8 (.inl rfl) rfl) shapeCasts_S8_S8x1) shapeCasts_S8x1_S8x1) broadcasts_S8x1_S8x128)

theorem halves_at (s : FVec Ideal S8x128 .f32) (r : Fin 8) (l : Fin 128) :
    halves s (ix2 r l) = ∑ q : Fin 64, s (ix2 r ⟨l.val / 64 * 64 + q.val, by omega⟩) := by
  pointwise [halves, k0_pay95]
  simp only [pick_lower]
  exact half_sum (fun l => s (ix2 r l)) l

/-- The lanes less their half's mean. -/
def spread (o : FVec Ideal S8x128 .f32) : FVec Ideal S8x128 .f32 :=
  subf o (mulf (halves o) (broadcast S8x128 (Scalar.ofBits .f32 0x3C800000#32)))

theorem spread_at (o : FVec Ideal S8x128 .f32) (r : Fin 8) (l : Fin 128) :
    spread o (ix2 r l) = o (ix2 r l) - Ideal.div (∑ q : Fin 64, o (ix2 r ⟨l.val / 64 * 64 + q.val, by omega⟩)) (Ideal.ofBits .f32 0x42800000#32) := by
  rw [← mul_sixty_fourth, ← halves_at]
  rfl

/-- Two heads' lanes normalized and gated. -/
def paired (o : FVec Ideal S8x128 .f32) (e : FVec Ideal S1x128 .f32) (g : FVec Ideal S8x128 .f32) : FVec Ideal S8x128 .f32 :=
  mulf (mulf (mulf (spread o) (rsqrt (addf (mulf (halves (mulf (spread o) (spread o))) (broadcast S8x128 (Scalar.ofBits .f32 0x3C800000#32))) (broadcast S8x128 (Scalar.ofBits .f32 0x358637BD#32)))))
      (broadcastTo S8x128 e broadcasts_S1x128_S8x128))
    (mulf g (divf (broadcast S8x128 (Scalar.ofBits .f32 0x3F800000#32)) (addf (broadcast S8x128 (Scalar.ofBits .f32 0x3F800000#32))
      (exp (subf (broadcast S8x128 (Scalar.ofBits .f32 0x00000000#32)) g)))))

theorem paired_at (o : FVec Ideal S8x128 .f32) (e : FVec Ideal S1x128 .f32) (g : FVec Ideal S8x128 .f32) (r : Fin 8) (l : Fin 128) :
    paired o e g (ix2 r l)
      = spread o (ix2 r l) * scale (Ideal.ofBits .f32 0x42800000#32) (fun q : Fin 64 => spread o (ix2 r ⟨l.val / 64 * 64 + q.val, by omega⟩))
          * e (ix2 0 l) * gate (g (ix2 r l)) := by
  pointwise [paired]
  rw [halves_at, mul_sixty_fourth]
  rw [zero_sub]
  rfl

/-- The eight heads' answers side by side. -/
def beside (A : Fin 8 → FVec Ideal S8x64 .f32) : FVec Ideal S8x512 .f32 :=
  concatenate S8x512 1 [⟨S8x64, A 0⟩, ⟨S8x64, A 1⟩, ⟨S8x64, A 2⟩, ⟨S8x64, A 3⟩, ⟨S8x64, A 4⟩, ⟨S8x64, A 5⟩, ⟨S8x64, A 6⟩, ⟨S8x64, A 7⟩] concatenates_S8x64_S8x64_S8x64_S8x64_S8x64_S8x64_S8x64_S8x64_S8x512_d1

theorem beside_at (A : Fin 8 → FVec Ideal S8x64 .f32) (r : Fin 8) (j : Fin 512) :
    beside A (ix2 r j) = A ⟨j.val / 64, by omega⟩ (ix2 r ⟨j.val % 64, by omega⟩) := by
  unfold beside
  exact concatenate_ofFn_apply (t := S8x512) (s₁ := S8x64) (1 : Fin 2) A _ rfl 64 rfl (ix2 r j) ⟨j.val / 64, by omega⟩ rfl (ix2 r ⟨j.val % 64, by omega⟩) rfl
    (fun b hb => match b with | ⟨0, _⟩ => rfl | ⟨1, _⟩ => absurd rfl hb)

/-- The four pairs of heads side by side. -/
def beside' (A : Fin 4 → FVec Ideal S8x128 .f32) : FVec Ideal S8x512 .f32 :=
  concatenate S8x512 1 [⟨S8x128, A 0⟩, ⟨S8x128, A 1⟩, ⟨S8x128, A 2⟩, ⟨S8x128, A 3⟩] concatenates_S8x128_S8x128_S8x128_S8x128_S8x512_d1

theorem beside'_at (A : Fin 4 → FVec Ideal S8x128 .f32) (r : Fin 8) (j : Fin 512) :
    beside' A (ix2 r j) = A ⟨j.val / 128, by omega⟩ (ix2 r ⟨j.val % 128, by omega⟩) := by
  unfold beside'
  exact concatenate_ofFn_apply (t := S8x512) (s₁ := S8x128) (1 : Fin 2) A _ rfl 128 rfl (ix2 r j) ⟨j.val / 128, by omega⟩ rfl (ix2 r ⟨j.val % 128, by omega⟩) rfl
    (fun b hb => match b with | ⟨0, _⟩ => rfl | ⟨1, _⟩ => absurd rfl hb)

theorem strip_slices (n : Fin 4) : S8x512.Slices ![0, n.val * 128] S8x128 := by
  revert n
  decide +kernel

/-- One pair of heads. -/
def strip (n : Fin 4) (x : FVec Ideal S8x512 .f32) : FVec Ideal S8x128 .f32 := extractStridedSlice S8x128 ![0, n.val * 128] x (strip_slices n)

theorem strip_at (n : Fin 4) (x : FVec Ideal S8x512 .f32) (r : Fin 8) (l : Fin 128) :
    strip n x (ix2 r l) = x (ix2 r ⟨n.val * 128 + l.val, by omega⟩) := by
  refine congrArg x (funext fun a => ?_)
  match a with
  | ⟨0, _⟩ => exact Fin.ext (by show 0 + r.val = r.val; omega)
  | ⟨1, _⟩ => rfl

theorem spread_strip (n : Fin 4) (x : FVec Ideal S8x512 .f32) (r : Fin 8) (l : Fin 128) :
    spread (strip n x) (ix2 r l) = centred (fun j => x (ix2 r j)) ⟨n.val * 128 + l.val, by omega⟩ := by
  rw [spread_at]
  simp only [strip_at]
  refine congrArg (fun z => x (ix2 r ⟨n.val * 128 + l.val, by omega⟩) - Ideal.div z (Ideal.ofBits .f32 0x42800000#32)) (Finset.sum_congr rfl fun q _ => ?_)
  exact congrArg (fun j => x (ix2 r j)) (Fin.ext (by show n.val * 128 + (l.val / 64 * 64 + q.val) = (n.val * 128 + l.val) / 64 * 64 + q.val; omega))

theorem stored_at (B : FVec Ideal S8x512 .f32) (E : Fin 4 → FVec Ideal S1x128 .f32) (G : Fin 4 → FVec Ideal S8x128 .f32) (r : Fin 8) (j : Fin 512) :
    beside' (fun n => paired (strip n B) (E n) (G n)) (ix2 r j)
      = levelled (fun j => B (ix2 r j)) j * E ⟨j.val / 128, by omega⟩ (ix2 0 ⟨j.val % 128, by omega⟩) * gate (G ⟨j.val / 128, by omega⟩ (ix2 r ⟨j.val % 128, by omega⟩)) := by
  rw [beside'_at, paired_at]
  simp only [spread_strip]
  have e : (⟨j.val / 128 * 128 + j.val % 128, by omega⟩ : Fin 512) = j := Fin.ext (by show j.val / 128 * 128 + j.val % 128 = j.val; omega)
  have e' : ∀ q : Fin 64, (⟨j.val / 128 * 128 + (j.val % 128 / 64 * 64 + q.val), by omega⟩ : Fin 512) = ⟨j.val / 64 * 64 + q.val, by omega⟩ := fun q =>
    Fin.ext (by show j.val / 128 * 128 + (j.val % 128 / 64 * 64 + q.val) = j.val / 64 * 64 + q.val; omega)
  simp only [e, e']
  rfl

/-- The heads' answers of a step. -/
def answers (x0 : FVec Ideal S1x512 .f32) (x3 x4 x5 : FVec Ideal S8x512 .f32) (x10 : FVec Ideal S1x8x64x64 .f32) (r : Fin 8) (j : Fin 512) : EReal :=
  told (x0 (ix2 0 ⟨j.val / 64 * 64, by omega⟩)) r (fun d => x3 (ix2 r ⟨j.val / 64 * 64 + d.val, by omega⟩))
    (fun i d => x4 (ix2 i ⟨j.val / 64 * 64 + d.val, by omega⟩)) (fun i => x5 (ix2 i j))
    (fun d => x10 (ix4 0 ⟨j.val / 64, by omega⟩ d ⟨j.val % 64, by omega⟩))

/-- The step's normalized and gated answers. -/
def mixed (x0 x1 : FVec Ideal S1x512 .f32) (x3 x4 x5 x6 : FVec Ideal S8x512 .f32) (x10 : FVec Ideal S1x8x64x64 .f32) : S8x512.Idx → Elt Ideal .f32 := fun y =>
  levelled (answers x0 x3 x4 x5 x10 (y 0)) (y 1) * x1 (ix2 0 (y 1)) * gate (x6 y)

theorem answers_at (x0 : FVec Ideal S1x512 .f32) (x3 x4 x5 : FVec Ideal S8x512 .f32) (x10 : FVec Ideal S1x8x64x64 .f32) (S : Fin 8 → FVec Ideal S1x1x64x64 .f32)
    (hS : ∀ n d e, S n (ix4 0 0 d e) = x10 (ix4 0 n d e)) (r : Fin 8) (j : Fin 512) :
    beside (fun n => answer (lane x0 n) (cols x3 n) (cols x4 n) (cols x5 n) (S n)) (ix2 r j) = answers x0 x3 x4 x5 x10 r j := by
  rw [beside_at, answer_at]
  simp only [hS]
  have e : (⟨j.val / 64 * 64 + j.val % 64, by omega⟩ : Fin 512) = j := Fin.ext (by show j.val / 64 * 64 + j.val % 64 = j.val; omega)
  exact congrArg (fun f : Fin 8 → EReal => told (x0 (ix2 0 ⟨j.val / 64 * 64, by omega⟩)) r (fun d => x3 (ix2 r ⟨j.val / 64 * 64 + d.val, by omega⟩))
    (fun i d => x4 (ix2 i ⟨j.val / 64 * 64 + d.val, by omega⟩)) f (fun d => x10 (ix4 0 ⟨j.val / 64, by omega⟩ d ⟨j.val % 64, by omega⟩)))
    (funext fun i => congrArg (fun j => x5 (ix2 i j)) e)

section
variable {sp : Space} {κ : Kind}

/-- A load of a pair's lanes of a row, -/
theorem load_lanes {a : Memref sig κ sp S1x512 .f32} (h : a.IsWhole) (x : FVec Ideal S1x512 .f32) (n : Fin 4) (inb) (l : Fin 128) :
    View.readAt (Elt Ideal) a.view (Rect.unit (s := S1x512) ![0, n.val * 128] S1x128.size inb).toLoadRect (h.unread x) (ix2 0 l) = x (ix2 0 ⟨n.val * 128 + l.val, by omega⟩) := by
  refine (h.readAt_unread (Val := Elt Ideal) x _ _).trans (congrArg x (funext fun b => Fin.ext ?_))
  match b with
  | ⟨0, _⟩ => rfl
  | ⟨1, _⟩ => show n.val * 128 + 1 * l.val = n.val * 128 + l.val; omega

/-- of eight rows. -/
theorem load_strip {a : Memref sig κ sp S8x512 .f32} (h : a.IsWhole) (x : FVec Ideal S8x512 .f32) (n : Fin 4) (inb) (r : Fin 8) (l : Fin 128) :
    View.readAt (Elt Ideal) a.view (Rect.unit (s := S8x512) ![0, n.val * 128] S8x128.size inb).toLoadRect (h.unread x) (ix2 r l) = x (ix2 r ⟨n.val * 128 + l.val, by omega⟩) := by
  refine (h.readAt_unread (Val := Elt Ideal) x _ _).trans (congrArg x (funext fun b => Fin.ext ?_))
  match b with
  | ⟨0, _⟩ => show 0 + 1 * r.val = r.val; omega
  | ⟨1, _⟩ => show n.val * 128 + 1 * l.val = n.val * 128 + l.val; omega

theorem lane_slices (n : Fin 8) : S1x512.Slices ![0, n.val * 64] S1x1 := by
  revert n
  decide +kernel

theorem cols_slices (n : Fin 8) : S8x512.Slices ![0, n.val * 64] S8x64 := by
  revert n
  decide +kernel

theorem head_in (n : Fin 8) : ∀ a, (![0, n.val, 0, 0] : Fin 4 → Nat) a + S1x1x64x64.size a ≤ S1x8x64x64.size a := by
  revert n
  decide +kernel

theorem lanes_in (n : Fin 4) : ∀ a, (![0, n.val * 128] : Fin 2 → Nat) a + S1x128.size a ≤ S1x512.size a := by
  revert n
  decide +kernel

theorem strip_in (n : Fin 4) : ∀ a, (![0, n.val * 128] : Fin 2 → Nat) a + S8x128.size a ≤ S8x512.size a := by
  revert n
  decide +kernel

/-- What is stored of the answers. -/
theorem piece' {a0 a1 : Memref sig κ sp S1x512 .f32} (h0 : a0.IsWhole) (h1 : a1.IsWhole) {a3 a4 a5 a6 : Memref sig κ sp S8x512 .f32}
    (h3 : a3.IsWhole) (h4 : a4.IsWhole) (h5 : a5.IsWhole) (h6 : a6.IsWhole)
    {a10 : Memref sig κ sp S1x8x64x64 .f32} (h10 : a10.IsWhole) (x0 x1 : FVec Ideal S1x512 .f32) (x3 x4 x5 x6 : FVec Ideal S8x512 .f32) (x10 : FVec Ideal S1x8x64x64 .f32)
    (x : (Rect.unit (s := S8x512) ![0, 0] S8x512.size inb_S8x512_S8x512_0_0).shape.Idx) :
    beside' (fun n => paired (strip n (beside fun n => answer
        (extractStridedSlice S1x1 ![0, n.val * 64] (k0_pay28 (View.readAt (Elt Ideal) a0.view (Rect.unit (s := S1x512) ![0, 0] S1x512.size inb_S1x512_S1x512_0_0).toLoadRect (h0.unread x0))) (lane_slices n))
        (extractStridedSlice (s := S8x512) S8x64 ![0, n.val * 64] (View.readAt (Elt Ideal) a3.view (Rect.unit (s := S8x512) ![0, 0] S8x512.size inb_S8x512_S8x512_0_0).toLoadRect (h3.unread x3) : FVec Ideal S8x512 .f32) (cols_slices n))
        (extractStridedSlice (s := S8x512) S8x64 ![0, n.val * 64] (View.readAt (Elt Ideal) a4.view (Rect.unit (s := S8x512) ![0, 0] S8x512.size inb_S8x512_S8x512_0_0).toLoadRect (h4.unread x4) : FVec Ideal S8x512 .f32) (cols_slices n))
        (extractStridedSlice (s := S8x512) S8x64 ![0, n.val * 64] (View.readAt (Elt Ideal) a5.view (Rect.unit (s := S8x512) ![0, 0] S8x512.size inb_S8x512_S8x512_0_0).toLoadRect (h5.unread x5) : FVec Ideal S8x512 .f32) (cols_slices n))
        (View.readAt (Elt Ideal) a10.view (Rect.unit (s := S1x8x64x64) ![0, n.val, 0, 0] S1x1x64x64.size (head_in n)).toLoadRect (h10.unread x10))))
      (shapeCast S1x128 (View.readAt (Elt Ideal) a1.view (Rect.unit (s := S1x512) ![0, n.val * 128] S1x128.size (lanes_in n)).toLoadRect (h1.unread x1) : FVec Ideal S1x128 .f32) shapeCasts_S1x128_S1x128)
      (View.readAt (Elt Ideal) a6.view (Rect.unit (s := S8x512) ![0, n.val * 128] S8x128.size (strip_in n)).toLoadRect (h6.unread x6))) x
      = mixed x0 x1 x3 x4 x5 x6 x10 ((Rect.unit (s := S8x512) ![0, 0] S8x512.size inb_S8x512_S8x512_0_0).emb x) := by
  rw [load_row, load_rows, load_rows, load_rows]
  have hl : k0_pay28 x0 = x0 := funext fun y => by pointwise [k0_pay28]
  simp only [hl, lane_eq, cols_eq]
  obtain ⟨r, j, rfl⟩ : ∃ (r : Fin 8) (j : Fin 512), x = ix2 r j := ⟨x 0, x 1, funext fun b => match b with
    | ⟨0, _⟩ => rfl
    | ⟨1, _⟩ => rfl⟩
  have hx : (Rect.unit (s := S8x512) ![0, 0] S8x512.size inb_S8x512_S8x512_0_0).emb (ix2 r j) = ix2 r j := funext fun b => Fin.ext (match b with
    | ⟨0, _⟩ => (by show 0 + 1 * r.val = r.val; omega)
    | ⟨1, _⟩ => (by show 0 + 1 * j.val = j.val; omega))
  have e : (⟨j.val / 128 * 128 + j.val % 128, by omega⟩ : Fin 512) = j := Fin.ext (by show j.val / 128 * 128 + j.val % 128 = j.val; omega)
  rw [hx, stored_at]
  refine congrArg₂ (· * ·) (congrArg₂ (· * ·) (congrFun (congrArg levelled (funext fun j => answers_at x0 x3 x4 x5 x10 _ (fun n d e => load_head h10 x10 n (head_in n) d e) r j)) j) ?_)
    (congrArg gate ?_)
  · exact (congrFun (shapeCast_self _ _) _).trans ((load_lanes h1 x1 ⟨j.val / 128, by omega⟩ (lanes_in ⟨j.val / 128, by omega⟩) ⟨j.val % 128, by omega⟩).trans (congrArg (fun j => x1 (ix2 0 j)) e))
  · exact (load_strip h6 x6 ⟨j.val / 128, by omega⟩ (strip_in ⟨j.val / 128, by omega⟩) r ⟨j.val % 128, by omega⟩).trans (congrArg (fun j => x6 (ix2 r j)) e)

end

variable (m : (ℓ : Loc nD τ sig) → Buf (Elt Ideal) ℓ)

open Idealize.ShloMosaic.TcCoe

theorem left13 (c : Dev nD) (t : Fin cfg0.N) (y : S8x512.Idx) :
    (dats m 0 c).after 13 t y = mixed (iblk m c 0 t) (iblk m c 1 t) (iblk m c 3 t) (iblk m c 4 t) (iblk m c 5 t) (iblk m c 6 t) (iblk m c 10 t) y := by
  have p := piece' (hs0_0 t) (hs0_1 t) (hs0_3 t) (hs0_4 t) (hs0_5 t) (hs0_6 t) (hs0_10 t) (iblk m c 0 t) (iblk m c 1 t) (iblk m c 3 t) (iblk m c 4 t) (iblk m c 5 t)
    (iblk m c 6 t) (iblk m c 10 t)
  rw [after0_13]
  by_cases h0 : t.val % 32 = 0
  · rw [outsAt0_A m c t h0]
    dsimp only
    unfold out0_A_13
    rw [View.read_writes_junk_eq_canon]
    refine View.canon_apply_of_pieces (mixed (iblk m c 0 t) (iblk m c 1 t) (iblk m c 3 t) (iblk m c 4 t) (iblk m c 5 t) (iblk m c 6 t) (iblk m c 10 t)) _ (View.PiecesOf.mem ?_)
      y (cover0_A_13 c _ _ _ _ _ _ _ _ _ _ _ _ _ _ _ _ _ _ _ _ _ _ _ _ _ _ _ _ _ _ _ _ _ _ _ _ _ _ _ _ _ _ _ _ _ _ _ _ _ _ _ y)
    exact ⟨p, trivial⟩
  · rw [outsAt0_B m c t h0]
    dsimp only
    unfold out0_B_13
    rw [View.read_writes_junk_eq_canon]
    refine View.canon_apply_of_pieces (mixed (iblk m c 0 t) (iblk m c 1 t) (iblk m c 3 t) (iblk m c 4 t) (iblk m c 5 t) (iblk m c 6 t) (iblk m c 10 t)) _ (View.PiecesOf.mem ?_)
      y (cover0_B_13 c _ _ _ _ _ _ _ _ _ _ _ _ _ _ _ _ _ _ _ _ _ _ _ _ _ _ _ _ _ _ _ _ _ _ _ _ _ _ _ _ _ _ _ _ _ _ _ _ _ _ _ _ _ y)
    exact ⟨p, trivial⟩

end Cert.Mixer

end
-- ==== Proof.Mixer.Results.lean ====
/- The decode mixer's answers and state as the retention of each row's queries, keys and values. -/
module

public import proofs.«01_k».proof.Proof.Mixer.Blocks
public import proofs.«01_k».proof.Proof.Mixer.Answers

@[expose] public section

set_option maxRecDepth 16384
set_option maxHeartbeats 1000000

noncomputable section

namespace Cert.Mixer

open Idealize.ShloMosaic Idealize.SL.Sem Idealize.ShloMosaic.TcCoe Idealize.ShloMosaic.Tactic Cert.Layer
open Cert.Kernel6Ideal Cert.Kernel6Ideal.Gen Cert.Kernel6Ideal.Value

/-- Every head's state after the step. -/
def stateOf (k v : FVec Ideal S256x512 .f32) (s : FVec Ideal S1x32x8x64x64 .f32) (b : Fin 32) (h : Fin 8) (d e : Fin 64) : EReal :=
  kept (fade h) (fun j => k (ix2 ⟨b.val * 8 + j.val, by omega⟩ ⟨h.val * 64 + d.val, by omega⟩))
    (fun j => v (ix2 ⟨b.val * 8 + j.val, by omega⟩ ⟨h.val * 64 + e.val, by omega⟩)) (s (ix5 0 b h d e))

/-- A position's answer, lane by lane over the heads. -/
def answerOf (q k v : FVec Ideal S256x512 .f32) (s : FVec Ideal S1x32x8x64x64 .f32) (b : Fin 32) (i : Fin 8) (j : Fin 512) : EReal :=
  told (fade ⟨j.val / 64, by omega⟩) i (fun d => q (ix2 ⟨b.val * 8 + i.val, by omega⟩ ⟨j.val / 64 * 64 + d.val, by omega⟩))
    (fun a d => k (ix2 ⟨b.val * 8 + a.val, by omega⟩ ⟨j.val / 64 * 64 + d.val, by omega⟩)) (fun a => v (ix2 ⟨b.val * 8 + a.val, by omega⟩ j))
    (fun d => s (ix5 0 b ⟨j.val / 64, by omega⟩ d ⟨j.val % 64, by omega⟩))

def mixedOf (q k v g : FVec Ideal S256x512 .f32) (s : FVec Ideal S1x32x8x64x64 .f32) (w : FVec Ideal S1x512 .f32) : S256x512.Idx → EReal := fun y =>
  levelled (answerOf q k v s ⟨(y 0).val / 8, by have h : (y 0).val < 256 := (y 0).isLt; omega⟩ ⟨(y 0).val % 8, by omega⟩) (y 1) * w (ix2 0 (y 1)) * gate (g y)

variable (m : (ℓ : Loc nD τ sig) → Buf (Elt Ideal) ℓ)

/-! ## The arrays the call reads -/

/-- The table of the heads' decays, lane by lane. -/
def table : FVec Ideal S1x512 .f32 :=
  shapeCast S1x512 (shapeCast S512 (broadcastInDim S8x64 ![0] bcast_S8_S8x64_0 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp (F := Ideal) .f32 (iotaInDim S8 32 0))))))) shapeCasts_S8x64_S512) shapeCasts_S512_S1x512

theorem table_at (j : Fin 512) : table (ix2 0 j) = fade ⟨j.val / 64, by omega⟩ := by
  pointwise [table]
  rfl

theorem entry_l (c : Dev nD) : V m c main_v11 = table := by
  unfold V hostOps0
  after_results_simp <;> rfl
theorem entry_w (c : Dev nD) : V m c main_v25 = shapeCast S1x512 (shapeCast S512 (m ((c : Thread nD τ).loc main_arg10) : FVec Ideal S1x512 .f32) shapeCasts_S1x512_S512) shapeCasts_S512_S1x512 := by
  unfold V hostOps0
  after_results_simp <;> rfl
theorem entry_q (c : Dev nD) : V m c main_arg0 = m ((c : Thread nD τ).loc main_arg0) := by
  unfold V hostOps0
  after_results_simp <;> rfl
theorem entry_k (c : Dev nD) : V m c main_arg1 = m ((c : Thread nD τ).loc main_arg1) := by
  unfold V hostOps0
  after_results_simp <;> rfl
theorem entry_v (c : Dev nD) : V m c main_arg2 = m ((c : Thread nD τ).loc main_arg2) := by
  unfold V hostOps0
  after_results_simp <;> rfl
theorem entry_g (c : Dev nD) : V m c main_arg3 = m ((c : Thread nD τ).loc main_arg3) := by
  unfold V hostOps0
  after_results_simp <;> rfl
theorem entry_s (c : Dev nD) : V m c main_v26 = shapeCast S32x8x64x64 (m ((c : Thread nD τ).loc main_arg7) : FVec Ideal S1x32x8x64x64 .f32) shapeCasts_S1x32x8x64x64_S32x8x64x64 := by
  unfold V hostOps0
  after_results_simp <;> rfl

theorem w_at (w : FVec Ideal S1x512 .f32) (j : Fin 512) :
    shapeCast S1x512 (shapeCast S512 w shapeCasts_S1x512_S512) shapeCasts_S512_S1x512 (ix2 0 j) = w (ix2 0 j) := by
  pointwise
theorem s_at (s : FVec Ideal S1x32x8x64x64 .f32) (b : Fin 32) (h : Fin 8) (d e : Fin 64) :
    shapeCast S32x8x64x64 s shapeCasts_S1x32x8x64x64_S32x8x64x64 (ix4 b h d e) = s (ix5 0 b h d e) := by
  pointwise

/-! ## The blocks, read -/

theorem blk_l (c : Dev nD) (t : Fin cfg0.N) (j : Fin 512) : (iblk m c 0 t : S1x512.Idx → EReal) (ix2 0 j) = fade ⟨j.val / 64, by omega⟩ :=
  ((congrFun (read0 (F := Ideal) (V m c main_v11) t) _).trans (congrFun (entry_l m c) _)).trans (table_at j)
theorem blk_w (c : Dev nD) (t : Fin cfg0.N) (j : Fin 512) :
    (iblk m c 1 t : S1x512.Idx → EReal) (ix2 0 j) = (m ((c : Thread nD τ).loc main_arg10) : FVec Ideal S1x512 .f32) (ix2 0 j) :=
  ((congrFun (read1 (F := Ideal) (V m c main_v25) t) _).trans (congrFun (entry_w m c) _)).trans (w_at _ j)
theorem blk_q (c : Dev nD) (t : Fin cfg0.N) (r : Fin 8) (n : Fin 256) (hn : n.val = t.val * 8 + r.val) (j : Fin 512) :
    (iblk m c 3 t : S8x512.Idx → EReal) (ix2 r j) = (m ((c : Thread nD τ).loc main_arg0) : FVec Ideal S256x512 .f32) (ix2 n j) :=
  (read3 (F := Ideal) (V m c main_arg0) t (ix2 r j) (ix2 n j) hn rfl).trans (congrFun (entry_q m c) _)
theorem blk_k (c : Dev nD) (t : Fin cfg0.N) (r : Fin 8) (n : Fin 256) (hn : n.val = t.val * 8 + r.val) (j : Fin 512) :
    (iblk m c 4 t : S8x512.Idx → EReal) (ix2 r j) = (m ((c : Thread nD τ).loc main_arg1) : FVec Ideal S256x512 .f32) (ix2 n j) :=
  (read4 (F := Ideal) (V m c main_arg1) t (ix2 r j) (ix2 n j) hn rfl).trans (congrFun (entry_k m c) _)
theorem blk_v (c : Dev nD) (t : Fin cfg0.N) (r : Fin 8) (n : Fin 256) (hn : n.val = t.val * 8 + r.val) (j : Fin 512) :
    (iblk m c 5 t : S8x512.Idx → EReal) (ix2 r j) = (m ((c : Thread nD τ).loc main_arg2) : FVec Ideal S256x512 .f32) (ix2 n j) :=
  (read5 (F := Ideal) (V m c main_arg2) t (ix2 r j) (ix2 n j) hn rfl).trans (congrFun (entry_v m c) _)
theorem blk_g (c : Dev nD) (t : Fin cfg0.N) (r : Fin 8) (n : Fin 256) (hn : n.val = t.val * 8 + r.val) (j : Fin 512) :
    (iblk m c 6 t : S8x512.Idx → EReal) (ix2 r j) = (m ((c : Thread nD τ).loc main_arg3) : FVec Ideal S256x512 .f32) (ix2 n j) :=
  (read6 (F := Ideal) (V m c main_arg3) t (ix2 r j) (ix2 n j) hn rfl).trans (congrFun (entry_g m c) _)
theorem blk_s (c : Dev nD) (t : Fin cfg0.N) (b : Fin 32) (hb : b.val = t.val) (h : Fin 8) (d e : Fin 64) :
    (iblk m c 10 t : S1x8x64x64.Idx → EReal) (ix4 0 h d e) = (m ((c : Thread nD τ).loc main_arg7) : FVec Ideal S1x32x8x64x64 .f32) (ix5 0 b h d e) :=
  ((read10 (F := Ideal) (V m c main_v26) t (ix4 0 h d e) (ix4 b h d e) hb rfl rfl rfl).trans (congrFun (entry_s m c) _)).trans (s_at _ b h d e)

/-! ## The results -/

theorem fade_lane (h : Fin 8) (p : h.val * 64 / 64 < 8) : fade ⟨h.val * 64 / 64, p⟩ = fade h :=
  congrArg fade (Fin.ext (by show h.val * 64 / 64 = h.val; omega))

theorem state_block (c : Dev nD) (t : Fin cfg0.N) (b : Fin 32) (hb : b.val = t.val) (h : Fin 8) (d e : Fin 64) :
    state (iblk m c 0 t) (iblk m c 4 t) (iblk m c 5 t) (iblk m c 10 t) (ix4 0 h d e)
      = stateOf (m ((c : Thread nD τ).loc main_arg1)) (m ((c : Thread nD τ).loc main_arg2)) (m ((c : Thread nD τ).loc main_arg7)) b h d e := by
  have hk := fun (j : Fin 8) (l : Fin 512) => blk_k m c t j ⟨b.val * 8 + j.val, by omega⟩ (by show b.val * 8 + j.val = _; rw [hb]) l
  have hv := fun (j : Fin 8) (l : Fin 512) => blk_v m c t j ⟨b.val * 8 + j.val, by omega⟩ (by show b.val * 8 + j.val = _; rw [hb]) l
  have hl := (blk_l m c t ⟨h.val * 64, by omega⟩).trans (fade_lane h _)
  have hs := blk_s m c t b hb h d e
  unfold stateOf
  rw [← hl, ← hs, ← funext fun j => hk j _, ← funext fun j => hv j _]
  rfl

theorem answer_block (c : Dev nD) (t : Fin cfg0.N) (b : Fin 32) (hb : b.val = t.val) (r : Fin 8) (j : Fin 512) :
    answers (iblk m c 0 t) (iblk m c 3 t) (iblk m c 4 t) (iblk m c 5 t) (iblk m c 10 t) r j
      = answerOf (m ((c : Thread nD τ).loc main_arg0)) (m ((c : Thread nD τ).loc main_arg1)) (m ((c : Thread nD τ).loc main_arg2)) (m ((c : Thread nD τ).loc main_arg7)) b r j := by
  have hq := fun (r : Fin 8) (l : Fin 512) => blk_q m c t r ⟨b.val * 8 + r.val, by omega⟩ (by show b.val * 8 + r.val = _; rw [hb]) l
  have hk := fun (r : Fin 8) (l : Fin 512) => blk_k m c t r ⟨b.val * 8 + r.val, by omega⟩ (by show b.val * 8 + r.val = _; rw [hb]) l
  have hv := fun (r : Fin 8) (l : Fin 512) => blk_v m c t r ⟨b.val * 8 + r.val, by omega⟩ (by show b.val * 8 + r.val = _; rw [hb]) l
  have hl := (blk_l m c t ⟨j.val / 64 * 64, by omega⟩).trans (fade_lane ⟨j.val / 64, by omega⟩ _)
  have hs := fun d : Fin 64 => blk_s m c t b hb ⟨j.val / 64, by omega⟩ d ⟨j.val % 64, by omega⟩
  unfold answerOf
  rw [← hl, ← funext hs, ← funext fun d => hq r _, ← funext fun a => funext fun d => hk a _, ← funext fun a => hv a j]
  rfl

theorem mixed_block (c : Dev nD) (t : Fin cfg0.N) (n : Fin 256) (r : Fin 8) (hn : n.val = t.val * 8 + r.val) (j : Fin 512) :
    mixed (iblk m c 0 t) (iblk m c 1 t) (iblk m c 3 t) (iblk m c 4 t) (iblk m c 5 t) (iblk m c 6 t) (iblk m c 10 t) (ix2 r j)
      = mixedOf (m ((c : Thread nD τ).loc main_arg0)) (m ((c : Thread nD τ).loc main_arg1)) (m ((c : Thread nD τ).loc main_arg2)) (m ((c : Thread nD τ).loc main_arg3))
          (m ((c : Thread nD τ).loc main_arg7)) (m ((c : Thread nD τ).loc main_arg10)) (ix2 n j) := by
  have hr : r = ⟨n.val % 8, by omega⟩ := Fin.ext (by show r.val = n.val % 8; omega)
  have hp := funext (answer_block m c t ⟨n.val / 8, by omega⟩ (by show n.val / 8 = t.val; omega) r)
  have hg := blk_g m c t r n hn j
  have hw := blk_w m c t j
  refine (congrArg₂ (· * ·) (congrArg₂ (· * ·) (congrFun (congrArg levelled hp) j) hw) (congrArg gate hg)).trans ?_
  have hb : n.val / 8 < 32 := by omega
  exact congrArg (fun r => levelled (answerOf (m ((c : Thread nD τ).loc main_arg0)) (m ((c : Thread nD τ).loc main_arg1)) (m ((c : Thread nD τ).loc main_arg2))
    (m ((c : Thread nD τ).loc main_arg7)) ⟨n.val / 8, hb⟩ r) j * (m ((c : Thread nD τ).loc main_arg10) : FVec Ideal S1x512 .f32) (ix2 0 j)
      * gate ((m ((c : Thread nD τ).loc main_arg3) : FVec Ideal S256x512 .f32) (ix2 n j))) hr

theorem result15 (c : Dev nD) : (dats m 0 c).arrAt 15 cfg0.N
    = fun i : S32x8x64x64.Idx => stateOf (m ((c : Thread nD τ).loc main_arg1)) (m ((c : Thread nD τ).loc main_arg2)) (m ((c : Thread nD τ).loc main_arg7)) (i 0) (i 1) (i 2) (i 3) :=
  array15 (dats m 0 c) _ fun t y i h0 h1 h2 h3 => by
    obtain ⟨b, h, d, e, rfl⟩ : ∃ (b : Fin 32) (h : Fin 8) (d e : Fin 64), i = ix4 b h d e := ⟨i 0, i 1, i 2, i 3, eq_ix4 i⟩
    obtain ⟨z, h', d', e', rfl⟩ : ∃ (z : Fin 1) (h : Fin 8) (d e : Fin 64), y = ix4 z h d e := ⟨y 0, y 1, y 2, y 3, eq_ix4 y⟩
    obtain rfl : z = 0 := Subsingleton.elim _ _
    obtain rfl : h = h' := Fin.ext h1
    obtain rfl : d = d' := Fin.ext h2
    obtain rfl : e = e' := Fin.ext h3
    exact (left15 m c t _).trans (state_block m c t b h0 h d e)

theorem result13 (c : Dev nD) : (dats m 0 c).arrAt 13 cfg0.N
    = mixedOf (m ((c : Thread nD τ).loc main_arg0)) (m ((c : Thread nD τ).loc main_arg1)) (m ((c : Thread nD τ).loc main_arg2)) (m ((c : Thread nD τ).loc main_arg3))
      (m ((c : Thread nD τ).loc main_arg7)) (m ((c : Thread nD τ).loc main_arg10)) :=
  array13 (dats m 0 c) _ fun t y i h0 h1 => by
    obtain ⟨n, j, rfl⟩ : ∃ (n : Fin 256) (j : Fin 512), i = ix2 n j := ⟨i 0, i 1, eq_ix2 i⟩
    obtain ⟨r, j', rfl⟩ : ∃ (r : Fin 8) (j : Fin 512), y = ix2 r j := ⟨y 0, y 1, eq_ix2 y⟩
    obtain rfl : j = j' := Fin.ext h1
    exact (left13 m c t _).trans (mixed_block m c t n r h0 j)

end Cert.Mixer

end
-- ==== Proof.Mixer.Reference.lean ====
/- The decode retention's reference, read at an element. -/
module

public import proofs.«01_k».proof.Proof.Gen.Reference6Ideal.Run
public import proofs.«01_k».proof.Proof.Layer.Retain

@[expose] public section

set_option maxRecDepth 16384
set_option maxHeartbeats 1000000

noncomputable section

namespace Cert.Mixer.Ref

open Idealize.ShloMosaic Cert.Reference6Ideal Cert.Reference6Ideal.Gen Cert.Layer

/-- The heads' decays. -/
def fades : FVec Ideal S8 .f32 :=
  Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))

/-- The keys, scaled. -/
def keys (x1 : FVec Ideal S256x512 .f32) : FVec Ideal S32x8x8x64 .f32 :=
  mulf (shapeCast _ x1 shapeCasts_S256x512_S32x8x8x64) (broadcastInDim S32x8x8x64 ![] bcast_S_S32x8x8x64 (constant S_ .f32 0x3E000000#32))

/-- The decay between two positions, for every head. -/
def decays : FVec Ideal S8x8x8 .f32 :=
  select (broadcastInDim S8x8x8 ![1, 2] bcast_S8x8_S8x8x8_1_2 (cmpf .oge (subf (broadcastInDim S8x8 ![0, 1] bcast_S8x1_S8x8_0_1 (broadcastInDim S8x1 ![0] bcast_S8_S8x1_0 (sitofp (F := Ideal) .f32 (iotaInDim S8 32 0)))) (broadcastInDim S8x8 ![0, 1] bcast_S1x8_S8x8_0_1 (broadcastInDim S1x8 ![1] bcast_S8_S1x8_1 (sitofp (F := Ideal) .f32 (iotaInDim S8 32 0))))) (broadcastInDim S8x8 ![] bcast_S_S8x8 (constant S_ .f32 0x00000000#32))))
    (Host.exp (mulf (broadcastInDim S8x8x8 ![0, 1, 2] bcast_S8x1x1_S8x8x8_0_1_2 (broadcastInDim S8x1x1 ![0] bcast_S8_S8x1x1_0 fades))
      (broadcastInDim S8x8x8 ![0, 1, 2] bcast_S1x8x8_S8x8x8_0_1_2 (broadcastInDim S1x8x8 ![1, 2] bcast_S8x8_S1x8x8_1_2 (maximumf (subf (broadcastInDim S8x8 ![0, 1] bcast_S8x1_S8x8_0_1 (broadcastInDim S8x1 ![0] bcast_S8_S8x1_0 (sitofp (F := Ideal) .f32 (iotaInDim S8 32 0)))) (broadcastInDim S8x8 ![0, 1] bcast_S1x8_S8x8_0_1 (broadcastInDim S1x8 ![1] bcast_S8_S1x8_1 (sitofp (F := Ideal) .f32 (iotaInDim S8 32 0))))) (broadcastInDim S8x8 ![] bcast_S_S8x8 (constant S_ .f32 0x00000000#32)))))))
    (broadcastInDim S8x8x8 ![] bcast_S_S8x8x8 (constant S_ .f32 0x00000000#32))

/-- The state after the step. -/
def states (x1 x2 : FVec Ideal S256x512 .f32) (x7 : FVec Ideal S1x32x8x64x64 .f32) : FVec Ideal S32x8x64x64 .f32 :=
  addf (mulf (broadcastInDim S32x8x64x64 ![0, 1, 2, 3] bcast_S1x8x1x1_S32x8x64x64_0_1_2_3 (broadcastInDim S1x8x1x1 ![1] bcast_S8_S1x8x1x1_1 (Host.exp (mulf fades (broadcastInDim S8 ![] bcast_S_S8 (constant S_ .f32 0x41000000#32)))))) (shapeCast S32x8x64x64 x7 shapeCasts_S1x32x8x64x64_S32x8x64x64))
    (Host.dotGeneral dot_S32x8x8x64_S32x8x8x64_S32x8x64x64_1_1_3_3_02_02 none
      (mulf (keys x1) (broadcastInDim S32x8x8x64 ![0, 1, 2, 3] bcast_S1x8x8x1_S32x8x8x64_0_1_2_3 (broadcastInDim S1x8x8x1 ![1, 2] bcast_S8x8_S1x8x8x1_1_2
        (Host.exp (mulf (broadcastInDim S8x8 ![0, 1] bcast_S1x8_S8x8_0_1 (broadcastInDim S1x8 ![1] bcast_S8_S1x8_1 fades)) (broadcastInDim S8x8 ![0, 1] bcast_S8x1_S8x8_0_1 (broadcastInDim S8x1 ![0] bcast_S8_S8x1_0 (subf (broadcastInDim S8 ![] bcast_S_S8 (constant S_ .f32 0x40E00000#32)) (sitofp .f32 (iotaInDim S8 32 0))))))))))
      (shapeCast S32x8x8x64 x2 shapeCasts_S256x512_S32x8x8x64))

/-- The answers. -/
def outs (x0 x1 x2 : FVec Ideal S256x512 .f32) (x7 : FVec Ideal S1x32x8x64x64 .f32) : FVec Ideal S32x8x8x64 .f32 :=
  addf (transpose S32x8x8x64 [0, 3, 1, 2] (Host.dotGeneral dot_S32x8x8x64_S32x8x8x8_S32x8x64x8_1_3_3_2_02_01 none (shapeCast S32x8x8x64 x2 shapeCasts_S256x512_S32x8x8x64)
      (mulf (Host.dotGeneral dot_S32x8x8x64_S32x8x8x64_S32x8x8x8_3_3_1_1_02_02 none (shapeCast S32x8x8x64 x0 shapeCasts_S256x512_S32x8x8x64) (keys x1))
        (broadcastInDim S32x8x8x8 ![0, 1, 2, 3] bcast_S1x8x8x8_S32x8x8x8_0_1_2_3 (broadcastInDim S1x8x8x8 ![1, 2, 3] bcast_S8x8x8_S1x8x8x8_1_2_3 decays)))) transposes_S32x8x64x8_S32x8x8x64_0_3_1_2)
    (mulf (transpose S32x8x8x64 [0, 3, 1, 2] (Host.dotGeneral dot_S32x8x64x64_S32x8x8x64_S32x8x64x8_2_3_3_1_01_02 none (shapeCast S32x8x64x64 x7 shapeCasts_S1x32x8x64x64_S32x8x64x64) (shapeCast S32x8x8x64 x0 shapeCasts_S256x512_S32x8x8x64)) transposes_S32x8x64x8_S32x8x8x64_0_3_1_2)
      (broadcastInDim S32x8x8x64 ![0, 1, 2, 3] bcast_S1x8x8x1_S32x8x8x64_0_1_2_3 (broadcastInDim S1x8x8x1 ![1, 2] bcast_S8x8_S1x8x8x1_1_2
        (Host.exp (mulf (broadcastInDim S8x8 ![0, 1] bcast_S1x8_S8x8_0_1 (broadcastInDim S1x8 ![1] bcast_S8_S1x8_1 fades)) (broadcastInDim S8x8 ![0, 1] bcast_S8x1_S8x8_0_1 (broadcastInDim S8x1 ![0] bcast_S8_S8x1_0 (addf (sitofp .f32 (iotaInDim S8 32 0)) (broadcastInDim S8 ![] bcast_S_S8 (constant S_ .f32 0x3F800000#32))))))))))

/-- The answers less their heads' means. -/
def centre (o : FVec Ideal S32x8x8x64 .f32) : FVec Ideal S32x8x8x64 .f32 :=
  subf o (broadcastInDim S32x8x8x64 ![0, 1, 2, 3] bcast_S32x8x8x1_S32x8x8x64_0_1_2_3 (Host.divf (broadcastInDim S32x8x8x1 ![0, 1, 2] bcast_S32x8x8_S32x8x8x1_0_1_2 (Host.reduceAdd o (constant S_ .f32 0x00000000#32) reducesTo_S32x8x8x64_S32x8x8_d3 h_S_)) (broadcastInDim S32x8x8x1 ![] bcast_S_S32x8x8x1 (constant S_ .f32 0x42800000#32))))

/-- Scaled head by head, then by a row of weights and the gates. -/
def gated (o : FVec Ideal S32x8x8x64 .f32) (x3 : FVec Ideal S256x512 .f32) (x10 : FVec Ideal S1x512 .f32) : FVec Ideal S256x512 .f32 :=
  mulf (mulf (shapeCast S256x512 (mulf o (broadcastInDim S32x8x8x64 ![0, 1, 2, 3] bcast_S32x8x8x1_S32x8x8x64_0_1_2_3 (Host.rsqrt (addf (Host.divf (broadcastInDim S32x8x8x1 ![0, 1, 2] bcast_S32x8x8_S32x8x8x1_0_1_2 (Host.reduceAdd (mulf o o) (constant S_ .f32 0x00000000#32) reducesTo_S32x8x8x64_S32x8x8_d3 h_S_)) (broadcastInDim S32x8x8x1 ![] bcast_S_S32x8x8x1 (constant S_ .f32 0x42800000#32))) (broadcastInDim S32x8x8x1 ![] bcast_S_S32x8x8x1 (constant S_ .f32 0x358637BD#32)))))) shapeCasts_S32x8x8x64_S256x512)
      (broadcastInDim S256x512 ![0, 1] bcast_S1x512_S256x512_0_1 (broadcastInDim S1x512 ![1] bcast_S512_S1x512_1 (shapeCast S512 x10 shapeCasts_S1x512_S512))))
    (mulf x3 (Host.divf (broadcastInDim S256x512 ![] bcast_S_S256x512 (constant S_ .f32 0x3F800000#32)) (addf (broadcastInDim S256x512 ![] bcast_S_S256x512 (constant S_ .f32 0x3F800000#32)) (Host.exp (Host.negf x3)))))

theorem fades_at (h : Fin 8) : fades (ix1 h) = fade h := by
  pointwise [fades]
  rfl

theorem decays_at (h i j : Fin 8) : decays (ix3 h i j) = decay (fade h) i j := by
  pointwise [decays]
  simp only [fades_at]
  rfl

theorem states_at (x1 x2 : FVec Ideal S256x512 .f32) (x7 : FVec Ideal S1x32x8x64x64 .f32) (b : Fin 32) (h : Fin 8) (d e : Fin 64) :
    states x1 x2 x7 (ix4 b h d e) = kept (fade h) (fun j => x1 (ix2 ⟨b.val * 8 + j.val, by omega⟩ ⟨h.val * 64 + d.val, by omega⟩))
      (fun j => x2 (ix2 ⟨b.val * 8 + j.val, by omega⟩ ⟨h.val * 64 + e.val, by omega⟩)) (x7 (ix5 0 b h d e)) := by
  rw [← kept_keys]
  pointwise [states, keys]
  simp only [fades_at]
  rfl

theorem outs_at (x0 x1 x2 : FVec Ideal S256x512 .f32) (x7 : FVec Ideal S1x32x8x64x64 .f32) (b : Fin 32) (i h : Fin 8) (e : Fin 64) :
    outs x0 x1 x2 x7 (ix4 b i h e) = told (fade h) i (fun d => x0 (ix2 ⟨b.val * 8 + i.val, by omega⟩ ⟨h.val * 64 + d.val, by omega⟩))
      (fun j d => x1 (ix2 ⟨b.val * 8 + j.val, by omega⟩ ⟨h.val * 64 + d.val, by omega⟩))
      (fun j => x2 (ix2 ⟨b.val * 8 + j.val, by omega⟩ ⟨h.val * 64 + e.val, by omega⟩)) (fun d => x7 (ix5 0 b h d e)) := by
  rw [← told_keys]
  pointwise [outs, keys]
  simp only [fades_at, decays_at]
  rfl

theorem centre_at (o : FVec Ideal S32x8x8x64 .f32) (b : Fin 32) (i h : Fin 8) (e : Fin 64) :
    centre o (ix4 b i h e) = o (ix4 b i h e) - Ideal.div (∑ q : Fin 64, o (ix4 b i h q)) (Ideal.ofBits .f32 0x42800000#32) := by
  pointwise [centre]

theorem gated_at (o : FVec Ideal S32x8x8x64 .f32) (x3 : FVec Ideal S256x512 .f32) (x10 : FVec Ideal S1x512 .f32) (n : Fin 256) (j : Fin 512) :
    gated o x3 x10 (ix2 n j) = o (ix4 ⟨n.val / 8, by omega⟩ ⟨n.val % 8, by omega⟩ ⟨j.val / 64, by omega⟩ ⟨j.val % 64, by omega⟩)
        * scale (Ideal.ofBits .f32 0x42800000#32) (fun q : Fin 64 => o (ix4 ⟨n.val / 8, by omega⟩ ⟨n.val % 8, by omega⟩ ⟨j.val / 64, by omega⟩ q))
      * x10 (ix2 0 j) * gate (x3 (ix2 n j)) := by
  pointwise [gated]
  rfl

end Cert.Mixer.Ref

end
-- ==== Proof.Mixer.Algebra.lean ====
/- The decode mixer's retention and its reference end with equal results. -/
module

public import proofs.«01_k».proof.Proof.Mixer.Results
public import proofs.«01_k».proof.Proof.Mixer.Reference
public import proofs.«01_k».proof.Proof.Gen.Kernel6
public import proofs.«01_k».proof.Defs

@[expose] public section

set_option maxRecDepth 16384
set_option maxHeartbeats 1000000

noncomputable section

namespace Cert.Mixer

open Idealize.ShloMosaic Idealize.SL.Sem Idealize.ShloMosaic.TcCoe Cert.Layer

section Reference

open Cert.Reference6Ideal Cert.Reference6Ideal.Gen

variable (x0 x1 x2 x3 : FVec Ideal S256x512 .f32) (x7 : FVec Ideal S1x32x8x64x64 .f32) (x10 : FVec Ideal S1x512 .f32)

theorem ref_states : Ref.states x1 x2 x7 = fun i : S32x8x64x64.Idx => stateOf x1 x2 x7 (i 0) (i 1) (i 2) (i 3) := by
  funext i
  obtain ⟨b, h, d, e, rfl⟩ : ∃ (b : Fin 32) (h : Fin 8) (d e : Fin 64), i = ix4 b h d e := ⟨i 0, i 1, i 2, i 3, eq_ix4 i⟩
  exact Ref.states_at x1 x2 x7 b h d e

theorem outs_lane (b : Fin 32) (i : Fin 8) (h : Fin 8) (e : Fin 64) :
    Ref.outs x0 x1 x2 x7 (ix4 b i h e) = answerOf x0 x1 x2 x7 b i ⟨h.val * 64 + e.val, by omega⟩ := by
  have hh : (⟨(h.val * 64 + e.val) / 64, by omega⟩ : Fin 8) = h := Fin.ext (by show (h.val * 64 + e.val) / 64 = h.val; omega)
  have hd : (h.val * 64 + e.val) / 64 = h.val := by omega
  have he : (⟨(h.val * 64 + e.val) % 64, by omega⟩ : Fin 64) = e := Fin.ext (by show (h.val * 64 + e.val) % 64 = e.val; omega)
  rw [Ref.outs_at]
  unfold answerOf
  simp only [hh, he, hd]

theorem centre_lane (b : Fin 32) (i : Fin 8) (h : Fin 8) (e : Fin 64) :
    Ref.centre (Ref.outs x0 x1 x2 x7) (ix4 b i h e) = centred (answerOf x0 x1 x2 x7 b i) ⟨h.val * 64 + e.val, by omega⟩ := by
  have hd : (h.val * 64 + e.val) / 64 = h.val := by omega
  rw [Ref.centre_at]
  simp only [outs_lane]
  unfold centred
  simp only [hd]

theorem ref_mixed : Ref.gated (Ref.centre (Ref.outs x0 x1 x2 x7)) x3 x10 = mixedOf x0 x1 x2 x3 x7 x10 := by
  funext i
  obtain ⟨n, j, rfl⟩ : ∃ (n : Fin 256) (j : Fin 512), i = ix2 n j := ⟨i 0, i 1, eq_ix2 i⟩
  have e : (⟨j.val / 64 * 64 + j.val % 64, by omega⟩ : Fin 512) = j := Fin.ext (by show j.val / 64 * 64 + j.val % 64 = j.val; omega)
  rw [Ref.gated_at]
  simp only [centre_lane, e]
  rfl

end Reference

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 13 Cert.Kernel6Ideal.cfg0.N, fun c => (Cert.Kernel6Ideal.Gen.dats m 0 c).arrAt 15 Cert.Kernel6Ideal.cfg0.N,
    (θ_run _ _ _).mono (fun r hr c => ⟨(hr c).1, (hr c).2.2⟩) (Cert.Kernel6Ideal.Value.run_blocks m g),
    (θ_run _ _ _).mono (fun r hr c => ?_) (Cert.Reference6Ideal.Value.run m' g')⟩
  obtain ⟨h13, h15, ha⟩ := hr c
  obtain ⟨e0, e1, e2, e3, e4, e5, e6, e7, e8, e9, e10⟩ := hargs c
  refine ⟨h13.trans ((ref_mixed _ _ _ _ _ _).trans (Eq.trans ?_ (result13 m c).symm)), h15.trans ((ref_states _ _ _).trans (Eq.trans ?_ (result15 m c).symm)), ha⟩
  · rw [e0, e1, e2, e3, e7, e10]
  · rw [e1, e2, e7]

/-! ## The frames -/

theorem same_defs {F : FTy → Type} [FloatOps F] : (@Cert.Kernel6.defs F _ Cert.Kernel6.Gen.facts) = (@Cert.Kernel6Ideal.defs F _ Cert.Kernel6Ideal.Gen.facts) := by
  unfold Cert.Kernel6.defs Cert.Kernel6.defs₀
  refine congrArg _ (congrArg Defs.onTc (funext fun l => funext fun p => ?_))
  match l, p with
  | 0, (t, s) => rfl
  | ⟨_ + 1, h⟩, _ => exact absurd h (Nat.not_lt.2 (Nat.le_add_left _ _))

theorem same_main {F : FTy → Type} [FloatOps F] : (@Cert.Kernel6.main F _ Cert.Kernel6.Gen.facts) = (@Cert.Kernel6Ideal.main F _ Cert.Kernel6Ideal.Gen.facts) := by
  unfold Cert.Kernel6.main Cert.Kernel6Ideal.main
  rfl

theorem frame_kernel : Cert.quiescent_Kernel6 (hKernel6 := Cert.Kernel6.Gen.facts) := fun m ρ _ =>
  Eq.mpr (congrArg₂ (fun d p => θ_run d (onTc (τ := Cert.Kernel6.τ) p) ⟨m, fun _ => 0, ρ⟩ _) same_defs same_main)
    (Cert.Kernel6Ideal.Gen.frame (F := Bits) m ρ)

theorem frame_ideal : Cert.quiescent_Kernel6Ideal (hKernel6Ideal := Cert.Kernel6Ideal.Gen.facts) := fun m ρ _ =>
  Cert.Kernel6Ideal.Gen.frame (F := Ideal) m ρ

theorem frame_reference : Cert.quiescent_Reference6Ideal (hReference6Ideal := Cert.Reference6Ideal.Gen.facts) := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

end Cert.Mixer

end
-- ==== Proof.Chunks.Body.lean ====
/- One step of the retention over a prompt: the chunks' products are stored one slab each, then swept in order, each slab
   replaced by the state before it; the state after the last is the step's second result. -/
module

public import proofs.«01_k».proof.Proof.Gen.Kernel7Ideal.Frame
public import proofs.«01_k».proof.Proof.Gen.Kernel7Ideal.Skeleton
public import proofs.«01_k».proof.Proof.Gen.Kernel7Ideal.Loops
public import Idealize.ShloMosaic.Lib.Pipeline.Frame
public import Idealize.ShloMosaic.Lib.Tactic
public import Idealize.ShloMosaic.Lib.Pointwise
public import Idealize.ShloMosaic.Lib.WritesUnit
public import Idealize.ShloMosaic.Lib.VecWindow

@[expose] public section

set_option maxRecDepth 65536

noncomputable section

namespace Cert.Chunks

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a step computes -/

/-- Chunk `n`'s rows of a block. -/
def chunk (x : Vec F S1x2048x128 .bf16) (n : ℕ) : Vec F S1x128x128 .bf16 := fun j =>
  x (ix3 0 ⟨(128 * n + (j 1).val) % 2048, Nat.mod_lt _ (by norm_num)⟩ (j 2))

/-- The row numbers and the lane numbers of a square. -/
abbrev rowNo : IVec S128x128 32 := iota .tc S128x128 32 [0] iota_S128x128_d0_w32
abbrev laneNo : IVec S128x128 32 := iota .tc S128x128 32 [1] iota_S128x128_d1_w32

/-- Chunk `n`'s products of keys and values. -/
def product (v3 v4 : IVec S128x128 32) (v36 : FVec F S128x128 .f32) (x5 x6 : Vec F S1x2048x128 .bf16) (n : ℕ) : FVec F S1x128x128 .f32 :=
  k0_pay28 v3 v4 v36 (chunk x5 n) (chunk x6 n)

/-- The state before chunk `n`. -/
def sweep (v3 v4 : IVec S128x128 32) (v9 v10 : FVec F S1x1 .f32) (v36 : FVec F S128x128 .f32) (v43 : IVec S128x128 1)
    (x5 x6 : Vec F S1x2048x128 .bf16) : ℕ → FVec F S128x128 .f32
  | 0 => k0_pay29
  | n + 1 => k0_pay31 v9 v10 v43 (sweep v3 v4 v9 v10 v36 v43 x5 x6 n) (product v3 v4 v36 x5 x6 n)

/-- The state after the last chunk, from the decay table and the blocks of keys and of values. -/
def last (x2 : Vec F S1x1x128 .f32) (x5 x6 : Vec F S1x2048x128 .bf16) : FVec F S128x128 .f32 :=
  sweep rowNo laneNo (k0_pay15 x2) (k0_pay16 x2) (k0_pay22 x2) k0_pay24 x5 x6 16

/-- The step's second result: the two heads' squares on the diagonal of the state. -/
def stateBlk (x2 : Vec F S1x1x128 .f32) (x5 x6 : Vec F S1x2048x128 .bf16) : Vec F S1x2x64x64 .f32 := fun y =>
  last x2 x5 x6 (ix2 ⟨64 * (y 1).val + (y 2).val, by have h1 : (y 1).val < 2 := (y 1).isLt; have h2 : (y 2).val < 64 := (y 2).isLt; omega⟩
    ⟨64 * (y 1).val + (y 3).val, by have h1 : (y 1).val < 2 := (y 1).isLt; have h2 : (y 3).val < 64 := (y 3).isLt; omega⟩)

/-! ## Slabs written and read -/

/-- A slab just written is read where it lies. -/
theorem read_slab {sp : Space} (v : View sig .tc sp S16x128x128 .f32) (f : v.ty.Contents (Elt F)) {off : Fin 3 → ℕ} (n : ℕ) (hoff : off = ![n, 0, 0])
    (inb : ∀ a : Fin 3, off a + S1x128x128.size a ≤ S16x128x128.size a) (w : FVec F S1x128x128 .f32) (L : List (View.Piece (Elt F) S16x128x128 .f32))
    (y : S16x128x128.Idx) (h : (y 0).val = n) :
    v.read (Elt F) (v.writes (Elt F) f (⟨Rect.unit (s := S16x128x128) off S1x128x128.size inb, w⟩ :: L)) y
      = w (ix3 0 (y 1) (y 2)) := by
  refine View.read_writes_cons_unit_of_mem v f inb w L y (ix3 0 (y 1) (y 2)) hoff fun a => ?_
  match a with
  | ⟨0, _⟩ => exact h
  | ⟨1, _⟩ => exact (Nat.zero_add _).symm
  | ⟨2, _⟩ => exact (Nat.zero_add _).symm

/-- Elsewhere the earlier writes are read. -/
theorem read_past {sp : Space} (v : View sig .tc sp S16x128x128 .f32) (f : v.ty.Contents (Elt F)) {off : Fin 3 → ℕ} (n : ℕ) (hoff : off = ![n, 0, 0])
    (inb : ∀ a : Fin 3, off a + S1x128x128.size a ≤ S16x128x128.size a) (w : FVec F S1x128x128 .f32) (L : List (View.Piece (Elt F) S16x128x128 .f32))
    (y : S16x128x128.Idx) (h : (y 0).val ≠ n) :
    v.read (Elt F) (v.writes (Elt F) f (⟨Rect.unit (s := S16x128x128) off S1x128x128.size inb, w⟩ :: L)) y
      = v.read (Elt F) (v.writes (Elt F) f L) y := by
  refine View.read_writes_cons_unit_of_not_mem v f inb w L y hoff 0 ?_
  show (y 0).val < n ∨ n + 1 ≤ (y 0).val
  omega

section Loops

variable (c : Dev nD) (i : grid0.Coords)
  (a2 : Memref sig .tc .vmem S1x1x128 .f32) (h2 : a2.IsWhole)
  (a3 : Memref sig .tc .vmem S1x1x128 .f32) (h3 : a3.IsWhole)
  (a4 : Memref sig .tc .vmem S1x2048x128 .bf16) (h4 : a4.IsWhole)
  (a5 : Memref sig .tc .vmem S1x2048x128 .bf16) (h5 : a5.IsWhole)
  (a6 : Memref sig .tc .vmem S1x2048x128 .bf16) (h6 : a6.IsWhole)
  (a7 : Memref sig .tc .vmem S1x2048x128 .bf16) (h7 : a7.IsWhole)
  (a8 : Memref sig .tc .vmem S1x2048x128 .bf16) (h8 : a8.IsWhole)
  (a9 : Memref sig .tc .vmem S1x2x64x64 .f32) (h9 : a9.IsWhole)
  (a10 : Memref sig .tc .vmem S16x128x128 .f32) (h10 : a10.IsWhole)
  (a11 : Memref sig .tc .vmem S2x16x128x128 .bf16) (h11 : a11.IsWhole)
  (v3 v4 : IVec S128x128 32) (v9 v10 : FVec F S1x1 .f32) (v36 : FVec F S128x128 .f32) (v43 : IVec S128x128 1)

/-- The rows the first loop reads of a block in round `r` of trip `k`. -/
abbrev rows (a : Memref sig .tc .vmem S1x2048x128 .bf16) (f : a.view.ty.Contents (Elt F)) (k : Fin k0_t1_loop.trips) (r : Fin 8) : Vec F S1x128x128 .bf16 :=
  View.readAt (Elt F) a.view (Rect.unit (s := S1x2048x128) (k0_off1 k (BitVec.ofNat 32 r.val)) S1x128x128.size (k0_off1_inb k r)).toLoadRect f

theorem rows_eq (a : Memref sig .tc .vmem S1x2048x128 .bf16) (f : a.view.ty.Contents (Elt F)) (x : Vec F S1x2048x128 .bf16)
    (hx : a.view.read (Elt F) f = x) (k : Fin k0_t1_loop.trips) (r : Fin 8) : rows a f k r = chunk x (8 * k.val + r.val) := by
  subst hx
  funext j
  have hk : k.val < 2 := Nat.lt_of_lt_of_le k.isLt k0_t1_abs.2.1
  have h0 : (j 0).val < 1 := (j 0).isLt
  have h1 : (j 1).val < 128 := (j 1).isLt
  unfold rows
  rw [View.readAt_apply]
  refine congrArg (a.view.read (Elt F) f) (funext fun b => Fin.ext ?_)
  have e := k0_off1_eq k r
  show k0_off1 k (BitVec.ofNat 32 r.val) b + 1 * (j b).val = _
  rw [e]
  match b with
  | ⟨0, _⟩ => show 0 + 1 * (j 0).val = 0; omega
  | ⟨1, _⟩ => show 1024 * k.val + 128 * r.val + 1 * (j 1).val = (128 * (8 * k.val + r.val) + (j 1).val) % 2048; omega
  | ⟨2, _⟩ => show 0 + 1 * (j 2).val = (j 2).val; omega

theorem trip_pieces (f5 : a5.view.ty.Contents (Elt F)) (f6 : a6.view.ty.Contents (Elt F)) (k : Fin k0_t1_loop.trips) :
    tripL_k0_t1 (F := F) Variants.none c none i a2 h2 a3 h3 a4 h4 a5 h5 a6 h6 a7 h7 a8 h8 a9 h9 a10 h10 a11 h11 v3 v4 v9 v10 v36 v43 f5 f6 k
      = [⟨Rect.unit (s := S16x128x128) (k0_off2 k 7#32) S1x128x128.size (k0_off2_inb k 7), k0_pay28 v3 v4 v36 (rows a5 f5 k 7) (rows a6 f6 k 7)⟩,
        ⟨Rect.unit (s := S16x128x128) (k0_off2 k 6#32) S1x128x128.size (k0_off2_inb k 6), k0_pay28 v3 v4 v36 (rows a5 f5 k 6) (rows a6 f6 k 6)⟩,
        ⟨Rect.unit (s := S16x128x128) (k0_off2 k 5#32) S1x128x128.size (k0_off2_inb k 5), k0_pay28 v3 v4 v36 (rows a5 f5 k 5) (rows a6 f6 k 5)⟩,
        ⟨Rect.unit (s := S16x128x128) (k0_off2 k 4#32) S1x128x128.size (k0_off2_inb k 4), k0_pay28 v3 v4 v36 (rows a5 f5 k 4) (rows a6 f6 k 4)⟩,
        ⟨Rect.unit (s := S16x128x128) (k0_off2 k 3#32) S1x128x128.size (k0_off2_inb k 3), k0_pay28 v3 v4 v36 (rows a5 f5 k 3) (rows a6 f6 k 3)⟩,
        ⟨Rect.unit (s := S16x128x128) (k0_off2 k 2#32) S1x128x128.size (k0_off2_inb k 2), k0_pay28 v3 v4 v36 (rows a5 f5 k 2) (rows a6 f6 k 2)⟩,
        ⟨Rect.unit (s := S16x128x128) (k0_off2 k 1#32) S1x128x128.size (k0_off2_inb k 1), k0_pay28 v3 v4 v36 (rows a5 f5 k 1) (rows a6 f6 k 1)⟩,
        ⟨Rect.unit (s := S16x128x128) (k0_off2 k 0#32) S1x128x128.size (k0_off2_inb k 0), k0_pay28 v3 v4 v36 (rows a5 f5 k 0) (rows a6 f6 k 0)⟩] := by
  unfold tripL_k0_t1 trip_k0_t1
  rfl

/-- After a trip of the first loop its eight slabs hold their products. -/
theorem read_trip (f5 : a5.view.ty.Contents (Elt F)) (f6 : a6.view.ty.Contents (Elt F)) (x5 x6 : Vec F S1x2048x128 .bf16)
    (e5 : a5.view.read (Elt F) f5 = x5) (e6 : a6.view.read (Elt F) f6 = x6) (k : Fin k0_t1_loop.trips)
    (f : a10.view.ty.Contents (Elt F)) (L : List (View.Piece (Elt F) S16x128x128 .f32)) (y : S16x128x128.Idx) :
    a10.view.read (Elt F) (a10.view.writes (Elt F) f
        (tripL_k0_t1 (F := F) Variants.none c none i a2 h2 a3 h3 a4 h4 a5 h5 a6 h6 a7 h7 a8 h8 a9 h9 a10 h10 a11 h11 v3 v4 v9 v10 v36 v43 f5 f6 k ++ L)) y
      = if (y 0).val / 8 = k.val then product v3 v4 v36 x5 x6 (y 0).val (ix3 0 (y 1) (y 2)) else a10.view.read (Elt F) (a10.view.writes (Elt F) f L) y := by
  have off : ∀ r : Fin 8, k0_off2 k (BitVec.ofNat 32 r.val) = ![8 * k.val + r.val, 0, 0] := k0_off2_eq k
  have hit : ∀ r : Fin 8, (y 0).val = 8 * k.val + r.val → k0_pay28 v3 v4 v36 (rows a5 f5 k r) (rows a6 f6 k r) (ix3 0 (y 1) (y 2))
      = if (y 0).val / 8 = k.val then product v3 v4 v36 x5 x6 (y 0).val (ix3 0 (y 1) (y 2)) else a10.view.read (Elt F) (a10.view.writes (Elt F) f L) y := by
    intro r e
    rw [if_pos (show (y 0).val / 8 = k.val by have := r.isLt; omega), rows_eq a5 f5 x5 e5, rows_eq a6 f6 x6 e6, e]
    rfl
  refine (congrArg (fun P => a10.view.read (Elt F) (a10.view.writes (Elt F) f (P ++ L)) y) (trip_pieces c i a2 h2 a3 h3 a4 h4 a5 h5 a6 h6 a7 h7 a8 h8 a9 h9 a10 h10 a11 h11 v3 v4 v9 v10 v36 v43 f5 f6 k)).trans ?_
  by_cases g7 : (y 0).val = 8 * k.val + 7
  · exact (read_slab a10.view f (8 * k.val + 7) (off 7) _ _ _ y g7).trans (hit 7 g7)
  refine (read_past a10.view f (8 * k.val + 7) (off 7) _ _ _ y g7).trans ?_
  by_cases g6 : (y 0).val = 8 * k.val + 6
  · exact (read_slab a10.view f (8 * k.val + 6) (off 6) _ _ _ y g6).trans (hit 6 g6)
  refine (read_past a10.view f (8 * k.val + 6) (off 6) _ _ _ y g6).trans ?_
  by_cases g5 : (y 0).val = 8 * k.val + 5
  · exact (read_slab a10.view f (8 * k.val + 5) (off 5) _ _ _ y g5).trans (hit 5 g5)
  refine (read_past a10.view f (8 * k.val + 5) (off 5) _ _ _ y g5).trans ?_
  by_cases g4 : (y 0).val = 8 * k.val + 4
  · exact (read_slab a10.view f (8 * k.val + 4) (off 4) _ _ _ y g4).trans (hit 4 g4)
  refine (read_past a10.view f (8 * k.val + 4) (off 4) _ _ _ y g4).trans ?_
  by_cases g3 : (y 0).val = 8 * k.val + 3
  · exact (read_slab a10.view f (8 * k.val + 3) (off 3) _ _ _ y g3).trans (hit 3 g3)
  refine (read_past a10.view f (8 * k.val + 3) (off 3) _ _ _ y g3).trans ?_
  by_cases g2 : (y 0).val = 8 * k.val + 2
  · exact (read_slab a10.view f (8 * k.val + 2) (off 2) _ _ _ y g2).trans (hit 2 g2)
  refine (read_past a10.view f (8 * k.val + 2) (off 2) _ _ _ y g2).trans ?_
  by_cases g1 : (y 0).val = 8 * k.val + 1
  · exact (read_slab a10.view f (8 * k.val + 1) (off 1) _ _ _ y g1).trans (hit 1 g1)
  refine (read_past a10.view f (8 * k.val + 1) (off 1) _ _ _ y g1).trans ?_
  by_cases g0 : (y 0).val = 8 * k.val + 0
  · exact (read_slab a10.view f (8 * k.val + 0) (off 0) _ _ _ y g0).trans (hit 0 g0)
  refine (read_past a10.view f (8 * k.val + 0) (off 0) _ _ _ y g0).trans ?_
  exact (if_neg (show ¬ (y 0).val / 8 = k.val by omega)).symm

/-- After the first loop every slab holds its product. -/
theorem read_filled (f5 : a5.view.ty.Contents (Elt F)) (f6 : a6.view.ty.Contents (Elt F)) (x5 x6 : Vec F S1x2048x128 .bf16)
    (e5 : a5.view.read (Elt F) f5 = x5) (e6 : a6.view.read (Elt F) f6 = x6) (f : a10.view.ty.Contents (Elt F)) (y : S16x128x128.Idx) :
    a10.view.read (Elt F) (a10.view.writes (Elt F) f
        (pb_k0_t1 (F := F) Variants.none c none i a2 h2 a3 h3 a4 h4 a5 h5 a6 h6 a7 h7 a8 h8 a9 h9 a10 h10 a11 h11 v3 v4 v9 v10 v36 v43 f5 f6 (Scf.trips k0_t1_loop.lb k0_t1_loop.ub k0_t1_loop.st))) y
      = product v3 v4 v36 x5 x6 (y 0).val (ix3 0 (y 1) (y 2)) := by
  have hy : (y 0).val < 16 := (y 0).isLt
  have two : k0_t1_loop.trips = 2 := by decide
  show a10.view.read (Elt F) (a10.view.writes (Elt F) f
        (pb_k0_t1 (F := F) Variants.none c none i a2 h2 a3 h3 a4 h4 a5 h5 a6 h6 a7 h7 a8 h8 a9 h9 a10 h10 a11 h11 v3 v4 v9 v10 v36 v43 f5 f6 2)) y = _
  have s1 := pb_k0_t1_succ (F := F) Variants.none c none i a2 h2 a3 h3 a4 h4 a5 h5 a6 h6 a7 h7 a8 h8 a9 h9 a10 h10 a11 h11 v3 v4 v9 v10 v36 v43 f5 f6 ⟨1, by rw [two]; norm_num⟩
  have s0 := pb_k0_t1_succ (F := F) Variants.none c none i a2 h2 a3 h3 a4 h4 a5 h5 a6 h6 a7 h7 a8 h8 a9 h9 a10 h10 a11 h11 v3 v4 v9 v10 v36 v43 f5 f6 ⟨0, by rw [two]; norm_num⟩
  refine (congrArg (fun P => a10.view.read (Elt F) (a10.view.writes (Elt F) f P) y) s1).trans
    ((read_trip c i a2 h2 a3 h3 a4 h4 a5 h5 a6 h6 a7 h7 a8 h8 a9 h9 a10 h10 a11 h11 v3 v4 v9 v10 v36 v43 f5 f6 x5 x6 e5 e6 _ f _ y).trans ?_)
  by_cases h : (y 0).val / 8 = 1
  · exact if_pos h
  · refine (if_neg h).trans ((congrArg (fun P => a10.view.read (Elt F) (a10.view.writes (Elt F) f P) y) s0).trans
      ((read_trip c i a2 h2 a3 h3 a4 h4 a5 h5 a6 h6 a7 h7 a8 h8 a9 h9 a10 h10 a11 h11 v3 v4 v9 v10 v36 v43 f5 f6 x5 x6 e5 e6 _ f _ y).trans ?_))
    exact if_pos (show (y 0).val / 8 = 0 by omega)

theorem sweep_value (k : Fin k0_t2_loop.trips) (acc : FVec F S128x128 .f32) (f : a10.view.ty.Contents (Elt F)) :
    tripR_k0_t2 (F := F) Variants.none c none i a2 h2 a3 h3 a4 h4 a5 h5 a6 h6 a7 h7 a8 h8 a9 h9 a10 h10 a11 h11 v3 v4 v9 v10 v36 v43 k acc f
      = k0_pay31 v9 v10 v43 acc (View.readAt (Elt F) a10.view (Rect.unit (s := S16x128x128) (k0_off3 k) S1x128x128.size (k0_off3_inb k)).toLoadRect f) := by
  unfold tripR_k0_t2 trip_k0_t2
  rfl

theorem sweep_pieces (k : Fin k0_t2_loop.trips) (acc : FVec F S128x128 .f32) (f : a10.view.ty.Contents (Elt F)) :
    tripL_k0_t2 (F := F) Variants.none c none i a2 h2 a3 h3 a4 h4 a5 h5 a6 h6 a7 h7 a8 h8 a9 h9 a10 h10 a11 h11 v3 v4 v9 v10 v36 v43 k acc f
      = [⟨Rect.unit (s := S16x128x128) (k0_off3 k) S1x128x128.size (k0_off3_inb k), k0_pay30 acc⟩] := by
  unfold tripL_k0_t2 trip_k0_t2
  rfl

/-- Before trip `k` of the second loop the carried state is the sweep's, and the slabs from `k` on are untouched. -/
theorem swept (x5 x6 : Vec F S1x2048x128 .bf16) (G : a10.view.ty.Contents (Elt F))
    (hG : ∀ y : S16x128x128.Idx, a10.view.read (Elt F) G y = product v3 v4 v36 x5 x6 (y 0).val (ix3 0 (y 1) (y 2))) (k : ℕ) (hk : k ≤ 16) :
    (st_k0_t2 (F := F) Variants.none c none i a2 h2 a3 h3 a4 h4 a5 h5 a6 h6 a7 h7 a8 h8 a9 h9 a10 h10 a11 h11 v3 v4 v9 v10 v36 v43 G k0_pay29 k).1 = sweep v3 v4 v9 v10 v36 v43 x5 x6 k
    ∧ ∀ y : S16x128x128.Idx, k ≤ (y 0).val →
      a10.view.read (Elt F) (a10.view.writes (Elt F) G (st_k0_t2 (F := F) Variants.none c none i a2 h2 a3 h3 a4 h4 a5 h5 a6 h6 a7 h7 a8 h8 a9 h9 a10 h10 a11 h11 v3 v4 v9 v10 v36 v43 G k0_pay29 k).2) y
        = product v3 v4 v36 x5 x6 (y 0).val (ix3 0 (y 1) (y 2)) := by
  have sixteen : k0_t2_loop.trips = 16 := by decide
  induction k with
  | zero => exact ⟨rfl, fun y _ => hG y⟩
  | succ k ih =>
    obtain ⟨ih1, ih2⟩ := ih (by omega)
    have s := st_k0_t2_succ (F := F) Variants.none c none i a2 h2 a3 h3 a4 h4 a5 h5 a6 h6 a7 h7 a8 h8 a9 h9 a10 h10 a11 h11 v3 v4 v9 v10 v36 v43 G k0_pay29 ⟨k, by rw [sixteen]; omega⟩
    have off : k0_off3 (⟨k, by rw [sixteen]; omega⟩ : Fin k0_t2_loop.trips) = ![k, 0, 0] := k0_off3_eq _
    rw [show st_k0_t2 (F := F) Variants.none c none i a2 h2 a3 h3 a4 h4 a5 h5 a6 h6 a7 h7 a8 h8 a9 h9 a10 h10 a11 h11 v3 v4 v9 v10 v36 v43 G k0_pay29 (k + 1) = _ from s]
    refine ⟨?_, fun y hy => ?_⟩
    · show tripR_k0_t2 (F := F) Variants.none c none i a2 h2 a3 h3 a4 h4 a5 h5 a6 h6 a7 h7 a8 h8 a9 h9 a10 h10 a11 h11 v3 v4 v9 v10 v36 v43 _ _ _ = _
      rw [sweep_value, ih1]
      show _ = k0_pay31 v9 v10 v43 (sweep v3 v4 v9 v10 v36 v43 x5 x6 k) (product v3 v4 v36 x5 x6 k)
      refine congrArg (k0_pay31 v9 v10 v43 _) (funext fun j => ?_)
      have h0 : (j 0).val < 1 := (j 0).isLt
      rw [View.readAt_apply]
      have e : (Rect.unit (s := S16x128x128) (k0_off3 (⟨k, by rw [sixteen]; omega⟩ : Fin k0_t2_loop.trips)) S1x128x128.size (k0_off3_inb _)).toLoadRect.idx j
          = ix3 (⟨k, by omega⟩ : Fin 16) (j 1) (j 2) := funext fun b => Fin.ext (by
        show k0_off3 (⟨k, by rw [sixteen]; omega⟩ : Fin k0_t2_loop.trips) b + 1 * (j b).val = _
        rw [congrFun off b]
        match b with
        | ⟨0, _⟩ => show k + 1 * (j 0).val = k; omega
        | ⟨1, _⟩ => show 0 + 1 * (j 1).val = (j 1).val; omega
        | ⟨2, _⟩ => show 0 + 1 * (j 2).val = (j 2).val; omega)
      refine (congrArg (a10.view.read (Elt F) _) e).trans ((ih2 (ix3 (⟨k, by omega⟩ : Fin 16) (j 1) (j 2)) (le_refl k)).trans ?_)
      refine congrArg (product v3 v4 v36 x5 x6 k) (funext fun b => Fin.ext ?_)
      match b with
      | ⟨0, _⟩ => show 0 = (j 0).val; omega
      | ⟨1, _⟩ => rfl
      | ⟨2, _⟩ => rfl
    · show a10.view.read (Elt F) (a10.view.writes (Elt F) G (tripL_k0_t2 (F := F) Variants.none c none i a2 h2 a3 h3 a4 h4 a5 h5 a6 h6 a7 h7 a8 h8 a9 h9 a10 h10 a11 h11 v3 v4 v9 v10 v36 v43 _ _ _ ++ _)) y = _
      rw [sweep_pieces]
      exact (read_past a10.view G k off _ _ _ y (by omega)).trans (ih2 y (by omega))

end Loops

/-- The squares on the diagonal of a state. -/
theorem upper_square (s : FVec F S128x128 .f32) (a b : Fin 64) :
    k0_pay33 s (ix4 0 0 a b) = s (ix2 ⟨64 + a.val, by omega⟩ ⟨64 + b.val, by omega⟩) := by
  pointwise [k0_pay33]
theorem lower_square (s : FVec F S128x128 .f32) (a b : Fin 64) :
    k0_pay32 s (ix4 0 0 a b) = s (ix2 ⟨a.val, by omega⟩ ⟨b.val, by omega⟩) := by
  pointwise [k0_pay32]

/-- The state's two squares, stored one after the other. -/
theorem read_squares {sp : Space} (v : View sig .tc sp S1x2x64x64 .f32) (f : v.ty.Contents (Elt F)) (s : FVec F S128x128 .f32) (y : S1x2x64x64.Idx) :
    v.read (Elt F) (v.writes (Elt F) f
      [⟨Rect.unit (s := S1x2x64x64) ![0, 1, 0, 0] S1x1x64x64.size inb_S1x2x64x64_S1x1x64x64_0_1_0_0, k0_pay33 s⟩,
       ⟨Rect.unit (s := S1x2x64x64) ![0, 0, 0, 0] S1x1x64x64.size inb_S1x2x64x64_S1x1x64x64_0_0_0_0, k0_pay32 s⟩]) y
    = s (ix2 ⟨64 * (y 1).val + (y 2).val, by have h1 : (y 1).val < 2 := (y 1).isLt; have h2 : (y 2).val < 64 := (y 2).isLt; omega⟩
        ⟨64 * (y 1).val + (y 3).val, by have h1 : (y 1).val < 2 := (y 1).isLt; have h2 : (y 3).val < 64 := (y 3).isLt; omega⟩) := by
  have hy0 : (y 0).val < 1 := (y 0).isLt
  have hy1 : (y 1).val < 2 := (y 1).isLt
  have hy2 : (y 2).val < 64 := (y 2).isLt
  have hy3 : (y 3).val < 64 := (y 3).isLt
  by_cases h : (y 1).val = 1
  · refine (View.read_writes_cons_unit_of_mem (s := S1x2x64x64) (off' := ![0, 1, 0, 0]) (size := S1x1x64x64.size) v f
      inb_S1x2x64x64_S1x1x64x64_0_1_0_0 (k0_pay33 s) _ y (ix4 0 0 (y 2) (y 3)) rfl ?_).trans ((upper_square s (y 2) (y 3)).trans ?_)
    · intro b
      match b with
      | ⟨0, _⟩ => show (y 0).val = 0 + 0; omega
      | ⟨1, _⟩ => show (y 1).val = 1 + 0; omega
      | ⟨2, _⟩ => show (y 2).val = 0 + (y 2).val; omega
      | ⟨3, _⟩ => show (y 3).val = 0 + (y 3).val; omega
    · refine congrArg s ?_
      congr 1
      · exact Fin.ext (by show 64 + (y 2).val = 64 * (y 1).val + (y 2).val; omega)
      · exact Fin.ext (by show 64 + (y 3).val = 64 * (y 1).val + (y 3).val; omega)
  · refine (View.read_writes_cons_unit_of_not_mem (s := S1x2x64x64) (off' := ![0, 1, 0, 0]) (size := S1x1x64x64.size) v f
      inb_S1x2x64x64_S1x1x64x64_0_1_0_0 (k0_pay33 s) _ y rfl 1 (.inl (show (y 1).val < 1 by omega))).trans ?_
    refine (View.read_writes_cons_unit_of_mem (s := S1x2x64x64) (off' := ![0, 0, 0, 0]) (size := S1x1x64x64.size) v f
      inb_S1x2x64x64_S1x1x64x64_0_0_0_0 (k0_pay32 s) _ y (ix4 0 0 (y 2) (y 3)) rfl ?_).trans ((lower_square s (y 2) (y 3)).trans ?_)
    · intro b
      match b with
      | ⟨0, _⟩ => show (y 0).val = 0 + 0; omega
      | ⟨1, _⟩ => show (y 1).val = 0 + 0; omega
      | ⟨2, _⟩ => show (y 2).val = 0 + (y 2).val; omega
      | ⟨3, _⟩ => show (y 3).val = 0 + (y 3).val; omega
    · refine congrArg s ?_
      congr 1
      · exact Fin.ext (by show (y 2).val = 64 * (y 1).val + (y 2).val; omega)
      · exact Fin.ext (by show (y 3).val = 64 * (y 1).val + (y 3).val; omega)

/-- What the state's block holds at a step's end. -/
theorem left_state (c : Dev nD) (i : grid0.Coords)
  (a2 : Memref sig .tc .vmem S1x1x128 .f32) (h2 : a2.IsWhole)
  (a3 : Memref sig .tc .vmem S1x1x128 .f32) (h3 : a3.IsWhole)
  (a4 : Memref sig .tc .vmem S1x2048x128 .bf16) (h4 : a4.IsWhole)
  (a5 : Memref sig .tc .vmem S1x2048x128 .bf16) (h5 : a5.IsWhole)
  (a6 : Memref sig .tc .vmem S1x2048x128 .bf16) (h6 : a6.IsWhole)
  (a7 : Memref sig .tc .vmem S1x2048x128 .bf16) (h7 : a7.IsWhole)
  (a8 : Memref sig .tc .vmem S1x2048x128 .bf16) (h8 : a8.IsWhole)
  (a9 : Memref sig .tc .vmem S1x2x64x64 .f32) (h9 : a9.IsWhole)
  (a10 : Memref sig .tc .vmem S16x128x128 .f32) (h10 : a10.IsWhole)
  (a11 : Memref sig .tc .vmem S2x16x128x128 .bf16) (h11 : a11.IsWhole)
    (x2 : Vec F S1x1x128 .f32) (x5 x6 : Vec F S1x2048x128 .bf16)
    (f2 : a2.view.ty.Contents (Elt F)) (f5 : a5.view.ty.Contents (Elt F)) (f6 : a6.view.ty.Contents (Elt F))
    (f9 : a9.view.ty.Contents (Elt F)) (f10 : a10.view.ty.Contents (Elt F)) (y2 : Vec F S1x1x128 .f32) (ey : y2 = x2)
    (e5 : a5.view.read (Elt F) f5 = x5) (e6 : a6.view.read (Elt F) f6 = x6) (s : FVec F S128x128 .f32)
    (hs : s = (st_k0_t2 (F := F) Variants.none c none i a2 h2 a3 h3 a4 h4 a5 h5 a6 h6 a7 h7 a8 h8 a9 h9 a10 h10 a11 h11 rowNo laneNo (k0_pay15 y2) (k0_pay16 y2) (k0_pay22 y2) k0_pay24
      (a10.view.writes (Elt F) f10 (pb_k0_t1 (F := F) Variants.none c none i a2 h2 a3 h3 a4 h4 a5 h5 a6 h6 a7 h7 a8 h8 a9 h9 a10 h10 a11 h11 rowNo laneNo (k0_pay15 y2) (k0_pay16 y2)
        (k0_pay22 y2) k0_pay24 f5 f6 (Scf.trips k0_t1_loop.lb k0_t1_loop.ub k0_t1_loop.st)))
      k0_pay29 (Scf.trips k0_t2_loop.lb k0_t2_loop.ub k0_t2_loop.st)).1) :
    a9.view.read (Elt F) (a9.view.writes (Elt F) f9
      [⟨Rect.unit (s := S1x2x64x64) ![0, 1, 0, 0] S1x1x64x64.size inb_S1x2x64x64_S1x1x64x64_0_1_0_0, k0_pay33 s⟩,
       ⟨Rect.unit (s := S1x2x64x64) ![0, 0, 0, 0] S1x1x64x64.size inb_S1x2x64x64_S1x1x64x64_0_0_0_0, k0_pay32 s⟩]) = stateBlk x2 x5 x6 := by
  subst ey
  funext y
  rw [read_squares]
  have h := (swept (F := F) c i a2 h2 a3 h3 a4 h4 a5 h5 a6 h6 a7 h7 a8 h8 a9 h9 a10 h10 a11 h11 rowNo laneNo (k0_pay15 y2) (k0_pay16 y2) (k0_pay22 y2) k0_pay24 x5 x6 _
    (read_filled (F := F) c i a2 h2 a3 h3 a4 h4 a5 h5 a6 h6 a7 h7 a8 h8 a9 h9 a10 h10 a11 h11 rowNo laneNo (k0_pay15 y2) (k0_pay16 y2) (k0_pay22 y2) k0_pay24 f5 f6 x5 x6 e5 e6 f10) 16 (le_refl _)).1
  exact congrFun (hs.trans h) _

set_option maxHeartbeats 0 in
/-- The whole step: the inputs' blocks are left as they are, the state's block at `stateBlk`, the others at something. -/
theorem body_step (c : Dev nD) (i : grid0.Coords)
  (a2 : Memref sig .tc .vmem S1x1x128 .f32) (h2 : a2.IsWhole)
  (a3 : Memref sig .tc .vmem S1x1x128 .f32) (h3 : a3.IsWhole)
  (a4 : Memref sig .tc .vmem S1x2048x128 .bf16) (h4 : a4.IsWhole)
  (a5 : Memref sig .tc .vmem S1x2048x128 .bf16) (h5 : a5.IsWhole)
  (a6 : Memref sig .tc .vmem S1x2048x128 .bf16) (h6 : a6.IsWhole)
  (a7 : Memref sig .tc .vmem S1x2048x128 .bf16) (h7 : a7.IsWhole)
  (a8 : Memref sig .tc .vmem S1x2048x128 .bf16) (h8 : a8.IsWhole)
  (a9 : Memref sig .tc .vmem S1x2x64x64 .f32) (h9 : a9.IsWhole)
  (a10 : Memref sig .tc .vmem S16x128x128 .f32) (h10 : a10.IsWhole)
  (a11 : Memref sig .tc .vmem S2x16x128x128 .bf16) (h11 : a11.IsWhole)
    (x2 x3 : Vec F S1x1x128 .f32) (x4 x5 x6 x7 : Vec F S1x2048x128 .bf16) (K : PUnit → sProp 𝕄) :
    iprop(owns (c : Thread nD τ) a2 fullShare x2 ∗ owns (c : Thread nD τ) a3 fullShare x3 ∗ owns (c : Thread nD τ) a4 fullShare x4
      ∗ owns (c : Thread nD τ) a5 fullShare x5 ∗ owns (c : Thread nD τ) a6 fullShare x6 ∗ owns (c : Thread nD τ) a7 fullShare x7
      ∗ (∃ d, owns (c : Thread nD τ) a8 fullShare d) ∗ (∃ d, owns (c : Thread nD τ) a9 fullShare d)
      ∗ (∃ d, owns (c : Thread nD τ) a10 fullShare d) ∗ (∃ d, owns (c : Thread nD τ) a11 fullShare d)
      ∗ (iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ (∃ d, owns (c : Thread nD τ) a8 fullShare d) ∗ owns (c : Thread nD τ) a9 fullShare (stateBlk x2 x5 x6)
        ∗ (∃ d, owns (c : Thread nD τ) a10 fullShare d) ∗ (∃ d, owns (c : Thread nD τ) a11 fullShare d)) -∗ K ⟨⟩))
    ⊢ wp frame (wpE (defs₀ (F := F)) Variants.none c none) Set.univ
        (cc0_retention i a2 h2 a3 h3 a4 h4 a5 h5 a6 h6 a7 h7 a8 h8 a9 h9 a10 h10 a11 h11) K := by
  simp only [cc0_retention_eq_skeleton]; unfold cc0_retention_skel
  simp only [k0_part49_eq_skeleton]
  unfold k0_part49_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, Hk⟩
  sl_exec
  sl_step
  iapply Hk
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _; isplitr; swap; · iexact H9
    ipureintro
    exact left_state c i a2 h2 a3 h3 a4 h4 a5 h5 a6 h6 a7 h7 a8 h8 a9 h9 a10 h10 a11 h11 x2 x5 x6 f2 f5 f6 f9 f10 _ ((View.readAt_full _ _ _).trans e2) e5 e6 _ rfl
  isplitl [H10]
  · iexists _, _; isplitr; swap; · iexact H10
    ipureintro; rfl
  iexists _, _; isplitr; swap; · iexact H11
  ipureintro; rfl

end Cert.Chunks

end
-- ==== Proof.Chunks.Run.lean ====
/- The run of the retention over a prompt: every step's state block is named, so the whole state array is; the answers' blocks are
   held at something. -/
module

public import proofs.«01_k».proof.Proof.Chunks.Body

@[expose] public section

set_option maxRecDepth 16384

noncomputable section

namespace Cert.Chunks

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the answers' window is left unnamed. -/
def unread : Fin 8 → Bool := fun w => w == 6

/-- The blocks, the invariant and the shares of the run. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed (cfg := cfg0) 6 t
    | ⟨7, _⟩ => stateBlk (iblk m c 0 t) (iblk m c 3 t) (iblk m c 4 t)
  Φ _ := Pipeline.ΦA spec0 c
  q _ := fullShare
  owed _ := 0

theorem data_arr (c : Dev nD) (w : Fin cfg0.W) : (data m 0 c).A w = V m c (Pipeline.arrRef spec0 w) := by
  dsimp only [data]

theorem left0 (c : Dev nD) (t : Fin cfg0.N) : (data m 0 c).after 0 t = iblk m c 0 t := by dsimp only [data]; try rfl
theorem left1 (c : Dev nD) (t : Fin cfg0.N) : (data m 0 c).after 1 t = iblk m c 1 t := by dsimp only [data]; try rfl
theorem left2 (c : Dev nD) (t : Fin cfg0.N) : (data m 0 c).after 2 t = iblk m c 2 t := by dsimp only [data]; try rfl
theorem left3 (c : Dev nD) (t : Fin cfg0.N) : (data m 0 c).after 3 t = iblk m c 3 t := by dsimp only [data]; try rfl
theorem left4 (c : Dev nD) (t : Fin cfg0.N) : (data m 0 c).after 4 t = iblk m c 4 t := by dsimp only [data]; try rfl
theorem left5 (c : Dev nD) (t : Fin cfg0.N) : (data m 0 c).after 5 t = iblk m c 5 t := by dsimp only [data]; try rfl
theorem left7 (c : Dev nD) (t : Fin cfg0.N) : (data m 0 c).after 7 t = stateBlk (iblk m c 0 t) (iblk m c 3 t) (iblk m c 4 t) := by
  dsimp only [data]; try rfl

theorem found0 (c : Dev nD) (t : Fin cfg0.N) (d) : (data m 0 c).before 0 t d = iblk m c 0 t :=
  before0_0_of m (data m 0 c) (data_arr m c 0) (left0 m c) t d
theorem found1 (c : Dev nD) (t : Fin cfg0.N) (d) : (data m 0 c).before 1 t d = iblk m c 1 t :=
  before0_1_of m (data m 0 c) (data_arr m c 1) (left1 m c) t d
theorem found2 (c : Dev nD) (t : Fin cfg0.N) (d) : (data m 0 c).before 2 t d = iblk m c 2 t :=
  before0_2_of m (data m 0 c) (data_arr m c 2) (left2 m c) t d
theorem found3 (c : Dev nD) (t : Fin cfg0.N) (d) : (data m 0 c).before 3 t d = iblk m c 3 t :=
  before0_3_of m (data m 0 c) (data_arr m c 3) (left3 m c) t d
theorem found4 (c : Dev nD) (t : Fin cfg0.N) (d) : (data m 0 c).before 4 t d = iblk m c 4 t :=
  before0_4_of m (data m 0 c) (data_arr m c 4) (left4 m c) t d
theorem found5 (c : Dev nD) (t : Fin cfg0.N) (d) : (data m 0 c).before 5 t d = iblk m c 5 t :=
  before0_5_of m (data m 0 c) (data_arr m c 5) (left5 m c) t d

/-! ## The body at a step -/

/-- What the body is handed at step `t`. -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare d)
    ∗ (∃ d, owns (c : Thread nD τ) (st0_7 t) fullShare ((data m 0 c).before 7 t d)))

/-- What it hands back. -/
def handedBack (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ (∃ d, owns (c : Thread nD τ) (st0_6 t) fullShare d)
    ∗ owns (c : Thread nD τ) (st0_7 t) fullShare ((data m 0 c).after 7 t))

/-- The invariant: the two scratch buffers at something, and the generator's register. -/
theorem lent_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d))
          ∗ ∃ r, prngReg c r) := by
  unfold Pipeline.ΦA
  rw [scopedRest0_eq]; simp only [owns_whole]; try rfl

theorem step_ok (c : Dev nD) (t : Fin cfg0.N) :
    handed m c t ⊢ wp frame (wpE (defs₀ (F := F)) Variants.none c none) Set.univ (bodyAt0 t) (fun _ => handedBack m c t) := by
  unfold handed handedBack bodyAt0
  simp only [found0, found1, found2, found3, found4, found5]
  rw [show (data m 0 c).Φ t.succ = (data m 0 c).Φ t.castSucc from rfl,
    show (data m 0 c).owesAt () t.succ = (data m 0 c).owesAt () t.castSucc from rfl,
    left0, left1, left2, left3, left4, left5, left7]
  rw [show (data m 0 c).Φ t.castSucc = Pipeline.ΦA spec0 c from rfl, lent_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_step c (grid0.coords t) _ _ _ _ _ _ _ _ _ _ _ _ _ _ _ _ _ _ _ _ (iblk m c 0 t) (iblk m c 1 t) (iblk m c 2 t) (iblk m c 3 t)
    (iblk m c 4 t) (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]
  · iexists _; iexact H6
  isplitl [H7]
  · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row_of_table (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ unread := fun t => by
  rw [bigSep_W0, bigSep_W0, row_of_table]
  exact triple_restated (step_ok m c t) rfl .rfl fun _ => .rfl

/-! ## The run -/

set_option backward.isDefEq.respectTransparency.types false in
/-- Every execution ends with each windowed array at what the steps leave, every other buffer as the host left it, and every counter at
    zero. -/
theorem run_all : θ_run defs (onTc (τ := τ) (main (F := F))) (s₀ m ρ)
    (fun r => Pipeline.RDat.FramePost (cfgs 0) (fun c => (data m 0 c).toRForget unread) (V m) r ∧ r.2.sem = fun _ => 0) :=
  Pipeline.θ_run_frame_forget (Q' := _) cfgs (data m) (0 : Fin 1) launch0 defs₀ Variants.none unread m ρ main
    (hbody := fun c => (obligation m c).loose) (hshare := fun c => (data m 0 c).share_full fun _ => rfl)
    (howed := fun _ _ => rfl) (V := V m) (hmain := hmain m Variants.none) (hA := data_arr m)
    (hΦ := fun _ _ => rfl)

/-- The run as the claims read it: the state array, the arguments unchanged, the counters at zero. -/
theorem run_main : θ_run defs (onTc (τ := τ) (main (F := F))) ⟨m, fun _ => 0, ρ⟩ (fun r => (∀ c : Dev nD,
      r.2.mem ((c.tc : Thread nD τ).loc main_v14_1) = (data m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r hr => ⟨fun c => ⟨?_, ?_, ?_, ?_, ?_, ?_⟩, hr.2⟩) (run_all m ρ)
  · exact ((data m 0 c).toRForget_arrAt_iff (fgt := unread) (w := 7) rfl _ _).mp ((hr.1 c).1 7)
  · exact ((((data m 0 c).toRForget_arrAt_iff (fgt := unread) (w := 2) rfl _ _).mp ((hr.1 c).1 2)).trans
      (((data m 0 c).arrAt_in 2 rfl _).trans (data_arr m c 2))).trans (V_main_arg0 m c)
  · exact ((((data m 0 c).toRForget_arrAt_iff (fgt := unread) (w := 3) rfl _ _).mp ((hr.1 c).1 3)).trans
      (((data m 0 c).arrAt_in 3 rfl _).trans (data_arr m c 3))).trans (V_main_arg1 m c)
  · exact ((((data m 0 c).toRForget_arrAt_iff (fgt := unread) (w := 4) rfl _ _).mp ((hr.1 c).1 4)).trans
      (((data m 0 c).arrAt_in 4 rfl _).trans (data_arr m c 4))).trans (V_main_arg2 m c)
  · exact ((((data m 0 c).toRForget_arrAt_iff (fgt := unread) (w := 5) rfl _ _).mp ((hr.1 c).1 5)).trans
      (((data m 0 c).arrAt_in 5 rfl _).trans (data_arr m c 5))).trans (V_main_arg3 m c)
  · exact ((hr.1 c).2 main_arg4 (Pipeline.mem_restRefs_of main_arg4 (by decide) (by decide))).trans (V_main_arg4 m c)

end Cert.Chunks

end
-- ==== Proof.Chunks.Same.lean ====
/- The kernel's program and its reading at the ideal instance are one text: equal over any float values. -/
module

public import proofs.«01_k».proof.Proof.Gen.Kernel7
public import proofs.«01_k».proof.Proof.Gen.Kernel7Ideal
public import proofs.«01_k».proof.Kernel7
public import proofs.«01_k».proof.Kernel7Ideal

@[expose] public section

set_option maxRecDepth 16384
set_option maxHeartbeats 1000000

noncomputable section

namespace Cert.Chunks

open Idealize.ShloMosaic

variable {F : FTy → Type} [FloatOps F]

theorem same_bodies : (@Cert.Kernel7.defs₀ F _ Cert.Kernel7.Gen.facts) = (@Cert.Kernel7Ideal.defs₀ F _ Cert.Kernel7Ideal.Gen.facts) := by
  unfold Cert.Kernel7.defs₀ Cert.Kernel7Ideal.defs₀
  refine congrArg Defs.onTc (funext fun l => funext fun p => ?_)
  match l, p with
  | 0, (t, s) => rfl
  | ⟨_ + 1, h⟩, _ => exact absurd h (Nat.not_lt.2 (Nat.le_add_left _ _))

theorem same_defs : (@Cert.Kernel7.defs F _ Cert.Kernel7.Gen.facts) = (@Cert.Kernel7Ideal.defs F _ Cert.Kernel7Ideal.Gen.facts) := by
  unfold Cert.Kernel7.defs
  rw [same_bodies]; rfl

theorem same_main : (@Cert.Kernel7.main F _ Cert.Kernel7.Gen.facts) = (@Cert.Kernel7Ideal.main F _ Cert.Kernel7Ideal.Gen.facts) := by
  unfold Cert.Kernel7.main Cert.Kernel7Ideal.main
  rfl

end Cert.Chunks

end
-- ==== Proof.Chunks.Frames.lean ====
/- The frames: the retention over a prompt at both readings and its reference run, leaving their arguments as they were. -/
module

public import proofs.«01_k».proof.Proof.Chunks.Run
public import proofs.«01_k».proof.Proof.Chunks.Same
public import proofs.«01_k».proof.Proof.Gen.Reference7Ideal.Run
public import proofs.«01_k».proof.Defs

@[expose] public section

set_option maxRecDepth 16384
set_option maxHeartbeats 1000000

noncomputable section

namespace Cert.Chunks

open Idealize.ShloMosaic Idealize.SL.Sem

theorem frame_kernel : Cert.quiescent_Kernel7 (hKernel7 := Cert.Kernel7.Gen.facts) := fun m ρ _ =>
  Eq.mpr (congrArg₂ (fun d p => θ_run d (onTc (τ := Cert.Kernel7.τ) p) ⟨m, fun _ => 0, ρ⟩ _) same_defs same_main)
    ((θ_run Cert.Kernel7Ideal.defs _ _).mono (fun _ h => ⟨fun c => (h.1 c).2, h.2⟩) (run_main (F := Bits) m ρ))

theorem frame_ideal : Cert.quiescent_Kernel7Ideal (hKernel7Ideal := Cert.Kernel7Ideal.Gen.facts) := fun m ρ _ =>
  (θ_run Cert.Kernel7Ideal.defs _ _).mono (fun _ h => ⟨fun c => (h.1 c).2, h.2⟩) (run_main (F := Ideal) m ρ)

theorem frame_reference : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

end Cert.Chunks

end
-- ==== Proof.Layer.Chunk.lean ====
/- The retention over a prompt, one head: a prompt of sixteen chunks of 128 positions, each adding its keys and values to a state that
   fades between chunks. -/
module

public import proofs.«01_k».proof.Proof.Layer.Retain

@[expose] public section

noncomputable section

namespace Cert.Layer

open Idealize.ShloMosaic

/-- A position of a chunk, as a number. -/
def place (j : Fin 128) : EReal := FloatOps.sitofp (F := Ideal) .f32 (BitVec.ofNat 32 j.val)

/-- What a chunk adds to an entry of the state, of its keys' and values' columns. -/
def gain (l : EReal) (k v : Fin 128 → EReal) : EReal :=
  ∑ j : Fin 128, k j * (Ideal.exp (l * (Ideal.ofBits .f32 0x42FE0000#32 - place j)) * Ideal.ofBits .f32 0x3E000000#32) * v j

/-- An entry of the state after `n` chunks. -/
def gathered (l : EReal) (k v : ℕ → Fin 128 → EReal) : ℕ → EReal
  | 0 => 0
  | n + 1 => Ideal.exp (l * Ideal.ofBits .f32 0x43000000#32) * gathered l k v n + gain l (k n) (v n)

/-- An entry of a head's state after the whole prompt, of all the heads' keys and values side by side. -/
def promptState (k v : Fin 16 → Fin 2048 → Fin 512 → EReal) (b : Fin 16) (h : Fin 8) (d e : Fin 64) : EReal :=
  gathered (fade h) (fun n j => k b ⟨(128 * n + j.val) % 2048, Nat.mod_lt _ (by norm_num)⟩ ⟨h.val * 64 + d.val, by omega⟩)
    (fun n j => v b ⟨(128 * n + j.val) % 2048, Nat.mod_lt _ (by norm_num)⟩ ⟨h.val * 64 + e.val, by omega⟩) 16

/-- What a chunk adds, with the eighth on the keys. -/
theorem gain_keys (l : EReal) (k v : Fin 128 → EReal) :
    ∑ j : Fin 128, k j * Ideal.ofBits .f32 0x3E000000#32 * Ideal.exp (l * (Ideal.ofBits .f32 0x42FE0000#32 - place j)) * v j = gain l k v := by
  refine Finset.sum_congr rfl fun j _ => congrArg (· * v j) ?_
  rw [mul_assoc, mul_comm (Ideal.ofBits .f32 0x3E000000#32)]

/-- The mask of a square's two diagonal blocks. -/
theorem pick_same {α : Type} (r c : Fin 128) (h : r.val / 64 = c.val / 64) (a b : α) :
    Scalar.select (IntOp.xori (IntOp.xori (IntOp.cmpi .slt (BitVec.ofNat 32 r.val) 64#32) (IntOp.cmpi .slt (BitVec.ofNat 32 c.val) 64#32)) 1#1) a b = a := by
  have hm : ∀ l : Fin 128, IntOp.cmpi .slt (BitVec.ofNat 32 l.val) 64#32 = if l.val / 64 = 0 then 1#1 else 0#1 := by decide +kernel
  rw [hm r, hm c, h]
  by_cases hc : c.val / 64 = 0
  · rw [if_pos hc]; rfl
  · rw [if_neg hc]; rfl

end Cert.Layer

end
-- ==== Proof.Chunks.Kernel.lean ====
/- One step's state block, read at an element. -/
module

public import proofs.«01_k».proof.Proof.Chunks.Body
public import proofs.«01_k».proof.Proof.Layer.Chunk

@[expose] public section

set_option maxRecDepth 16384
set_option maxHeartbeats 1000000

noncomputable section

namespace Cert.Chunks

open Idealize.ShloMosaic Cert.Kernel7Ideal Cert.Kernel7Ideal.Gen Cert.Layer

/-- A chunk's column of a block. -/
def column (x : FVec Ideal S1x2048x128 .bf16) (l : Fin 128) (n : ℕ) (j : Fin 128) : EReal :=
  x (ix3 0 ⟨(128 * n + j.val) % 2048, Nat.mod_lt _ (by norm_num)⟩ l)

theorem weight_at (x2 : FVec Ideal S1x1x128 .f32) (j l : Fin 128) :
    k0_pay22 (F := Ideal) x2 (ix2 j l) = Ideal.exp (x2 (ix3 0 0 l) * (Ideal.ofBits .f32 0x42FE0000#32 - place j)) * Ideal.ofBits .f32 0x3E000000#32 := by
  pointwise [k0_pay22, k0_pay21, k0_pay14]
  rfl

theorem low_at (x2 : FVec Ideal S1x1x128 .f32) : k0_pay15 (F := Ideal) x2 (ix2 0 0) = x2 (ix3 0 0 0) := by
  pointwise [k0_pay15, k0_pay14]

theorem high_at (x2 : FVec Ideal S1x1x128 .f32) : k0_pay16 (F := Ideal) x2 (ix2 0 0) = x2 (ix3 0 0 ⟨64, by norm_num⟩) := by
  pointwise [k0_pay16, k0_pay14]

theorem product_at (v36 : FVec Ideal S128x128 .f32) (x5 x6 : FVec Ideal S1x2048x128 .bf16) (n : ℕ) (r c : Fin 128) (h : r.val / 64 = c.val / 64) :
    product (F := Ideal) rowNo laneNo v36 x5 x6 n (ix3 0 r c)
      = ∑ j : Fin 128, column x5 r n j * v36 (ix2 j r) * column x6 c n j := by
  pointwise [product, k0_pay28, k0_pay25, rowNo, laneNo]
  exact pick_same r c h _ _

theorem sweep_at (v9 v10 : FVec Ideal S1x1 .f32) (a : FVec Ideal S128x128 .f32) (p : FVec Ideal S1x128x128 .f32) (r c : Fin 128) :
    k0_pay31 v9 v10 k0_pay24 a p (ix2 r c)
      = Ideal.exp ((if r.val < 64 then v9 (ix2 0 0) else v10 (ix2 0 0)) * Ideal.ofBits .f32 0x43000000#32) * a (ix2 r c) + p (ix3 0 r c) := by
  rw [← pick_lower]
  pointwise [k0_pay31, k0_pay24]

/-- The state's entry after `n` chunks, for a head at one decay all over its lanes. -/
theorem sweep_gathered (x2 : FVec Ideal S1x1x128 .f32) (x5 x6 : FVec Ideal S1x2048x128 .bf16) (l : EReal) (s : Fin 2)
    (hl : ∀ d : Fin 64, x2 (ix3 0 0 ⟨64 * s.val + d.val, by omega⟩) = l) (d e : Fin 64) (n : ℕ) :
    sweep (F := Ideal) rowNo laneNo (k0_pay15 x2) (k0_pay16 x2) (k0_pay22 x2) k0_pay24 x5 x6 n
        (ix2 ⟨64 * s.val + d.val, by omega⟩ ⟨64 * s.val + e.val, by omega⟩)
      = gathered l (column x5 ⟨64 * s.val + d.val, by omega⟩) (column x6 ⟨64 * s.val + e.val, by omega⟩) n := by
  have own : (if 64 * s.val + d.val < 64 then k0_pay15 (F := Ideal) x2 (ix2 0 0) else k0_pay16 (F := Ideal) x2 (ix2 0 0)) = l := by
    rw [low_at, high_at, ← hl 0]
    match s with
    | ⟨0, _⟩ => exact if_pos (by show 64 * 0 + d.val < 64; omega)
    | ⟨1, _⟩ => exact if_neg (by show ¬ 64 * 1 + d.val < 64; omega)
  induction n with
  | zero => exact Ideal.ofBits_zero_f32
  | succ n ih =>
    refine (sweep_at _ _ _ _ _ _).trans ?_
    rw [ih, product_at _ _ _ _ _ _ (by show (64 * s.val + d.val) / 64 = (64 * s.val + e.val) / 64; omega)]
    refine congrArg₂ (· + ·) (congrArg (fun a => Ideal.exp (a * _) * _) own) (Finset.sum_congr rfl fun j _ => ?_)
    rw [weight_at, hl d]

/-- The state block's element. -/
theorem state_at (x2 : FVec Ideal S1x1x128 .f32) (x5 x6 : FVec Ideal S1x2048x128 .bf16) (l : EReal) (s : Fin 2)
    (hl : ∀ d : Fin 64, x2 (ix3 0 0 ⟨64 * s.val + d.val, by omega⟩) = l) (d e : Fin 64) :
    stateBlk (F := Ideal) x2 x5 x6 (ix4 0 s d e)
      = gathered l (column x5 ⟨64 * s.val + d.val, by omega⟩) (column x6 ⟨64 * s.val + e.val, by omega⟩) 16 :=
  sweep_gathered x2 x5 x6 l s hl d e 16

end Cert.Chunks

end
-- ==== Proof.Chunks.Results.lean ====
/- Where each block of the retention over a prompt lies in its array, and the state array from the blocks left. -/
module

public import proofs.«01_k».proof.Proof.Chunks.Run
public import proofs.«01_k».proof.Proof.Chunks.Kernel
public import Idealize.ShloMosaic.Lib.Pipeline.ValueKit.Geometry
public import Idealize.ShloMosaic.Lib.Pipeline.Covers
public import Idealize.ShloMosaic.Lib.Pointwise

@[expose] public section

set_option maxRecDepth 16384
set_option maxHeartbeats 1000000

noncomputable section

namespace Cert.Chunks

open Cert.Kernel7Ideal Cert.Kernel7Ideal.Gen
open Idealize.ShloMosaic Idealize.ShloMosaic.TcCoe Idealize.ShloMosaic.Tactic Cert.Layer
open Idealize.SL Idealize.SL.RA
open Idealize.ShloMosaic.Pipeline (Dat Cfg Window)

/-! ## The blocks: step `t` takes a row's pair of heads, four pairs to a row -/

theorem tile_pair (t : Fin cfg0.N) : cc0_transform_0 (grid0.coords t) = ![t.val % 4, 0, 0] :=
  (by decide +kernel : ∀ t : Fin grid0.N, cc0_transform_0 (grid0.coords t) = ![t.val % 4, 0, 0]) t

theorem tile_lanes (t : Fin cfg0.N) : cc0_transform_3 (grid0.coords t) = ![t.val / 4, 0, t.val % 4] :=
  (by decide +kernel : ∀ t : Fin grid0.N, cc0_transform_3 (grid0.coords t) = ![t.val / 4, 0, t.val % 4]) t

theorem tile_heads (t : Fin cfg0.N) : cc0_transform_7 (grid0.coords t) = ![t.val / 4, t.val % 4, 0, 0] :=
  (by decide +kernel : ∀ t : Fin grid0.N, cc0_transform_7 (grid0.coords t) = ![t.val / 4, t.val % 4, 0, 0]) t

theorem pair_at (t : Fin cfg0.N) (r : ℕ) : cc0_transform_0 (grid0.coords t) 0 * 1 + 1 * r = t.val % 4 + r := by
  rw [tile_pair]; exact (by omega : t.val % 4 * 1 + 1 * r = t.val % 4 + r)

theorem row_at (t : Fin cfg0.N) (r : ℕ) : cc0_transform_3 (grid0.coords t) 0 * 1 + 1 * r = t.val / 4 + r := by
  rw [tile_lanes]; exact (by omega : t.val / 4 * 1 + 1 * r = t.val / 4 + r)

theorem lane_at (t : Fin cfg0.N) (r : ℕ) : cc0_transform_3 (grid0.coords t) 2 * 128 + 1 * r = t.val % 4 * 128 + r := by
  rw [tile_lanes]; exact (by omega : t.val % 4 * 128 + 1 * r = t.val % 4 * 128 + r)

theorem out_row_at (t : Fin cfg0.N) (r : ℕ) : cc0_transform_7 (grid0.coords t) 0 * 1 + 1 * r = t.val / 4 + r := by
  rw [tile_heads]; exact (by omega : t.val / 4 * 1 + 1 * r = t.val / 4 + r)

theorem out_head_at (t : Fin cfg0.N) (r : ℕ) : cc0_transform_7 (grid0.coords t) 1 * 2 + 1 * r = t.val % 4 * 2 + r := by
  rw [tile_heads]; exact (by omega : t.val % 4 * 2 + 1 * r = t.val % 4 * 2 + r)

/-- Whole in every other direction. -/
theorem whole (n r : ℕ) : 0 * n + 1 * r = r := by omega

variable {F : FTy → Type} [FloatOps F]

theorem read0 (V : S4x1x128.Idx → F .f32) (t : Fin cfg0.N) (y : S1x1x128.Idx) (i : S4x1x128.Idx)
    (h0 : (i 0).val = t.val % 4 + (y 0).val) (h1 : (i 1).val = (y 1).val) (h2 : (i 2).val = (y 2).val) :
    ((cfg0.win 0).blk t).view.read (Elt F) V y = V i := by
  show V (((cfg0.win 0).blk t).view.emb y) = V i
  refine congrArg V (funext fun b => Fin.ext ?_)
  match b with
  | ⟨0, _⟩ => exact (pair_at t (y 0).val).trans h0.symm
  | ⟨1, _⟩ => exact (whole 1 (y 1).val).trans h1.symm
  | ⟨2, _⟩ => exact (whole 128 (y 2).val).trans h2.symm

theorem read3 (V : S16x2048x512.Idx → F .bf16) (t : Fin cfg0.N) (y : S1x2048x128.Idx) (i : S16x2048x512.Idx)
    (h0 : (i 0).val = t.val / 4 + (y 0).val) (h1 : (i 1).val = (y 1).val) (h2 : (i 2).val = t.val % 4 * 128 + (y 2).val) :
    ((cfg0.win 3).blk t).view.read (Elt F) V y = V i := by
  show V (((cfg0.win 3).blk t).view.emb y) = V i
  refine congrArg V (funext fun b => Fin.ext ?_)
  match b with
  | ⟨0, _⟩ => exact (row_at t (y 0).val).trans h0.symm
  | ⟨1, _⟩ => exact (whole 2048 (y 1).val).trans h1.symm
  | ⟨2, _⟩ => exact (lane_at t (y 2).val).trans h2.symm

theorem read4 (V : S16x2048x512.Idx → F .bf16) (t : Fin cfg0.N) (y : S1x2048x128.Idx) (i : S16x2048x512.Idx)
    (h0 : (i 0).val = t.val / 4 + (y 0).val) (h1 : (i 1).val = (y 1).val) (h2 : (i 2).val = t.val % 4 * 128 + (y 2).val) :
    ((cfg0.win 4).blk t).view.read (Elt F) V y = V i := by
  show V (((cfg0.win 4).blk t).view.emb y) = V i
  refine congrArg V (funext fun b => Fin.ext ?_)
  match b with
  | ⟨0, _⟩ => exact (row_at t (y 0).val).trans h0.symm
  | ⟨1, _⟩ => exact (whole 2048 (y 1).val).trans h1.symm
  | ⟨2, _⟩ => exact (lane_at t (y 2).val).trans h2.symm

theorem array7 {c : Dev nD} (dat : Dat τ (Elt F) Unit ℕ (UR sig nD τ) ℕ cfg0 c) (G : S16x8x64x64.Idx → F .f32)
    (hG : ∀ (t : Fin cfg0.N) (y : S1x2x64x64.Idx) (i : S16x8x64x64.Idx), (i 0).val = t.val / 4 + (y 0).val → (i 1).val = t.val % 4 * 2 + (y 1).val →
      (i 2).val = (y 2).val → (i 3).val = (y 3).val → (dat.after 7 t : S1x2x64x64.Idx → F .f32) y = G i) : dat.arrAt 7 cfg0.N = G :=
  dat.arrAt_eq_of_covers 7 G (by decide +kernel) fun t _ y => hG t y _ (out_row_at t _) (out_head_at t _) (whole 64 _) (whole 64 _)

/-! ## The arrays the call reads -/

variable (m : (ℓ : Loc nD τ sig) → Buf (Elt Ideal) ℓ)

/-- The table of the heads' decays, a pair of heads to a row. -/
def table : FVec Ideal S4x1x128 .f32 :=
  shapeCast S4x1x128 (shapeCast S512 (broadcastInDim S8x64 ![0] bcast_S8_S8x64_0 (Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp (F := Ideal) .f32 (iotaInDim S8 32 0))))))) shapeCasts_S8x64_S512) shapeCasts_S512_S4x1x128

theorem table_at (p : Fin 4) (l : Fin 128) : table (ix3 p 0 l) = fade ⟨p.val * 2 + l.val / 64, by omega⟩ := by
  pointwise [table]
  rfl

theorem entry_l (c : Dev nD) : V m c main_v10 = table := by
  unfold V hostOps0
  after_results_simp <;> rfl
theorem entry_k (c : Dev nD) : V m c main_arg1 = m ((c : Thread nD τ).loc main_arg1) := by
  unfold V hostOps0
  after_results_simp <;> rfl
theorem entry_v (c : Dev nD) : V m c main_arg2 = m ((c : Thread nD τ).loc main_arg2) := by
  unfold V hostOps0
  after_results_simp <;> rfl

theorem blk_l (c : Dev nD) (t : Fin cfg0.N) (h : Fin 8) (s : Fin 2) (hh : h.val = t.val % 4 * 2 + s.val) (d : Fin 64) :
    (iblk m c 0 t : S1x1x128.Idx → EReal) (ix3 0 0 ⟨64 * s.val + d.val, by omega⟩) = fade h := by
  have hp : t.val % 4 < 4 := by omega
  refine ((read0 (F := Ideal) (V m c main_v10) t _ (ix3 ⟨t.val % 4, hp⟩ 0 ⟨64 * s.val + d.val, by omega⟩) rfl rfl rfl).trans (congrFun (entry_l m c) _)).trans
    ((table_at _ _).trans (congrArg fade (Fin.ext ?_)))
  show t.val % 4 * 2 + (64 * s.val + d.val) / 64 = h.val
  omega

theorem column_k (c : Dev nD) (t : Fin cfg0.N) (b : Fin 16) (hb : b.val = t.val / 4) (h : Fin 8) (s : Fin 2) (hh : h.val = t.val % 4 * 2 + s.val) (d : Fin 64) :
    column (iblk m c 3 t) ⟨64 * s.val + d.val, by omega⟩ = fun n j => (m ((c : Thread nD τ).loc main_arg1) : FVec Ideal S16x2048x512 .bf16)
      (ix3 b ⟨(128 * n + j.val) % 2048, Nat.mod_lt _ (by norm_num)⟩ ⟨h.val * 64 + d.val, by omega⟩) :=
  funext fun n => funext fun j =>
    (read3 (F := Ideal) (V m c main_arg1) t (ix3 0 ⟨(128 * n + j.val) % 2048, Nat.mod_lt _ (by norm_num)⟩ ⟨64 * s.val + d.val, by omega⟩) (ix3 b ⟨(128 * n + j.val) % 2048, Nat.mod_lt _ (by norm_num)⟩ ⟨h.val * 64 + d.val, by omega⟩) hb rfl
      (by show h.val * 64 + d.val = t.val % 4 * 128 + (64 * s.val + d.val); omega)).trans (congrFun (entry_k m c) _)

theorem column_v (c : Dev nD) (t : Fin cfg0.N) (b : Fin 16) (hb : b.val = t.val / 4) (h : Fin 8) (s : Fin 2) (hh : h.val = t.val % 4 * 2 + s.val) (d : Fin 64) :
    column (iblk m c 4 t) ⟨64 * s.val + d.val, by omega⟩ = fun n j => (m ((c : Thread nD τ).loc main_arg2) : FVec Ideal S16x2048x512 .bf16)
      (ix3 b ⟨(128 * n + j.val) % 2048, Nat.mod_lt _ (by norm_num)⟩ ⟨h.val * 64 + d.val, by omega⟩) :=
  funext fun n => funext fun j =>
    (read4 (F := Ideal) (V m c main_arg2) t (ix3 0 ⟨(128 * n + j.val) % 2048, Nat.mod_lt _ (by norm_num)⟩ ⟨64 * s.val + d.val, by omega⟩) (ix3 b ⟨(128 * n + j.val) % 2048, Nat.mod_lt _ (by norm_num)⟩ ⟨h.val * 64 + d.val, by omega⟩) hb rfl
      (by show h.val * 64 + d.val = t.val % 4 * 128 + (64 * s.val + d.val); omega)).trans (congrFun (entry_v m c) _)

/-! ## The result -/

/-- Every head's state after the prompt. -/
def stateOf (k v : FVec Ideal S16x2048x512 .bf16) : S16x8x64x64.Idx → EReal := fun i =>
  promptState (fun b r l => k (ix3 b r l)) (fun b r l => v (ix3 b r l)) (i 0) (i 1) (i 2) (i 3)

theorem state_block (c : Dev nD) (t : Fin cfg0.N) (b : Fin 16) (hb : b.val = t.val / 4) (h : Fin 8) (s : Fin 2) (hh : h.val = t.val % 4 * 2 + s.val) (d e : Fin 64) :
    stateBlk (F := Ideal) (iblk m c 0 t) (iblk m c 3 t) (iblk m c 4 t) (ix4 0 s d e)
      = stateOf (m ((c : Thread nD τ).loc main_arg1)) (m ((c : Thread nD τ).loc main_arg2)) (ix4 b h d e) := by
  refine (state_at _ _ _ (fade h) s (blk_l m c t h s hh) d e).trans ?_
  rw [column_k m c t b hb h s hh d, column_v m c t b hb h s hh e]
  rfl

theorem result7 (c : Dev nD) : (data m 0 c).arrAt 7 cfg0.N
    = stateOf (m ((c : Thread nD τ).loc main_arg1)) (m ((c : Thread nD τ).loc main_arg2)) :=
  array7 (data m 0 c) _ fun t y i h0 h1 h2 h3 => by
    obtain ⟨b, h, d, e, rfl⟩ : ∃ (b : Fin 16) (h : Fin 8) (d e : Fin 64), i = ix4 b h d e := ⟨i 0, i 1, i 2, i 3, eq_ix4 i⟩
    obtain ⟨z, s, d', e', rfl⟩ : ∃ (z : Fin 1) (s : Fin 2) (d e : Fin 64), y = ix4 z s d e := ⟨y 0, y 1, y 2, y 3, eq_ix4 y⟩
    obtain rfl : z = 0 := Subsingleton.elim _ _
    obtain rfl : d = d' := Fin.ext h2
    obtain rfl : e = e' := Fin.ext h3
    exact (congrFun (left7 m c t) _).trans (state_block m c t b h0 h s h1 d e)

end Cert.Chunks

end
-- ==== Proof.Chunks.Reference.lean ====
/- The reference of the retention over a prompt, read at an element. -/
module

public import proofs.«01_k».proof.Proof.Gen.Reference7Ideal.Run
public import proofs.«01_k».proof.Proof.Layer.Chunk
public import Idealize.ShloMosaic.Lib.Pointwise

@[expose] public section

set_option maxRecDepth 16384
set_option maxHeartbeats 1000000

noncomputable section

namespace Cert.Chunks.Ref

open Idealize.ShloMosaic Cert.Reference7Ideal Cert.Reference7Ideal.Gen Cert.Layer

/-- The heads' decays. -/
def fades : FVec Ideal S8 .f32 :=
  Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))

/-- What each chunk adds to every head's state. -/
def gains (x1 x2 : FVec Ideal S16x2048x512 .bf16) : FVec Ideal S16x16x8x64x64 .f32 :=
  Host.dotGeneral dot_S16x16x128x8x64_S16x16x128x8x64_S16x16x8x64x64_2_2_4_4_103_103 none
    (mulf (shapeCast _ (mulf (extf .f32 x1 bitsLt_bf16_f32) (broadcastInDim S16x2048x512 ![] bcast_S_S16x2048x512 (constant S_ .f32 0x3E000000#32))) shapeCasts_S16x2048x512_S16x16x128x8x64)
      (broadcastInDim S16x16x128x8x64 ![0, 1, 2, 3, 4] bcast_S1x1x128x8x1_S16x16x128x8x64_0_1_2_3_4 (broadcastInDim S1x1x128x8x1 ![2, 3] bcast_S128x8_S1x1x128x8x1_2_3
        (Host.exp (mulf (broadcastInDim S128x8 ![0, 1] bcast_S1x8_S128x8_0_1 (broadcastInDim S1x8 ![1] bcast_S8_S1x8_1 fades)) (broadcastInDim S128x8 ![0, 1] bcast_S128x1_S128x8_0_1 (broadcastInDim S128x1 ![0] bcast_S128_S128x1_0 (subf (broadcastInDim S128 ![] bcast_S_S128 (constant S_ .f32 0x42FE0000#32)) (sitofp .f32 (iotaInDim S128 32 0))))))))))
    (shapeCast _ (extf .f32 x2 bitsLt_bf16_f32) shapeCasts_S16x2048x512_S16x16x128x8x64)

/-- The state after a chunk. -/
def step (g : FVec Ideal S16x16x8x64x64 .f32) (n : ℕ) (hs : S16x16x8x64x64.Slices ![n, 0, 0, 0, 0] S1x16x8x64x64) (s : FVec Ideal S16x8x64x64 .f32) : FVec Ideal S16x8x64x64 .f32 :=
  addf (mulf (broadcastInDim S16x8x64x64 ![0, 1, 2, 3] bcast_S1x8x1x1_S16x8x64x64_0_1_2_3 (broadcastInDim S1x8x1x1 ![1] bcast_S8_S1x8x1x1_1 (Host.exp (mulf fades (broadcastInDim S8 ![] bcast_S_S8 (constant S_ .f32 0x43000000#32)))))) s)
    (shapeCast S16x8x64x64 (extractStridedSlice S1x16x8x64x64 ![n, 0, 0, 0, 0] g hs) shapeCasts_S1x16x8x64x64_S16x8x64x64)

/-- The state before the first chunk. -/
def start : FVec Ideal S16x8x64x64 .f32 := broadcastInDim S16x8x64x64 ![] bcast_S_S16x8x64x64 (constant S_ .f32 0x00000000#32)

/-- The state after the prompt. -/
def states (x1 x2 : FVec Ideal S16x2048x512 .bf16) : FVec Ideal S16x8x64x64 .f32 :=
  step (gains x1 x2) 15 slices_S16x16x8x64x64_S1x16x8x64x64_15_0_0_0_0 (step (gains x1 x2) 14 slices_S16x16x8x64x64_S1x16x8x64x64_14_0_0_0_0 (step (gains x1 x2) 13 slices_S16x16x8x64x64_S1x16x8x64x64_13_0_0_0_0 (step (gains x1 x2) 12 slices_S16x16x8x64x64_S1x16x8x64x64_12_0_0_0_0 (step (gains x1 x2) 11 slices_S16x16x8x64x64_S1x16x8x64x64_11_0_0_0_0 (step (gains x1 x2) 10 slices_S16x16x8x64x64_S1x16x8x64x64_10_0_0_0_0 (step (gains x1 x2) 9 slices_S16x16x8x64x64_S1x16x8x64x64_9_0_0_0_0 (step (gains x1 x2) 8 slices_S16x16x8x64x64_S1x16x8x64x64_8_0_0_0_0 (step (gains x1 x2) 7 slices_S16x16x8x64x64_S1x16x8x64x64_7_0_0_0_0 (step (gains x1 x2) 6 slices_S16x16x8x64x64_S1x16x8x64x64_6_0_0_0_0 (step (gains x1 x2) 5 slices_S16x16x8x64x64_S1x16x8x64x64_5_0_0_0_0 (step (gains x1 x2) 4 slices_S16x16x8x64x64_S1x16x8x64x64_4_0_0_0_0 (step (gains x1 x2) 3 slices_S16x16x8x64x64_S1x16x8x64x64_3_0_0_0_0 (step (gains x1 x2) 2 slices_S16x16x8x64x64_S1x16x8x64x64_2_0_0_0_0 (step (gains x1 x2) 1 slices_S16x16x8x64x64_S1x16x8x64x64_1_0_0_0_0 (step (gains x1 x2) 0 slices_S16x16x8x64x64_S1x16x8x64x64_0_0_0_0_0 start)))))))))))))))

theorem fades_at (h : Fin 8) : fades (ix1 h) = fade h := by
  pointwise [fades]
  rfl

theorem gains_at (x1 x2 : FVec Ideal S16x2048x512 .bf16) (n b : Fin 16) (h : Fin 8) (d e : Fin 64) :
    gains x1 x2 (ix5 n b h d e) = gain (fade h) (fun j => x1 (ix3 b ⟨n.val * 128 + j.val, by omega⟩ ⟨h.val * 64 + d.val, by omega⟩))
      (fun j => x2 (ix3 b ⟨n.val * 128 + j.val, by omega⟩ ⟨h.val * 64 + e.val, by omega⟩)) := by
  rw [← gain_keys]
  pointwise [gains]
  simp only [fades_at]
  rfl

theorem gains_chunk (x1 x2 : FVec Ideal S16x2048x512 .bf16) (n : ℕ) (hn : n < 16) (b : Fin 16) (h : Fin 8) (d e : Fin 64) :
    gains x1 x2 (ix5 ⟨n, hn⟩ b h d e) = gain (fade h) (fun j => x1 (ix3 b ⟨(128 * n + j.val) % 2048, Nat.mod_lt _ (by norm_num)⟩ ⟨h.val * 64 + d.val, by omega⟩))
      (fun j => x2 (ix3 b ⟨(128 * n + j.val) % 2048, Nat.mod_lt _ (by norm_num)⟩ ⟨h.val * 64 + e.val, by omega⟩)) := by
  have hr : ∀ j : Fin 128, (⟨n * 128 + j.val, by omega⟩ : Fin 2048) = ⟨(128 * n + j.val) % 2048, Nat.mod_lt _ (by norm_num)⟩ := fun j =>
    Fin.ext (by show n * 128 + j.val = (128 * n + j.val) % 2048; omega)
  refine (gains_at x1 x2 ⟨n, hn⟩ b h d e).trans ?_
  simp only [hr]

theorem step_at (g : FVec Ideal S16x16x8x64x64 .f32) (n : ℕ) (hn : n < 16) (hs : S16x16x8x64x64.Slices ![n, 0, 0, 0, 0] S1x16x8x64x64)
    (s : FVec Ideal S16x8x64x64 .f32) (b : Fin 16) (h : Fin 8) (d e : Fin 64) :
    step g n hs s (ix4 b h d e) = Ideal.exp (fade h * Ideal.ofBits .f32 0x43000000#32) * s (ix4 b h d e) + g (ix5 ⟨n, hn⟩ b h d e) := by
  pointwise [step]
  simp only [fades_at]

/-- One chunk more. -/
theorem step_gathered (x1 x2 : FVec Ideal S16x2048x512 .bf16) (n : ℕ) (hn : n < 16) (hs : S16x16x8x64x64.Slices ![n, 0, 0, 0, 0] S1x16x8x64x64)
    (s : FVec Ideal S16x8x64x64 .f32) (b : Fin 16) (h : Fin 8) (d e : Fin 64)
    (ih : s (ix4 b h d e) = gathered (fade h) (fun n j => x1 (ix3 b ⟨(128 * n + j.val) % 2048, Nat.mod_lt _ (by norm_num)⟩ ⟨h.val * 64 + d.val, by omega⟩))
      (fun n j => x2 (ix3 b ⟨(128 * n + j.val) % 2048, Nat.mod_lt _ (by norm_num)⟩ ⟨h.val * 64 + e.val, by omega⟩)) n) :
    step (gains x1 x2) n hs s (ix4 b h d e)
      = gathered (fade h) (fun n j => x1 (ix3 b ⟨(128 * n + j.val) % 2048, Nat.mod_lt _ (by norm_num)⟩ ⟨h.val * 64 + d.val, by omega⟩))
        (fun n j => x2 (ix3 b ⟨(128 * n + j.val) % 2048, Nat.mod_lt _ (by norm_num)⟩ ⟨h.val * 64 + e.val, by omega⟩)) (n + 1) := by
  rw [step_at _ n hn, ih, gains_chunk x1 x2 n hn]
  rfl

theorem states_at (x1 x2 : FVec Ideal S16x2048x512 .bf16) (b : Fin 16) (h : Fin 8) (d e : Fin 64) :
    states x1 x2 (ix4 b h d e) = promptState (fun b r l => x1 (ix3 b r l)) (fun b r l => x2 (ix3 b r l)) b h d e := by
  unfold promptState states
  refine step_gathered x1 x2 15 (by norm_num) _ _ b h d e ?_
  refine step_gathered x1 x2 14 (by norm_num) _ _ b h d e ?_
  refine step_gathered x1 x2 13 (by norm_num) _ _ b h d e ?_
  refine step_gathered x1 x2 12 (by norm_num) _ _ b h d e ?_
  refine step_gathered x1 x2 11 (by norm_num) _ _ b h d e ?_
  refine step_gathered x1 x2 10 (by norm_num) _ _ b h d e ?_
  refine step_gathered x1 x2 9 (by norm_num) _ _ b h d e ?_
  refine step_gathered x1 x2 8 (by norm_num) _ _ b h d e ?_
  refine step_gathered x1 x2 7 (by norm_num) _ _ b h d e ?_
  refine step_gathered x1 x2 6 (by norm_num) _ _ b h d e ?_
  refine step_gathered x1 x2 5 (by norm_num) _ _ b h d e ?_
  refine step_gathered x1 x2 4 (by norm_num) _ _ b h d e ?_
  refine step_gathered x1 x2 3 (by norm_num) _ _ b h d e ?_
  refine step_gathered x1 x2 2 (by norm_num) _ _ b h d e ?_
  refine step_gathered x1 x2 1 (by norm_num) _ _ b h d e ?_
  refine step_gathered x1 x2 0 (by norm_num) _ _ b h d e ?_
  exact Ideal.ofBits_zero_f32

end Cert.Chunks.Ref

end
-- ==== Proof.Chunks.Algebra.lean ====
/- The retention over a prompt and its reference end with equal states. -/
module

public import proofs.«01_k».proof.Proof.Chunks.Results
public import proofs.«01_k».proof.Proof.Chunks.Reference
public import proofs.«01_k».proof.Defs

@[expose] public section

set_option maxRecDepth 16384
set_option maxHeartbeats 1000000

noncomputable section

namespace Cert.Chunks

open Idealize.ShloMosaic Idealize.SL.Sem Idealize.ShloMosaic.TcCoe Cert.Layer

theorem ref_states (x1 x2 : FVec Ideal Cert.Reference7Ideal.S16x2048x512 .bf16) : Ref.states x1 x2 = stateOf x1 x2 := by
  funext i
  obtain ⟨b, h, d, e, rfl⟩ : ∃ (b : Fin 16) (h : Fin 8) (d e : Fin 64), i = ix4 b h d e := ⟨i 0, i 1, i 2, i 3, eq_ix4 i⟩
  exact Ref.states_at x1 x2 b h d e

theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => (data m 0 c).arrAt 7 Cert.Kernel7Ideal.cfg0.N,
    (θ_run _ _ _).mono (fun r hr c => hr.1 c) (run_main (F := Ideal) m g),
    (θ_run _ _ _).mono (fun r hr c => ?_) (Cert.Reference7Ideal.Value.run (F := Ideal) m' g')⟩
  obtain ⟨h0, ha⟩ := hr c
  obtain ⟨_, e1, e2, _, _⟩ := hargs c
  refine ⟨h0.trans ((ref_states _ _).trans (Eq.trans ?_ (result7 m c).symm)), ha⟩
  rw [e1, e2]

end Cert.Chunks

end
-- ==== Proof.lean ====
/- The proof of the claim: of each of the six programs (the experts, the mixers' projections of the prompt and of the sample,
   the memory's keys and values, the sample's retention and the prompt's), the kernel and its reference run, and end with equal
   results; the experts' call with its results packed runs too. The modules under Proof/Experts, Proof/Packed, Proof/Prompt,
   Proof/Sample, Proof/Memory, Proof/Mixer and Proof/Chunks prove it. -/
module

public import proofs.«01_k».proof.Proof.Gen.Kernel3Ideal.Frame
public import proofs.«01_k».proof.Proof.Gen.Kernel3Ideal.Value
public import proofs.«01_k».proof.Proof.Gen.Kernel4Ideal.Frame
public import proofs.«01_k».proof.Proof.Gen.Kernel4Ideal.Value
public import proofs.«01_k».proof.Proof.Gen.Kernel5Ideal.Frame
public import proofs.«01_k».proof.Proof.Gen.Kernel5Ideal.Value
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Kernel6
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal.Frame
public import proofs.«01_k».proof.Proof.Gen.Kernel7Ideal.Loops
public import proofs.«01_k».proof.Proof.Gen.Reference7Ideal.Run
public import proofs.«01_k».proof.Proof.Gen.Kernel2
public import proofs.«01_k».proof.Proof.Gen.Kernel2.Launch
public import proofs.«01_k».proof.Proof.Gen.Kernel2.Skeleton
public import proofs.«01_k».proof.Proof.Gen.Kernel3
public import proofs.«01_k».proof.Proof.Gen.Kernel4
public import proofs.«01_k».proof.Proof.Gen.Kernel5
public import proofs.«01_k».proof.Proof.Experts.Frames
public import proofs.«01_k».proof.Proof.Experts.Algebra
public import proofs.«01_k».proof.Proof.Packed.Frame
public import proofs.«01_k».proof.Proof.Prompt.Algebra
public import proofs.«01_k».proof.Proof.Sample.Algebra
public import proofs.«01_k».proof.Proof.Memory.Algebra
public import proofs.«01_k».proof.Proof.Mixer.Algebra
public import proofs.«01_k».proof.Proof.Chunks.Frames
public import proofs.«01_k».proof.Proof.Chunks.Algebra
public import proofs.«01_k».proof.Defs
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
  Cert.Kernel2.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Experts.pre_facts,
  Cert.Experts.frame_kernel, Cert.Experts.frame_ideal, fun m g _ => Cert.Experts.frame_ideal m g trivial,
  Cert.Experts.frame_reference, fun m g _ => Cert.Experts.frame_reference m g trivial,
  Cert.Packed.frame_kernel, Cert.Prompt.frame_kernel, Cert.Prompt.frame_ideal, Cert.Prompt.frame_reference,
  Cert.Sample.frame_kernel, Cert.Sample.frame_ideal, Cert.Sample.frame_reference,
  Cert.Memory.frame_kernel, Cert.Memory.frame_ideal, Cert.Memory.frame_reference,
  Cert.Mixer.frame_kernel, Cert.Mixer.frame_ideal, Cert.Mixer.frame_reference,
  Cert.Chunks.frame_kernel, Cert.Chunks.frame_ideal, Cert.Chunks.frame_reference,
  trivial, Cert.Experts.algebraic, trivial, Cert.Prompt.algebraic, trivial, Cert.Sample.algebraic,
  trivial, Cert.Memory.algebraic, trivial, Cert.Mixer.algebraic, trivial, Cert.Chunks.algebraic⟩

end Cert.Proof

end
